-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_moderate [hPre_moderate : Cert.Pre_moderate.Facts] (m : (ℓ : Loc Cert.KernelIdeal.nD Cert.KernelIdeal.τ Cert.KernelIdeal.sig) → Buf (Elt Ideal) ℓ) : Prop :=
  ∀ c : Dev Cert.KernelIdeal.nD,
    (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_moderate [hPre_moderate : Cert.Pre_moderate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_keys [hPre_finite_keys : Cert.Pre_finite_keys.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_keys.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_keys [hPre_finite_keys : Cert.Pre_finite_keys.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_keys.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_rotary [hPre_finite_rotary : Cert.Pre_finite_rotary.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_rotary.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_rotary [hPre_finite_rotary : Cert.Pre_finite_rotary.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_rotary.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_moderate [hKernelIdeal : Cert.KernelIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_moderate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_moderate [hReferenceIdeal : Cert.ReferenceIdeal.Facts] [hPre_moderate : Cert.Pre_moderate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_moderate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Kernel2Ideal_pre_finite_keys [hKernel2Ideal : Cert.Kernel2Ideal.Facts] [hPre_finite_keys : Cert.Pre_finite_keys.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_keys m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Reference2Ideal_pre_finite_keys [hReference2Ideal : Cert.Reference2Ideal.Facts] [hPre_finite_keys : Cert.Pre_finite_keys.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_keys m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite_rotary [hKernel4Ideal : Cert.Kernel4Ideal.Facts] [hPre_finite_rotary : Cert.Pre_finite_rotary.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_rotary m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite_rotary [hReference4Ideal : Cert.Reference4Ideal.Facts] [hPre_finite_rotary : Cert.Pre_finite_rotary.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_rotary m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.named_const.Statement Cert.KernelIdeal.κ "a_scale" .f32 0x3E8293EE#32 (((Real.sqrt 32)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_moderate [hKernelIdeal : Cert.KernelIdeal.Facts] [hReferenceIdeal : Cert.ReferenceIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_moderate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v152_0)) (v1 : (c : Dev Cert.KernelIdeal.nD) → Buf (Elt Ideal) ((c.tc : Thread Cert.KernelIdeal.nD Cert.KernelIdeal.τ).loc Cert.KernelIdeal.main_v152_1)) (v2 : (c : Dev Cert.KernelIdeal.nD) → Buf (Elt Ideal) ((c.tc : Thread Cert.KernelIdeal.nD Cert.KernelIdeal.τ).loc Cert.KernelIdeal.main_v152_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v152_0) = v0 c
          ∧ r.2.mem ((c.tc : Thread Cert.KernelIdeal.nD Cert.KernelIdeal.τ).loc Cert.KernelIdeal.main_v152_1) = v1 c
          ∧ r.2.mem ((c.tc : Thread Cert.KernelIdeal.nD Cert.KernelIdeal.τ).loc Cert.KernelIdeal.main_v152_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_v118) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  IdealRules.named_const.Statement Cert.Kernel2Ideal.κ "m_scale" .f32 0x3E38AA3B#32 ((8⁻¹ * (Real.log 2)⁻¹ : ℝ) : EReal)

def algebraic_Kernel2Ideal_Reference2Ideal_pre_finite_keys [hKernel2Ideal : Cert.Kernel2Ideal.Facts] [hReference2Ideal : Cert.Reference2Ideal.Facts] [hPre_finite_keys : Cert.Pre_finite_keys.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_keys m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)) →
    ∃ (v0 : (c : Dev Cert.Kernel2Ideal.nD) → Buf (Elt Ideal) ((c.tc : Thread Cert.Kernel2Ideal.nD Cert.Kernel2Ideal.τ).loc Cert.Kernel2Ideal.main_v29_0)) (v1 : (c : Dev Cert.Kernel2Ideal.nD) → Buf (Elt Ideal) ((c.tc : Thread Cert.Kernel2Ideal.nD Cert.Kernel2Ideal.τ).loc Cert.Kernel2Ideal.main_v29_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v29_0) = v0 c
          ∧ r.2.mem ((c.tc : Thread Cert.Kernel2Ideal.nD Cert.Kernel2Ideal.τ).loc Cert.Kernel2Ideal.main_v29_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v129) = v0 c
          ∧ r.2.mem ((c.tc : Thread Cert.Reference2Ideal.nD Cert.Reference2Ideal.τ).loc Cert.Reference2Ideal.main_v113) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)) (v3 : (c : Dev Cert.Kernel3Ideal.nD) → Buf (Elt Ideal) ((c.tc : Thread Cert.Kernel3Ideal.nD Cert.Kernel3Ideal.τ).loc Cert.Kernel3Ideal.main_v5_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_v5_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_v16) = v2 c
          ∧ r.2.mem ((c.tc : Thread Cert.Reference3Ideal.nD Cert.Reference3Ideal.τ).loc Cert.Reference3Ideal.main_v18) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  IdealRules.named_const.Statement Cert.Kernel4Ideal.κ "a_scale" .f32 0x3E8293EE#32 (((Real.sqrt 32)⁻¹ * (Real.log 2)⁻¹ : ℝ) : EReal)
  ∧ IdealRules.named_const.Statement Cert.Kernel4Ideal.κ "b_scale" .f32 0x3E38AA3B#32 ((8⁻¹ * (Real.log 2)⁻¹ : ℝ) : EReal)
  ∧ IdealRules.named_const.Statement Cert.Kernel4Ideal.κ "c_scale" .f32 0x3E16C740#32 (((Real.sqrt 96)⁻¹ * (Real.log 2)⁻¹ : ℝ) : EReal)

def algebraic_Kernel4Ideal_Reference4Ideal_pre_finite_rotary [hKernel4Ideal : Cert.Kernel4Ideal.Facts] [hReference4Ideal : Cert.Reference4Ideal.Facts] [hPre_finite_rotary : Cert.Pre_finite_rotary.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_rotary m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v80_0)) (v1 : (c : Dev Cert.Kernel4Ideal.nD) → Buf (Elt Ideal) ((c.tc : Thread Cert.Kernel4Ideal.nD Cert.Kernel4Ideal.τ).loc Cert.Kernel4Ideal.main_v80_1)) (v2 : (c : Dev Cert.Kernel4Ideal.nD) → Buf (Elt Ideal) ((c.tc : Thread Cert.Kernel4Ideal.nD Cert.Kernel4Ideal.τ).loc Cert.Kernel4Ideal.main_v80_2)) (v3 : (c : Dev Cert.Kernel4Ideal.nD) → Buf (Elt Ideal) ((c.tc : Thread Cert.Kernel4Ideal.nD Cert.Kernel4Ideal.τ).loc Cert.Kernel4Ideal.main_v80_3)) (v4 : (c : Dev Cert.Kernel4Ideal.nD) → Buf (Elt Ideal) ((c.tc : Thread Cert.Kernel4Ideal.nD Cert.Kernel4Ideal.τ).loc Cert.Kernel4Ideal.main_v80_4)) (v5 : (c : Dev Cert.Kernel4Ideal.nD) → Buf (Elt Ideal) ((c.tc : Thread Cert.Kernel4Ideal.nD Cert.Kernel4Ideal.τ).loc Cert.Kernel4Ideal.main_v80_5)) (v6 : (c : Dev Cert.Kernel4Ideal.nD) → Buf (Elt Ideal) ((c.tc : Thread Cert.Kernel4Ideal.nD Cert.Kernel4Ideal.τ).loc Cert.Kernel4Ideal.main_v80_6)) (v7 : (c : Dev Cert.Kernel4Ideal.nD) → Buf (Elt Ideal) ((c.tc : Thread Cert.Kernel4Ideal.nD Cert.Kernel4Ideal.τ).loc Cert.Kernel4Ideal.main_v80_7)) (v8 : (c : Dev Cert.Kernel4Ideal.nD) → Buf (Elt Ideal) ((c.tc : Thread Cert.Kernel4Ideal.nD Cert.Kernel4Ideal.τ).loc Cert.Kernel4Ideal.main_v80_8)) (v9 : (c : Dev Cert.Kernel4Ideal.nD) → Buf (Elt Ideal) ((c.tc : Thread Cert.Kernel4Ideal.nD Cert.Kernel4Ideal.τ).loc Cert.Kernel4Ideal.main_v80_9)) (v10 : (c : Dev Cert.Kernel4Ideal.nD) → Buf (Elt Ideal) ((c.tc : Thread Cert.Kernel4Ideal.nD Cert.Kernel4Ideal.τ).loc Cert.Kernel4Ideal.main_v80_10)) (v11 : (c : Dev Cert.Kernel4Ideal.nD) → Buf (Elt Ideal) ((c.tc : Thread Cert.Kernel4Ideal.nD Cert.Kernel4Ideal.τ).loc Cert.Kernel4Ideal.main_v80_11)) (v12 : (c : Dev Cert.Kernel4Ideal.nD) → Buf (Elt Ideal) ((c.tc : Thread Cert.Kernel4Ideal.nD Cert.Kernel4Ideal.τ).loc Cert.Kernel4Ideal.main_v80_12)) (v13 : (c : Dev Cert.Kernel4Ideal.nD) → Buf (Elt Ideal) ((c.tc : Thread Cert.Kernel4Ideal.nD Cert.Kernel4Ideal.τ).loc Cert.Kernel4Ideal.main_v80_13)) (v14 : (c : Dev Cert.Kernel4Ideal.nD) → Buf (Elt Ideal) ((c.tc : Thread Cert.Kernel4Ideal.nD Cert.Kernel4Ideal.τ).loc Cert.Kernel4Ideal.main_v80_14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v80_0) = v0 c
          ∧ r.2.mem ((c.tc : Thread Cert.Kernel4Ideal.nD Cert.Kernel4Ideal.τ).loc Cert.Kernel4Ideal.main_v80_1) = v1 c
          ∧ r.2.mem ((c.tc : Thread Cert.Kernel4Ideal.nD Cert.Kernel4Ideal.τ).loc Cert.Kernel4Ideal.main_v80_2) = v2 c
          ∧ r.2.mem ((c.tc : Thread Cert.Kernel4Ideal.nD Cert.Kernel4Ideal.τ).loc Cert.Kernel4Ideal.main_v80_3) = v3 c
          ∧ r.2.mem ((c.tc : Thread Cert.Kernel4Ideal.nD Cert.Kernel4Ideal.τ).loc Cert.Kernel4Ideal.main_v80_4) = v4 c
          ∧ r.2.mem ((c.tc : Thread Cert.Kernel4Ideal.nD Cert.Kernel4Ideal.τ).loc Cert.Kernel4Ideal.main_v80_5) = v5 c
          ∧ r.2.mem ((c.tc : Thread Cert.Kernel4Ideal.nD Cert.Kernel4Ideal.τ).loc Cert.Kernel4Ideal.main_v80_6) = v6 c
          ∧ r.2.mem ((c.tc : Thread Cert.Kernel4Ideal.nD Cert.Kernel4Ideal.τ).loc Cert.Kernel4Ideal.main_v80_7) = v7 c
          ∧ r.2.mem ((c.tc : Thread Cert.Kernel4Ideal.nD Cert.Kernel4Ideal.τ).loc Cert.Kernel4Ideal.main_v80_8) = v8 c
          ∧ r.2.mem ((c.tc : Thread Cert.Kernel4Ideal.nD Cert.Kernel4Ideal.τ).loc Cert.Kernel4Ideal.main_v80_9) = v9 c
          ∧ r.2.mem ((c.tc : Thread Cert.Kernel4Ideal.nD Cert.Kernel4Ideal.τ).loc Cert.Kernel4Ideal.main_v80_10) = v10 c
          ∧ r.2.mem ((c.tc : Thread Cert.Kernel4Ideal.nD Cert.Kernel4Ideal.τ).loc Cert.Kernel4Ideal.main_v80_11) = v11 c
          ∧ r.2.mem ((c.tc : Thread Cert.Kernel4Ideal.nD Cert.Kernel4Ideal.τ).loc Cert.Kernel4Ideal.main_v80_12) = v12 c
          ∧ r.2.mem ((c.tc : Thread Cert.Kernel4Ideal.nD Cert.Kernel4Ideal.τ).loc Cert.Kernel4Ideal.main_v80_13) = v13 c
          ∧ r.2.mem ((c.tc : Thread Cert.Kernel4Ideal.nD Cert.Kernel4Ideal.τ).loc Cert.Kernel4Ideal.main_v80_14) = v14 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v133) = v0 c
          ∧ r.2.mem ((c.tc : Thread Cert.Reference4Ideal.nD Cert.Reference4Ideal.τ).loc Cert.Reference4Ideal.main_v134) = v1 c
          ∧ r.2.mem ((c.tc : Thread Cert.Reference4Ideal.nD Cert.Reference4Ideal.τ).loc Cert.Reference4Ideal.main_v135) = v2 c
          ∧ r.2.mem ((c.tc : Thread Cert.Reference4Ideal.nD Cert.Reference4Ideal.τ).loc Cert.Reference4Ideal.main_v136) = v3 c
          ∧ r.2.mem ((c.tc : Thread Cert.Reference4Ideal.nD Cert.Reference4Ideal.τ).loc Cert.Reference4Ideal.main_v138) = v4 c
          ∧ r.2.mem ((c.tc : Thread Cert.Reference4Ideal.nD Cert.Reference4Ideal.τ).loc Cert.Reference4Ideal.main_v144) = v5 c
          ∧ r.2.mem ((c.tc : Thread Cert.Reference4Ideal.nD Cert.Reference4Ideal.τ).loc Cert.Reference4Ideal.main_v145) = v6 c
          ∧ r.2.mem ((c.tc : Thread Cert.Reference4Ideal.nD Cert.Reference4Ideal.τ).loc Cert.Reference4Ideal.main_v146) = v7 c
          ∧ r.2.mem ((c.tc : Thread Cert.Reference4Ideal.nD Cert.Reference4Ideal.τ).loc Cert.Reference4Ideal.main_v147) = v8 c
          ∧ r.2.mem ((c.tc : Thread Cert.Reference4Ideal.nD Cert.Reference4Ideal.τ).loc Cert.Reference4Ideal.main_v149) = v9 c
          ∧ r.2.mem ((c.tc : Thread Cert.Reference4Ideal.nD Cert.Reference4Ideal.τ).loc Cert.Reference4Ideal.main_v155) = v10 c
          ∧ r.2.mem ((c.tc : Thread Cert.Reference4Ideal.nD Cert.Reference4Ideal.τ).loc Cert.Reference4Ideal.main_v88) = v11 c
          ∧ r.2.mem ((c.tc : Thread Cert.Reference4Ideal.nD Cert.Reference4Ideal.τ).loc Cert.Reference4Ideal.main_v118) = v12 c
          ∧ r.2.mem ((c.tc : Thread Cert.Reference4Ideal.nD Cert.Reference4Ideal.τ).loc Cert.Reference4Ideal.main_v156) = v13 c
          ∧ r.2.mem ((c.tc : Thread Cert.Reference4Ideal.nD Cert.Reference4Ideal.τ).loc Cert.Reference4Ideal.main_v158) = v14 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_moderate : Cert.Pre_moderate.Facts) (hPre_finite_keys : Cert.Pre_finite_keys.Facts) (hPre_finite_rotary : Cert.Pre_finite_rotary.Facts),
    quiescent_Kernel (hKernel := hKernel)
    ∧ quiescent_KernelIdeal (hKernelIdeal := hKernelIdeal)
    ∧ quiescent_KernelIdeal_pre_moderate (hKernelIdeal := hKernelIdeal) (hPre_moderate := hPre_moderate)
    ∧ quiescent_ReferenceIdeal (hReferenceIdeal := hReferenceIdeal)
    ∧ quiescent_ReferenceIdeal_pre_moderate (hReferenceIdeal := hReferenceIdeal) (hPre_moderate := hPre_moderate)
    ∧ quiescent_Kernel2 (hKernel2 := hKernel2)
    ∧ quiescent_Kernel2Ideal (hKernel2Ideal := hKernel2Ideal)
    ∧ quiescent_Kernel2Ideal_pre_finite_keys (hKernel2Ideal := hKernel2Ideal) (hPre_finite_keys := hPre_finite_keys)
    ∧ quiescent_Reference2Ideal (hReference2Ideal := hReference2Ideal)
    ∧ quiescent_Reference2Ideal_pre_finite_keys (hReference2Ideal := hReference2Ideal) (hPre_finite_keys := hPre_finite_keys)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_rotary (hKernel4Ideal := hKernel4Ideal) (hPre_finite_rotary := hPre_finite_rotary)
    ∧ quiescent_Reference4Ideal (hReference4Ideal := hReference4Ideal)
    ∧ quiescent_Reference4Ideal_pre_finite_rotary (hReference4Ideal := hReference4Ideal) (hPre_finite_rotary := hPre_finite_rotary)
    ∧ preserves_Kernel_KernelIdeal
    ∧ algebraic_KernelIdeal_ReferenceIdeal_pre_moderate (hKernelIdeal := hKernelIdeal) (hReferenceIdeal := hReferenceIdeal) (hPre_moderate := hPre_moderate)
    ∧ preserves_Kernel2_Kernel2Ideal
    ∧ algebraic_Kernel2Ideal_Reference2Ideal_pre_finite_keys (hKernel2Ideal := hKernel2Ideal) (hReference2Ideal := hReference2Ideal) (hPre_finite_keys := hPre_finite_keys)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_rotary (hKernel4Ideal := hKernel4Ideal) (hReference4Ideal := hReference4Ideal) (hPre_finite_rotary := hPre_finite_rotary)
-- ==== Pre_finite_keys.lean ====
abbrev S32x2048x1024 : Shape := ⟨3, ![32, 2048, 1024]⟩
abbrev S32x2048x512 : Shape := ⟨3, ![32, 2048, 512]⟩
abbrev S32x2048x256 : Shape := ⟨3, ![32, 2048, 256]⟩
abbrev S32x256x4x64 : Shape := ⟨4, ![32, 256, 4, 64]⟩
abbrev S32x2x2816 : Shape := ⟨3, ![32, 2, 2816]⟩
abbrev S1024x1024 : Shape := ⟨2, ![1024, 1024]⟩
abbrev S7x1024 : Shape := ⟨2, ![7, 1024]⟩
abbrev S1024x256 : Shape := ⟨2, ![1024, 256]⟩
abbrev S256x1024 : Shape := ⟨2, ![256, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S1x1024 : Shape := ⟨2, ![1, 1024]⟩
abbrev S1024 : Shape := ⟨1, ![1024]⟩

class Facts : Prop where
  bcast_S_S32x256x4x64 : S_.BroadcastsInDim S32x256x4x64 (![] : Fin 0 → Fin S32x256x4x64.rank)
  reducesTo_S32x256x4x64_S_d0_1_2_3 : S32x256x4x64.ReducesTo [0, 1, 2, 3] S_
  h_S_ : 0 < S_.numel
  slices_S7x1024_S1x1024_2_0 : S7x1024.Slices ![2, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S32x2048x1024 .f32) (main_arg1 : FVec F S32x2048x512 .f32) (main_arg2 : FVec F S32x2048x256 .f32) (main_arg3 : FVec F S32x2048x256 .f32) (main_arg4 : FVec F S32x256x4x64 .f32) (main_arg5 : FVec F S32x256x4x64 .f32) (main_arg6 : FVec F S32x2x2816 .f32) (main_arg7 : FVec F S1024x1024 .f32) (main_arg8 : FVec F S7x1024 .f32) (main_arg9 : FVec F S1024x256 .f32) (main_arg10 : FVec F S256x1024 .f32) (main_arg11 : FVec F S1024x2816 .f32) (main_arg12 : FVec F S1024x2816 .f32) (main_arg13 : FVec F S3x2816 .f32) (main_arg14 : FVec F S2816 .f32) (main_arg15 : FVec F S2816x1024 .f32) : IVec S_ 1 :=
  let main_v0 : FVec F S32x256x4x64 .f32 := Host.absf main_arg4
  let main_cst : FVec F S_ .f32 := constant S_ .f32 0x7F800000#32
  let main_v1 : FVec F S32x256x4x64 .f32 := broadcastInDim S32x256x4x64 ![] bcast_S_S32x256x4x64 main_cst
  let main_v2 : IVec S32x256x4x64 1 := cmpf .olt main_v0 main_v1
  let main_c : IVec S_ 1 := constantI S_ 1 1#1
  let main_v3 : IVec S_ 1 := (fun x v => Host.reduce IntOp.andi x v reducesTo_S32x256x4x64_S_d0_1_2_3 h_S_) main_v2 main_c
  let main_v4 : FVec F S1x1024 .f32 := (extractStridedSlice S1x1024 ![2, 0] · slices_S7x1024_S1x1024_2_0) main_arg8
  let main_v5 : FVec F S1024 .f32 := shapeCast S1024 main_v4 shapeCasts_S1x1024_S1024
  let main_v6 : FVec F S1024 .f32 := Host.absf main_v5
  let main_cst_0 : FVec F S_ .f32 := constant S_ .f32 0x7F800000#32
  let main_v7 : FVec F S1024 .f32 := broadcastInDim S1024 ![] bcast_S_S1024 main_cst_0
  let main_v8 : IVec S1024 1 := cmpf .olt main_v6 main_v7
  let main_c_1 : IVec S_ 1 := constantI S_ 1 1#1
  let main_v9 : IVec S_ 1 := (fun x v => Host.reduce IntOp.andi x v reducesTo_S1024_S_d0 h_S_) main_v8 main_c_1
  let main_v10 : IVec S_ 1 := andi main_v3 main_v9
  let main_v11 : FVec F S1024x256 .f32 := Host.absf main_arg9
  let main_cst_2 : FVec F S_ .f32 := constant S_ .f32 0x7F800000#32
  let main_v12 : FVec F S1024x256 .f32 := broadcastInDim S1024x256 ![] bcast_S_S1024x256 main_cst_2
  let main_v13 : IVec S1024x256 1 := cmpf .olt main_v11 main_v12
  let main_c_3 : IVec S_ 1 := constantI S_ 1 1#1
  let main_v14 : IVec S_ 1 := (fun x v => Host.reduce IntOp.andi x v reducesTo_S1024x256_S_d0_1 h_S_) main_v13 main_c_3
  let main_v15 : IVec S_ 1 := andi main_v10 main_v14
  main_v15
-- ==== Pre_finite_rotary.lean ====
abbrev S32x2048x1024 : Shape := ⟨3, ![32, 2048, 1024]⟩
abbrev S1024x2720 : Shape := ⟨2, ![1024, 2720]⟩
abbrev S7x1024 : Shape := ⟨2, ![7, 1024]⟩
abbrev S256 : Shape := ⟨1, ![256]⟩
abbrev S256x384 : Shape := ⟨2, ![256, 384]⟩
abbrev S128 : Shape := ⟨1, ![128]⟩
abbrev S128x512 : Shape := ⟨2, ![128, 512]⟩
abbrev S1024x32 : Shape := ⟨2, ![1024, 32]⟩
abbrev S256x4x96 : Shape := ⟨3, ![256, 4, 96]⟩
abbrev S256x4x32 : Shape := ⟨3, ![256, 4, 32]⟩
abbrev S_ : Shape := ⟨0, ![]⟩
abbrev S1x1024 : Shape := ⟨2, ![1, 1024]⟩
abbrev S1024 : Shape := ⟨1, ![1024]⟩

class Facts : Prop where
  slices_S1024x2720_S1024x32_0_2688 : S1024x2720.Slices ![0, 2688] S1024x32
  shapeCasts_S256x384_S256x4x96 : S256x384.ShapeCasts S256x4x96
  slices_S256x4x96_S256x4x32_0_0_64 : S256x4x96.Slices ![0, 0, 64] S256x4x32
  bcast_S_S1024x32 : S_.BroadcastsInDim S1024x32 (![] : Fin 0 → Fin S1024x32.rank)
  reducesTo_S1024x32_S_d0_1 : S1024x32.ReducesTo [0, 1] S_
  h_S_ : 0 < S_.numel
  slices_S7x1024_S1x1024_0_0 : S7x1024.Slices ![0, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  bcast_S_S256 : S_.BroadcastsInDim S256 (![] : Fin 0 → Fin S256.rank)
  reducesTo_S256_S_d0 : S256.ReducesTo [0] S_
  bcast_S_S256x4x32 : S_.BroadcastsInDim S256x4x32 (![] : Fin 0 → Fin S256x4x32.rank)
  reducesTo_S256x4x32_S_d0_1_2 : S256x4x32.ReducesTo [0, 1, 2] S_

variable [Facts]

def fn_part1 {F : FTy → Type} [FloatOps F] (main_v2 : FVec F S256x4x32 .f32) (main_v13 : IVec S_ 1) (main_v17 : IVec S_ 1) : IVec S_ 1 :=
  let main_v18 : IVec S_ 1 := andi main_v13 main_v17
  let main_v19 : FVec F S256x4x32 .f32 := Host.absf main_v2
  let main_cst_4 : FVec F S_ .f32 := constant S_ .f32 0x7F800000#32
  let main_v20 : FVec F S256x4x32 .f32 := broadcastInDim S256x4x32 ![] bcast_S_S256x4x32 main_cst_4
  let main_v21 : IVec S256x4x32 1 := cmpf .olt main_v19 main_v20
  let main_c_5 : IVec S_ 1 := constantI S_ 1 1#1
  let main_v22 : IVec S_ 1 := (fun x v => Host.reduce IntOp.andi x v reducesTo_S256x4x32_S_d0_1_2 h_S_) main_v21 main_c_5
  let main_v23 : IVec S_ 1 := andi main_v18 main_v22
  main_v23

def fn {F : FTy → Type} [FloatOps F] (main_arg0 : FVec F S32x2048x1024 .f32) (main_arg1 : FVec F S1024x2720 .f32) (main_arg2 : FVec F S7x1024 .f32) (main_arg3 : FVec F S256 .f32) (main_arg4 : FVec F S256x384 .f32) (main_arg5 : FVec F S128 .f32) (main_arg6 : FVec F S128x512 .f32) : IVec S_ 1 :=
  let main_v0 : FVec F S1024x32 .f32 := (extractStridedSlice S1024x32 ![0, 2688] · slices_S1024x2720_S1024x32_0_2688) main_arg1
  let main_v1 : FVec F S256x4x96 .f32 := shapeCast S256x4x96 main_arg4 shapeCasts_S256x384_S256x4x96
  let main_v2 : FVec F S256x4x32 .f32 := (extractStridedSlice S256x4x32 ![0, 0, 64] · slices_S256x4x96_S256x4x32_0_0_64) main_v1
  let main_v3 : FVec F S1024x32 .f32 := Host.absf main_v0
  let main_cst : FVec F S_ .f32 := constant S_ .f32 0x7F800000#32
  let main_v4 : FVec F S1024x32 .f32 := broadcastInDim S1024x32 ![] bcast_S_S1024x32 main_cst
  let main_v5 : IVec S1024x32 1 := cmpf .olt main_v3 main_v4
  let main_c : IVec S_ 1 := constantI S_ 1 1#1
  let main_v6 : IVec S_ 1 := (fun x v => Host.reduce IntOp.andi x v reducesTo_S1024x32_S_d0_1 h_S_) main_v5 main_c
  let main_v7 : FVec F S1x1024 .f32 := (extractStridedSlice S1x1024 ![0, 0] · slices_S7x1024_S1x1024_0_0) main_arg2
  let main_v8 : FVec F S1024 .f32 := shapeCast S1024 main_v7 shapeCasts_S1x1024_S1024
  let main_v9 : FVec F S1024 .f32 := Host.absf main_v8
  let main_cst_0 : FVec F S_ .f32 := constant S_ .f32 0x7F800000#32
  let main_v10 : FVec F S1024 .f32 := broadcastInDim S1024 ![] bcast_S_S1024 main_cst_0
  let main_v11 : IVec S1024 1 := cmpf .olt main_v9 main_v10
  let main_c_1 : IVec S_ 1 := constantI S_ 1 1#1
  let main_v12 : IVec S_ 1 := (fun x v => Host.reduce IntOp.andi x v reducesTo_S1024_S_d0 h_S_) main_v11 main_c_1
  let main_v13 : IVec S_ 1 := andi main_v6 main_v12
  let main_v14 : FVec F S256 .f32 := Host.absf main_arg3
  let main_cst_2 : FVec F S_ .f32 := constant S_ .f32 0x7F800000#32
  let main_v15 : FVec F S256 .f32 := broadcastInDim S256 ![] bcast_S_S256 main_cst_2
  let main_v16 : IVec S256 1 := cmpf .olt main_v14 main_v15
  let main_c_3 : IVec S_ 1 := constantI S_ 1 1#1
  let main_v17 : IVec S_ 1 := (fun x v => Host.reduce IntOp.andi x v reducesTo_S256_S_d0 h_S_) main_v16 main_c_3
  fn_part1 (F := F) main_v2 main_v13 main_v17
-- ==== Pre_moderate.lean ====
abbrev S32x2048x8x2x32 : Shape := ⟨5, ![32, 2048, 8, 2, 32]⟩
abbrev S32x2048x8x64 : Shape := ⟨4, ![32, 2048, 8, 64]⟩
abbrev S4x32 : Shape := ⟨2, ![4, 32]⟩
abbrev S64 : Shape := ⟨1, ![64]⟩
abbrev S32x8 : Shape := ⟨2, ![32, 8]⟩
abbrev S_ : Shape := ⟨0, ![]⟩

class Facts : Prop where
  bcast_S_S32x2048x8x64 : S_.BroadcastsInDim S32x2048x8x64 (![] : Fin 0 → Fin S32x2048x8x64.rank)
  reducesTo_S32x2048x8x64_S_d0_1_2_3 : S32x2048x8x64.ReducesTo [0, 1, 2, 3] S_
  h_S_ : 0 < S_.numel
  bcast_S_S4x32 : S_.BroadcastsInDim S4x32 (![] : Fin 0 → Fin S4x32.rank)
  reducesTo_S4x32_S_d0_1 : S4x32.ReducesTo [0, 1] S_
  bcast_S_S32x8 : S_.BroadcastsInDim S32x8 (![] : Fin 0 → Fin S32x8.rank)
  reducesTo_S32x8_S_d0_1 : S32x8.ReducesTo [0, 1] S_

variable [Facts]

def fn {F : FTy → Type} [FloatOps F] (main_arg0 : FVec F S32x2048x8x2x32 .f32) (main_arg1 : FVec F S32x2048x8x64 .f32) (main_arg2 : FVec F S32x2048x8x64 .f32) (main_arg3 : FVec F S32x2048x8x64 .f32) (main_arg4 : FVec F S32x2048x8x64 .f32) (main_arg5 : FVec F S4x32 .f32) (main_arg6 : FVec F S64 .f32) (main_arg7 : FVec F S32x8 .f32) : IVec S_ 1 :=
  let main_v0 : FVec F S32x2048x8x64 .f32 := Host.absf main_arg2
  let main_cst : FVec F S_ .f32 := constant S_ .f32 0x7F800000#32
  let main_v1 : FVec F S32x2048x8x64 .f32 := broadcastInDim S32x2048x8x64 ![] bcast_S_S32x2048x8x64 main_cst
  let main_v2 : IVec S32x2048x8x64 1 := cmpf .olt main_v0 main_v1
  let main_c : IVec S_ 1 := constantI S_ 1 1#1
  let main_v3 : IVec S_ 1 := (fun x v => Host.reduce IntOp.andi x v reducesTo_S32x2048x8x64_S_d0_1_2_3 h_S_) main_v2 main_c
  let main_v4 : FVec F S4x32 .f32 := Host.absf main_arg5
  let main_cst_0 : FVec F S_ .f32 := constant S_ .f32 0x7F800000#32
  let main_v5 : FVec F S4x32 .f32 := broadcastInDim S4x32 ![] bcast_S_S4x32 main_cst_0
  let main_v6 : IVec S4x32 1 := cmpf .olt main_v4 main_v5
  let main_c_1 : IVec S_ 1 := constantI S_ 1 1#1
  let main_v7 : IVec S_ 1 := (fun x v => Host.reduce IntOp.andi x v reducesTo_S4x32_S_d0_1 h_S_) main_v6 main_c_1
  let main_v8 : IVec S_ 1 := andi main_v3 main_v7
  let main_v9 : FVec F S32x8 .f32 := Host.absf main_arg7
  let main_cst_2 : FVec F S_ .f32 := constant S_ .f32 0x6FA18F08#32
  let main_v10 : FVec F S32x8 .f32 := broadcastInDim S32x8 ![] bcast_S_S32x8 main_cst_2
  let main_v11 : IVec S32x8 1 := cmpf .olt main_v9 main_v10
  let main_c_3 : IVec S_ 1 := constantI S_ 1 1#1
  let main_v12 : IVec S_ 1 := (fun x v => Host.reduce IntOp.andi x v reducesTo_S32x8_S_d0_1 h_S_) main_v11 main_c_3
  let main_v13 : IVec S_ 1 := andi main_v8 main_v12
  main_v13
-- ==== Kernel.lean ====
abbrev S32x2048x8x2x32 : Shape := ⟨5, ![32, 2048, 8, 2, 32]⟩
abbrev S32x2048x8x64 : Shape := ⟨4, ![32, 2048, 8, 64]⟩
abbrev S4x32 : Shape := ⟨2, ![4, 32]⟩
abbrev S64 : Shape := ⟨1, ![64]⟩
abbrev S32x8 : Shape := ⟨2, ![32, 8]⟩
abbrev S_ : Shape := ⟨0, ![]⟩
abbrev S1x32 : Shape := ⟨2, ![1, 32]⟩
abbrev S5x32 : Shape := ⟨2, ![5, 32]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S32x2048x512 : Shape := ⟨3, ![32, 2048, 512]⟩
abbrev S32x512x2048 : Shape := ⟨3, ![32, 512, 2048]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S1 : Shape := ⟨1, ![1]⟩
abbrev S1x1 : Shape := ⟨2, ![1, 1]⟩
abbrev S1x8 : Shape := ⟨2, ![1, 8]⟩
abbrev S8x1 : Shape := ⟨2, ![8, 1]⟩
abbrev S8x1x1 : Shape := ⟨3, ![8, 1, 1]⟩
abbrev S1x256x256 : Shape := ⟨3, ![1, 256, 256]⟩
abbrev S512 : Shape := ⟨1, ![512]⟩
abbrev S512x1 : Shape := ⟨2, ![512, 1]⟩
abbrev S512x8 : Shape := ⟨2, ![512, 8]⟩
abbrev S8x512 : Shape := ⟨2, ![8, 512]⟩
abbrev S8x1x512 : Shape := ⟨3, ![8, 1, 512]⟩
abbrev S8x256x512 : Shape := ⟨3, ![8, 256, 512]⟩
abbrev S8x131072 : Shape := ⟨2, ![8, 131072]⟩
abbrev S8x130816 : Shape := ⟨2, ![8, 130816]⟩
abbrev S8x256x511 : Shape := ⟨3, ![8, 256, 511]⟩
abbrev S8x256x256 : Shape := ⟨3, ![8, 256, 256]⟩
abbrev S8x1x256x256 : Shape := ⟨4, ![8, 1, 256, 256]⟩
abbrev S8x2x256x256 : Shape := ⟨4, ![8, 2, 256, 256]⟩
abbrev S2x32x512x2048 : Shape := ⟨4, ![2, 32, 512, 2048]⟩
abbrev S1x2048x128 : Shape := ⟨3, ![1, 2048, 128]⟩
abbrev S1x128x2048 : Shape := ⟨3, ![1, 128, 2048]⟩
abbrev S2x2x256x256 : Shape := ⟨4, ![2, 2, 256, 256]⟩
abbrev S2x1x128x2048 : Shape := ⟨4, ![2, 1, 128, 2048]⟩
abbrev S128x2048 : Shape := ⟨2, ![128, 2048]⟩
abbrev S1x1x128x2048 : Shape := ⟨4, ![1, 1, 128, 2048]⟩
abbrev S1x256x128 : Shape := ⟨3, ![1, 256, 128]⟩
abbrev S256x128 : Shape := ⟨2, ![256, 128]⟩
abbrev S1x1x256x256 : Shape := ⟨4, ![1, 1, 256, 256]⟩
abbrev S128x256 : Shape := ⟨2, ![128, 256]⟩
abbrev S1x128x256 : Shape := ⟨3, ![1, 128, 256]⟩
abbrev S128x1 : Shape := ⟨2, ![128, 1]⟩
abbrev S64x256 : Shape := ⟨2, ![64, 256]⟩
abbrev S1x512x128 : Shape := ⟨3, ![1, 512, 128]⟩
abbrev S512x128 : Shape := ⟨2, ![512, 128]⟩
abbrev S512x256 : Shape := ⟨2, ![512, 256]⟩
abbrev S1x128x512 : Shape := ⟨3, ![1, 128, 512]⟩
abbrev S128x512 : Shape := ⟨2, ![128, 512]⟩
abbrev S1x768x128 : Shape := ⟨3, ![1, 768, 128]⟩
abbrev S768x128 : Shape := ⟨2, ![768, 128]⟩
abbrev S768x256 : Shape := ⟨2, ![768, 256]⟩
abbrev S1x128x768 : Shape := ⟨3, ![1, 128, 768]⟩
abbrev S128x768 : Shape := ⟨2, ![128, 768]⟩
abbrev S1x1024x128 : Shape := ⟨3, ![1, 1024, 128]⟩
abbrev S1024x128 : Shape := ⟨2, ![1024, 128]⟩
abbrev S1024x256 : Shape := ⟨2, ![1024, 256]⟩
abbrev S1x128x1024 : Shape := ⟨3, ![1, 128, 1024]⟩
abbrev S128x1024 : Shape := ⟨2, ![128, 1024]⟩

abbrev nBuf : Space → Nat
  | .hbm => 245
  | .vmem => 24
  | .smem => 0
  | _ => 0

abbrev hbmTy0_0 (i : Nat) : BufTy := match i % 128 with
  | 0 => ⟨S32x2048x8x2x32, .f32⟩
  | 1 => ⟨S32x2048x8x64, .f32⟩
  | 2 => ⟨S32x2048x8x64, .f32⟩
  | 3 => ⟨S32x2048x8x64, .f32⟩
  | 4 => ⟨S32x2048x8x64, .f32⟩
  | 5 => ⟨S4x32, .f32⟩
  | 6 => ⟨S64, .f32⟩
  | 7 => ⟨S32x8, .f32⟩
  | 8 => ⟨S_, .f32⟩
  | 9 => ⟨S1x32, .f32⟩
  | 10 => ⟨S5x32, .f32⟩
  | 11 => ⟨S1x64, .f32⟩
  | 12 => ⟨S1x1x1x64, .f32⟩
  | 13 => ⟨S1x1x2x64, .f32⟩
  | 14 => ⟨S1x128, .f32⟩
  | 15 => ⟨S32x2048x512, .f32⟩
  | 16 => ⟨S32x2048x512, .bf16⟩
  | 17 => ⟨S32x2048x512, .f32⟩
  | 18 => ⟨S32x2048x512, .bf16⟩
  | 19 => ⟨S32x2048x512, .f32⟩
  | 20 => ⟨S32x512x2048, .f32⟩
  | 21 => ⟨S32x2048x512, .f32⟩
  | 22 => ⟨S32x512x2048, .f32⟩
  | 23 => ⟨S32x512x2048, .bf16⟩
  | 24 => ⟨S32x2048x512, .f32⟩
  | 25 => ⟨S32x512x2048, .f32⟩
  | 26 => ⟨S32x2048x512, .f32⟩
  | 27 => ⟨S32x512x2048, .f32⟩
  | 28 => ⟨S256, .i32⟩
  | 29 => ⟨S1x256, .i32⟩
  | 30 => ⟨S_, .i32⟩
  | 31 => ⟨S_, .i32⟩
  | 32 => ⟨S1x256, .i32⟩
  | 33 => ⟨S1x256, .i32⟩
  | 34 => ⟨S1x256, .i32⟩
  | 35 => ⟨S_, .i32⟩
  | 36 => ⟨S1x256, .i32⟩
  | 37 => ⟨S1x256, .i1⟩
  | 38 => ⟨S1x256, .i32⟩
  | 39 => ⟨S1x256, .i32⟩
  | 40 => ⟨S_, .i32⟩
  | 41 => ⟨S1x256, .i32⟩
  | 42 => ⟨S1x256, .i1⟩
  | 43 => ⟨S1x256, .i1⟩
  | 44 => ⟨S_, .i32⟩
  | 45 => ⟨S1x256, .i32⟩
  | 46 => ⟨S1x256, .i32⟩
  | 47 => ⟨S1x256, .i32⟩
  | 48 => ⟨S256x1, .i32⟩
  | 49 => ⟨S_, .i32⟩
  | 50 => ⟨S_, .i32⟩
  | 51 => ⟨S256x1, .i32⟩
  | 52 => ⟨S256x1, .i32⟩
  | 53 => ⟨S256x1, .i32⟩
  | 54 => ⟨S_, .i32⟩
  | 55 => ⟨S256x1, .i32⟩
  | 56 => ⟨S256x1, .i1⟩
  | 57 => ⟨S256x1, .i32⟩
  | 58 => ⟨S256x1, .i32⟩
  | 59 => ⟨S_, .i32⟩
  | 60 => ⟨S256x1, .i32⟩
  | 61 => ⟨S256x1, .i1⟩
  | 62 => ⟨S256x1, .i1⟩
  | 63 => ⟨S_, .i32⟩
  | 64 => ⟨S256x1, .i32⟩
  | 65 => ⟨S256x1, .i32⟩
  | 66 => ⟨S256x1, .i32⟩
  | 67 => ⟨S256x256, .i32⟩
  | 68 => ⟨S256x256, .i32⟩
  | 69 => ⟨S256x256, .i1⟩
  | 70 => ⟨S_, .i32⟩
  | 71 => ⟨S1, .i32⟩
  | 72 => ⟨S1, .i32⟩
  | 73 => ⟨S1, .i32⟩
  | 74 => ⟨S_, .i32⟩
  | 75 => ⟨S1, .i32⟩
  | 76 => ⟨S1, .i32⟩
  | 77 => ⟨S1, .i32⟩
  | 78 => ⟨S_, .i32⟩
  | 79 => ⟨S1, .i32⟩
  | 80 => ⟨S1, .i32⟩
  | 81 => ⟨S_, .i32⟩
  | 82 => ⟨S1, .i32⟩
  | 83 => ⟨S1, .i32⟩
  | 84 => ⟨S_, .i32⟩
  | 85 => ⟨S1, .i32⟩
  | 86 => ⟨S1, .i32⟩
  | 87 => ⟨S_, .i32⟩
  | 88 => ⟨S1, .i32⟩
  | 89 => ⟨S1, .i1⟩
  | 90 => ⟨S_, .i32⟩
  | 91 => ⟨S_, .i32⟩
  | 92 => ⟨S1, .i32⟩
  | 93 => ⟨S1, .i32⟩
  | 94 => ⟨S1, .i32⟩
  | 95 => ⟨S_, .i32⟩
  | 96 => ⟨S1, .i32⟩
  | 97 => ⟨S1, .i1⟩
  | 98 => ⟨S1, .i32⟩
  | 99 => ⟨S1, .i32⟩
  | 100 => ⟨S1, .i32⟩
  | 101 => ⟨S_, .i32⟩
  | 102 => ⟨S1, .i32⟩
  | 103 => ⟨S1, .i1⟩
  | 104 => ⟨S_, .i32⟩
  | 105 => ⟨S1, .i32⟩
  | 106 => ⟨S1, .i32⟩
  | 107 => ⟨S1, .i32⟩
  | 108 => ⟨S1x1, .i32⟩
  | 109 => ⟨S1x8, .f32⟩
  | 110 => ⟨S8x1, .f32⟩
  | 111 => ⟨S8x1x1, .f32⟩
  | 112 => ⟨S1x256x256, .i1⟩
  | 113 => ⟨S512, .i32⟩
  | 114 => ⟨S_, .i32⟩
  | 115 => ⟨S512, .i32⟩
  | 116 => ⟨S512, .i32⟩
  | 117 => ⟨S_, .i32⟩
  | 118 => ⟨S512, .i32⟩
  | 119 => ⟨S512, .i1⟩
  | 120 => ⟨S512, .i32⟩
  | 121 => ⟨S_, .i32⟩
  | 122 => ⟨S512, .i32⟩
  | 123 => ⟨S512, .i32⟩
  | 124 => ⟨S512, .i32⟩
  | 125 => ⟨S512, .i32⟩
  | 126 => ⟨S512, .i32⟩
  | 127 => ⟨S512, .i32⟩
  | _ => ⟨S32x2048x8x2x32, .f32⟩

abbrev hbmTy0_1 (i : Nat) : BufTy := match i % 128 with
  | 0 => ⟨S_, .i32⟩
  | 1 => ⟨S512, .i32⟩
  | 2 => ⟨S512, .i32⟩
  | 3 => ⟨S512, .i32⟩
  | 4 => ⟨S_, .i32⟩
  | 5 => ⟨S512, .i32⟩
  | 6 => ⟨S512, .i32⟩
  | 7 => ⟨S_, .i32⟩
  | 8 => ⟨S512, .i32⟩
  | 9 => ⟨S512, .i32⟩
  | 10 => ⟨S_, .i32⟩
  | 11 => ⟨S512, .i32⟩
  | 12 => ⟨S512, .i32⟩
  | 13 => ⟨S_, .i32⟩
  | 14 => ⟨S512, .i32⟩
  | 15 => ⟨S512, .i1⟩
  | 16 => ⟨S_, .i32⟩
  | 17 => ⟨S_, .i32⟩
  | 18 => ⟨S512, .i32⟩
  | 19 => ⟨S512, .i32⟩
  | 20 => ⟨S512, .i32⟩
  | 21 => ⟨S_, .i32⟩
  | 22 => ⟨S512, .i32⟩
  | 23 => ⟨S512, .i1⟩
  | 24 => ⟨S512, .i32⟩
  | 25 => ⟨S512, .i32⟩
  | 26 => ⟨S512, .i32⟩
  | 27 => ⟨S_, .i32⟩
  | 28 => ⟨S512, .i32⟩
  | 29 => ⟨S512, .i1⟩
  | 30 => ⟨S_, .i32⟩
  | 31 => ⟨S512, .i32⟩
  | 32 => ⟨S512, .i32⟩
  | 33 => ⟨S512, .i32⟩
  | 34 => ⟨S512x1, .i32⟩
  | 35 => ⟨S512x8, .f32⟩
  | 36 => ⟨S8x512, .f32⟩
  | 37 => ⟨S8x1x512, .f32⟩
  | 38 => ⟨S8x256x512, .f32⟩
  | 39 => ⟨S8x131072, .f32⟩
  | 40 => ⟨S8x130816, .f32⟩
  | 41 => ⟨S8x256x511, .f32⟩
  | 42 => ⟨S8x256x256, .f32⟩
  | 43 => ⟨S8x256x256, .f32⟩
  | 44 => ⟨S8x256x256, .f32⟩
  | 45 => ⟨S_, .f32⟩
  | 46 => ⟨S_, .f32⟩
  | 47 => ⟨S8x256x256, .i1⟩
  | 48 => ⟨S8x256x256, .f32⟩
  | 49 => ⟨S8x256x256, .f32⟩
  | 50 => ⟨S512, .i32⟩
  | 51 => ⟨S_, .i32⟩
  | 52 => ⟨S512, .i32⟩
  | 53 => ⟨S512, .i32⟩
  | 54 => ⟨S_, .i32⟩
  | 55 => ⟨S512, .i32⟩
  | 56 => ⟨S512, .i1⟩
  | 57 => ⟨S512, .i32⟩
  | 58 => ⟨S_, .i32⟩
  | 59 => ⟨S512, .i32⟩
  | 60 => ⟨S512, .i32⟩
  | 61 => ⟨S512, .i32⟩
  | 62 => ⟨S512, .i32⟩
  | 63 => ⟨S512, .i32⟩
  | 64 => ⟨S512, .i32⟩
  | 65 => ⟨S_, .i32⟩
  | 66 => ⟨S512, .i32⟩
  | 67 => ⟨S512, .i32⟩
  | 68 => ⟨S512, .i32⟩
  | 69 => ⟨S_, .i32⟩
  | 70 => ⟨S512, .i32⟩
  | 71 => ⟨S512, .i32⟩
  | 72 => ⟨S_, .i32⟩
  | 73 => ⟨S512, .i32⟩
  | 74 => ⟨S512, .i32⟩
  | 75 => ⟨S_, .i32⟩
  | 76 => ⟨S512, .i32⟩
  | 77 => ⟨S512, .i32⟩
  | 78 => ⟨S_, .i32⟩
  | 79 => ⟨S512, .i32⟩
  | 80 => ⟨S512, .i1⟩
  | 81 => ⟨S_, .i32⟩
  | 82 => ⟨S_, .i32⟩
  | 83 => ⟨S512, .i32⟩
  | 84 => ⟨S512, .i32⟩
  | 85 => ⟨S512, .i32⟩
  | 86 => ⟨S_, .i32⟩
  | 87 => ⟨S512, .i32⟩
  | 88 => ⟨S512, .i1⟩
  | 89 => ⟨S512, .i32⟩
  | 90 => ⟨S512, .i32⟩
  | 91 => ⟨S512, .i32⟩
  | 92 => ⟨S_, .i32⟩
  | 93 => ⟨S512, .i32⟩
  | 94 => ⟨S512, .i1⟩
  | 95 => ⟨S_, .i32⟩
  | 96 => ⟨S512, .i32⟩
  | 97 => ⟨S512, .i32⟩
  | 98 => ⟨S512, .i32⟩
  | 99 => ⟨S512x1, .i32⟩
  | 100 => ⟨S512x8, .f32⟩
  | 101 => ⟨S8x512, .f32⟩
  | 102 => ⟨S8x1x512, .f32⟩
  | 103 => ⟨S8x256x512, .f32⟩
  | 104 => ⟨S8x131072, .f32⟩
  | 105 => ⟨S8x130816, .f32⟩
  | 106 => ⟨S8x256x511, .f32⟩
  | 107 => ⟨S8x256x256, .f32⟩
  | 108 => ⟨S8x256x256, .f32⟩
  | 109 => ⟨S8x256x256, .f32⟩
  | 110 => ⟨S8x1x256x256, .f32⟩
  | 111 => ⟨S8x1x256x256, .f32⟩
  | 112 => ⟨S8x2x256x256, .f32⟩
  | 113 => ⟨S8x2x256x256, .f32⟩
  | 114 => ⟨S32x2048x512, .bf16⟩
  | 115 => ⟨S2x32x512x2048, .f32⟩
  | 116 => ⟨S2x32x512x2048, .f32⟩
  | _ => ⟨S32x2048x8x2x32, .f32⟩

abbrev hbmTy (i : Nat) : BufTy := match i / 128 with
  | 0 => hbmTy0_0 i
  | 1 => hbmTy0_1 i
  | _ => ⟨S32x2048x8x2x32, .f32⟩

abbrev bufTy : (tb : Table) → Fin (tcTables nBuf tb) → BufTy
  | .hbm, ⟨i, _⟩ => hbmTy i
  | .local _ .vmem, ⟨0, _⟩ => ⟨S5x32, .f32⟩
  | .local _ .vmem, ⟨1, _⟩ => ⟨S1x128, .f32⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x128x2048, .bf16⟩
  | .local _ .vmem, ⟨7, _⟩ => ⟨S1x128x2048, .bf16⟩
  | .local _ .vmem, ⟨8, _⟩ => ⟨S2x2x256x256, .f32⟩
  | .local _ .vmem, ⟨9, _⟩ => ⟨S2x2x256x256, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .vmem, ⟨18, _⟩ => ⟨S1x2048x128, .bf16⟩
  | .local _ .vmem, ⟨19, _⟩ => ⟨S1x2048x128, .bf16⟩
  | .local _ .vmem, ⟨20, _⟩ => ⟨S2x1x128x2048, .f32⟩
  | .local _ .vmem, ⟨21, _⟩ => ⟨S2x1x128x2048, .f32⟩
  | .local _ .vmem, ⟨22, _⟩ => ⟨S2x1x128x2048, .f32⟩
  | .local _ .vmem, ⟨23, _⟩ => ⟨S2x1x128x2048, .f32⟩
  | _, _ => ⟨S32x2048x8x2x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v21 : Ref sig .tc := ⟨.hbm, 47, rfl⟩
abbrev main_v22 : Ref sig .tc := ⟨.hbm, 48, rfl⟩
abbrev main_c_0 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_c : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_0 : Ref sig .tc := ⟨.hbm, 63, rfl⟩
abbrev main_call1_v12 : Ref sig .tc := ⟨.hbm, 64, rfl⟩
abbrev main_call1_v13 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_c_1 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_c_2 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_c_3 : Ref sig .tc := ⟨.hbm, 78, rfl⟩
abbrev main_v33 : Ref sig .tc := ⟨.hbm, 79, rfl⟩
abbrev main_v34 : Ref sig .tc := ⟨.hbm, 80, rfl⟩
abbrev main_c_4 : Ref sig .tc := ⟨.hbm, 81, rfl⟩
abbrev main_v35 : Ref sig .tc := ⟨.hbm, 82, rfl⟩
abbrev main_v36 : Ref sig .tc := ⟨.hbm, 83, rfl⟩
abbrev main_c_5 : Ref sig .tc := ⟨.hbm, 84, rfl⟩
abbrev main_v37 : Ref sig .tc := ⟨.hbm, 85, rfl⟩
abbrev main_v38 : Ref sig .tc := ⟨.hbm, 86, rfl⟩
abbrev main_c_6 : Ref sig .tc := ⟨.hbm, 87, rfl⟩
abbrev main_v39 : Ref sig .tc := ⟨.hbm, 88, rfl⟩
abbrev main_v40 : Ref sig .tc := ⟨.hbm, 89, rfl⟩
abbrev main_c_7 : Ref sig .tc := ⟨.hbm, 90, rfl⟩
abbrev main_c_8 : Ref sig .tc := ⟨.hbm, 91, rfl⟩
abbrev main_call2_v0 : Ref sig .tc := ⟨.hbm, 92, rfl⟩
abbrev main_call2_v1 : Ref sig .tc := ⟨.hbm, 93, rfl⟩
abbrev main_v41 : Ref sig .tc := ⟨.hbm, 94, rfl⟩
abbrev main_c_9 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_c_10 : Ref sig .tc := ⟨.hbm, 101, rfl⟩
abbrev main_v47 : Ref sig .tc := ⟨.hbm, 102, rfl⟩
abbrev main_v48 : Ref sig .tc := ⟨.hbm, 103, rfl⟩
abbrev main_c_11 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_c_12 : Ref sig .tc := ⟨.hbm, 114, rfl⟩
abbrev main_v58 : Ref sig .tc := ⟨.hbm, 115, rfl⟩
abbrev main_v59 : Ref sig .tc := ⟨.hbm, 116, rfl⟩
abbrev main_c_13 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_c_14 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_c_15 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_c_16 : Ref sig .tc := ⟨.hbm, 132, rfl⟩
abbrev main_v72 : Ref sig .tc := ⟨.hbm, 133, rfl⟩
abbrev main_v73 : Ref sig .tc := ⟨.hbm, 134, rfl⟩
abbrev main_c_17 : Ref sig .tc := ⟨.hbm, 135, rfl⟩
abbrev main_v74 : Ref sig .tc := ⟨.hbm, 136, rfl⟩
abbrev main_v75 : Ref sig .tc := ⟨.hbm, 137, rfl⟩
abbrev main_c_18 : Ref sig .tc := ⟨.hbm, 138, rfl⟩
abbrev main_v76 : Ref sig .tc := ⟨.hbm, 139, rfl⟩
abbrev main_v77 : Ref sig .tc := ⟨.hbm, 140, rfl⟩
abbrev main_c_19 : Ref sig .tc := ⟨.hbm, 141, rfl⟩
abbrev main_v78 : Ref sig .tc := ⟨.hbm, 142, rfl⟩
abbrev main_v79 : Ref sig .tc := ⟨.hbm, 143, rfl⟩
abbrev main_c_20 : Ref sig .tc := ⟨.hbm, 144, rfl⟩
abbrev main_c_21 : Ref sig .tc := ⟨.hbm, 145, rfl⟩
abbrev main_call4_v0 : Ref sig .tc := ⟨.hbm, 146, rfl⟩
abbrev main_call4_v1 : Ref sig .tc := ⟨.hbm, 147, rfl⟩
abbrev main_v80 : Ref sig .tc := ⟨.hbm, 148, rfl⟩
abbrev main_c_22 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_c_23 : Ref sig .tc := ⟨.hbm, 155, rfl⟩
abbrev main_v86 : Ref sig .tc := ⟨.hbm, 156, rfl⟩
abbrev main_v87 : Ref sig .tc := ⟨.hbm, 157, rfl⟩
abbrev main_c_24 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_cst_25 : Ref sig .tc := ⟨.hbm, 173, rfl⟩
abbrev main_call6_v0 : Ref sig .tc := ⟨.hbm, 174, rfl⟩
abbrev main_call6_v1 : Ref sig .tc := ⟨.hbm, 175, rfl⟩
abbrev main_call6_v2 : Ref sig .tc := ⟨.hbm, 176, rfl⟩
abbrev main_v102 : Ref sig .tc := ⟨.hbm, 177, rfl⟩
abbrev main_v103 : Ref sig .tc := ⟨.hbm, 178, rfl⟩
abbrev main_c_26 : Ref sig .tc := ⟨.hbm, 179, rfl⟩
abbrev main_v104 : Ref sig .tc := ⟨.hbm, 180, rfl⟩
abbrev main_v105 : Ref sig .tc := ⟨.hbm, 181, rfl⟩
abbrev main_c_27 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_c_28 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_c_29 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_c_30 : Ref sig .tc := ⟨.hbm, 197, rfl⟩
abbrev main_v118 : Ref sig .tc := ⟨.hbm, 198, rfl⟩
abbrev main_v119 : Ref sig .tc := ⟨.hbm, 199, rfl⟩
abbrev main_c_31 : Ref sig .tc := ⟨.hbm, 200, rfl⟩
abbrev main_v120 : Ref sig .tc := ⟨.hbm, 201, rfl⟩
abbrev main_v121 : Ref sig .tc := ⟨.hbm, 202, rfl⟩
abbrev main_c_32 : Ref sig .tc := ⟨.hbm, 203, rfl⟩
abbrev main_v122 : Ref sig .tc := ⟨.hbm, 204, rfl⟩
abbrev main_v123 : Ref sig .tc := ⟨.hbm, 205, rfl⟩
abbrev main_c_33 : Ref sig .tc := ⟨.hbm, 206, rfl⟩
abbrev main_v124 : Ref sig .tc := ⟨.hbm, 207, rfl⟩
abbrev main_v125 : Ref sig .tc := ⟨.hbm, 208, rfl⟩
abbrev main_c_34 : Ref sig .tc := ⟨.hbm, 209, rfl⟩
abbrev main_c_35 : Ref sig .tc := ⟨.hbm, 210, rfl⟩
abbrev main_call7_v0 : Ref sig .tc := ⟨.hbm, 211, rfl⟩
abbrev main_call7_v1 : Ref sig .tc := ⟨.hbm, 212, rfl⟩
abbrev main_v126 : Ref sig .tc := ⟨.hbm, 213, rfl⟩
abbrev main_c_36 : Ref sig .tc := ⟨.hbm, 214, rfl⟩
abbrev main_v127 : Ref sig .tc := ⟨.hbm, 215, rfl⟩
abbrev main_v128 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_c_37 : Ref sig .tc := ⟨.hbm, 220, rfl⟩
abbrev main_v132 : Ref sig .tc := ⟨.hbm, 221, rfl⟩
abbrev main_v133 : Ref sig .tc := ⟨.hbm, 222, rfl⟩
abbrev main_c_38 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_v150 : Ref sig .tc := ⟨.hbm, 240, rfl⟩
abbrev main_v151 : Ref sig .tc := ⟨.hbm, 241, rfl⟩
abbrev main_v152_0 : Ref sig .tc := ⟨.hbm, 242, rfl⟩
abbrev main_v152_1 : Ref sig .tc := ⟨.hbm, 243, rfl⟩
abbrev main_v152_2 : Ref sig .tc := ⟨.hbm, 244, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 1 → Memref sig .tc .vmem S5x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x2x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x1x128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x1x128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "a_scale" => some (((Real.sqrt 32)⁻¹ * (Real.log 2)⁻¹ : ℝ) : EReal)
  | "log2e" => some (((Real.log 2)⁻¹ : ℝ) : EReal)
  | "mask" => some ⊥
  | _ => none
-- ==== ReferenceIdeal.lean ====
abbrev S32x2048x8x2x32 : Shape := ⟨5, ![32, 2048, 8, 2, 32]⟩
abbrev S32x2048x8x64 : Shape := ⟨4, ![32, 2048, 8, 64]⟩
abbrev S4x32 : Shape := ⟨2, ![4, 32]⟩
abbrev S64 : Shape := ⟨1, ![64]⟩
abbrev S32x8 : Shape := ⟨2, ![32, 8]⟩
abbrev S2048 : Shape := ⟨1, ![2048]⟩
abbrev S1x32 : Shape := ⟨2, ![1, 32]⟩
abbrev S32 : Shape := ⟨1, ![32]⟩
abbrev S_ : Shape := ⟨0, ![]⟩
abbrev S2x32x8x2048x2048 : Shape := ⟨5, ![2, 32, 8, 2048, 2048]⟩
abbrev S1x2048 : Shape := ⟨2, ![1, 2048]⟩
abbrev S2048x1 : Shape := ⟨2, ![2048, 1]⟩
abbrev S2048x2048 : Shape := ⟨2, ![2048, 2048]⟩
abbrev S2048x2048x1 : Shape := ⟨3, ![2048, 2048, 1]⟩
abbrev S2048x2048x8 : Shape := ⟨3, ![2048, 2048, 8]⟩
abbrev S8x2048x2048 : Shape := ⟨3, ![8, 2048, 2048]⟩
abbrev S1x1x8x2048x2048 : Shape := ⟨5, ![1, 1, 8, 2048, 2048]⟩
abbrev S2x32x8x2048 : Shape := ⟨4, ![2, 32, 8, 2048]⟩
abbrev S2x32x8x2048x1 : Shape := ⟨5, ![2, 32, 8, 2048, 1]⟩
abbrev S1x32x8x2048x2048 : Shape := ⟨5, ![1, 32, 8, 2048, 2048]⟩
abbrev S32x8x2048x2048 : Shape := ⟨4, ![32, 8, 2048, 2048]⟩
abbrev S32x8x64x2048 : Shape := ⟨4, ![32, 8, 64, 2048]⟩
abbrev S32x2048x8 : Shape := ⟨3, ![32, 2048, 8]⟩
abbrev S32x2048x8x1 : Shape := ⟨4, ![32, 2048, 8, 1]⟩
abbrev S1x1x1x64 : Shape := ⟨4, ![1, 1, 1, 64]⟩
abbrev S32x2048x512 : Shape := ⟨3, ![32, 2048, 512]⟩
abbrev S1x32x2048x8x64 : Shape := ⟨5, ![1, 32, 2048, 8, 64]⟩
abbrev S2x32x2048x8x64 : Shape := ⟨5, ![2, 32, 2048, 8, 64]⟩
abbrev S2x32x2048x512 : Shape := ⟨4, ![2, 32, 2048, 512]⟩
abbrev S2x32x512x2048 : Shape := ⟨4, ![2, 32, 512, 2048]⟩

abbrev nBuf : Space → Nat
  | .hbm => 191
  | .vmem => 0
  | .smem => 0
  | _ => 0

abbrev hbmTy0_0 (i : Nat) : BufTy := match i % 128 with
  | 0 => ⟨S32x2048x8x2x32, .f32⟩
  | 1 => ⟨S32x2048x8x64, .f32⟩
  | 2 => ⟨S32x2048x8x64, .f32⟩
  | 3 => ⟨S32x2048x8x64, .f32⟩
  | 4 => ⟨S32x2048x8x64, .f32⟩
  | 5 => ⟨S4x32, .f32⟩
  | 6 => ⟨S64, .f32⟩
  | 7 => ⟨S32x8, .f32⟩
  | 8 => ⟨S2048, .i32⟩
  | 9 => ⟨S1x32, .f32⟩
  | 10 => ⟨S32, .f32⟩
  | 11 => ⟨S1x32, .f32⟩
  | 12 => ⟨S32, .f32⟩
  | 13 => ⟨S32, .f32⟩
  | 14 => ⟨S_, .f32⟩
  | 15 => ⟨S_, .f32⟩
  | 16 => ⟨S_, .f32⟩
  | 17 => ⟨S1x32, .f32⟩
  | 18 => ⟨S32, .f32⟩
  | 19 => ⟨S1x32, .f32⟩
  | 20 => ⟨S32, .f32⟩
  | 21 => ⟨S32, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S32x2048x8x2x32, .f32⟩
  | 29 => ⟨S2x32x8x2048x2048, .f32⟩
  | 30 => ⟨S_, .f32⟩
  | 31 => ⟨S_, .f32⟩
  | 32 => ⟨S2x32x8x2048x2048, .f32⟩
  | 33 => ⟨S2x32x8x2048x2048, .f32⟩
  | 34 => ⟨S1x2048, .i32⟩
  | 35 => ⟨S2048x1, .i32⟩
  | 36 => ⟨S2048x2048, .i32⟩
  | 37 => ⟨S2048x2048, .i32⟩
  | 38 => ⟨S2048x2048, .i32⟩
  | 39 => ⟨S_, .i32⟩
  | 40 => ⟨S2048x2048, .i32⟩
  | 41 => ⟨S2048x2048, .i1⟩
  | 42 => ⟨S_, .i32⟩
  | 43 => ⟨S_, .i32⟩
  | 44 => ⟨S2048x2048, .i32⟩
  | 45 => ⟨S2048x2048, .i32⟩
  | 46 => ⟨S2048x2048, .i32⟩
  | 47 => ⟨S2048x2048, .i32⟩
  | 48 => ⟨S_, .i32⟩
  | 49 => ⟨S2048x2048, .i32⟩
  | 50 => ⟨S2048x2048, .i32⟩
  | 51 => ⟨S2048x2048, .f32⟩
  | 52 => ⟨S_, .f32⟩
  | 53 => ⟨S2048x2048, .f32⟩
  | 54 => ⟨S2048x2048, .f32⟩
  | 55 => ⟨S2048x2048, .f32⟩
  | 56 => ⟨S_, .f32⟩
  | 57 => ⟨S_, .f32⟩
  | 58 => ⟨S2048x2048, .f32⟩
  | 59 => ⟨S2048x2048, .f32⟩
  | 60 => ⟨S_, .f32⟩
  | 61 => ⟨S2048x2048, .f32⟩
  | 62 => ⟨S2048x2048, .f32⟩
  | 63 => ⟨S2048x2048, .i32⟩
  | 64 => ⟨S_, .i32⟩
  | 65 => ⟨S2048x2048, .i32⟩
  | 66 => ⟨S2048x2048, .i32⟩
  | 67 => ⟨S_, .i32⟩
  | 68 => ⟨S2048x2048, .i32⟩
  | 69 => ⟨S2048x2048, .i32⟩
  | 70 => ⟨S_, .i32⟩
  | 71 => ⟨S2048x2048, .i32⟩
  | 72 => ⟨S2048x2048, .i1⟩
  | 73 => ⟨S2048x2048, .i32⟩
  | 74 => ⟨S2048x2048, .i32⟩
  | 75 => ⟨S2048x2048, .i32⟩
  | 76 => ⟨S_, .i32⟩
  | 77 => ⟨S2048x2048, .i32⟩
  | 78 => ⟨S2048x2048, .i1⟩
  | 79 => ⟨S_, .i32⟩
  | 80 => ⟨S2048x2048, .i32⟩
  | 81 => ⟨S2048x2048, .i32⟩
  | 82 => ⟨S2048x2048, .i32⟩
  | 83 => ⟨S2048x2048x1, .i32⟩
  | 84 => ⟨S2048x2048x8, .f32⟩
  | 85 => ⟨S8x2048x2048, .f32⟩
  | 86 => ⟨S1x2048, .i32⟩
  | 87 => ⟨S_, .i32⟩
  | 88 => ⟨S_, .i32⟩
  | 89 => ⟨S1x2048, .i32⟩
  | 90 => ⟨S1x2048, .i32⟩
  | 91 => ⟨S1x2048, .i32⟩
  | 92 => ⟨S_, .i32⟩
  | 93 => ⟨S1x2048, .i32⟩
  | 94 => ⟨S1x2048, .i1⟩
  | 95 => ⟨S1x2048, .i32⟩
  | 96 => ⟨S1x2048, .i32⟩
  | 97 => ⟨S_, .i32⟩
  | 98 => ⟨S1x2048, .i32⟩
  | 99 => ⟨S1x2048, .i1⟩
  | 100 => ⟨S1x2048, .i1⟩
  | 101 => ⟨S_, .i32⟩
  | 102 => ⟨S1x2048, .i32⟩
  | 103 => ⟨S1x2048, .i32⟩
  | 104 => ⟨S1x2048, .i32⟩
  | 105 => ⟨S2048x1, .i32⟩
  | 106 => ⟨S_, .i32⟩
  | 107 => ⟨S_, .i32⟩
  | 108 => ⟨S2048x1, .i32⟩
  | 109 => ⟨S2048x1, .i32⟩
  | 110 => ⟨S2048x1, .i32⟩
  | 111 => ⟨S_, .i32⟩
  | 112 => ⟨S2048x1, .i32⟩
  | 113 => ⟨S2048x1, .i1⟩
  | 114 => ⟨S2048x1, .i32⟩
  | 115 => ⟨S2048x1, .i32⟩
  | 116 => ⟨S_, .i32⟩
  | 117 => ⟨S2048x1, .i32⟩
  | 118 => ⟨S2048x1, .i1⟩
  | 119 => ⟨S2048x1, .i1⟩
  | 120 => ⟨S_, .i32⟩
  | 121 => ⟨S2048x1, .i32⟩
  | 122 => ⟨S2048x1, .i32⟩
  | 123 => ⟨S2048x1, .i32⟩
  | 124 => ⟨S2048x2048, .i32⟩
  | 125 => ⟨S2048x2048, .i32⟩
  | 126 => ⟨S2048x2048, .i1⟩
  | 127 => ⟨S1x1x8x2048x2048, .f32⟩
  | _ => ⟨S32x2048x8x2x32, .f32⟩

abbrev hbmTy0_1 (i : Nat) : BufTy := match i % 128 with
  | 0 => ⟨S2x32x8x2048x2048, .f32⟩
  | 1 => ⟨S2x32x8x2048x2048, .f32⟩
  | 2 => ⟨S_, .f32⟩
  | 3 => ⟨S_, .f32⟩
  | 4 => ⟨S2x32x8x2048x2048, .i1⟩
  | 5 => ⟨S2x32x8x2048x2048, .f32⟩
  | 6 => ⟨S2x32x8x2048x2048, .f32⟩
  | 7 => ⟨S_, .f32⟩
  | 8 => ⟨S2x32x8x2048, .f32⟩
  | 9 => ⟨S_, .f32⟩
  | 10 => ⟨S2x32x8x2048, .f32⟩
  | 11 => ⟨S2x32x8x2048, .f32⟩
  | 12 => ⟨S2x32x8x2048x1, .f32⟩
  | 13 => ⟨S2x32x8x2048x2048, .f32⟩
  | 14 => ⟨S2x32x8x2048x2048, .f32⟩
  | 15 => ⟨S2x32x8x2048x2048, .f32⟩
  | 16 => ⟨S_, .f32⟩
  | 17 => ⟨S2x32x8x2048, .f32⟩
  | 18 => ⟨S2x32x8x2048x1, .f32⟩
  | 19 => ⟨S2x32x8x2048x2048, .f32⟩
  | 20 => ⟨S2x32x8x2048x2048, .f32⟩
  | 21 => ⟨S1x32x8x2048x2048, .f32⟩
  | 22 => ⟨S32x8x2048x2048, .f32⟩
  | 23 => ⟨S1x32x8x2048x2048, .f32⟩
  | 24 => ⟨S32x8x2048x2048, .f32⟩
  | 25 => ⟨S32x8x2048x2048, .f32⟩
  | 26 => ⟨S32x8x2048x2048, .f32⟩
  | 27 => ⟨S32x8x2048x2048, .f32⟩
  | 28 => ⟨S32x8x64x2048, .f32⟩
  | 29 => ⟨S32x2048x8x64, .f32⟩
  | 30 => ⟨S32x2048x8x64, .f32⟩
  | 31 => ⟨S_, .f32⟩
  | 32 => ⟨S32x2048x8, .f32⟩
  | 33 => ⟨S32x2048x8x1, .f32⟩
  | 34 => ⟨S_, .f32⟩
  | 35 => ⟨S32x2048x8x1, .f32⟩
  | 36 => ⟨S32x2048x8x1, .f32⟩
  | 37 => ⟨S_, .f32⟩
  | 38 => ⟨S32x2048x8x1, .f32⟩
  | 39 => ⟨S32x2048x8x1, .f32⟩
  | 40 => ⟨S32x2048x8x1, .f32⟩
  | 41 => ⟨S32x2048x8x64, .f32⟩
  | 42 => ⟨S32x2048x8x64, .f32⟩
  | 43 => ⟨S1x1x1x64, .f32⟩
  | 44 => ⟨S32x2048x8x64, .f32⟩
  | 45 => ⟨S32x2048x8x64, .f32⟩
  | 46 => ⟨S_, .f32⟩
  | 47 => ⟨S_, .f32⟩
  | 48 => ⟨S_, .f32⟩
  | 49 => ⟨S32x2048x8x64, .f32⟩
  | 50 => ⟨S32x2048x8x64, .f32⟩
  | 51 => ⟨S32x2048x512, .f32⟩
  | 52 => ⟨S32x2048x512, .bf16⟩
  | 53 => ⟨S1x32x2048x8x64, .f32⟩
  | 54 => ⟨S1x32x2048x8x64, .f32⟩
  | 55 => ⟨S2x32x2048x8x64, .f32⟩
  | 56 => ⟨S2x32x2048x512, .f32⟩
  | 57 => ⟨S2x32x512x2048, .f32⟩
  | 58 => ⟨S1x32x2048x8x64, .f32⟩
  | 59 => ⟨S1x32x2048x8x64, .f32⟩
  | 60 => ⟨S2x32x2048x8x64, .f32⟩
  | 61 => ⟨S2x32x2048x512, .f32⟩
  | 62 => ⟨S2x32x512x2048, .f32⟩
  | _ => ⟨S32x2048x8x2x32, .f32⟩

abbrev hbmTy (i : Nat) : BufTy := match i / 128 with
  | 0 => hbmTy0_0 i
  | 1 => hbmTy0_1 i
  | _ => ⟨S32x2048x8x2x32, .f32⟩

abbrev bufTy : (tb : Table) → Fin (tcTables nBuf tb) → BufTy
  | .hbm, ⟨i, _⟩ => hbmTy i
  | _, _ => ⟨S32x2048x8x2x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c : Ref sig .tc := ⟨.hbm, 39, rfl⟩
abbrev main_v27 : Ref sig .tc := ⟨.hbm, 40, rfl⟩
abbrev main_v28 : Ref sig .tc := ⟨.hbm, 41, rfl⟩
abbrev main_c_3 : Ref sig .tc := ⟨.hbm, 42, rfl⟩
abbrev main_c_4 : Ref sig .tc := ⟨.hbm, 43, rfl⟩
abbrev main_call0_v0 : Ref sig .tc := ⟨.hbm, 44, rfl⟩
abbrev main_call0_v1 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_c_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_12 : Ref sig .tc := ⟨.hbm, 76, rfl⟩
abbrev main_v52 : Ref sig .tc := ⟨.hbm, 77, rfl⟩
abbrev main_v53 : Ref sig .tc := ⟨.hbm, 78, rfl⟩
abbrev main_c_13 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_c : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_c_0 : Ref sig .tc := ⟨.hbm, 101, rfl⟩
abbrev main_call2_v12 : Ref sig .tc := ⟨.hbm, 102, rfl⟩
abbrev main_call2_v13 : Ref sig .tc := ⟨.hbm, 103, rfl⟩
abbrev main_v61 : Ref sig .tc := ⟨.hbm, 104, rfl⟩
abbrev main_v62 : Ref sig .tc := ⟨.hbm, 105, rfl⟩
abbrev main_c_15 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_call3_v5 : Ref sig .tc := ⟨.hbm, 112, rfl⟩
abbrev main_call3_v6 : Ref sig .tc := ⟨.hbm, 113, rfl⟩
abbrev main_call3_v7 : Ref sig .tc := ⟨.hbm, 114, rfl⟩
abbrev main_call3_v8 : Ref sig .tc := ⟨.hbm, 115, rfl⟩
abbrev main_call3_c : Ref sig .tc := ⟨.hbm, 116, rfl⟩
abbrev main_call3_v9 : Ref sig .tc := ⟨.hbm, 117, rfl⟩
abbrev main_call3_v10 : Ref sig .tc := ⟨.hbm, 118, rfl⟩
abbrev main_call3_v11 : Ref sig .tc := ⟨.hbm, 119, rfl⟩
abbrev main_call3_c_0 : Ref sig .tc := ⟨.hbm, 120, rfl⟩
abbrev main_call3_v12 : Ref sig .tc := ⟨.hbm, 121, rfl⟩
abbrev main_call3_v13 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_cst_16 : Ref sig .tc := ⟨.hbm, 130, rfl⟩
abbrev main_call4_v0 : Ref sig .tc := ⟨.hbm, 131, rfl⟩
abbrev main_call4_v1 : Ref sig .tc := ⟨.hbm, 132, rfl⟩
abbrev main_call4_v2 : Ref sig .tc := ⟨.hbm, 133, rfl⟩
abbrev main_v70 : Ref sig .tc := ⟨.hbm, 134, rfl⟩
abbrev main_cst_17 : Ref sig .tc := ⟨.hbm, 135, rfl⟩
abbrev main_v71 : Ref sig .tc := ⟨.hbm, 136, rfl⟩
abbrev main_cst_18 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_cst_19 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_cst_20 : Ref sig .tc := ⟨.hbm, 159, rfl⟩
abbrev main_v92 : Ref sig .tc := ⟨.hbm, 160, rfl⟩
abbrev main_v93 : Ref sig .tc := ⟨.hbm, 161, rfl⟩
abbrev main_cst_21 : Ref sig .tc := ⟨.hbm, 162, rfl⟩
abbrev main_v94 : Ref sig .tc := ⟨.hbm, 163, rfl⟩
abbrev main_v95 : Ref sig .tc := ⟨.hbm, 164, rfl⟩
abbrev main_cst_22 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_cst_23 : Ref sig .tc := ⟨.hbm, 174, rfl⟩
abbrev main_cst_24 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x2048x512 : Shape := ⟨3, ![32, 2048, 512]⟩
abbrev S32x2048x256 : Shape := ⟨3, ![32, 2048, 256]⟩
abbrev S32x256x4x64 : Shape := ⟨4, ![32, 256, 4, 64]⟩
abbrev S32x2x2816 : Shape := ⟨3, ![32, 2, 2816]⟩
abbrev S1024x1024 : Shape := ⟨2, ![1024, 1024]⟩
abbrev S7x1024 : Shape := ⟨2, ![7, 1024]⟩
abbrev S1024x256 : Shape := ⟨2, ![1024, 256]⟩
abbrev S256x1024 : Shape := ⟨2, ![256, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1024 : Shape := ⟨1, ![1024]⟩
abbrev S1x2816 : Shape := ⟨2, ![1, 2816]⟩
abbrev S32x256x256 : Shape := ⟨3, ![32, 256, 256]⟩
abbrev S1x1024x1024 : Shape := ⟨3, ![1, 1024, 1024]⟩
abbrev S1x16x1024 : Shape := ⟨3, ![1, 16, 1024]⟩
abbrev S1x1024x512 : Shape := ⟨3, ![1, 1024, 512]⟩
abbrev S1x16x512 : Shape := ⟨3, ![1, 16, 512]⟩
abbrev S1x1024x256 : Shape := ⟨3, ![1, 1024, 256]⟩
abbrev S1x16x256 : Shape := ⟨3, ![1, 16, 256]⟩
abbrev S1x256x256 : Shape := ⟨3, ![1, 256, 256]⟩
abbrev S1x2x2816 : Shape := ⟨3, ![1, 2, 2816]⟩
abbrev S16x1024 : Shape := ⟨2, ![16, 1024]⟩
abbrev S1040x1024 : Shape := ⟨2, ![1040, 1024]⟩
abbrev S16x512 : Shape := ⟨2, ![16, 512]⟩
abbrev S1024x512 : Shape := ⟨2, ![1024, 512]⟩
abbrev S1040x512 : Shape := ⟨2, ![1040, 512]⟩
abbrev S512x1024 : Shape := ⟨2, ![512, 1024]⟩
abbrev S16x256 : Shape := ⟨2, ![16, 256]⟩
abbrev S1040x256 : Shape := ⟨2, ![1040, 256]⟩
abbrev S1040 : Shape := ⟨1, ![1040]⟩
abbrev S1040x1 : Shape := ⟨2, ![1040, 1]⟩
abbrev S1x256x128 : Shape := ⟨3, ![1, 256, 128]⟩
abbrev S256x128 : Shape := ⟨2, ![256, 128]⟩
abbrev S1x128 : Shape := ⟨2, ![1, 128]⟩
abbrev S1040x128 : Shape := ⟨2, ![1040, 128]⟩
abbrev S1x2x512 : Shape := ⟨3, ![1, 2, 512]⟩
abbrev S2x512 : Shape := ⟨2, ![2, 512]⟩
abbrev S1x512 : Shape := ⟨2, ![1, 512]⟩
abbrev S3x512 : Shape := ⟨2, ![3, 512]⟩
abbrev S1x2x256 : Shape := ⟨3, ![1, 2, 256]⟩
abbrev S2x256 : Shape := ⟨2, ![2, 256]⟩
abbrev S1x256 : Shape := ⟨2, ![1, 256]⟩
abbrev S3x256 : Shape := ⟨2, ![3, 256]⟩

abbrev nBuf : Space → Nat
  | .hbm => 47
  | .vmem => 39
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .f32⟩
  | .hbm, ⟨2, _⟩ => ⟨S32x2048x256, .f32⟩
  | .hbm, ⟨3, _⟩ => ⟨S32x2048x256, .f32⟩
  | .hbm, ⟨4, _⟩ => ⟨S32x256x4x64, .f32⟩
  | .hbm, ⟨5, _⟩ => ⟨S32x256x4x64, .f32⟩
  | .hbm, ⟨6, _⟩ => ⟨S32x2x2816, .f32⟩
  | .hbm, ⟨7, _⟩ => ⟨S1024x1024, .f32⟩
  | .hbm, ⟨8, _⟩ => ⟨S7x1024, .f32⟩
  | .hbm, ⟨9, _⟩ => ⟨S1024x256, .f32⟩
  | .hbm, ⟨10, _⟩ => ⟨S256x1024, .f32⟩
  | .hbm, ⟨11, _⟩ => ⟨S1024x2816, .f32⟩
  | .hbm, ⟨12, _⟩ => ⟨S1024x2816, .f32⟩
  | .hbm, ⟨13, _⟩ => ⟨S3x2816, .f32⟩
  | .hbm, ⟨14, _⟩ => ⟨S2816, .f32⟩
  | .hbm, ⟨15, _⟩ => ⟨S2816x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1024x1024, .bf16⟩
  | .hbm, ⟨32, _⟩ => ⟨S1024x256, .bf16⟩
  | .hbm, ⟨33, _⟩ => ⟨S256x1024, .bf16⟩
  | .hbm, ⟨34, _⟩ => ⟨S1024x2816, .bf16⟩
  | .hbm, ⟨35, _⟩ => ⟨S1024x2816, .bf16⟩
  | .hbm, ⟨36, _⟩ => ⟨S2816x1024, .bf16⟩
  | .hbm, ⟨37, _⟩ => ⟨S1x2816, .f32⟩
  | .hbm, ⟨38, _⟩ => ⟨S32x2048x512, .bf16⟩
  | .hbm, ⟨39, _⟩ => ⟨S32x2048x256, .bf16⟩
  | .hbm, ⟨40, _⟩ => ⟨S32x2048x256, .bf16⟩
  | .hbm, ⟨41, _⟩ => ⟨S32x256x256, .f32⟩
  | .hbm, ⟨42, _⟩ => ⟨S32x256x256, .bf16⟩
  | .hbm, ⟨43, _⟩ => ⟨S32x256x256, .f32⟩
  | .hbm, ⟨44, _⟩ => ⟨S32x256x256, .bf16⟩
  | .hbm, ⟨45, _⟩ => ⟨S32x2048x1024, .f32⟩
  | .hbm, ⟨46, _⟩ => ⟨S32x2x2816, .f32⟩
  | .local _ .vmem, ⟨0, _⟩ => ⟨S1x1024x1024, .f32⟩
  | .local _ .vmem, ⟨1, _⟩ => ⟨S1x1024x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x1024x512, .bf16⟩
  | .local _ .vmem, ⟨5, _⟩ => ⟨S1x1024x512, .bf16⟩
  | .local _ .vmem, ⟨6, _⟩ => ⟨S1x16x512, .bf16⟩
  | .local _ .vmem, ⟨7, _⟩ => ⟨S1x16x512, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x16x256, .bf16⟩
  | .local _ .vmem, ⟨11, _⟩ => ⟨S1x16x256, .bf16⟩
  | .local _ .vmem, ⟨12, _⟩ => ⟨S1x1024x256, .bf16⟩
  | .local _ .vmem, ⟨13, _⟩ => ⟨S1x1024x256, .bf16⟩
  | .local _ .vmem, ⟨14, _⟩ => ⟨S1x16x256, .bf16⟩
  | .local _ .vmem, ⟨15, _⟩ => ⟨S1x16x256, .bf16⟩
  | .local _ .vmem, ⟨16, _⟩ => ⟨S1x256x256, .bf16⟩
  | .local _ .vmem, ⟨17, _⟩ => ⟨S1x256x256, .bf16⟩
  | .local _ .vmem, ⟨18, _⟩ => ⟨S1x256x256, .bf16⟩
  | .local _ .vmem, ⟨19, _⟩ => ⟨S1x256x256, .bf16⟩
  | .local _ .vmem, ⟨20, _⟩ => ⟨S1x2x2816, .f32⟩
  | .local _ .vmem, ⟨21, _⟩ => ⟨S1x2x2816, .f32⟩
  | .local _ .vmem, ⟨22, _⟩ => ⟨S1024x1024, .bf16⟩
  | .local _ .vmem, ⟨23, _⟩ => ⟨S1x1024, .f32⟩
  | .local _ .vmem, ⟨24, _⟩ => ⟨S1x1024, .f32⟩
  | .local _ .vmem, ⟨25, _⟩ => ⟨S1024x256, .bf16⟩
  | .local _ .vmem, ⟨26, _⟩ => ⟨S256x1024, .bf16⟩
  | .local _ .vmem, ⟨27, _⟩ => ⟨S1x1024, .f32⟩
  | .local _ .vmem, ⟨28, _⟩ => ⟨S1x1024, .f32⟩
  | .local _ .vmem, ⟨29, _⟩ => ⟨S1024x2816, .bf16⟩
  | .local _ .vmem, ⟨30, _⟩ => ⟨S1024x2816, .bf16⟩
  | .local _ .vmem, ⟨31, _⟩ => ⟨S3x2816, .f32⟩
  | .local _ .vmem, ⟨32, _⟩ => ⟨S1x2816, .f32⟩
  | .local _ .vmem, ⟨33, _⟩ => ⟨S2816x1024, .bf16⟩
  | .local _ .vmem, ⟨34, _⟩ => ⟨S1x1024, .f32⟩
  | .local _ .vmem, ⟨35, _⟩ => ⟨S1x1024x1024, .f32⟩
  | .local _ .vmem, ⟨36, _⟩ => ⟨S1x1024x1024, .f32⟩
  | .local _ .vmem, ⟨37, _⟩ => ⟨S1x2x2816, .f32⟩
  | .local _ .vmem, ⟨38, _⟩ => ⟨S1x2x2816, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29_0 : Ref sig .tc := ⟨.hbm, 45, rfl⟩
abbrev main_v29_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_stg23_0 : Ref sig .tc := ⟨.vmem, 34, rfl⟩
abbrev cc0_stg24_0 : Ref sig .tc := ⟨.vmem, 35, rfl⟩
abbrev cc0_stg24_1 : Ref sig .tc := ⟨.vmem, 36, rfl⟩
abbrev cc0_stg25_0 : Ref sig .tc := ⟨.vmem, 37, rfl⟩
abbrev cc0_stg25_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem21_0 : DmaSem sig := 32
abbrev cc0_sem22_0 : DmaSem sig := 33
abbrev cc0_sem23_0 : DmaSem sig := 34
abbrev cc0_sem24_0 : DmaSem sig := 35
abbrev cc0_sem24_1 : DmaSem sig := 36
abbrev cc0_sem25_0 : DmaSem sig := 37
abbrev cc0_sem25_1 : DmaSem sig := 38

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x2x2816 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1024x2816 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1024x2816 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S3x2816 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x2816 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S2816x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 2 → Memref sig .tc .vmem S1x1024x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x2x2816 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, false]
-- ==== Kernel2Ideal.lean ====
variable {F : FTy → Type} [FloatOps F] [Named F]
def κ : String → Option EReal := fun
  | "m_scale" => some ((8⁻¹ * (Real.log 2)⁻¹ : ℝ) : EReal)
  | _ => none
-- ==== Reference2Ideal.lean ====
abbrev S32x2048x1024 : Shape := ⟨3, ![32, 2048, 1024]⟩
abbrev S32x2048x512 : Shape := ⟨3, ![32, 2048, 512]⟩
abbrev S32x2048x256 : Shape := ⟨3, ![32, 2048, 256]⟩
abbrev S32x256x4x64 : Shape := ⟨4, ![32, 256, 4, 64]⟩
abbrev S32x2x2816 : Shape := ⟨3, ![32, 2, 2816]⟩
abbrev S1024x1024 : Shape := ⟨2, ![1024, 1024]⟩
abbrev S7x1024 : Shape := ⟨2, ![7, 1024]⟩
abbrev S1024x256 : Shape := ⟨2, ![1024, 256]⟩
abbrev S256x1024 : Shape := ⟨2, ![256, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x4x64 : Shape := ⟨4, ![32, 2048, 4, 64]⟩
abbrev S32x4x2048x256 : Shape := ⟨4, ![32, 4, 2048, 256]⟩
abbrev S32x4x2048 : Shape := ⟨3, ![32, 4, 2048]⟩
abbrev S32x4x2048x1 : Shape := ⟨4, ![32, 4, 2048, 1]⟩
abbrev S32x4x64x2048 : Shape := ⟨4, ![32, 4, 64, 2048]⟩
abbrev S32x2048x2816 : Shape := ⟨3, ![32, 2048, 2816]⟩
abbrev S32x2050x2816 : Shape := ⟨3, ![32, 2050, 2816]⟩
abbrev S1x2816 : Shape := ⟨2, ![1, 2816]⟩
abbrev S1x1x2816 : Shape := ⟨3, ![1, 1, 2816]⟩

abbrev nBuf : Space → Nat
  | .hbm => 173
  | .vmem => 0
  | .smem => 0
  | _ => 0

abbrev hbmTy0_0 (i : Nat) : BufTy := match i % 128 with
  | 0 => ⟨S32x2048x1024, .f32⟩
  | 1 => ⟨S32x2048x512, .f32⟩
  | 2 => ⟨S32x2048x256, .f32⟩
  | 3 => ⟨S32x2048x256, .f32⟩
  | 4 => ⟨S32x256x4x64, .f32⟩
  | 5 => ⟨S32x256x4x64, .f32⟩
  | 6 => ⟨S32x2x2816, .f32⟩
  | 7 => ⟨S1024x1024, .f32⟩
  | 8 => ⟨S7x1024, .f32⟩
  | 9 => ⟨S1024x256, .f32⟩
  | 10 => ⟨S256x1024, .f32⟩
  | 11 => ⟨S1024x2816, .f32⟩
  | 12 => ⟨S1024x2816, .f32⟩
  | 13 => ⟨S3x2816, .f32⟩
  | 14 => ⟨S2816, .f32⟩
  | 15 => ⟨S2816x1024, .f32⟩
  | 16 => ⟨S32x2048x1024, .f32⟩
  | 17 => ⟨S32x2048x1024, .f32⟩
  | 18 => ⟨S1x1024, .f32⟩
  | 19 => ⟨S1024, .f32⟩
  | 20 => ⟨S32x2048x1024, .f32⟩
  | 21 => ⟨S_, .f32⟩
  | 22 => ⟨S32x2048, .f32⟩
  | 23 => ⟨S32x2048x1, .f32⟩
  | 24 => ⟨S_, .f32⟩
  | 25 => ⟨S32x2048x1, .f32⟩
  | 26 => ⟨S32x2048x1, .f32⟩
  | 27 => ⟨S_, .f32⟩
  | 28 => ⟨S32x2048x1, .f32⟩
  | 29 => ⟨S32x2048x1, .f32⟩
  | 30 => ⟨S32x2048x1, .f32⟩
  | 31 => ⟨S32x2048x1024, .f32⟩
  | 32 => ⟨S32x2048x1024, .f32⟩
  | 33 => ⟨S1x1x1024, .f32⟩
  | 34 => ⟨S32x2048x1024, .f32⟩
  | 35 => ⟨S32x2048x1024, .f32⟩
  | 36 => ⟨S32x2048x1024, .f32⟩
  | 37 => ⟨S1x1024, .f32⟩
  | 38 => ⟨S1024, .f32⟩
  | 39 => ⟨S32x2048x1024, .f32⟩
  | 40 => ⟨S_, .f32⟩
  | 41 => ⟨S32x2048, .f32⟩
  | 42 => ⟨S32x2048x1, .f32⟩
  | 43 => ⟨S_, .f32⟩
  | 44 => ⟨S32x2048x1, .f32⟩
  | 45 => ⟨S32x2048x1, .f32⟩
  | 46 => ⟨S_, .f32⟩
  | 47 => ⟨S32x2048x1, .f32⟩
  | 48 => ⟨S32x2048x1, .f32⟩
  | 49 => ⟨S32x2048x1, .f32⟩
  | 50 => ⟨S32x2048x1024, .f32⟩
  | 51 => ⟨S32x2048x1024, .f32⟩
  | 52 => ⟨S1x1x1024, .f32⟩
  | 53 => ⟨S32x2048x1024, .f32⟩
  | 54 => ⟨S32x2048x1024, .f32⟩
  | 55 => ⟨S32x2048x256, .f32⟩
  | 56 => ⟨S32x2048x4x64, .f32⟩
  | 57 => ⟨S32x4x2048x256, .f32⟩
  | 58 => ⟨S_, .f32⟩
  | 59 => ⟨S32x4x2048x256, .f32⟩
  | 60 => ⟨S32x4x2048x256, .f32⟩
  | 61 => ⟨S_, .f32⟩
  | 62 => ⟨S32x4x2048, .f32⟩
  | 63 => ⟨S_, .f32⟩
  | 64 => ⟨S32x4x2048, .f32⟩
  | 65 => ⟨S32x4x2048, .f32⟩
  | 66 => ⟨S32x4x2048x1, .f32⟩
  | 67 => ⟨S32x4x2048x256, .f32⟩
  | 68 => ⟨S32x4x2048x256, .f32⟩
  | 69 => ⟨S32x4x2048x256, .f32⟩
  | 70 => ⟨S_, .f32⟩
  | 71 => ⟨S32x4x2048, .f32⟩
  | 72 => ⟨S32x4x2048x1, .f32⟩
  | 73 => ⟨S32x4x2048x256, .f32⟩
  | 74 => ⟨S32x4x2048x256, .f32⟩
  | 75 => ⟨S32x4x64x2048, .f32⟩
  | 76 => ⟨S32x2048x4x64, .f32⟩
  | 77 => ⟨S32x2048x256, .f32⟩
  | 78 => ⟨S32x2048x1024, .f32⟩
  | 79 => ⟨S1x1024, .f32⟩
  | 80 => ⟨S1024, .f32⟩
  | 81 => ⟨S32x2048x1024, .f32⟩
  | 82 => ⟨S_, .f32⟩
  | 83 => ⟨S32x2048, .f32⟩
  | 84 => ⟨S32x2048x1, .f32⟩
  | 85 => ⟨S_, .f32⟩
  | 86 => ⟨S32x2048x1, .f32⟩
  | 87 => ⟨S32x2048x1, .f32⟩
  | 88 => ⟨S_, .f32⟩
  | 89 => ⟨S32x2048x1, .f32⟩
  | 90 => ⟨S32x2048x1, .f32⟩
  | 91 => ⟨S32x2048x1, .f32⟩
  | 92 => ⟨S32x2048x1024, .f32⟩
  | 93 => ⟨S32x2048x1024, .f32⟩
  | 94 => ⟨S1x1x1024, .f32⟩
  | 95 => ⟨S32x2048x1024, .f32⟩
  | 96 => ⟨S32x2048x1024, .f32⟩
  | 97 => ⟨S32x2048x1024, .f32⟩
  | 98 => ⟨S1x1024, .f32⟩
  | 99 => ⟨S1024, .f32⟩
  | 100 => ⟨S32x2048x1024, .f32⟩
  | 101 => ⟨S_, .f32⟩
  | 102 => ⟨S32x2048, .f32⟩
  | 103 => ⟨S32x2048x1, .f32⟩
  | 104 => ⟨S_, .f32⟩
  | 105 => ⟨S32x2048x1, .f32⟩
  | 106 => ⟨S32x2048x1, .f32⟩
  | 107 => ⟨S_, .f32⟩
  | 108 => ⟨S32x2048x1, .f32⟩
  | 109 => ⟨S32x2048x1, .f32⟩
  | 110 => ⟨S32x2048x1, .f32⟩
  | 111 => ⟨S32x2048x1024, .f32⟩
  | 112 => ⟨S32x2048x1024, .f32⟩
  | 113 => ⟨S1x1x1024, .f32⟩
  | 114 => ⟨S32x2048x1024, .f32⟩
  | 115 => ⟨S32x2048x1024, .f32⟩
  | 116 => ⟨S32x2048x2816, .f32⟩
  | 117 => ⟨S32x2050x2816, .f32⟩
  | 118 => ⟨S32x2048x2816, .f32⟩
  | 119 => ⟨S1x2816, .f32⟩
  | 120 => ⟨S2816, .f32⟩
  | 121 => ⟨S1x1x2816, .f32⟩
  | 122 => ⟨S32x2048x2816, .f32⟩
  | 123 => ⟨S32x2048x2816, .f32⟩
  | 124 => ⟨S1x1x2816, .f32⟩
  | 125 => ⟨S32x2048x2816, .f32⟩
  | 126 => ⟨S32x2048x2816, .f32⟩
  | 127 => ⟨S32x2048x2816, .f32⟩
  | _ => ⟨S32x2048x1024, .f32⟩

abbrev hbmTy0_1 (i : Nat) : BufTy := match i % 128 with
  | 0 => ⟨S1x2816, .f32⟩
  | 1 => ⟨S2816, .f32⟩
  | 2 => ⟨S1x1x2816, .f32⟩
  | 3 => ⟨S32x2048x2816, .f32⟩
  | 4 => ⟨S32x2048x2816, .f32⟩
  | 5 => ⟨S32x2048x2816, .f32⟩
  | 6 => ⟨S32x2048x2816, .f32⟩
  | 7 => ⟨S1x2816, .f32⟩
  | 8 => ⟨S2816, .f32⟩
  | 9 => ⟨S1x1x2816, .f32⟩
  | 10 => ⟨S32x2048x2816, .f32⟩
  | 11 => ⟨S32x2048x2816, .f32⟩
  | 12 => ⟨S32x2048x2816, .f32⟩
  | 13 => ⟨S32x2048x2816, .f32⟩
  | 14 => ⟨S32x2048x2816, .f32⟩
  | 15 => ⟨S_, .f32⟩
  | 16 => ⟨S32x2048x2816, .f32⟩
  | 17 => ⟨S32x2048x2816, .f32⟩
  | 18 => ⟨S_, .f32⟩
  | 19 => ⟨S32x2048x2816, .f32⟩
  | 20 => ⟨S32x2048x2816, .f32⟩
  | 21 => ⟨S32x2048x2816, .f32⟩
  | 22 => ⟨S32x2048x2816, .f32⟩
  | 23 => ⟨S32x2048x2816, .f32⟩
  | 24 => ⟨S32x2048x1024, .f32⟩
  | 25 => ⟨S32x2x2816, .f32⟩
  | 26 => ⟨S1x1024, .f32⟩
  | 27 => ⟨S1024, .f32⟩
  | 28 => ⟨S32x2048x1024, .f32⟩
  | 29 => ⟨S_, .f32⟩
  | 30 => ⟨S32x2048, .f32⟩
  | 31 => ⟨S32x2048x1, .f32⟩
  | 32 => ⟨S_, .f32⟩
  | 33 => ⟨S32x2048x1, .f32⟩
  | 34 => ⟨S32x2048x1, .f32⟩
  | 35 => ⟨S_, .f32⟩
  | 36 => ⟨S32x2048x1, .f32⟩
  | 37 => ⟨S32x2048x1, .f32⟩
  | 38 => ⟨S32x2048x1, .f32⟩
  | 39 => ⟨S32x2048x1024, .f32⟩
  | 40 => ⟨S32x2048x1024, .f32⟩
  | 41 => ⟨S1x1x1024, .f32⟩
  | 42 => ⟨S32x2048x1024, .f32⟩
  | 43 => ⟨S32x2048x1024, .f32⟩
  | 44 => ⟨S32x2048x1024, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_8 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_9 : Ref sig .tc := ⟨.hbm, 82, rfl⟩
abbrev main_v56 : Ref sig .tc := ⟨.hbm, 83, rfl⟩
abbrev main_v57 : Ref sig .tc := ⟨.hbm, 84, rfl⟩
abbrev main_cst_10 : Ref sig .tc := ⟨.hbm, 85, rfl⟩
abbrev main_v58 : Ref sig .tc := ⟨.hbm, 86, rfl⟩
abbrev main_v59 : Ref sig .tc := ⟨.hbm, 87, rfl⟩
abbrev main_cst_11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_12 : Ref sig .tc := ⟨.hbm, 101, rfl⟩
abbrev main_v72 : Ref sig .tc := ⟨.hbm, 102, rfl⟩
abbrev main_v73 : Ref sig .tc := ⟨.hbm, 103, rfl⟩
abbrev main_cst_13 : Ref sig .tc := ⟨.hbm, 104, rfl⟩
abbrev main_v74 : Ref sig .tc := ⟨.hbm, 105, rfl⟩
abbrev main_v75 : Ref sig .tc := ⟨.hbm, 106, rfl⟩
abbrev main_cst_14 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_call0_v0 : Ref sig .tc := ⟨.hbm, 141, rfl⟩
abbrev main_call0_v1 : Ref sig .tc := ⟨.hbm, 142, rfl⟩
abbrev main_call0_cst : Ref sig .tc := ⟨.hbm, 143, rfl⟩
abbrev main_call0_v2 : Ref sig .tc := ⟨.hbm, 144, rfl⟩
abbrev main_call0_v3 : Ref sig .tc := ⟨.hbm, 145, rfl⟩
abbrev main_call0_cst_0 : Ref sig .tc := ⟨.hbm, 146, rfl⟩
abbrev main_call0_v4 : Ref sig .tc := ⟨.hbm, 147, rfl⟩
abbrev main_call0_v5 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_15 : Ref sig .tc := ⟨.hbm, 157, rfl⟩
abbrev main_v117 : Ref sig .tc := ⟨.hbm, 158, rfl⟩
abbrev main_v118 : Ref sig .tc := ⟨.hbm, 159, rfl⟩
abbrev main_cst_16 : Ref sig .tc := ⟨.hbm, 160, rfl⟩
abbrev main_v119 : Ref sig .tc := ⟨.hbm, 161, rfl⟩
abbrev main_v120 : Ref sig .tc := ⟨.hbm, 162, rfl⟩
abbrev main_cst_17 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩

abbrev nD : Nat := 1
abbrev τ : Topo := Topo.v7x

variable {F : FTy → Type} [FloatOps F]
-- ==== Kernel3.lean ====
abbrev S32x256x1024 : Shape := ⟨3, ![32, 256, 1024]⟩
abbrev S7x1024 : Shape := ⟨2, ![7, 1024]⟩
abbrev S1024x256 : Shape := ⟨2, ![1024, 256]⟩
abbrev S1x1024 : Shape := ⟨2, ![1, 1024]⟩
abbrev S1024 : Shape := ⟨1, ![1024]⟩
abbrev S32x256x256 : Shape := ⟨3, ![32, 256, 256]⟩
abbrev S1x256x1024 : Shape := ⟨3, ![1, 256, 1024]⟩
abbrev S1x256x256 : Shape := ⟨3, ![1, 256, 256]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩

abbrev nBuf : Space → Nat
  | .hbm => 13
  | .vmem => 13
  | .smem => 0
  | _ => 0

abbrev bufTy : (tb : Table) → Fin (tcTables nBuf tb) → BufTy
  | .hbm, ⟨0, _⟩ => ⟨S32x256x1024, .f32⟩
  | .hbm, ⟨1, _⟩ => ⟨S7x1024, .f32⟩
  | .hbm, ⟨2, _⟩ => ⟨S1024x256, .f32⟩
  | .hbm, ⟨3, _⟩ => ⟨S1024x256, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1024x256, .bf16⟩
  | .hbm, ⟨8, _⟩ => ⟨S1024x256, .bf16⟩
  | .hbm, ⟨9, _⟩ => ⟨S32x256x256, .f32⟩
  | .hbm, ⟨10, _⟩ => ⟨S32x256x256, .bf16⟩
  | .hbm, ⟨11, _⟩ => ⟨S32x256x256, .f32⟩
  | .hbm, ⟨12, _⟩ => ⟨S32x256x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1x256x256, .f32⟩
  | .local _ .vmem, ⟨6, _⟩ => ⟨S1x256x256, .f32⟩
  | .local _ .vmem, ⟨7, _⟩ => ⟨S1x256x256, .bf16⟩
  | .local _ .vmem, ⟨8, _⟩ => ⟨S1x256x256, .bf16⟩
  | .local _ .vmem, ⟨9, _⟩ => ⟨S1x256x256, .f32⟩
  | .local _ .vmem, ⟨10, _⟩ => ⟨S1x256x256, .f32⟩
  | .local _ .vmem, ⟨11, _⟩ => ⟨S1x256x256, .bf16⟩
  | .local _ .vmem, ⟨12, _⟩ => ⟨S1x256x256, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S32x256x1024 : Shape := ⟨3, ![32, 256, 1024]⟩
abbrev S7x1024 : Shape := ⟨2, ![7, 1024]⟩
abbrev S1024x256 : Shape := ⟨2, ![1024, 256]⟩
abbrev S1x1024 : Shape := ⟨2, ![1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S32x256x256 : Shape := ⟨3, ![32, 256, 256]⟩

abbrev nBuf : Space → Nat
  | .hbm => 26
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S7x1024, .f32⟩
  | .hbm, ⟨2, _⟩ => ⟨S1024x256, .f32⟩
  | .hbm, ⟨3, _⟩ => ⟨S1024x256, .f32⟩
  | .hbm, ⟨4, _⟩ => ⟨S1x1024, .f32⟩
  | .hbm, ⟨5, _⟩ => ⟨S1024, .f32⟩
  | .hbm, ⟨6, _⟩ => ⟨S32x256x1024, .f32⟩
  | .hbm, ⟨7, _⟩ => ⟨S_, .f32⟩
  | .hbm, ⟨8, _⟩ => ⟨S32x256, .f32⟩
  | .hbm, ⟨9, _⟩ => ⟨S32x256x1, .f32⟩
  | .hbm, ⟨10, _⟩ => ⟨S_, .f32⟩
  | .hbm, ⟨11, _⟩ => ⟨S32x256x1, .f32⟩
  | .hbm, ⟨12, _⟩ => ⟨S32x256x1, .f32⟩
  | .hbm, ⟨13, _⟩ => ⟨S_, .f32⟩
  | .hbm, ⟨14, _⟩ => ⟨S32x256x1, .f32⟩
  | .hbm, ⟨15, _⟩ => ⟨S32x256x1, .f32⟩
  | .hbm, ⟨16, _⟩ => ⟨S32x256x1, .f32⟩
  | .hbm, ⟨17, _⟩ => ⟨S32x256x1024, .f32⟩
  | .hbm, ⟨18, _⟩ => ⟨S32x256x1024, .f32⟩
  | .hbm, ⟨19, _⟩ => ⟨S1x1x1024, .f32⟩
  | .hbm, ⟨20, _⟩ => ⟨S32x256x1024, .f32⟩
  | .hbm, ⟨21, _⟩ => ⟨S32x256x1024, .f32⟩
  | .hbm, ⟨22, _⟩ => ⟨S32x256x256, .f32⟩
  | .hbm, ⟨23, _⟩ => ⟨S32x256x256, .f32⟩
  | .hbm, ⟨24, _⟩ => ⟨S32x256x256, .bf16⟩
  | .hbm, ⟨25, _⟩ => ⟨S32x256x256, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel4.lean ====
abbrev S32x2048x1024 : Shape := ⟨3, ![32, 2048, 1024]⟩
abbrev S1024x2720 : Shape := ⟨2, ![1024, 2720]⟩
abbrev S7x1024 : Shape := ⟨2, ![7, 1024]⟩
abbrev S256 : Shape := ⟨1, ![256]⟩
abbrev S256x384 : Shape := ⟨2, ![256, 384]⟩
abbrev S128 : Shape := ⟨1, ![128]⟩
abbrev S128x512 : Shape := ⟨2, ![128, 512]⟩
abbrev S1024x256 : Shape := ⟨2, ![1024, 256]⟩
abbrev S1024x128 : Shape := ⟨2, ![1024, 128]⟩
abbrev S1024x32 : Shape := ⟨2, ![1024, 32]⟩
abbrev S1024x16 : Shape := ⟨2, ![1024, 16]⟩
abbrev S_ : Shape := ⟨0, ![]⟩
abbrev S1024x64 : Shape := ⟨2, ![1024, 64]⟩
abbrev S1024x512 : Shape := ⟨2, ![1024, 512]⟩
abbrev S256x4x96 : Shape := ⟨3, ![256, 4, 96]⟩
abbrev S256x4x64 : Shape := ⟨3, ![256, 4, 64]⟩
abbrev S256x4x128 : Shape := ⟨3, ![256, 4, 128]⟩
abbrev S256x512 : Shape := ⟨2, ![256, 512]⟩
abbrev S256x4x32 : Shape := ⟨3, ![256, 4, 32]⟩
abbrev S256x128 : Shape := ⟨2, ![256, 128]⟩
abbrev S256x4x16 : Shape := ⟨3, ![256, 4, 16]⟩
abbrev S256x768 : Shape := ⟨2, ![256, 768]⟩
abbrev S32x32 : Shape := ⟨2, ![32, 32]⟩
abbrev S32x128 : Shape := ⟨2, ![32, 128]⟩
abbrev S4x4 : Shape := ⟨2, ![4, 4]⟩
abbrev S4x1x4x1 : Shape := ⟨4, ![4, 1, 4, 1]⟩
abbrev S1x32x1x128 : Shape := ⟨4, ![1, 32, 1, 128]⟩
abbrev S4x32x4x128 : Shape := ⟨4, ![4, 32, 4, 128]⟩
abbrev S1x32x4x128 : Shape := ⟨4, ![1, 32, 4, 128]⟩
abbrev S32x512 : Shape := ⟨2, ![32, 512]⟩
abbrev S128x4x128 : Shape := ⟨3, ![128, 4, 128]⟩
abbrev S128x4x64 : Shape := ⟨3, ![128, 4, 64]⟩
abbrev S128x256 : Shape := ⟨2, ![128, 256]⟩
abbrev S1024x1536 : Shape := ⟨2, ![1024, 1536]⟩
abbrev S1024x768 : Shape := ⟨2, ![1024, 768]⟩
abbrev S1x256 : Shape := ⟨2, ![1, 256]⟩
abbrev S1x128 : Shape := ⟨2, ![1, 128]⟩
abbrev S1x1024 : Shape := ⟨2, ![1, 1024]⟩
abbrev S1024 : Shape := ⟨1, ![1024]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S1x2048x8x16 : Shape := ⟨4, ![1, 2048, 8, 16]⟩
abbrev S2048x128 : Shape := ⟨2, ![2048, 128]⟩
abbrev S32x2048x512 : Shape := ⟨3, ![32, 2048, 512]⟩
abbrev S32x512x2048 : Shape := ⟨3, ![32, 512, 2048]⟩
abbrev S32x2048x256 : Shape := ⟨3, ![32, 2048, 256]⟩
abbrev S32x256x2048 : Shape := ⟨3, ![32, 256, 2048]⟩
abbrev S32x2048x128 : Shape := ⟨3, ![32, 2048, 128]⟩
abbrev S32x2048x32 : Shape := ⟨3, ![32, 2048, 32]⟩
abbrev S1x512x1024 : Shape := ⟨3, ![1, 512, 1024]⟩
abbrev S512x128 : Shape := ⟨2, ![512, 128]⟩
abbrev S1x512x512 : Shape := ⟨3, ![1, 512, 512]⟩
abbrev S1x512x256 : Shape := ⟨3, ![1, 512, 256]⟩
abbrev S1x256x512 : Shape := ⟨3, ![1, 256, 512]⟩
abbrev S1x512x128 : Shape := ⟨3, ![1, 512, 128]⟩
abbrev S1x512x32 : Shape := ⟨3, ![1, 512, 32]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S512x256 : Shape := ⟨2, ![512, 256]⟩
abbrev S512x768 : Shape := ⟨2, ![512, 768]⟩
abbrev S512x32 : Shape := ⟨2, ![512, 32]⟩

abbrev nBuf : Space → Nat
  | .hbm => 118
  | .vmem => 47
  | .smem => 0
  | _ => 0

abbrev bufTy : (tb : Table) → Fin (tcTables nBuf tb) → BufTy
  | .hbm, ⟨0, _⟩ => ⟨S32x2048x1024, .f32⟩
  | .hbm, ⟨1, _⟩ => ⟨S1024x2720, .f32⟩
  | .hbm, ⟨2, _⟩ => ⟨S7x1024, .f32⟩
  | .hbm, ⟨3, _⟩ => ⟨S256, .f32⟩
  | .hbm, ⟨4, _⟩ => ⟨S256x384, .f32⟩
  | .hbm, ⟨5, _⟩ => ⟨S128, .f32⟩
  | .hbm, ⟨6, _⟩ => ⟨S128x512, .f32⟩
  | .hbm, ⟨7, _⟩ => ⟨S1024x256, .f32⟩
  | .hbm, ⟨8, _⟩ => ⟨S1024x128, .f32⟩
  | .hbm, ⟨9, _⟩ => ⟨S1024x32, .f32⟩
  | .hbm, ⟨10, _⟩ => ⟨S1024x16, .f32⟩
  | .hbm, ⟨11, _⟩ => ⟨S1024x16, .f32⟩
  | .hbm, ⟨12, _⟩ => ⟨S1024x16, .f32⟩
  | .hbm, ⟨13, _⟩ => ⟨S1024x32, .f32⟩
  | .hbm, ⟨14, _⟩ => ⟨S_, .f32⟩
  | .hbm, ⟨15, _⟩ => ⟨S1024x64, .f32⟩
  | .hbm, ⟨16, _⟩ => ⟨S1024x512, .f32⟩
  | .hbm, ⟨17, _⟩ => ⟨S256x4x96, .f32⟩
  | .hbm, ⟨18, _⟩ => ⟨S256x4x64, .f32⟩
  | .hbm, ⟨19, _⟩ => ⟨S_, .i32⟩
  | .hbm, ⟨20, _⟩ => ⟨S_, .f32⟩
  | .hbm, ⟨21, _⟩ => ⟨S256x4x128, .f32⟩
  | .hbm, ⟨22, _⟩ => ⟨S256x512, .f32⟩
  | .hbm, ⟨23, _⟩ => ⟨S256x4x32, .f32⟩
  | .hbm, ⟨24, _⟩ => ⟨S256x128, .f32⟩
  | .hbm, ⟨25, _⟩ => ⟨S256x4x16, .f32⟩
  | .hbm, ⟨26, _⟩ => ⟨S256x4x16, .f32⟩
  | .hbm, ⟨27, _⟩ => ⟨S256x4x16, .f32⟩
  | .hbm, ⟨28, _⟩ => ⟨S256x4x32, .f32⟩
  | .hbm, ⟨29, _⟩ => ⟨S256x128, .f32⟩
  | .hbm, ⟨30, _⟩ => ⟨S256x768, .f32⟩
  | .hbm, ⟨31, _⟩ => ⟨S32x32, .i32⟩
  | .hbm, ⟨32, _⟩ => ⟨S32x32, .i32⟩
  | .hbm, ⟨33, _⟩ => ⟨S_, .i32⟩
  | .hbm, ⟨34, _⟩ => ⟨S32x32, .i32⟩
  | .hbm, ⟨35, _⟩ => ⟨S32x32, .i32⟩
  | .hbm, ⟨36, _⟩ => ⟨S32x32, .i1⟩
  | .hbm, ⟨37, _⟩ => ⟨S32x32, .f32⟩
  | .hbm, ⟨38, _⟩ => ⟨S_, .i32⟩
  | .hbm, ⟨39, _⟩ => ⟨S_, .f32⟩
  | .hbm, ⟨40, _⟩ => ⟨S32x128, .f32⟩
  | .hbm, ⟨41, _⟩ => ⟨S4x4, .i32⟩
  | .hbm, ⟨42, _⟩ => ⟨S4x4, .i32⟩
  | .hbm, ⟨43, _⟩ => ⟨S_, .i32⟩
  | .hbm, ⟨44, _⟩ => ⟨S4x4, .i32⟩
  | .hbm, ⟨45, _⟩ => ⟨S4x4, .i32⟩
  | .hbm, ⟨46, _⟩ => ⟨S4x4, .i1⟩
  | .hbm, ⟨47, _⟩ => ⟨S4x4, .f32⟩
  | .hbm, ⟨48, _⟩ => ⟨S4x1x4x1, .f32⟩
  | .hbm, ⟨49, _⟩ => ⟨S1x32x1x128, .f32⟩
  | .hbm, ⟨50, _⟩ => ⟨S4x32x4x128, .f32⟩
  | .hbm, ⟨51, _⟩ => ⟨S4x32x4x128, .f32⟩
  | .hbm, ⟨52, _⟩ => ⟨S4x32x4x128, .f32⟩
  | .hbm, ⟨53, _⟩ => ⟨S128x512, .f32⟩
  | .hbm, ⟨54, _⟩ => ⟨S1x32x1x128, .f32⟩
  | .hbm, ⟨55, _⟩ => ⟨S1x32x4x128, .f32⟩
  | .hbm, ⟨56, _⟩ => ⟨S32x512, .f32⟩
  | .hbm, ⟨57, _⟩ => ⟨S128x4x128, .f32⟩
  | .hbm, ⟨58, _⟩ => ⟨S128x4x64, .f32⟩
  | .hbm, ⟨59, _⟩ => ⟨S_, .i32⟩
  | .hbm, ⟨60, _⟩ => ⟨S_, .f32⟩
  | .hbm, ⟨61, _⟩ => ⟨S128x4x128, .f32⟩
  | .hbm, ⟨62, _⟩ => ⟨S128x512, .f32⟩
  | .hbm, ⟨63, _⟩ => ⟨S128x4x64, .f32⟩
  | .hbm, ⟨64, _⟩ => ⟨S128x256, .f32⟩
  | .hbm, ⟨65, _⟩ => ⟨S1024x1536, .f32⟩
  | .hbm, ⟨66, _⟩ => ⟨S1024x1536, .bf16⟩
  | .hbm, ⟨67, _⟩ => ⟨S1024x768, .f32⟩
  | .hbm, ⟨68, _⟩ => ⟨S1024x768, .bf16⟩
  | .hbm, ⟨69, _⟩ => ⟨S1024x512, .bf16⟩
  | .hbm, ⟨70, _⟩ => ⟨S256x768, .bf16⟩
  | .hbm, ⟨71, _⟩ => ⟨S128x512, .bf16⟩
  | .hbm, ⟨72, _⟩ => ⟨S32x512, .bf16⟩
  | .hbm, ⟨73, _⟩ => ⟨S128x512, .bf16⟩
  | .hbm, ⟨74, _⟩ => ⟨S128x256, .bf16⟩
  | .hbm, ⟨75, _⟩ => ⟨S1x256, .f32⟩
  | .hbm, ⟨76, _⟩ => ⟨S1x128, .f32⟩
  | .hbm, ⟨77, _⟩ => ⟨S1x1024, .f32⟩
  | .hbm, ⟨78, _⟩ => ⟨S1024, .f32⟩
  | .hbm, ⟨79, _⟩ => ⟨S1x1024, .f32⟩
  | .hbm, ⟨80, _⟩ => ⟨S2048, .i32⟩
  | .hbm, ⟨81, _⟩ => ⟨S16, .f32⟩
  | .hbm, ⟨82, _⟩ => ⟨S16, .f32⟩
  | .hbm, ⟨83, _⟩ => ⟨S_, .f32⟩
  | .hbm, ⟨84, _⟩ => ⟨S16, .f32⟩
  | .hbm, ⟨85, _⟩ => ⟨S16, .f32⟩
  | .hbm, ⟨86, _⟩ => ⟨S_, .f32⟩
  | .hbm, ⟨87, _⟩ => ⟨S16, .f32⟩
  | .hbm, ⟨88, _⟩ => ⟨S16, .f32⟩
  | .hbm, ⟨89, _⟩ => ⟨S2048, .f32⟩
  | .hbm, ⟨90, _⟩ => ⟨S2048x1, .f32⟩
  | .hbm, ⟨91, _⟩ => ⟨S1x16, .f32⟩
  | .hbm, ⟨92, _⟩ => ⟨S2048x16, .f32⟩
  | .hbm, ⟨93, _⟩ => ⟨S2048x16, .f32⟩
  | .hbm, ⟨94, _⟩ => ⟨S2048x16, .f32⟩
  | .hbm, ⟨95, _⟩ => ⟨S2048x16, .f32⟩
  | .hbm, ⟨96, _⟩ => ⟨S1x2048x1x16, .f32⟩
  | .hbm, ⟨97, _⟩ => ⟨S1x2048x8x16, .f32⟩
  | .hbm, ⟨98, _⟩ => ⟨S2048x128, .f32⟩
  | .hbm, ⟨99, _⟩ => ⟨S2048x16, .f32⟩
  | .hbm, ⟨100, _⟩ => ⟨S1x2048x1x16, .f32⟩
  | .hbm, ⟨101, _⟩ => ⟨S1x2048x8x16, .f32⟩
  | .hbm, ⟨102, _⟩ => ⟨S2048x128, .f32⟩
  | .hbm, ⟨103, _⟩ => ⟨S32x2048x512, .bf16⟩
  | .hbm, ⟨104, _⟩ => ⟨S32x512x2048, .f32⟩
  | .hbm, ⟨105, _⟩ => ⟨S32x2048x512, .bf16⟩
  | .hbm, ⟨106, _⟩ => ⟨S32x512x2048, .f32⟩
  | .hbm, ⟨107, _⟩ => ⟨S32x512x2048, .bf16⟩
  | .hbm, ⟨108, _⟩ => ⟨S32x2048x256, .bf16⟩
  | .hbm, ⟨109, _⟩ => ⟨S32x256x2048, .f32⟩
  | .hbm, ⟨110, _⟩ => ⟨S32x2048x256, .bf16⟩
  | .hbm, ⟨111, _⟩ => ⟨S32x256x2048, .f32⟩
  | .hbm, ⟨112, _⟩ => ⟨S32x256x2048, .bf16⟩
  | .hbm, ⟨113, _⟩ => ⟨S32x2048x512, .bf16⟩
  | .hbm, ⟨114, _⟩ => ⟨S32x2048x128, .f32⟩
  | .hbm, ⟨115, _⟩ => ⟨S32x2048x32, .f32⟩
  | .hbm, ⟨116, _⟩ => ⟨S32x2048x512, .bf16⟩
  | .hbm, ⟨117, _⟩ => ⟨S32x256x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S1024x1536, .bf16⟩
  | .local _ .vmem, ⟨8, _⟩ => ⟨S1024x768, .bf16⟩
  | .local _ .vmem, ⟨9, _⟩ => ⟨S1024x512, .bf16⟩
  | .local _ .vmem, ⟨10, _⟩ => ⟨S1x256, .f32⟩
  | .local _ .vmem, ⟨11, _⟩ => ⟨S256x768, .bf16⟩
  | .local _ .vmem, ⟨12, _⟩ => ⟨S128x512, .bf16⟩
  | .local _ .vmem, ⟨13, _⟩ => ⟨S1x128, .f32⟩
  | .local _ .vmem, ⟨14, _⟩ => ⟨S128x512, .bf16⟩
  | .local _ .vmem, ⟨15, _⟩ => ⟨S32x512, .bf16⟩
  | .local _ .vmem, ⟨16, _⟩ => ⟨S128x256, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .f32⟩
  | .local _ .vmem, ⟨20, _⟩ => ⟨S1x512x512, .f32⟩
  | .local _ .vmem, ⟨21, _⟩ => ⟨S1x512x512, .bf16⟩
  | .local _ .vmem, ⟨22, _⟩ => ⟨S1x512x512, .bf16⟩
  | .local _ .vmem, ⟨23, _⟩ => ⟨S1x512x512, .f32⟩
  | .local _ .vmem, ⟨24, _⟩ => ⟨S1x512x512, .f32⟩
  | .local _ .vmem, ⟨25, _⟩ => ⟨S1x512x512, .bf16⟩
  | .local _ .vmem, ⟨26, _⟩ => ⟨S1x512x512, .bf16⟩
  | .local _ .vmem, ⟨27, _⟩ => ⟨S1x512x256, .bf16⟩
  | .local _ .vmem, ⟨28, _⟩ => ⟨S1x512x256, .bf16⟩
  | .local _ .vmem, ⟨29, _⟩ => ⟨S1x256x512, .f32⟩
  | .local _ .vmem, ⟨30, _⟩ => ⟨S1x256x512, .f32⟩
  | .local _ .vmem, ⟨31, _⟩ => ⟨S1x512x256, .bf16⟩
  | .local _ .vmem, ⟨32, _⟩ => ⟨S1x512x256, .bf16⟩
  | .local _ .vmem, ⟨33, _⟩ => ⟨S1x256x512, .f32⟩
  | .local _ .vmem, ⟨34, _⟩ => ⟨S1x256x512, .f32⟩
  | .local _ .vmem, ⟨35, _⟩ => ⟨S1x256x512, .bf16⟩
  | .local _ .vmem, ⟨36, _⟩ => ⟨S1x256x512, .bf16⟩
  | .local _ .vmem, ⟨37, _⟩ => ⟨S1x512x512, .bf16⟩
  | .local _ .vmem, ⟨38, _⟩ => ⟨S1x512x512, .bf16⟩
  | .local _ .vmem, ⟨39, _⟩ => ⟨S1x512x128, .f32⟩
  | .local _ .vmem, ⟨40, _⟩ => ⟨S1x512x128, .f32⟩
  | .local _ .vmem, ⟨41, _⟩ => ⟨S1x512x32, .f32⟩
  | .local _ .vmem, ⟨42, _⟩ => ⟨S1x512x32, .f32⟩
  | .local _ .vmem, ⟨43, _⟩ => ⟨S1x512x512, .bf16⟩
  | .local _ .vmem, ⟨44, _⟩ => ⟨S1x512x512, .bf16⟩
  | .local _ .vmem, ⟨45, _⟩ => ⟨S1x256x512, .bf16⟩
  | .local _ .vmem, ⟨46, _⟩ => ⟨S1x256x512, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_1 : Ref sig .tc := ⟨.hbm, 38, rfl⟩
abbrev main_call1_v0 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_3 : Ref sig .tc := ⟨.hbm, 59, rfl⟩
abbrev main_call3_v0 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_4 : Ref sig .tc := ⟨.hbm, 83, rfl⟩
abbrev main_v62 : Ref sig .tc := ⟨.hbm, 84, rfl⟩
abbrev main_v63 : Ref sig .tc := ⟨.hbm, 85, rfl⟩
abbrev main_cst_5 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80_0 : Ref sig .tc := ⟨.hbm, 103, rfl⟩
abbrev main_v80_1 : Ref sig .tc := ⟨.hbm, 104, rfl⟩
abbrev main_v80_2 : Ref sig .tc := ⟨.hbm, 105, rfl⟩
abbrev main_v80_3 : Ref sig .tc := ⟨.hbm, 106, rfl⟩
abbrev main_v80_4 : Ref sig .tc := ⟨.hbm, 107, rfl⟩
abbrev main_v80_5 : Ref sig .tc := ⟨.hbm, 108, rfl⟩
abbrev main_v80_6 : Ref sig .tc := ⟨.hbm, 109, rfl⟩
abbrev main_v80_7 : Ref sig .tc := ⟨.hbm, 110, rfl⟩
abbrev main_v80_8 : Ref sig .tc := ⟨.hbm, 111, rfl⟩
abbrev main_v80_9 : Ref sig .tc := ⟨.hbm, 112, rfl⟩
abbrev main_v80_10 : Ref sig .tc := ⟨.hbm, 113, rfl⟩
abbrev main_v80_11 : Ref sig .tc := ⟨.hbm, 114, rfl⟩
abbrev main_v80_12 : Ref sig .tc := ⟨.hbm, 115, rfl⟩
abbrev main_v80_13 : Ref sig .tc := ⟨.hbm, 116, rfl⟩
abbrev main_v80_14 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_stg25_0 : Ref sig .tc := ⟨.vmem, 39, rfl⟩
abbrev cc0_stg25_1 : Ref sig .tc := ⟨.vmem, 40, rfl⟩
abbrev cc0_stg26_0 : Ref sig .tc := ⟨.vmem, 41, rfl⟩
abbrev cc0_stg26_1 : Ref sig .tc := ⟨.vmem, 42, rfl⟩
abbrev cc0_stg27_0 : Ref sig .tc := ⟨.vmem, 43, rfl⟩
abbrev cc0_stg27_1 : Ref sig .tc := ⟨.vmem, 44, rfl⟩
abbrev cc0_stg28_0 : Ref sig .tc := ⟨.vmem, 45, rfl⟩
abbrev cc0_stg28_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37
abbrev cc0_sem24_1 : DmaSem sig := 38
abbrev cc0_sem25_0 : DmaSem sig := 39
abbrev cc0_sem25_1 : DmaSem sig := 40
abbrev cc0_sem26_0 : DmaSem sig := 41
abbrev cc0_sem26_1 : DmaSem sig := 42
abbrev cc0_sem27_0 : DmaSem sig := 43
abbrev cc0_sem27_1 : DmaSem sig := 44
abbrev cc0_sem28_0 : DmaSem sig := 45
abbrev cc0_sem28_1 : DmaSem sig := 46

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_28 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S32x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x256x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x512x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x512x32 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x512x512 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x256x512 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]
-- ==== Kernel4Ideal.lean ====
variable {F : FTy → Type} [FloatOps F] [Named F]
def κ : String → Option EReal := fun
  | "a_scale" => some (((Real.sqrt 32)⁻¹ * (Real.log 2)⁻¹ : ℝ) : EReal)
  | "b_scale" => some ((8⁻¹ * (Real.log 2)⁻¹ : ℝ) : EReal)
  | "c_scale" => some (((Real.sqrt 96)⁻¹ * (Real.log 2)⁻¹ : ℝ) : EReal)
  | _ => none
-- ==== Reference4Ideal.lean ====
abbrev S32x2048x1024 : Shape := ⟨3, ![32, 2048, 1024]⟩
abbrev S1024x2720 : Shape := ⟨2, ![1024, 2720]⟩
abbrev S7x1024 : Shape := ⟨2, ![7, 1024]⟩
abbrev S256 : Shape := ⟨1, ![256]⟩
abbrev S256x384 : Shape := ⟨2, ![256, 384]⟩
abbrev S128 : Shape := ⟨1, ![128]⟩
abbrev S128x512 : Shape := ⟨2, ![128, 512]⟩
abbrev S1x1024 : Shape := ⟨2, ![1, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2720 : Shape := ⟨3, ![32, 2048, 2720]⟩
abbrev S32x2048x512 : Shape := ⟨3, ![32, 2048, 512]⟩
abbrev S32x2048x256 : Shape := ⟨3, ![32, 2048, 256]⟩
abbrev S32x2048x128 : Shape := ⟨3, ![32, 2048, 128]⟩
abbrev S32x2048x32 : Shape := ⟨3, ![32, 2048, 32]⟩
abbrev S1x1x256 : Shape := ⟨3, ![1, 1, 256]⟩
abbrev S32x2048x384 : Shape := ⟨3, ![32, 2048, 384]⟩
abbrev S32x2048x4x96 : Shape := ⟨4, ![32, 2048, 4, 96]⟩
abbrev S32x2048x4x32 : Shape := ⟨4, ![32, 2048, 4, 32]⟩
abbrev S32x2048x4x64 : Shape := ⟨4, ![32, 2048, 4, 64]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S32x2048x4x16 : Shape := ⟨4, ![32, 2048, 4, 16]⟩
abbrev S32x2048x4x128 : Shape := ⟨4, ![32, 2048, 4, 128]⟩
abbrev S1x1x128 : Shape := ⟨3, ![1, 1, 128]⟩
abbrev S1x2048x16 : Shape := ⟨3, ![1, 2048, 16]⟩
abbrev S32x2048x16 : Shape := ⟨3, ![32, 2048, 16]⟩
abbrev S32x2048x1x32 : Shape := ⟨4, ![32, 2048, 1, 32]⟩
abbrev S32x512x2048 : Shape := ⟨3, ![32, 512, 2048]⟩
abbrev S32x256x2048 : Shape := ⟨3, ![32, 256, 2048]⟩

abbrev nBuf : Space → Nat
  | .hbm => 187
  | .vmem => 0
  | .smem => 0
  | _ => 0

abbrev hbmTy0_0 (i : Nat) : BufTy := match i % 128 with
  | 0 => ⟨S32x2048x1024, .f32⟩
  | 1 => ⟨S1024x2720, .f32⟩
  | 2 => ⟨S7x1024, .f32⟩
  | 3 => ⟨S256, .f32⟩
  | 4 => ⟨S256x384, .f32⟩
  | 5 => ⟨S128, .f32⟩
  | 6 => ⟨S128x512, .f32⟩
  | 7 => ⟨S1x1024, .f32⟩
  | 8 => ⟨S1024, .f32⟩
  | 9 => ⟨S32x2048x1024, .f32⟩
  | 10 => ⟨S_, .f32⟩
  | 11 => ⟨S32x2048, .f32⟩
  | 12 => ⟨S32x2048x1, .f32⟩
  | 13 => ⟨S_, .f32⟩
  | 14 => ⟨S32x2048x1, .f32⟩
  | 15 => ⟨S32x2048x1, .f32⟩
  | 16 => ⟨S_, .f32⟩
  | 17 => ⟨S32x2048x1, .f32⟩
  | 18 => ⟨S32x2048x1, .f32⟩
  | 19 => ⟨S32x2048x1, .f32⟩
  | 20 => ⟨S32x2048x1024, .f32⟩
  | 21 => ⟨S32x2048x1024, .f32⟩
  | 22 => ⟨S1x1x1024, .f32⟩
  | 23 => ⟨S32x2048x1024, .f32⟩
  | 24 => ⟨S32x2048x1024, .f32⟩
  | 25 => ⟨S32x2048x2720, .f32⟩
  | 26 => ⟨S32x2048x512, .f32⟩
  | 27 => ⟨S32x2048x512, .f32⟩
  | 28 => ⟨S32x2048x512, .f32⟩
  | 29 => ⟨S32x2048x256, .f32⟩
  | 30 => ⟨S32x2048x256, .f32⟩
  | 31 => ⟨S32x2048x256, .f32⟩
  | 32 => ⟨S32x2048x256, .f32⟩
  | 33 => ⟨S32x2048x128, .f32⟩
  | 34 => ⟨S32x2048x32, .f32⟩
  | 35 => ⟨S_, .f32⟩
  | 36 => ⟨S_, .f32⟩
  | 37 => ⟨S32x2048x256, .f32⟩
  | 38 => ⟨S_, .f32⟩
  | 39 => ⟨S32x2048, .f32⟩
  | 40 => ⟨S32x2048x1, .f32⟩
  | 41 => ⟨S_, .f32⟩
  | 42 => ⟨S32x2048x1, .f32⟩
  | 43 => ⟨S32x2048x1, .f32⟩
  | 44 => ⟨S_, .f32⟩
  | 45 => ⟨S32x2048x1, .f32⟩
  | 46 => ⟨S32x2048x1, .f32⟩
  | 47 => ⟨S32x2048x1, .f32⟩
  | 48 => ⟨S32x2048x256, .f32⟩
  | 49 => ⟨S32x2048x256, .f32⟩
  | 50 => ⟨S1x1x256, .f32⟩
  | 51 => ⟨S32x2048x256, .f32⟩
  | 52 => ⟨S32x2048x256, .f32⟩
  | 53 => ⟨S32x2048x384, .f32⟩
  | 54 => ⟨S32x2048x4x96, .f32⟩
  | 55 => ⟨S_, .f32⟩
  | 56 => ⟨S32x2048x4x32, .f32⟩
  | 57 => ⟨S32x2048x4x64, .f32⟩
  | 58 => ⟨S32x2048x4x32, .f32⟩
  | 59 => ⟨S16, .f32⟩
  | 60 => ⟨S16, .f32⟩
  | 61 => ⟨S_, .f32⟩
  | 62 => ⟨S16, .f32⟩
  | 63 => ⟨S16, .f32⟩
  | 64 => ⟨S_, .f32⟩
  | 65 => ⟨S16, .f32⟩
  | 66 => ⟨S16, .f32⟩
  | 67 => ⟨S2048, .i32⟩
  | 68 => ⟨S2048, .f32⟩
  | 69 => ⟨S2048x1, .f32⟩
  | 70 => ⟨S1x16, .f32⟩
  | 71 => ⟨S2048x16, .f32⟩
  | 72 => ⟨S2048x16, .f32⟩
  | 73 => ⟨S2048x16, .f32⟩
  | 74 => ⟨S2048x16, .f32⟩
  | 75 => ⟨S1x2048x1x16, .f32⟩
  | 76 => ⟨S2048x16, .f32⟩
  | 77 => ⟨S1x2048x1x16, .f32⟩
  | 78 => ⟨S32x2048x4x16, .f32⟩
  | 79 => ⟨S32x2048x4x16, .f32⟩
  | 80 => ⟨S32x2048x4x16, .f32⟩
  | 81 => ⟨S32x2048x4x16, .f32⟩
  | 82 => ⟨S32x2048x4x16, .f32⟩
  | 83 => ⟨S32x2048x4x16, .f32⟩
  | 84 => ⟨S32x2048x4x16, .f32⟩
  | 85 => ⟨S32x2048x4x16, .f32⟩
  | 86 => ⟨S32x2048x4x16, .f32⟩
  | 87 => ⟨S32x2048x4x16, .f32⟩
  | 88 => ⟨S32x2048x4x16, .f32⟩
  | 89 => ⟨S32x2048x4x16, .f32⟩
  | 90 => ⟨S32x2048x4x32, .f32⟩
  | 91 => ⟨S32x2048x4x128, .f32⟩
  | 92 => ⟨S32x2048x512, .f32⟩
  | 93 => ⟨S32x2048x128, .f32⟩
  | 94 => ⟨S_, .f32⟩
  | 95 => ⟨S32x2048, .f32⟩
  | 96 => ⟨S32x2048x1, .f32⟩
  | 97 => ⟨S_, .f32⟩
  | 98 => ⟨S32x2048x1, .f32⟩
  | 99 => ⟨S32x2048x1, .f32⟩
  | 100 => ⟨S_, .f32⟩
  | 101 => ⟨S32x2048x1, .f32⟩
  | 102 => ⟨S32x2048x1, .f32⟩
  | 103 => ⟨S32x2048x1, .f32⟩
  | 104 => ⟨S32x2048x128, .f32⟩
  | 105 => ⟨S32x2048x128, .f32⟩
  | 106 => ⟨S1x1x128, .f32⟩
  | 107 => ⟨S32x2048x128, .f32⟩
  | 108 => ⟨S32x2048x128, .f32⟩
  | 109 => ⟨S16, .f32⟩
  | 110 => ⟨S16, .f32⟩
  | 111 => ⟨S_, .f32⟩
  | 112 => ⟨S16, .f32⟩
  | 113 => ⟨S16, .f32⟩
  | 114 => ⟨S_, .f32⟩
  | 115 => ⟨S16, .f32⟩
  | 116 => ⟨S16, .f32⟩
  | 117 => ⟨S2048, .i32⟩
  | 118 => ⟨S2048, .f32⟩
  | 119 => ⟨S2048x1, .f32⟩
  | 120 => ⟨S1x16, .f32⟩
  | 121 => ⟨S2048x16, .f32⟩
  | 122 => ⟨S2048x16, .f32⟩
  | 123 => ⟨S2048x16, .f32⟩
  | 124 => ⟨S2048x16, .f32⟩
  | 125 => ⟨S1x2048x16, .f32⟩
  | 126 => ⟨S2048x16, .f32⟩
  | 127 => ⟨S1x2048x16, .f32⟩
  | _ => ⟨S32x2048x1024, .f32⟩

abbrev hbmTy0_1 (i : Nat) : BufTy := match i % 128 with
  | 0 => ⟨S32x2048x16, .f32⟩
  | 1 => ⟨S32x2048x16, .f32⟩
  | 2 => ⟨S32x2048x16, .f32⟩
  | 3 => ⟨S32x2048x16, .f32⟩
  | 4 => ⟨S32x2048x16, .f32⟩
  | 5 => ⟨S32x2048x16, .f32⟩
  | 6 => ⟨S32x2048x16, .f32⟩
  | 7 => ⟨S32x2048x16, .f32⟩
  | 8 => ⟨S32x2048x16, .f32⟩
  | 9 => ⟨S32x2048x16, .f32⟩
  | 10 => ⟨S32x2048x16, .f32⟩
  | 11 => ⟨S32x2048x16, .f32⟩
  | 12 => ⟨S32x2048x32, .f32⟩
  | 13 => ⟨S32x2048x512, .f32⟩
  | 14 => ⟨S32x2048x4x128, .f32⟩
  | 15 => ⟨S32x2048x1x32, .f32⟩
  | 16 => ⟨S32x2048x4x32, .f32⟩
  | 17 => ⟨S32x2048x4x64, .f32⟩
  | 18 => ⟨S32x2048x4x128, .f32⟩
  | 19 => ⟨S32x2048x512, .f32⟩
  | 20 => ⟨S32x2048x4x64, .f32⟩
  | 21 => ⟨S32x2048x256, .f32⟩
  | 22 => ⟨S_, .f32⟩
  | 23 => ⟨S_, .f32⟩
  | 24 => ⟨S_, .f32⟩
  | 25 => ⟨S_, .f32⟩
  | 26 => ⟨S_, .f32⟩
  | 27 => ⟨S32x2048x512, .f32⟩
  | 28 => ⟨S32x2048x512, .f32⟩
  | 29 => ⟨S32x2048x512, .bf16⟩
  | 30 => ⟨S32x512x2048, .f32⟩
  | 31 => ⟨S32x2048x512, .bf16⟩
  | 32 => ⟨S32x512x2048, .f32⟩
  | 33 => ⟨S32x512x2048, .f32⟩
  | 34 => ⟨S32x512x2048, .bf16⟩
  | 35 => ⟨S_, .f32⟩
  | 36 => ⟨S_, .f32⟩
  | 37 => ⟨S_, .f32⟩
  | 38 => ⟨S_, .f32⟩
  | 39 => ⟨S_, .f32⟩
  | 40 => ⟨S32x2048x256, .f32⟩
  | 41 => ⟨S32x2048x256, .f32⟩
  | 42 => ⟨S32x2048x256, .bf16⟩
  | 43 => ⟨S32x256x2048, .f32⟩
  | 44 => ⟨S32x2048x256, .bf16⟩
  | 45 => ⟨S32x256x2048, .f32⟩
  | 46 => ⟨S32x256x2048, .f32⟩
  | 47 => ⟨S32x256x2048, .bf16⟩
  | 48 => ⟨S_, .f32⟩
  | 49 => ⟨S_, .f32⟩
  | 50 => ⟨S_, .f32⟩
  | 51 => ⟨S_, .f32⟩
  | 52 => ⟨S_, .f32⟩
  | 53 => ⟨S32x2048x512, .f32⟩
  | 54 => ⟨S32x2048x512, .f32⟩
  | 55 => ⟨S32x2048x512, .bf16⟩
  | 56 => ⟨S32x2048x512, .bf16⟩
  | 57 => ⟨S32x256x2048, .f32⟩
  | 58 => ⟨S32x256x2048, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_9 : Ref sig .tc := ⟨.hbm, 94, rfl⟩
abbrev main_v77 : Ref sig .tc := ⟨.hbm, 95, rfl⟩
abbrev main_v78 : Ref sig .tc := ⟨.hbm, 96, rfl⟩
abbrev main_cst_10 : Ref sig .tc := ⟨.hbm, 97, rfl⟩
abbrev main_v79 : Ref sig .tc := ⟨.hbm, 98, rfl⟩
abbrev main_v80 : Ref sig .tc := ⟨.hbm, 99, rfl⟩
abbrev main_cst_11 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_cst_12 : Ref sig .tc := ⟨.hbm, 111, rfl⟩
abbrev main_v91 : Ref sig .tc := ⟨.hbm, 112, rfl⟩
abbrev main_v92 : Ref sig .tc := ⟨.hbm, 113, rfl⟩
abbrev main_cst_13 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_cst_14 : Ref sig .tc := ⟨.hbm, 150, rfl⟩
abbrev main_v128 : Ref sig .tc := ⟨.hbm, 151, rfl⟩
abbrev main_v129 : Ref sig .tc := ⟨.hbm, 152, rfl⟩
abbrev main_cst_15 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_cst_16 : Ref sig .tc := ⟨.hbm, 163, rfl⟩
abbrev main_v139 : Ref sig .tc := ⟨.hbm, 164, rfl⟩
abbrev main_v140 : Ref sig .tc := ⟨.hbm, 165, rfl⟩
abbrev main_cst_17 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_cst_18 : Ref sig .tc := ⟨.hbm, 176, rfl⟩
abbrev main_v150 : Ref sig .tc := ⟨.hbm, 177, rfl⟩
abbrev main_v151 : Ref sig .tc := ⟨.hbm, 178, rfl⟩
abbrev main_cst_19 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩

abbrev nD : Nat := 1
abbrev τ : Topo := Topo.v7x

variable {F : FTy → Type} [FloatOps F]
-- ==== Proof.Tail.Run.lean ====
/- The run of the tail kernel's whole body (Kernel2Ideal): what its stores leave in each output's buffer, as pieces, with
   the proof that the body runs to them. -/
module

public import proofs.«01_k».proof.Proof.Gen.Kernel2Ideal.Frame.Runs

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the proof of the run is long
set_option maxHeartbeats 4000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x1024x1024 .f32) (harg2 : arg2.IsWhole) (arg3 : Memref sig .tc .vmem S1x16x1024 .f32) (harg3 : arg3.IsWhole) (arg4 : Memref sig .tc .vmem S1x1024x512 .bf16) (harg4 : arg4.IsWhole) (arg5 : Memref sig .tc .vmem S1x16x512 .bf16) (harg5 : arg5.IsWhole) (arg6 : Memref sig .tc .vmem S1x1024x256 .bf16) (harg6 : arg6.IsWhole) (arg7 : Memref sig .tc .vmem S1x16x256 .bf16) (harg7 : arg7.IsWhole) (arg8 : Memref sig .tc .vmem S1x1024x256 .bf16) (harg8 : arg8.IsWhole) (arg9 : Memref sig .tc .vmem S1x16x256 .bf16) (harg9 : arg9.IsWhole) (arg10 : Memref sig .tc .vmem S1x256x256 .bf16) (harg10 : arg10.IsWhole) (arg11 : Memref sig .tc .vmem S1x256x256 .bf16) (harg11 : arg11.IsWhole) (arg12 : Memref sig .tc .vmem S1x2x2816 .f32) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1024x256 .bf16) (harg16 : arg16.IsWhole) (arg17 : Memref sig .tc .vmem S256x1024 .bf16) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x2816 .bf16) (harg20 : arg20.IsWhole) (arg21 : Memref sig .tc .vmem S1024x2816 .bf16) (harg21 : arg21.IsWhole) (arg22 : Memref sig .tc .vmem S3x2816 .f32) (harg22 : arg22.IsWhole) (arg23 : Memref sig .tc .vmem S1x2816 .f32) (harg23 : arg23.IsWhole) (arg24 : Memref sig .tc .vmem S2816x1024 .bf16) (harg24 : arg24.IsWhole) (arg25 : Memref sig .tc .vmem S1x1024 .f32) (harg25 : arg25.IsWhole) (arg26 : Memref sig .tc .vmem S1x1024x1024 .f32) (harg26 : arg26.IsWhole) (arg27 : Memref sig .tc .vmem S1x2x2816 .f32) (harg27 : arg27.IsWhole)
    (x0 : Vec F S1x1024x1024 .f32) (x1 : Vec F S1x16x1024 .f32) (x2 : Vec F S1x1024x512 .bf16) (x3 : Vec F S1x16x512 .bf16) (x4 : Vec F S1x1024x256 .bf16) (x5 : Vec F S1x16x256 .bf16) (x6 : Vec F S1x1024x256 .bf16) (x7 : Vec F S1x16x256 .bf16) (x8 : Vec F S1x256x256 .bf16) (x9 : Vec F S1x256x256 .bf16) (x10 : Vec F S1x2x2816 .f32) (x11 : Vec F S1024x1024 .bf16) (x12 : Vec F S1x1024 .f32) (x13 : Vec F S1x1024 .f32) (x14 : Vec F S1024x256 .bf16) (x15 : Vec F S256x1024 .bf16) (x16 : Vec F S1x1024 .f32) (x17 : Vec F S1x1024 .f32) (x18 : Vec F S1024x2816 .bf16) (x19 : Vec F S1024x2816 .bf16) (x20 : Vec F S3x2816 .f32) (x21 : Vec F S1x2816 .f32) (x22 : Vec F S2816x1024 .bf16) (x23 : Vec F S1x1024 .f32) :
    Σ' (L24 : List (View.Piece (Elt F) S1x1024x1024 .f32)), { L25 : List (View.Piece (Elt F) S1x2x2816 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25)) -∗ K ⟨⟩))
          ⊢ wp frame (wpE (defs₀ (F := F)) Variants.none c none) E (cc0_tail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, fun E K => ?run⟩
  case run =>
    simp only [cc0_tail_eq_skeleton]; unfold cc0_tail_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%d25, %f25, -, H25⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]; · iexists _; iexact H24
    iexists _; iexact H25

end Cert.Kernel2Ideal.Gen

end
-- ==== Proof.Tail.Frame.lean ====
/- The frame of the tail (Kernel2Ideal): what the outputs hold after each grid point, the pipeline's proof data, the body
   obligation, the run and the frame, over the run of Run.lean. -/
module

public import proofs.«01_k».proof.Proof.Tail.Run
public import Idealize.ShloMosaic.Lib.Claim

@[expose] public section

-- membership in a rectangle of production extents (`View.cover_of_tiled`): the elaborator's structural look
-- recurses once per coordinate of the long axes
set_option maxRecDepth 16384
set_option maxHeartbeats 4000000

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 24 tile its block (1 store of `S1x1024x1024`, checked by the kernel's evaluation: Lib/Ring.lean `Piece.tiledL`, linear in the pieces, through a loop's `@[irreducible]` trip theorem too), so they cover it. -/
theorem cover0_A_24 (c : Dev nD) (i : grid0.Coords) (arg2 : Memref sig .tc .vmem S1x1024x1024 .f32) (harg2 : arg2.IsWhole) (arg3 : Memref sig .tc .vmem S1x16x1024 .f32) (harg3 : arg3.IsWhole) (arg4 : Memref sig .tc .vmem S1x1024x512 .bf16) (harg4 : arg4.IsWhole) (arg5 : Memref sig .tc .vmem S1x16x512 .bf16) (harg5 : arg5.IsWhole) (arg6 : Memref sig .tc .vmem S1x1024x256 .bf16) (harg6 : arg6.IsWhole) (arg7 : Memref sig .tc .vmem S1x16x256 .bf16) (harg7 : arg7.IsWhole) (arg8 : Memref sig .tc .vmem S1x1024x256 .bf16) (harg8 : arg8.IsWhole) (arg9 : Memref sig .tc .vmem S1x16x256 .bf16) (harg9 : arg9.IsWhole) (arg10 : Memref sig .tc .vmem S1x256x256 .bf16) (harg10 : arg10.IsWhole) (arg11 : Memref sig .tc .vmem S1x256x256 .bf16) (harg11 : arg11.IsWhole) (arg12 : Memref sig .tc .vmem S1x2x2816 .f32) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1024x256 .bf16) (harg16 : arg16.IsWhole) (arg17 : Memref sig .tc .vmem S256x1024 .bf16) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x2816 .bf16) (harg20 : arg20.IsWhole) (arg21 : Memref sig .tc .vmem S1024x2816 .bf16) (harg21 : arg21.IsWhole) (arg22 : Memref sig .tc .vmem S3x2816 .f32) (harg22 : arg22.IsWhole) (arg23 : Memref sig .tc .vmem S1x2816 .f32) (harg23 : arg23.IsWhole) (arg24 : Memref sig .tc .vmem S2816x1024 .bf16) (harg24 : arg24.IsWhole) (arg25 : Memref sig .tc .vmem S1x1024 .f32) (harg25 : arg25.IsWhole) (arg26 : Memref sig .tc .vmem S1x1024x1024 .f32) (harg26 : arg26.IsWhole) (arg27 : Memref sig .tc .vmem S1x2x2816 .f32) (harg27 : arg27.IsWhole)
    (x0 : Vec F S1x1024x1024 .f32) (x1 : Vec F S1x16x1024 .f32) (x2 : Vec F S1x1024x512 .bf16) (x3 : Vec F S1x16x512 .bf16) (x4 : Vec F S1x1024x256 .bf16) (x5 : Vec F S1x16x256 .bf16) (x6 : Vec F S1x1024x256 .bf16) (x7 : Vec F S1x16x256 .bf16) (x8 : Vec F S1x256x256 .bf16) (x9 : Vec F S1x256x256 .bf16) (x10 : Vec F S1x2x2816 .f32) (x11 : Vec F S1024x1024 .bf16) (x12 : Vec F S1x1024 .f32) (x13 : Vec F S1x1024 .f32) (x14 : Vec F S1024x256 .bf16) (x15 : Vec F S256x1024 .bf16) (x16 : Vec F S1x1024 .f32) (x17 : Vec F S1x1024 .f32) (x18 : Vec F S1024x2816 .bf16) (x19 : Vec F S1024x2816 .bf16) (x20 : Vec F S3x2816 .f32) (x21 : Vec F S1x2816 .f32) (x22 : Vec F S2816x1024 .bf16) (x23 : Vec F S1x1024 .f32) (y : S1x1024x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23).1 S1x1024x1024.size (by sl_kernel_rfl) y

/-- What the run leaves in output 24's staging buffer: its pieces read back over junk. -/
def out0_A_24 (c : Dev nD) (i : grid0.Coords) (arg2 : Memref sig .tc .vmem S1x1024x1024 .f32) (harg2 : arg2.IsWhole) (arg3 : Memref sig .tc .vmem S1x16x1024 .f32) (harg3 : arg3.IsWhole) (arg4 : Memref sig .tc .vmem S1x1024x512 .bf16) (harg4 : arg4.IsWhole) (arg5 : Memref sig .tc .vmem S1x16x512 .bf16) (harg5 : arg5.IsWhole) (arg6 : Memref sig .tc .vmem S1x1024x256 .bf16) (harg6 : arg6.IsWhole) (arg7 : Memref sig .tc .vmem S1x16x256 .bf16) (harg7 : arg7.IsWhole) (arg8 : Memref sig .tc .vmem S1x1024x256 .bf16) (harg8 : arg8.IsWhole) (arg9 : Memref sig .tc .vmem S1x16x256 .bf16) (harg9 : arg9.IsWhole) (arg10 : Memref sig .tc .vmem S1x256x256 .bf16) (harg10 : arg10.IsWhole) (arg11 : Memref sig .tc .vmem S1x256x256 .bf16) (harg11 : arg11.IsWhole) (arg12 : Memref sig .tc .vmem S1x2x2816 .f32) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1024x256 .bf16) (harg16 : arg16.IsWhole) (arg17 : Memref sig .tc .vmem S256x1024 .bf16) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x2816 .bf16) (harg20 : arg20.IsWhole) (arg21 : Memref sig .tc .vmem S1024x2816 .bf16) (harg21 : arg21.IsWhole) (arg22 : Memref sig .tc .vmem S3x2816 .f32) (harg22 : arg22.IsWhole) (arg23 : Memref sig .tc .vmem S1x2816 .f32) (harg23 : arg23.IsWhole) (arg24 : Memref sig .tc .vmem S2816x1024 .bf16) (harg24 : arg24.IsWhole) (arg25 : Memref sig .tc .vmem S1x1024 .f32) (harg25 : arg25.IsWhole) (arg26 : Memref sig .tc .vmem S1x1024x1024 .f32) (harg26 : arg26.IsWhole) (arg27 : Memref sig .tc .vmem S1x2x2816 .f32) (harg27 : arg27.IsWhole)
    (x0 : Vec F S1x1024x1024 .f32) (x1 : Vec F S1x16x1024 .f32) (x2 : Vec F S1x1024x512 .bf16) (x3 : Vec F S1x16x512 .bf16) (x4 : Vec F S1x1024x256 .bf16) (x5 : Vec F S1x16x256 .bf16) (x6 : Vec F S1x1024x256 .bf16) (x7 : Vec F S1x16x256 .bf16) (x8 : Vec F S1x256x256 .bf16) (x9 : Vec F S1x256x256 .bf16) (x10 : Vec F S1x2x2816 .f32) (x11 : Vec F S1024x1024 .bf16) (x12 : Vec F S1x1024 .f32) (x13 : Vec F S1x1024 .f32) (x14 : Vec F S1024x256 .bf16) (x15 : Vec F S256x1024 .bf16) (x16 : Vec F S1x1024 .f32) (x17 : Vec F S1x1024 .f32) (x18 : Vec F S1024x2816 .bf16) (x19 : Vec F S1024x2816 .bf16) (x20 : Vec F S3x2816 .f32) (x21 : Vec F S1x2816 .f32) (x22 : Vec F S2816x1024 .bf16) (x23 : Vec F S1x1024 .f32) : Vec F S1x1024x1024 .f32 :=
  VO0_24.read (Elt F) (VO0_24.writes (Elt F) VO0_24.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23).1)

/-- The run's pieces for output 25 are of SEVERAL sizes (6 stores of `S1x2x256`, `S1x2x512`): cut into blocks of `![1, 2, 256]` they tile its block (checked by the kernel's evaluation: Lib/Ring.lean `Piece.tiledBy`), so they cover it. -/
theorem cover0_A_25 (c : Dev nD) (i : grid0.Coords) (arg2 : Memref sig .tc .vmem S1x1024x1024 .f32) (harg2 : arg2.IsWhole) (arg3 : Memref sig .tc .vmem S1x16x1024 .f32) (harg3 : arg3.IsWhole) (arg4 : Memref sig .tc .vmem S1x1024x512 .bf16) (harg4 : arg4.IsWhole) (arg5 : Memref sig .tc .vmem S1x16x512 .bf16) (harg5 : arg5.IsWhole) (arg6 : Memref sig .tc .vmem S1x1024x256 .bf16) (harg6 : arg6.IsWhole) (arg7 : Memref sig .tc .vmem S1x16x256 .bf16) (harg7 : arg7.IsWhole) (arg8 : Memref sig .tc .vmem S1x1024x256 .bf16) (harg8 : arg8.IsWhole) (arg9 : Memref sig .tc .vmem S1x16x256 .bf16) (harg9 : arg9.IsWhole) (arg10 : Memref sig .tc .vmem S1x256x256 .bf16) (harg10 : arg10.IsWhole) (arg11 : Memref sig .tc .vmem S1x256x256 .bf16) (harg11 : arg11.IsWhole) (arg12 : Memref sig .tc .vmem S1x2x2816 .f32) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1024x256 .bf16) (harg16 : arg16.IsWhole) (arg17 : Memref sig .tc .vmem S256x1024 .bf16) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x2816 .bf16) (harg20 : arg20.IsWhole) (arg21 : Memref sig .tc .vmem S1024x2816 .bf16) (harg21 : arg21.IsWhole) (arg22 : Memref sig .tc .vmem S3x2816 .f32) (harg22 : arg22.IsWhole) (arg23 : Memref sig .tc .vmem S1x2816 .f32) (harg23 : arg23.IsWhole) (arg24 : Memref sig .tc .vmem S2816x1024 .bf16) (harg24 : arg24.IsWhole) (arg25 : Memref sig .tc .vmem S1x1024 .f32) (harg25 : arg25.IsWhole) (arg26 : Memref sig .tc .vmem S1x1024x1024 .f32) (harg26 : arg26.IsWhole) (arg27 : Memref sig .tc .vmem S1x2x2816 .f32) (harg27 : arg27.IsWhole)
    (x0 : Vec F S1x1024x1024 .f32) (x1 : Vec F S1x16x1024 .f32) (x2 : Vec F S1x1024x512 .bf16) (x3 : Vec F S1x16x512 .bf16) (x4 : Vec F S1x1024x256 .bf16) (x5 : Vec F S1x16x256 .bf16) (x6 : Vec F S1x1024x256 .bf16) (x7 : Vec F S1x16x256 .bf16) (x8 : Vec F S1x256x256 .bf16) (x9 : Vec F S1x256x256 .bf16) (x10 : Vec F S1x2x2816 .f32) (x11 : Vec F S1024x1024 .bf16) (x12 : Vec F S1x1024 .f32) (x13 : Vec F S1x1024 .f32) (x14 : Vec F S1024x256 .bf16) (x15 : Vec F S256x1024 .bf16) (x16 : Vec F S1x1024 .f32) (x17 : Vec F S1x1024 .f32) (x18 : Vec F S1024x2816 .bf16) (x19 : Vec F S1024x2816 .bf16) (x20 : Vec F S3x2816 .f32) (x21 : Vec F S1x2816 .f32) (x22 : Vec F S2816x1024 .bf16) (x23 : Vec F S1x1024 .f32) (y : S1x2x2816.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23).2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23).2.1 ![1, 2, 256] (by sl_kernel_rfl) y

/-- What the run leaves in output 25's staging buffer: its pieces read back over junk. -/
def out0_A_25 (c : Dev nD) (i : grid0.Coords) (arg2 : Memref sig .tc .vmem S1x1024x1024 .f32) (harg2 : arg2.IsWhole) (arg3 : Memref sig .tc .vmem S1x16x1024 .f32) (harg3 : arg3.IsWhole) (arg4 : Memref sig .tc .vmem S1x1024x512 .bf16) (harg4 : arg4.IsWhole) (arg5 : Memref sig .tc .vmem S1x16x512 .bf16) (harg5 : arg5.IsWhole) (arg6 : Memref sig .tc .vmem S1x1024x256 .bf16) (harg6 : arg6.IsWhole) (arg7 : Memref sig .tc .vmem S1x16x256 .bf16) (harg7 : arg7.IsWhole) (arg8 : Memref sig .tc .vmem S1x1024x256 .bf16) (harg8 : arg8.IsWhole) (arg9 : Memref sig .tc .vmem S1x16x256 .bf16) (harg9 : arg9.IsWhole) (arg10 : Memref sig .tc .vmem S1x256x256 .bf16) (harg10 : arg10.IsWhole) (arg11 : Memref sig .tc .vmem S1x256x256 .bf16) (harg11 : arg11.IsWhole) (arg12 : Memref sig .tc .vmem S1x2x2816 .f32) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1024x256 .bf16) (harg16 : arg16.IsWhole) (arg17 : Memref sig .tc .vmem S256x1024 .bf16) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x2816 .bf16) (harg20 : arg20.IsWhole) (arg21 : Memref sig .tc .vmem S1024x2816 .bf16) (harg21 : arg21.IsWhole) (arg22 : Memref sig .tc .vmem S3x2816 .f32) (harg22 : arg22.IsWhole) (arg23 : Memref sig .tc .vmem S1x2816 .f32) (harg23 : arg23.IsWhole) (arg24 : Memref sig .tc .vmem S2816x1024 .bf16) (harg24 : arg24.IsWhole) (arg25 : Memref sig .tc .vmem S1x1024 .f32) (harg25 : arg25.IsWhole) (arg26 : Memref sig .tc .vmem S1x1024x1024 .f32) (harg26 : arg26.IsWhole) (arg27 : Memref sig .tc .vmem S1x2x2816 .f32) (harg27 : arg27.IsWhole)
    (x0 : Vec F S1x1024x1024 .f32) (x1 : Vec F S1x16x1024 .f32) (x2 : Vec F S1x1024x512 .bf16) (x3 : Vec F S1x16x512 .bf16) (x4 : Vec F S1x1024x256 .bf16) (x5 : Vec F S1x16x256 .bf16) (x6 : Vec F S1x1024x256 .bf16) (x7 : Vec F S1x16x256 .bf16) (x8 : Vec F S1x256x256 .bf16) (x9 : Vec F S1x256x256 .bf16) (x10 : Vec F S1x2x2816 .f32) (x11 : Vec F S1024x1024 .bf16) (x12 : Vec F S1x1024 .f32) (x13 : Vec F S1x1024 .f32) (x14 : Vec F S1024x256 .bf16) (x15 : Vec F S256x1024 .bf16) (x16 : Vec F S1x1024 .f32) (x17 : Vec F S1x1024 .f32) (x18 : Vec F S1024x2816 .bf16) (x19 : Vec F S1024x2816 .bf16) (x20 : Vec F S3x2816 .f32) (x21 : Vec F S1x2816 .f32) (x22 : Vec F S2816x1024 .bf16) (x23 : Vec F S1x1024 .f32) : Vec F S1x2x2816 .f32 :=
  VO0_25.read (Elt F) (VO0_25.writes (Elt F) VO0_25.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23).2.1)

/-! ## What the outputs hold after each point -/

/-- What the outputs' staging buffers hold after the body at point `t` (as a tuple, in window order): the run's contents at
    the point's memrefs and input blocks. -/
def outsAt0 (c : Dev nD) (t : Fin cfg0.N) : Vec F S1x1024x1024 .f32 × Vec F S1x2x2816 .f32 :=
  (out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => (outsAt0 m c t).1
    | ⟨25, _⟩ => (outsAt0 m c t).2
    | ⟨_ + 26, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = (outsAt0 m c t).1 := by dsimp only [dats]
theorem after0_25 (c : Dev nD) (t : Fin cfg0.N) : (dats m 0 c).after 25 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

set_option maxHeartbeats 2400000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  unfold outsAt0
  unfold out0_A_24 out0_A_25; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  iintro ⟨H0, H1, H2, H3, H4, H5, H6, H7, H8, H9, H10, H11, H12, H13, H14, H15, H16, H17, H18, H19, H20, H21, H22, H23, ⟨%e24, H24⟩, ⟨%e25, H25⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H25
  ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- THE FRAME: `Cert.quiescent_Kernel2Ideal`'s statement (Defs.lean) at any `F` — Proof.lean cites it at `Bits`:
    `theorem Cert.Proof.claim : Cert.Claim := ⟨Cert.Kernel2Ideal.Gen.facts, fun m ρ _ => Cert.Kernel2Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.Kernel2Ideal.Gen

end
-- ==== Proof.Tail.Value.lean ====
/- What the tail's two result arrays hold when it returns: the blocks that the grid points leave. -/
module

public import proofs.«01_k».proof.Proof.Tail.Frame
public import Idealize.ShloMosaic.Lib.Pipeline.Value

@[expose] public section

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 24's array: the run's contents for that window after the body (`Gen.outsAt0`: its component 0), read through the window's block. -/
theorem flushed24 (c : Dev nD) (t : Fin cfg0.N) :
    (dats m 0 c).flushed 24 t = (cfg0.win 24).cut (grid0.coords t) ((outsAt0 m c t).1) := by
  show (cfg0.win 24).cut (grid0.coords t) ((dats m 0 c).after 24 t) = _
  rw [after0_24]

/-- … so at a point where case A runs, what its write-back would write is that case's NAMED TERM for the window (`Gen.out0_A_24`: the pieces
    its run found, read back) at the point's memrefs and input blocks, and for an output the case reads back what the point before left (`Gen.outsAt0` at `t - 1`) — the kernel's one case, `Gen.outsAt0` by definition. -/
theorem flushed24_A (c : Dev nD) (t : Fin cfg0.N) :
    (dats m 0 c).flushed 24 t = (cfg0.win 24).cut (grid0.coords t) (out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) := by
  simp only [flushed24, outsAt0]

/-- The index map sends distinct grid points to distinct block indices (decided over the 64 points). -/
theorem idx_inj24 : ∀ t t' : Fin cfg0.N, win0_24.index t = win0_24.index t' → t = t' :=
  (by decide +kernel : ∀ t t' : Fin grid0.N, win0_24.index t = win0_24.index t' → t = t')

/-- So two flushing points' blocks share no array index (Lib/Pipeline/Cells.lean `Window.disjoint_blk`). -/
theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne (idx_inj24 t t' h)

/-- BLOCK `t` OF THE FINAL ARRAY, read back through the window, is what point `t` wrote back (`flushed24`), for every
    point that writes back: no other point's block meets it. -/
theorem blocks24 (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24 disjoint24 cfg0.N t t.isLt hf

/-- An index that no flushing point's block covers keeps output window 24's array contents at region entry. -/
theorem entry24 (c : Dev nD) (i : S32x2048x1024.Idx) (h : ∀ t : Fin cfg0.N, (cfg0.win 24).flush t = true → i ∉ ((cfg0.win 24).blk t).view.set) :
    (dats m 0 c).arrAt 24 cfg0.N i = V m c (Pipeline.arrRef spec0 24) i := by
  rw [(dats m 0 c).arrAt_apply_of_forall_not_mem 24 cfg0.N i (fun t _ hf => h t hf), A_eq]

/-- WHAT POINT `t` WRITES BACK to output window 25's array: the run's contents for that window after the body (`Gen.outsAt0`: its component 1), read through the window's block. -/
theorem flushed25 (c : Dev nD) (t : Fin cfg0.N) :
    (dats m 0 c).flushed 25 t = (cfg0.win 25).cut (grid0.coords t) ((outsAt0 m c t).2) := by
  show (cfg0.win 25).cut (grid0.coords t) ((dats m 0 c).after 25 t) = _
  rw [after0_25]

/-- … so at a point where case A runs, what its write-back would write is that case's NAMED TERM for the window (`Gen.out0_A_25`: the pieces
    its run found, read back) at the point's memrefs and input blocks, and for an output the case reads back what the point before left (`Gen.outsAt0` at `t - 1`) — the kernel's one case, `Gen.outsAt0` by definition. -/
theorem flushed25_A (c : Dev nD) (t : Fin cfg0.N) :
    (dats m 0 c).flushed 25 t = (cfg0.win 25).cut (grid0.coords t) (out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) := by
  simp only [flushed25, outsAt0]

-- no `blocks25`: window 25's index map revisits a block index, or its points could not be enumerated here;
-- the final array is still the frame's `arrAt`, to read with Lib/Pipeline/Value.lean's lemmas by hand

/-- An index that no flushing point's block covers keeps output window 25's array contents at region entry. -/
theorem entry25 (c : Dev nD) (i : S32x2x2816.Idx) (h : ∀ t : Fin cfg0.N, (cfg0.win 25).flush t = true → i ∉ ((cfg0.win 25).blk t).view.set) :
    (dats m 0 c).arrAt 25 cfg0.N i = V m c (Pipeline.arrRef spec0 25) i := by
  rw [(dats m 0 c).arrAt_apply_of_forall_not_mem 25 cfg0.N i (fun t _ hf => h t hf), A_eq]

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v29_0) = (dats m 0 c).arrAt 24 cfg0.N :=
  (h c).1 24

/-- After the frame run, output window 25's array is `(dats m 0 c).arrAt 25 N`. -/
theorem post25 (r : PUnit × MemSt nD τ sig (Elt F)) (h : Pipeline.FramePost cfgs (dats m) 0 (V m) r) (c : Dev nD) :
    r.2.mem ((c : Thread nD τ).loc main_v29_1) = (dats m 0 c).arrAt 25 cfg0.N :=
  (h c).1 25

/-- After the frame run, argument `main_arg0` is as launched: input window 1 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: input window 10 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 10).trans (((dats m 0 c).arrAt_in 10 rfl _).trans ((A_eq m c 10).trans (V_main_arg6 m c)))

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: input window 20 stages it and never writes it back. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).1 20).trans (((dats m 0 c).arrAt_in 20 rfl _).trans ((A_eq m c 20).trans (V_main_arg13 m c)))

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v29_0) = (dats m 0 c).arrAt 24 cfg0.N
      ∧ r.2.mem ((c : Thread nD τ).loc main_v29_1) = (dats m 0 c).arrAt 25 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨post24 m r h c,
      post25 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c⟩)
    (run_main m ρ)

end Cert.Kernel2Ideal.Value

end
-- ==== Proof.Proj.Frame.lean ====
/- The frame of the input projection (Kernel4Ideal): what each output holds after a grid point, the pipeline's data, the
   body's triple, the run and the frame, with a larger budget of steps. -/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384
set_option maxHeartbeats 4000000

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

abbrev r0_0 : Rect S1x512x1024 := Rect.unit (s := S1x512x1024) ![0, 0, 0] S1x512x1024.size inb_S1x512x1024_S1x512x1024_0_0_0
abbrev r0_1 : Rect S1x1024 := Rect.unit (s := S1x1024) ![0, 0] S1x1024.size inb_S1x1024_S1x1024_0_0
abbrev r0_2 : Rect S1024x1536 := Rect.unit (s := S1024x1536) ![0, 0] S1024x512.size inb_S1024x1536_S1024x512_0_0
abbrev r0_3 : Rect S1x512x512 := Rect.unit (s := S1x512x512) ![0, 0, 0] S1x512x512.size inb_S1x512x512_S1x512x512_0_0_0
abbrev r0_4 : Rect S1024x1536 := Rect.unit (s := S1024x1536) ![0, 512] S1024x512.size inb_S1024x1536_S1024x512_0_512
abbrev r0_5 : Rect S1024x1536 := Rect.unit (s := S1024x1536) ![0, 1024] S1024x512.size inb_S1024x1536_S1024x512_0_1024
abbrev r0_6 : Rect S1024x768 := Rect.unit (s := S1024x768) ![0, 0] S1024x256.size inb_S1024x768_S1024x256_0_0
abbrev r0_7 : Rect S1x512x256 := Rect.unit (s := S1x512x256) ![0, 0, 0] S1x512x256.size inb_S1x512x256_S1x512x256_0_0_0
abbrev r0_8 : Rect S1024x768 := Rect.unit (s := S1024x768) ![0, 256] S1024x256.size inb_S1024x768_S1024x256_0_256
abbrev r0_9 : Rect S1x256x512 := Rect.unit (s := S1x256x512) ![0, 0, 0] S1x256x512.size inb_S1x256x512_S1x256x512_0_0_0
abbrev r0_10 : Rect S1024x768 := Rect.unit (s := S1024x768) ![0, 512] S1024x256.size inb_S1024x768_S1024x256_0_512
abbrev r0_11 : Rect S1024x512 := Rect.unit (s := S1024x512) ![0, 0] S1024x512.size inb_S1024x512_S1024x512_0_0
abbrev r0_12 : Rect S512x128 := Rect.unit (s := S512x128) ![0, 0] S512x128.size inb_S512x128_S512x128_0_0
abbrev r0_13 : Rect S1x256 := Rect.unit (s := S1x256) ![0, 0] S1x256.size inb_S1x256_S1x256_0_0
abbrev r0_14 : Rect S256x768 := Rect.unit (s := S256x768) ![0, 0] S256x768.size inb_S256x768_S256x768_0_0
abbrev r0_15 : Rect S128x512 := Rect.unit (s := S128x512) ![0, 0] S128x512.size inb_S128x512_S128x512_0_0
abbrev r0_16 : Rect S1x128 := Rect.unit (s := S1x128) ![0, 0] S1x128.size inb_S1x128_S1x128_0_0
abbrev r0_17 : Rect S1x512x128 := Rect.unit (s := S1x512x128) ![0, 0, 0] S1x512x128.size inb_S1x512x128_S1x512x128_0_0_0
abbrev r0_18 : Rect S1x512x32 := Rect.unit (s := S1x512x32) ![0, 0, 0] S1x512x32.size inb_S1x512x32_S1x512x32_0_0_0
abbrev r0_19 : Rect S32x512 := Rect.unit (s := S32x512) ![0, 0] S32x512.size inb_S32x512_S32x512_0_0
abbrev r0_20 : Rect S128x256 := Rect.unit (s := S128x256) ![0, 0] S128x256.size inb_S128x256_S128x256_0_0

def k0_pay32 (x0 : Vec F S1x512x1024 .f32) (x1 : Vec F S1x1024 .f32) (x2 : Vec F S512x128 .f32) (x3 : Vec F S512x128 .f32) (x4 : Vec F S1024x1536 .bf16) (x5 : Vec F S1024x768 .bf16) (x6 : Vec F S1024x512 .bf16) (x7 : Vec F S1x256 .f32) (x8 : Vec F S256x768 .bf16) (x9 : Vec F S128x512 .bf16) (x10 : Vec F S1x128 .f32) (x11 : Vec F S128x512 .bf16) (x12 : Vec F S32x512 .bf16) (x13 : Vec F S128x256 .bf16) : FVec F S512x1024 .bf16 :=
  k0_pay1 (View.ld x0 r0_0) (View.ld x1 r0_1)
def k0_pay33 (x0 : Vec F S1x512x1024 .f32) (x1 : Vec F S1x1024 .f32) (x2 : Vec F S512x128 .f32) (x3 : Vec F S512x128 .f32) (x4 : Vec F S1024x1536 .bf16) (x5 : Vec F S1024x768 .bf16) (x6 : Vec F S1024x512 .bf16) (x7 : Vec F S1x256 .f32) (x8 : Vec F S256x768 .bf16) (x9 : Vec F S128x512 .bf16) (x10 : Vec F S1x128 .f32) (x11 : Vec F S128x512 .bf16) (x12 : Vec F S32x512 .bf16) (x13 : Vec F S128x256 .bf16) : FVec F S512x512 .f32 :=
  k0_pay18 (k0_pay32 x0 x1 x2 x3 x4 x5 x6 x7 x8 x9 x10 x11 x12 x13) (View.ld x6 r0_11)
def k0_pay34 (x0 : Vec F S1x512x1024 .f32) (x1 : Vec F S1x1024 .f32) (x2 : Vec F S512x128 .f32) (x3 : Vec F S512x128 .f32) (x4 : Vec F S1024x1536 .bf16) (x5 : Vec F S1024x768 .bf16) (x6 : Vec F S1024x512 .bf16) (x7 : Vec F S1x256 .f32) (x8 : Vec F S256x768 .bf16) (x9 : Vec F S128x512 .bf16) (x10 : Vec F S1x128 .f32) (x11 : Vec F S128x512 .bf16) (x12 : Vec F S32x512 .bf16) (x13 : Vec F S128x256 .bf16) : FVec F S512x128 .f32 :=
  k0_pay19 (View.ld x2 r0_12)
def k0_pay35 (x0 : Vec F S1x512x1024 .f32) (x1 : Vec F S1x1024 .f32) (x2 : Vec F S512x128 .f32) (x3 : Vec F S512x128 .f32) (x4 : Vec F S1024x1536 .bf16) (x5 : Vec F S1024x768 .bf16) (x6 : Vec F S1024x512 .bf16) (x7 : Vec F S1x256 .f32) (x8 : Vec F S256x768 .bf16) (x9 : Vec F S128x512 .bf16) (x10 : Vec F S1x128 .f32) (x11 : Vec F S128x512 .bf16) (x12 : Vec F S32x512 .bf16) (x13 : Vec F S128x256 .bf16) : FVec F S512x128 .f32 :=
  k0_pay20 (View.ld x3 r0_12)
def k0_pay36 (x0 : Vec F S1x512x1024 .f32) (x1 : Vec F S1x1024 .f32) (x2 : Vec F S512x128 .f32) (x3 : Vec F S512x128 .f32) (x4 : Vec F S1024x1536 .bf16) (x5 : Vec F S1024x768 .bf16) (x6 : Vec F S1024x512 .bf16) (x7 : Vec F S1x256 .f32) (x8 : Vec F S256x768 .bf16) (x9 : Vec F S128x512 .bf16) (x10 : Vec F S1x128 .f32) (x11 : Vec F S128x512 .bf16) (x12 : Vec F S32x512 .bf16) (x13 : Vec F S128x256 .bf16) : FVec F S512x128 .f32 :=
  k0_pay25 (k0_pay33 x0 x1 x2 x3 x4 x5 x6 x7 x8 x9 x10 x11 x12 x13) (View.ld x10 r0_16)

def out0_14 (x0 : Vec F S1x512x1024 .f32) (x1 : Vec F S1x1024 .f32) (x2 : Vec F S512x128 .f32) (x3 : Vec F S512x128 .f32) (x4 : Vec F S1024x1536 .bf16) (x5 : Vec F S1024x768 .bf16) (x6 : Vec F S1024x512 .bf16) (x7 : Vec F S1x256 .f32) (x8 : Vec F S256x768 .bf16) (x9 : Vec F S128x512 .bf16) (x10 : Vec F S1x128 .f32) (x11 : Vec F S128x512 .bf16) (x12 : Vec F S32x512 .bf16) (x13 : Vec F S128x256 .bf16) : Vec F S1x512x512 .bf16 :=
  View.canon [⟨r0_3, k0_pay2 (View.ld x0 r0_0) (View.ld x1 r0_1) (View.ld x4 r0_2)⟩]

theorem cover0_14 (p0 : Vec F S1x512x512 .bf16) (y : S1x512x512.Idx) :
    ∃ pc ∈ ([⟨r0_3, p0⟩] : List (View.Piece (Elt F) S1x512x512 .bf16)), y ∈ pc.1.set :=
  View.cover_of_tiled [⟨r0_3, p0⟩] S1x512x512.size (by rfl) y

def out0_15 (x0 : Vec F S1x512x1024 .f32) (x1 : Vec F S1x1024 .f32) (x2 : Vec F S512x128 .f32) (x3 : Vec F S512x128 .f32) (x4 : Vec F S1024x1536 .bf16) (x5 : Vec F S1024x768 .bf16) (x6 : Vec F S1024x512 .bf16) (x7 : Vec F S1x256 .f32) (x8 : Vec F S256x768 .bf16) (x9 : Vec F S128x512 .bf16) (x10 : Vec F S1x128 .f32) (x11 : Vec F S128x512 .bf16) (x12 : Vec F S32x512 .bf16) (x13 : Vec F S128x256 .bf16) : Vec F S1x512x512 .f32 :=
  View.canon [⟨r0_3, k0_pay4 (View.ld x0 r0_0) (View.ld x1 r0_1) (View.ld x4 r0_4)⟩]

theorem cover0_15 (p0 : Vec F S1x512x512 .f32) (y : S1x512x512.Idx) :
    ∃ pc ∈ ([⟨r0_3, p0⟩] : List (View.Piece (Elt F) S1x512x512 .f32)), y ∈ pc.1.set :=
  View.cover_of_tiled [⟨r0_3, p0⟩] S1x512x512.size (by rfl) y

def out0_16 (x0 : Vec F S1x512x1024 .f32) (x1 : Vec F S1x1024 .f32) (x2 : Vec F S512x128 .f32) (x3 : Vec F S512x128 .f32) (x4 : Vec F S1024x1536 .bf16) (x5 : Vec F S1024x768 .bf16) (x6 : Vec F S1024x512 .bf16) (x7 : Vec F S1x256 .f32) (x8 : Vec F S256x768 .bf16) (x9 : Vec F S128x512 .bf16) (x10 : Vec F S1x128 .f32) (x11 : Vec F S128x512 .bf16) (x12 : Vec F S32x512 .bf16) (x13 : Vec F S128x256 .bf16) : Vec F S1x512x512 .bf16 :=
  View.canon [⟨r0_3, k0_pay6 (k0_pay5 (View.ld x0 r0_0) (View.ld x1 r0_1) (View.ld x4 r0_4))⟩]

theorem cover0_16 (p0 : Vec F S1x512x512 .bf16) (y : S1x512x512.Idx) :
    ∃ pc ∈ ([⟨r0_3, p0⟩] : List (View.Piece (Elt F) S1x512x512 .bf16)), y ∈ pc.1.set :=
  View.cover_of_tiled [⟨r0_3, p0⟩] S1x512x512.size (by rfl) y

def out0_17 (x0 : Vec F S1x512x1024 .f32) (x1 : Vec F S1x1024 .f32) (x2 : Vec F S512x128 .f32) (x3 : Vec F S512x128 .f32) (x4 : Vec F S1024x1536 .bf16) (x5 : Vec F S1024x768 .bf16) (x6 : Vec F S1024x512 .bf16) (x7 : Vec F S1x256 .f32) (x8 : Vec F S256x768 .bf16) (x9 : Vec F S128x512 .bf16) (x10 : Vec F S1x128 .f32) (x11 : Vec F S128x512 .bf16) (x12 : Vec F S32x512 .bf16) (x13 : Vec F S128x256 .bf16) : Vec F S1x512x512 .f32 :=
  View.canon [⟨r0_3, k0_pay8 (k0_pay32 x0 x1 x2 x3 x4 x5 x6 x7 x8 x9 x10 x11 x12 x13) (View.ld x4 r0_5)⟩]

theorem cover0_17 (p0 : Vec F S1x512x512 .f32) (y : S1x512x512.Idx) :
    ∃ pc ∈ ([⟨r0_3, p0⟩] : List (View.Piece (Elt F) S1x512x512 .f32)), y ∈ pc.1.set :=
  View.cover_of_tiled [⟨r0_3, p0⟩] S1x512x512.size (by rfl) y

def out0_18 (x0 : Vec F S1x512x1024 .f32) (x1 : Vec F S1x1024 .f32) (x2 : Vec F S512x128 .f32) (x3 : Vec F S512x128 .f32) (x4 : Vec F S1024x1536 .bf16) (x5 : Vec F S1024x768 .bf16) (x6 : Vec F S1024x512 .bf16) (x7 : Vec F S1x256 .f32) (x8 : Vec F S256x768 .bf16) (x9 : Vec F S128x512 .bf16) (x10 : Vec F S1x128 .f32) (x11 : Vec F S128x512 .bf16) (x12 : Vec F S32x512 .bf16) (x13 : Vec F S128x256 .bf16) : Vec F S1x512x512 .bf16 :=
  View.canon [⟨r0_3, k0_pay9 (k0_pay32 x0 x1 x2 x3 x4 x5 x6 x7 x8 x9 x10 x11 x12 x13) (View.ld x4 r0_5)⟩]

theorem cover0_18 (p0 : Vec F S1x512x512 .bf16) (y : S1x512x512.Idx) :
    ∃ pc ∈ ([⟨r0_3, p0⟩] : List (View.Piece (Elt F) S1x512x512 .bf16)), y ∈ pc.1.set :=
  View.cover_of_tiled [⟨r0_3, p0⟩] S1x512x512.size (by rfl) y

def out0_19 (x0 : Vec F S1x512x1024 .f32) (x1 : Vec F S1x1024 .f32) (x2 : Vec F S512x128 .f32) (x3 : Vec F S512x128 .f32) (x4 : Vec F S1024x1536 .bf16) (x5 : Vec F S1024x768 .bf16) (x6 : Vec F S1024x512 .bf16) (x7 : Vec F S1x256 .f32) (x8 : Vec F S256x768 .bf16) (x9 : Vec F S128x512 .bf16) (x10 : Vec F S1x128 .f32) (x11 : Vec F S128x512 .bf16) (x12 : Vec F S32x512 .bf16) (x13 : Vec F S128x256 .bf16) : Vec F S1x512x256 .bf16 :=
  View.canon [⟨r0_7, k0_pay10 (k0_pay32 x0 x1 x2 x3 x4 x5 x6 x7 x8 x9 x10 x11 x12 x13) (View.ld x5 r0_6)⟩]

theorem cover0_19 (p0 : Vec F S1x512x256 .bf16) (y : S1x512x256.Idx) :
    ∃ pc ∈ ([⟨r0_7, p0⟩] : List (View.Piece (Elt F) S1x512x256 .bf16)), y ∈ pc.1.set :=
  View.cover_of_tiled [⟨r0_7, p0⟩] S1x512x256.size (by rfl) y

def out0_20 (x0 : Vec F S1x512x1024 .f32) (x1 : Vec F S1x1024 .f32) (x2 : Vec F S512x128 .f32) (x3 : Vec F S512x128 .f32) (x4 : Vec F S1024x1536 .bf16) (x5 : Vec F S1024x768 .bf16) (x6 : Vec F S1024x512 .bf16) (x7 : Vec F S1x256 .f32) (x8 : Vec F S256x768 .bf16) (x9 : Vec F S128x512 .bf16) (x10 : Vec F S1x128 .f32) (x11 : Vec F S128x512 .bf16) (x12 : Vec F S32x512 .bf16) (x13 : Vec F S128x256 .bf16) : Vec F S1x256x512 .f32 :=
  View.canon [⟨r0_9, k0_pay12 (k0_pay32 x0 x1 x2 x3 x4 x5 x6 x7 x8 x9 x10 x11 x12 x13) (View.ld x5 r0_8)⟩]

theorem cover0_20 (p0 : Vec F S1x256x512 .f32) (y : S1x256x512.Idx) :
    ∃ pc ∈ ([⟨r0_9, p0⟩] : List (View.Piece (Elt F) S1x256x512 .f32)), y ∈ pc.1.set :=
  View.cover_of_tiled [⟨r0_9, p0⟩] S1x256x512.size (by rfl) y

def out0_21 (x0 : Vec F S1x512x1024 .f32) (x1 : Vec F S1x1024 .f32) (x2 : Vec F S512x128 .f32) (x3 : Vec F S512x128 .f32) (x4 : Vec F S1024x1536 .bf16) (x5 : Vec F S1024x768 .bf16) (x6 : Vec F S1024x512 .bf16) (x7 : Vec F S1x256 .f32) (x8 : Vec F S256x768 .bf16) (x9 : Vec F S128x512 .bf16) (x10 : Vec F S1x128 .f32) (x11 : Vec F S128x512 .bf16) (x12 : Vec F S32x512 .bf16) (x13 : Vec F S128x256 .bf16) : Vec F S1x512x256 .bf16 :=
  View.canon [⟨r0_7, k0_pay14 (k0_pay13 (k0_pay32 x0 x1 x2 x3 x4 x5 x6 x7 x8 x9 x10 x11 x12 x13) (View.ld x5 r0_8))⟩]

theorem cover0_21 (p0 : Vec F S1x512x256 .bf16) (y : S1x512x256.Idx) :
    ∃ pc ∈ ([⟨r0_7, p0⟩] : List (View.Piece (Elt F) S1x512x256 .bf16)), y ∈ pc.1.set :=
  View.cover_of_tiled [⟨r0_7, p0⟩] S1x512x256.size (by rfl) y

def out0_22 (x0 : Vec F S1x512x1024 .f32) (x1 : Vec F S1x1024 .f32) (x2 : Vec F S512x128 .f32) (x3 : Vec F S512x128 .f32) (x4 : Vec F S1024x1536 .bf16) (x5 : Vec F S1024x768 .bf16) (x6 : Vec F S1024x512 .bf16) (x7 : Vec F S1x256 .f32) (x8 : Vec F S256x768 .bf16) (x9 : Vec F S128x512 .bf16) (x10 : Vec F S1x128 .f32) (x11 : Vec F S128x512 .bf16) (x12 : Vec F S32x512 .bf16) (x13 : Vec F S128x256 .bf16) : Vec F S1x256x512 .f32 :=
  View.canon [⟨r0_9, k0_pay16 (k0_pay32 x0 x1 x2 x3 x4 x5 x6 x7 x8 x9 x10 x11 x12 x13) (View.ld x5 r0_10)⟩]

theorem cover0_22 (p0 : Vec F S1x256x512 .f32) (y : S1x256x512.Idx) :
    ∃ pc ∈ ([⟨r0_9, p0⟩] : List (View.Piece (Elt F) S1x256x512 .f32)), y ∈ pc.1.set :=
  View.cover_of_tiled [⟨r0_9, p0⟩] S1x256x512.size (by rfl) y

def out0_23 (x0 : Vec F S1x512x1024 .f32) (x1 : Vec F S1x1024 .f32) (x2 : Vec F S512x128 .f32) (x3 : Vec F S512x128 .f32) (x4 : Vec F S1024x1536 .bf16) (x5 : Vec F S1024x768 .bf16) (x6 : Vec F S1024x512 .bf16) (x7 : Vec F S1x256 .f32) (x8 : Vec F S256x768 .bf16) (x9 : Vec F S128x512 .bf16) (x10 : Vec F S1x128 .f32) (x11 : Vec F S128x512 .bf16) (x12 : Vec F S32x512 .bf16) (x13 : Vec F S128x256 .bf16) : Vec F S1x256x512 .bf16 :=
  View.canon [⟨r0_9, k0_pay17 (k0_pay32 x0 x1 x2 x3 x4 x5 x6 x7 x8 x9 x10 x11 x12 x13) (View.ld x5 r0_10)⟩]

theorem cover0_23 (p0 : Vec F S1x256x512 .bf16) (y : S1x256x512.Idx) :
    ∃ pc ∈ ([⟨r0_9, p0⟩] : List (View.Piece (Elt F) S1x256x512 .bf16)), y ∈ pc.1.set :=
  View.cover_of_tiled [⟨r0_9, p0⟩] S1x256x512.size (by rfl) y

def out0_24 (x0 : Vec F S1x512x1024 .f32) (x1 : Vec F S1x1024 .f32) (x2 : Vec F S512x128 .f32) (x3 : Vec F S512x128 .f32) (x4 : Vec F S1024x1536 .bf16) (x5 : Vec F S1024x768 .bf16) (x6 : Vec F S1024x512 .bf16) (x7 : Vec F S1x256 .f32) (x8 : Vec F S256x768 .bf16) (x9 : Vec F S128x512 .bf16) (x10 : Vec F S1x128 .f32) (x11 : Vec F S128x512 .bf16) (x12 : Vec F S32x512 .bf16) (x13 : Vec F S128x256 .bf16) : Vec F S1x512x512 .bf16 :=
  View.canon [⟨r0_3, k0_pay24 (k0_pay34 x0 x1 x2 x3 x4 x5 x6 x7 x8 x9 x10 x11 x12 x13) (k0_pay35 x0 x1 x2 x3 x4 x5 x6 x7 x8 x9 x10 x11 x12 x13) (k0_pay21 (k0_pay32 x0 x1 x2 x3 x4 x5 x6 x7 x8 x9 x10 x11 x12 x13) (View.ld x6 r0_11)) (k0_pay22 (View.ld x7 r0_13)) (k0_pay23 (k0_pay32 x0 x1 x2 x3 x4 x5 x6 x7 x8 x9 x10 x11 x12 x13) (View.ld x6 r0_11)) (View.ld x8 r0_14) (View.ld x9 r0_15)⟩]

theorem cover0_24 (p0 : Vec F S1x512x512 .bf16) (y : S1x512x512.Idx) :
    ∃ pc ∈ ([⟨r0_3, p0⟩] : List (View.Piece (Elt F) S1x512x512 .bf16)), y ∈ pc.1.set :=
  View.cover_of_tiled [⟨r0_3, p0⟩] S1x512x512.size (by rfl) y

def out0_25 (x0 : Vec F S1x512x1024 .f32) (x1 : Vec F S1x1024 .f32) (x2 : Vec F S512x128 .f32) (x3 : Vec F S512x128 .f32) (x4 : Vec F S1024x1536 .bf16) (x5 : Vec F S1024x768 .bf16) (x6 : Vec F S1024x512 .bf16) (x7 : Vec F S1x256 .f32) (x8 : Vec F S256x768 .bf16) (x9 : Vec F S128x512 .bf16) (x10 : Vec F S1x128 .f32) (x11 : Vec F S128x512 .bf16) (x12 : Vec F S32x512 .bf16) (x13 : Vec F S128x256 .bf16) : Vec F S1x512x128 .f32 :=
  View.canon [⟨r0_17, k0_pay26 (k0_pay36 x0 x1 x2 x3 x4 x5 x6 x7 x8 x9 x10 x11 x12 x13)⟩]

theorem cover0_25 (p0 : Vec F S1x512x128 .f32) (y : S1x512x128.Idx) :
    ∃ pc ∈ ([⟨r0_17, p0⟩] : List (View.Piece (Elt F) S1x512x128 .f32)), y ∈ pc.1.set :=
  View.cover_of_tiled [⟨r0_17, p0⟩] S1x512x128.size (by rfl) y

def out0_26 (x0 : Vec F S1x512x1024 .f32) (x1 : Vec F S1x1024 .f32) (x2 : Vec F S512x128 .f32) (x3 : Vec F S512x128 .f32) (x4 : Vec F S1024x1536 .bf16) (x5 : Vec F S1024x768 .bf16) (x6 : Vec F S1024x512 .bf16) (x7 : Vec F S1x256 .f32) (x8 : Vec F S256x768 .bf16) (x9 : Vec F S128x512 .bf16) (x10 : Vec F S1x128 .f32) (x11 : Vec F S128x512 .bf16) (x12 : Vec F S32x512 .bf16) (x13 : Vec F S128x256 .bf16) : Vec F S1x512x32 .f32 :=
  View.canon [⟨r0_18, k0_pay28 (k0_pay33 x0 x1 x2 x3 x4 x5 x6 x7 x8 x9 x10 x11 x12 x13) (k0_pay34 x0 x1 x2 x3 x4 x5 x6 x7 x8 x9 x10 x11 x12 x13) (k0_pay35 x0 x1 x2 x3 x4 x5 x6 x7 x8 x9 x10 x11 x12 x13)⟩]

theorem cover0_26 (p0 : Vec F S1x512x32 .f32) (y : S1x512x32.Idx) :
    ∃ pc ∈ ([⟨r0_18, p0⟩] : List (View.Piece (Elt F) S1x512x32 .f32)), y ∈ pc.1.set :=
  View.cover_of_tiled [⟨r0_18, p0⟩] S1x512x32.size (by rfl) y

def out0_27 (x0 : Vec F S1x512x1024 .f32) (x1 : Vec F S1x1024 .f32) (x2 : Vec F S512x128 .f32) (x3 : Vec F S512x128 .f32) (x4 : Vec F S1024x1536 .bf16) (x5 : Vec F S1024x768 .bf16) (x6 : Vec F S1024x512 .bf16) (x7 : Vec F S1x256 .f32) (x8 : Vec F S256x768 .bf16) (x9 : Vec F S128x512 .bf16) (x10 : Vec F S1x128 .f32) (x11 : Vec F S128x512 .bf16) (x12 : Vec F S32x512 .bf16) (x13 : Vec F S128x256 .bf16) : Vec F S1x512x512 .bf16 :=
  View.canon [⟨r0_3, k0_pay30 (k0_pay33 x0 x1 x2 x3 x4 x5 x6 x7 x8 x9 x10 x11 x12 x13) (k0_pay34 x0 x1 x2 x3 x4 x5 x6 x7 x8 x9 x10 x11 x12 x13) (k0_pay35 x0 x1 x2 x3 x4 x5 x6 x7 x8 x9 x10 x11 x12 x13) (k0_pay36 x0 x1 x2 x3 x4 x5 x6 x7 x8 x9 x10 x11 x12 x13) (View.ld x11 r0_15) (View.ld x12 r0_19)⟩]

theorem cover0_27 (p0 : Vec F S1x512x512 .bf16) (y : S1x512x512.Idx) :
    ∃ pc ∈ ([⟨r0_3, p0⟩] : List (View.Piece (Elt F) S1x512x512 .bf16)), y ∈ pc.1.set :=
  View.cover_of_tiled [⟨r0_3, p0⟩] S1x512x512.size (by rfl) y

def out0_28 (x0 : Vec F S1x512x1024 .f32) (x1 : Vec F S1x1024 .f32) (x2 : Vec F S512x128 .f32) (x3 : Vec F S512x128 .f32) (x4 : Vec F S1024x1536 .bf16) (x5 : Vec F S1024x768 .bf16) (x6 : Vec F S1024x512 .bf16) (x7 : Vec F S1x256 .f32) (x8 : Vec F S256x768 .bf16) (x9 : Vec F S128x512 .bf16) (x10 : Vec F S1x128 .f32) (x11 : Vec F S128x512 .bf16) (x12 : Vec F S32x512 .bf16) (x13 : Vec F S128x256 .bf16) : Vec F S1x256x512 .bf16 :=
  View.canon [⟨r0_9, k0_pay31 (k0_pay36 x0 x1 x2 x3 x4 x5 x6 x7 x8 x9 x10 x11 x12 x13) (View.ld x13 r0_20)⟩]

theorem cover0_28 (p0 : Vec F S1x256x512 .bf16) (y : S1x256x512.Idx) :
    ∃ pc ∈ ([⟨r0_9, p0⟩] : List (View.Piece (Elt F) S1x256x512 .bf16)), y ∈ pc.1.set :=
  View.cover_of_tiled [⟨r0_9, p0⟩] S1x256x512.size (by rfl) y

theorem sound_kernel (c : Dev nD) (E : Set ℕ) (i : grid0.Coords) (arg2 : Memref sig .tc .vmem S1x512x1024 .f32) (harg2 : arg2.IsWhole) (arg3 : Memref sig .tc .vmem S1x1024 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1024x1536 .bf16) (harg6 : arg6.IsWhole) (arg7 : Memref sig .tc .vmem S1024x768 .bf16) (harg7 : arg7.IsWhole) (arg8 : Memref sig .tc .vmem S1024x512 .bf16) (harg8 : arg8.IsWhole) (arg9 : Memref sig .tc .vmem S1x256 .f32) (harg9 : arg9.IsWhole) (arg10 : Memref sig .tc .vmem S256x768 .bf16) (harg10 : arg10.IsWhole) (arg11 : Memref sig .tc .vmem S128x512 .bf16) (harg11 : arg11.IsWhole) (arg12 : Memref sig .tc .vmem S1x128 .f32) (harg12 : arg12.IsWhole) (arg13 : Memref sig .tc .vmem S128x512 .bf16) (harg13 : arg13.IsWhole) (arg14 : Memref sig .tc .vmem S32x512 .bf16) (harg14 : arg14.IsWhole) (arg15 : Memref sig .tc .vmem S128x256 .bf16) (harg15 : arg15.IsWhole) (arg16 : Memref sig .tc .vmem S1x512x512 .bf16) (harg16 : arg16.IsWhole) (arg17 : Memref sig .tc .vmem S1x512x512 .f32) (harg17 : arg17.IsWhole) (arg18 : Memref sig .tc .vmem S1x512x512 .bf16) (harg18 : arg18.IsWhole) (arg19 : Memref sig .tc .vmem S1x512x512 .f32) (harg19 : arg19.IsWhole) (arg20 : Memref sig .tc .vmem S1x512x512 .bf16) (harg20 : arg20.IsWhole) (arg21 : Memref sig .tc .vmem S1x512x256 .bf16) (harg21 : arg21.IsWhole) (arg22 : Memref sig .tc .vmem S1x256x512 .f32) (harg22 : arg22.IsWhole) (arg23 : Memref sig .tc .vmem S1x512x256 .bf16) (harg23 : arg23.IsWhole) (arg24 : Memref sig .tc .vmem S1x256x512 .f32) (harg24 : arg24.IsWhole) (arg25 : Memref sig .tc .vmem S1x256x512 .bf16) (harg25 : arg25.IsWhole) (arg26 : Memref sig .tc .vmem S1x512x512 .bf16) (harg26 : arg26.IsWhole) (arg27 : Memref sig .tc .vmem S1x512x128 .f32) (harg27 : arg27.IsWhole) (arg28 : Memref sig .tc .vmem S1x512x32 .f32) (harg28 : arg28.IsWhole) (arg29 : Memref sig .tc .vmem S1x512x512 .bf16) (harg29 : arg29.IsWhole) (arg30 : Memref sig .tc .vmem S1x256x512 .bf16) (harg30 : arg30.IsWhole)
    (x0 : Vec F S1x512x1024 .f32) (x1 : Vec F S1x1024 .f32) (x2 : Vec F S512x128 .f32) (x3 : Vec F S512x128 .f32) (x4 : Vec F S1024x1536 .bf16) (x5 : Vec F S1024x768 .bf16) (x6 : Vec F S1024x512 .bf16) (x7 : Vec F S1x256 .f32) (x8 : Vec F S256x768 .bf16) (x9 : Vec F S128x512 .bf16) (x10 : Vec F S1x128 .f32) (x11 : Vec F S128x512 .bf16) (x12 : Vec F S32x512 .bf16) (x13 : Vec F S128x256 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (out0_14 x0 x1 x2 x3 x4 x5 x6 x7 x8 x9 x10 x11 x12 x13) ∗ owns (c : Thread nD τ) arg17 fullShare (out0_15 x0 x1 x2 x3 x4 x5 x6 x7 x8 x9 x10 x11 x12 x13) ∗ owns (c : Thread nD τ) arg18 fullShare (out0_16 x0 x1 x2 x3 x4 x5 x6 x7 x8 x9 x10 x11 x12 x13) ∗ owns (c : Thread nD τ) arg19 fullShare (out0_17 x0 x1 x2 x3 x4 x5 x6 x7 x8 x9 x10 x11 x12 x13) ∗ owns (c : Thread nD τ) arg20 fullShare (out0_18 x0 x1 x2 x3 x4 x5 x6 x7 x8 x9 x10 x11 x12 x13) ∗ owns (c : Thread nD τ) arg21 fullShare (out0_19 x0 x1 x2 x3 x4 x5 x6 x7 x8 x9 x10 x11 x12 x13) ∗ owns (c : Thread nD τ) arg22 fullShare (out0_20 x0 x1 x2 x3 x4 x5 x6 x7 x8 x9 x10 x11 x12 x13) ∗ owns (c : Thread nD τ) arg23 fullShare (out0_21 x0 x1 x2 x3 x4 x5 x6 x7 x8 x9 x10 x11 x12 x13) ∗ owns (c : Thread nD τ) arg24 fullShare (out0_22 x0 x1 x2 x3 x4 x5 x6 x7 x8 x9 x10 x11 x12 x13) ∗ owns (c : Thread nD τ) arg25 fullShare (out0_23 x0 x1 x2 x3 x4 x5 x6 x7 x8 x9 x10 x11 x12 x13) ∗ owns (c : Thread nD τ) arg26 fullShare (out0_24 x0 x1 x2 x3 x4 x5 x6 x7 x8 x9 x10 x11 x12 x13) ∗ owns (c : Thread nD τ) arg27 fullShare (out0_25 x0 x1 x2 x3 x4 x5 x6 x7 x8 x9 x10 x11 x12 x13) ∗ owns (c : Thread nD τ) arg28 fullShare (out0_26 x0 x1 x2 x3 x4 x5 x6 x7 x8 x9 x10 x11 x12 x13) ∗ owns (c : Thread nD τ) arg29 fullShare (out0_27 x0 x1 x2 x3 x4 x5 x6 x7 x8 x9 x10 x11 x12 x13) ∗ owns (c : Thread nD τ) arg30 fullShare (out0_28 x0 x1 x2 x3 x4 x5 x6 x7 x8 x9 x10 x11 x12 x13)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_inproj_eq_skeleton]; unfold cc0_inproj_skel
  simp only [k0_part5_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  iexists _; isplitr
  swap; · iexact H28
  ipureintro
  refine (View.read_writes_eq_canon _ _ _ (cover0_28 _)).trans ?_
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨_ + 29, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  iintro ⟨H0, H1, H2, H3, H4, H5, H6, H7, H8, H9, H10, H11, H12, H13, H14, H15, H16, H17, H18, H19, H20, H21, H22, H23, H24, H25, H26, H27, H28⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel4Ideal.Gen

end
-- ==== Proof.Proj.Value.lean ====
/- What the input projection's result arrays hold when it returns: the blocks that the grid points leave. -/
module

public import proofs.«01_k».proof.Proof.Proj.Frame
public import Idealize.ShloMosaic.Lib.Pipeline.Value

@[expose] public section

noncomputable section

namespace Cert.Kernel4Ideal.Value

open Cert.Kernel4Ideal Cert.Kernel4Ideal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

theorem post14 (r : PUnit × MemSt nD τ sig (Elt F)) (h : Pipeline.FramePost cfgs (dats m) 0 (V m) r) (c : Dev nD) :
    r.2.mem ((c : Thread nD τ).loc main_v80_0) = (dats m 0 c).arrAt 14 cfg0.N :=
  (h c).1 14

theorem post15 (r : PUnit × MemSt nD τ sig (Elt F)) (h : Pipeline.FramePost cfgs (dats m) 0 (V m) r) (c : Dev nD) :
    r.2.mem ((c : Thread nD τ).loc main_v80_1) = (dats m 0 c).arrAt 15 cfg0.N :=
  (h c).1 15

theorem post16 (r : PUnit × MemSt nD τ sig (Elt F)) (h : Pipeline.FramePost cfgs (dats m) 0 (V m) r) (c : Dev nD) :
    r.2.mem ((c : Thread nD τ).loc main_v80_2) = (dats m 0 c).arrAt 16 cfg0.N :=
  (h c).1 16

theorem post17 (r : PUnit × MemSt nD τ sig (Elt F)) (h : Pipeline.FramePost cfgs (dats m) 0 (V m) r) (c : Dev nD) :
    r.2.mem ((c : Thread nD τ).loc main_v80_3) = (dats m 0 c).arrAt 17 cfg0.N :=
  (h c).1 17

theorem post18 (r : PUnit × MemSt nD τ sig (Elt F)) (h : Pipeline.FramePost cfgs (dats m) 0 (V m) r) (c : Dev nD) :
    r.2.mem ((c : Thread nD τ).loc main_v80_4) = (dats m 0 c).arrAt 18 cfg0.N :=
  (h c).1 18

theorem post19 (r : PUnit × MemSt nD τ sig (Elt F)) (h : Pipeline.FramePost cfgs (dats m) 0 (V m) r) (c : Dev nD) :
    r.2.mem ((c : Thread nD τ).loc main_v80_5) = (dats m 0 c).arrAt 19 cfg0.N :=
  (h c).1 19

theorem post20 (r : PUnit × MemSt nD τ sig (Elt F)) (h : Pipeline.FramePost cfgs (dats m) 0 (V m) r) (c : Dev nD) :
    r.2.mem ((c : Thread nD τ).loc main_v80_6) = (dats m 0 c).arrAt 20 cfg0.N :=
  (h c).1 20

theorem post21 (r : PUnit × MemSt nD τ sig (Elt F)) (h : Pipeline.FramePost cfgs (dats m) 0 (V m) r) (c : Dev nD) :
    r.2.mem ((c : Thread nD τ).loc main_v80_7) = (dats m 0 c).arrAt 21 cfg0.N :=
  (h c).1 21

theorem post22 (r : PUnit × MemSt nD τ sig (Elt F)) (h : Pipeline.FramePost cfgs (dats m) 0 (V m) r) (c : Dev nD) :
    r.2.mem ((c : Thread nD τ).loc main_v80_8) = (dats m 0 c).arrAt 22 cfg0.N :=
  (h c).1 22

theorem post23 (r : PUnit × MemSt nD τ sig (Elt F)) (h : Pipeline.FramePost cfgs (dats m) 0 (V m) r) (c : Dev nD) :
    r.2.mem ((c : Thread nD τ).loc main_v80_9) = (dats m 0 c).arrAt 23 cfg0.N :=
  (h c).1 23

theorem post24 (r : PUnit × MemSt nD τ sig (Elt F)) (h : Pipeline.FramePost cfgs (dats m) 0 (V m) r) (c : Dev nD) :
    r.2.mem ((c : Thread nD τ).loc main_v80_10) = (dats m 0 c).arrAt 24 cfg0.N :=
  (h c).1 24

theorem post25 (r : PUnit × MemSt nD τ sig (Elt F)) (h : Pipeline.FramePost cfgs (dats m) 0 (V m) r) (c : Dev nD) :
    r.2.mem ((c : Thread nD τ).loc main_v80_11) = (dats m 0 c).arrAt 25 cfg0.N :=
  (h c).1 25

theorem post26 (r : PUnit × MemSt nD τ sig (Elt F)) (h : Pipeline.FramePost cfgs (dats m) 0 (V m) r) (c : Dev nD) :
    r.2.mem ((c : Thread nD τ).loc main_v80_12) = (dats m 0 c).arrAt 26 cfg0.N :=
  (h c).1 26

theorem post27 (r : PUnit × MemSt nD τ sig (Elt F)) (h : Pipeline.FramePost cfgs (dats m) 0 (V m) r) (c : Dev nD) :
    r.2.mem ((c : Thread nD τ).loc main_v80_13) = (dats m 0 c).arrAt 27 cfg0.N :=
  (h c).1 27

theorem post28 (r : PUnit × MemSt nD τ sig (Elt F)) (h : Pipeline.FramePost cfgs (dats m) 0 (V m) r) (c : Dev nD) :
    r.2.mem ((c : Thread nD τ).loc main_v80_14) = (dats m 0 c).arrAt 28 cfg0.N :=
  (h c).1 28

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

set_option maxHeartbeats 535860 in
theorem run_blocks : θ_run defs (onTc (τ := τ) (main (F := F))) ⟨m, fun _ => 0, ρ⟩ fun r => ∀ c : Dev nD,
      r.2.mem ((c : Thread nD τ).loc main_v80_0) = (dats m 0 c).arrAt 14 cfg0.N
      ∧ r.2.mem ((c : Thread nD τ).loc main_v80_1) = (dats m 0 c).arrAt 15 cfg0.N
      ∧ r.2.mem ((c : Thread nD τ).loc main_v80_2) = (dats m 0 c).arrAt 16 cfg0.N
      ∧ r.2.mem ((c : Thread nD τ).loc main_v80_3) = (dats m 0 c).arrAt 17 cfg0.N
      ∧ r.2.mem ((c : Thread nD τ).loc main_v80_4) = (dats m 0 c).arrAt 18 cfg0.N
      ∧ r.2.mem ((c : Thread nD τ).loc main_v80_5) = (dats m 0 c).arrAt 19 cfg0.N
      ∧ r.2.mem ((c : Thread nD τ).loc main_v80_6) = (dats m 0 c).arrAt 20 cfg0.N
      ∧ r.2.mem ((c : Thread nD τ).loc main_v80_7) = (dats m 0 c).arrAt 21 cfg0.N
      ∧ r.2.mem ((c : Thread nD τ).loc main_v80_8) = (dats m 0 c).arrAt 22 cfg0.N
      ∧ r.2.mem ((c : Thread nD τ).loc main_v80_9) = (dats m 0 c).arrAt 23 cfg0.N
      ∧ r.2.mem ((c : Thread nD τ).loc main_v80_10) = (dats m 0 c).arrAt 24 cfg0.N
      ∧ r.2.mem ((c : Thread nD τ).loc main_v80_11) = (dats m 0 c).arrAt 25 cfg0.N
      ∧ r.2.mem ((c : Thread nD τ).loc main_v80_12) = (dats m 0 c).arrAt 26 cfg0.N
      ∧ r.2.mem ((c : Thread nD τ).loc main_v80_13) = (dats m 0 c).arrAt 27 cfg0.N
      ∧ r.2.mem ((c : Thread nD τ).loc main_v80_14) = (dats m 0 c).arrAt 28 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post14 m r h c,
      post15 m r h c,
      post16 m r h c,
      post17 m r h c,
      post18 m r h c,
      post19 m r h c,
      post20 m r h c,
      post21 m r h c,
      post22 m r h c,
      post23 m r h c,
      post24 m r h c,
      post25 m r h c,
      post26 m r h c,
      post27 m r h c,
      post28 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.Kernel4Ideal.Value

end
-- ==== Proof.Attn.Bucket.lean ====
/- The relative-position bucket, as a function of the integers. -/
module

public import Idealize.ShloMosaic.PureOps.Ideal

@[expose] public section

namespace Cert.Attn

/-- The bucket of a relative position: positive ones from 16 on; within each half the distance itself below 8, and
    from there half a bucket for each doubling, up to 15. -/
def bucket (rel : ℤ) : ℕ :=
  (if 0 < rel then 16 else 0) + (if rel.natAbs < 8 then rel.natAbs else min (Nat.log2 (rel.natAbs * rel.natAbs) + 2) 15)

theorem bucket_lt (rel : ℤ) : bucket rel < 32 := by
  unfold bucket
  split_ifs <;> omega

/-- Everything at least a tile below lies in one bucket. -/
theorem bucket_far {rel : ℤ} (h : rel ≤ -256) : bucket rel = 15 := by
  have hn : 256 ≤ rel.natAbs := by omega
  have hl : 16 ≤ Nat.log2 (rel.natAbs * rel.natAbs) := by
    rw [Nat.le_log2 (by positivity)]
    nlinarith
  unfold bucket
  rw [if_neg (by omega), if_neg (by omega), min_eq_right (by omega)]

end Cert.Attn
-- ==== Proof.Attn.ChunkWord.lean ====
/- The number of the chunk a position lies in, as a word. -/
module

public import Idealize.ShloMosaic.PureOps
public import Idealize.ShloMosaic.Lib.Pointwise

@[expose] public section

namespace Cert.Attn

open Idealize.ShloMosaic

/-- The quotient by 64 rounded down, as the host code computes it. -/
def chunk (x : BitVec 32) : BitVec 32 :=
  let k : BitVec 32 := 64#32
  let sgn : BitVec 32 → BitVec 32 := fun x => if x = 0 then 0 else if x.msb = true then -1 else 1
  Scalar.select (IntOp.andi (IntOp.cmpi .ne (sgn x) (sgn k)) (IntOp.cmpi .ne (IntOp.remsi .host x k) 0#32))
    (IntOp.subi (IntOp.divsi .host x k) 1#32) (IntOp.divsi .host x k)

theorem chunk_apply (n : Fin 2048) : chunk (BitVec.ofNat 32 n.val) = BitVec.ofNat 32 (n.val / 64) := by
  revert n
  decide +kernel

theorem cmpi_sle_ofNat {a b : ℕ} (ha : a < 2 ^ 31) (hb : b < 2 ^ 31) :
    IntOp.cmpi .sle (BitVec.ofNat 32 a) (BitVec.ofNat 32 b) = BitVec.ofBool (decide (a ≤ b)) := by
  simp only [IntOp.cmpi, BitVec.sle]
  congr 2
  rw [BitVec.toInt_eq_toNat_of_lt, BitVec.toInt_eq_toNat_of_lt] <;> simp [BitVec.toNat_ofNat] <;> omega

end Cert.Attn
-- ==== Proof.Attn.Codes.lean ====
/- The host code's bucket numbers: the words it computes, and what they are. -/
module

public import proofs.«01_k».proof.Proof.Gen.KernelIdeal.Frame
public import proofs.«01_k».proof.Proof.Attn.Bucket
public import proofs.«01_k».proof.Proof.Attn.ChunkWord
public import Idealize.ShloMosaic.Lib.Pointwise
public import Idealize.ShloMosaic.Lib.Routing.Ops

@[expose] public section

noncomputable section

namespace Cert.Attn

open Cert.KernelIdeal Cert.KernelIdeal.Gen Idealize.ShloMosaic

/-- The relative positions of a strip of 512, starting at `d` and wrapping round half way. -/
def distances (d : BitVec 32) : IVec S512 32 :=
  subi (addi (broadcastInDim S512 ![] bcast_S_S512 (constantI S_ 32 d)) (iotaInDim S512 32 0))
    (id (muli (broadcastInDim S512 ![] bcast_S_S512 (constantI S_ 32 512#32))
      (extui 32 (cmpi .sge (iotaInDim S512 32 0) (broadcastInDim S512 ![] bcast_S_S512 (constantI S_ 32 256#32))) natLt_1_32)))

/-- The bucket numbers of relative positions, as the host code computes them; `b` makes a constant array. -/
def codes {s : Shape} (b : BitVec 32 → IVec s 32) (rel : IVec s 32) : IVec s 32 :=
  addi (id (select (cmpi .sgt rel (b 0#32)) (b 16#32) (b 0#32)))
    (select (cmpi .slt (absi rel) (b 8#32)) (absi rel)
      (minsi (addi (subi (b 31#32) (ctlz (maxsi (muli (absi rel) (absi rel)) (b 1#32)))) (b 2#32)) (b 15#32)))

/-- A row number, a negative one counted from the table's end. -/
def rowNumber {s : Shape} (b : BitVec 32 → IVec s 32) (x : IVec s 32) : IVec s 32 :=
  select (cmpi .slt x (b 0#32)) (addi x (b 32#32)) x

/-- The constant arrays of 512 words. -/
def same512 (x : BitVec 32) : IVec S512 32 := broadcastInDim S512 ![] bcast_S_S512 (constantI S_ 32 x)

/-- The constant arrays of one word. -/
def same1 (x : BitVec 32) : IVec S1 32 := broadcastInDim S1 ![] bcast_S_S1 (constantI S_ 32 x)

/-- The row numbers of a strip. -/
def stripRows (d : BitVec 32) : IVec S512 32 := rowNumber same512 (codes same512 (distances d))

/-- The row number of a relative position far below. -/
def farRow : IVec S1 32 := rowNumber same1 (codes same1 (same1 4294967039#32))

/-- The relative position at entry `n` of a strip starting at `d`. -/
def distance (d : ℤ) (n : ℕ) : ℤ := d + n - (if 256 ≤ n then 512 else 0)

theorem stripRows_zero (n : Fin 512) : stripRows 0#32 (ix1 n) = BitVec.ofNat 32 (bucket (distance 0 n.val)) := by
  revert n
  decide +kernel

theorem stripRows_back (n : Fin 512) : stripRows 4294967040#32 (ix1 n) = BitVec.ofNat 32 (bucket (distance (-256) n.val)) := by
  revert n
  decide +kernel

theorem farRow_apply : farRow (ix1 (0 : Fin 1)) = BitVec.ofNat 32 15 := by
  decide +kernel

end Cert.Attn
-- ==== Proof.Attn.Host.lean ====
/- The arrays the call receives, as elements of the arguments. -/
module

public import proofs.«01_k».proof.Proof.Gen.KernelIdeal.Frame
public import proofs.«01_k».proof.Proof.Attn.Codes
public import Idealize.ShloMosaic.Lib.StableHlo.ReadAt
public import Idealize.ShloMosaic.Lib.Pointwise
public import Idealize.ShloMosaic.Lib.Claim

@[expose] public section

noncomputable section

namespace Cert.Attn

open Cert.KernelIdeal Cert.KernelIdeal.Gen Idealize.ShloMosaic Idealize.SL.Sem

/-- The bias of a strip's entry less the bias far below. -/
def stripBias (x7 : Vec Ideal S32x8 .f32) (rows : IVec S512 32) (n : Fin 512) (h : Fin 8) : EReal :=
  (Host.gather gather_S32x8_S512x1_S512x8_1_0_n_n_0_1_18 x7 (broadcastInDim S512x1 ![0] bcast_S512_S512x1_0 rows) (ix2 n h) : EReal)
    - Host.gather gather_S32x8_S1x1_S1x8_1_0_n_n_0_1_18 x7 (broadcastInDim S1x1 ![0] bcast_S1_S1x1_0 farRow) (ix2 0 h)

theorem stripBias_apply (x7 : Vec Ideal S32x8 .f32) (rows : IVec S512 32) (n : Fin 512) (h : Fin 8) (b : Fin 32)
    (hb : rows (ix1 n) = BitVec.ofNat 32 b.val) :
    stripBias x7 rows n h = x7 (ix2 b h) - x7 (ix2 (15 : Fin 32) h) := by
  refine congrArg₂ (fun a b : EReal => a - b) (Routing.gather_row gather_S32x8_S512x1_S512x8_1_0_n_n_0_1_18 rfl rfl rfl rfl rfl x7 _ n h b ?_ (by norm_num))
    (Routing.gather_row gather_S32x8_S1x1_S1x8_1_0_n_n_0_1_18 rfl rfl rfl rfl rfl x7 _ 0 h (15 : Fin 32) ?_ (by norm_num))
  · refine Eq.trans ?_ hb
    pointwise
  · refine Eq.trans ?_ farRow_apply
    pointwise

variable (m : (x : Loc nD τ sig) → Buf (Elt Ideal) x) (c : Dev nD)

theorem V_subln (l : Fin 128) : (V (F := Ideal) m c main_v5 : Vec Ideal S1x128 .f32) (ix2 0 l) =
    m (c, Proc.tc.devRef main_arg6) (ix1 ⟨l.val % 64, Nat.mod_lt _ (by norm_num)⟩) := by
  unfold V
  after_reads_at

theorem V_lam (i : Fin 5) (l : Fin 32) : (V (F := Ideal) m c main_v1 : Vec Ideal S5x32 .f32) (ix2 i l) =
    if h : i.val < 4 then m (c, Proc.tc.devRef main_arg5) (ix2 (⟨i.val, h⟩ : Fin 4) l) else Ideal.ofBits .f32 1052116297#32 := by
  unfold V
  after_reads_at

theorem V_q (b : Fin 32) (q : Fin 2048) (f : Fin 512) : (V (F := Ideal) m c main_v7 : Vec Ideal S32x2048x512 .bf16) (ix3 b q f) =
    m (c, Proc.tc.devRef main_arg0) (ix5 b q (⟨f.val / 64, by omega⟩ : Fin 8) (⟨f.val / 32 % 2, by omega⟩ : Fin 2) (⟨f.val % 32, by omega⟩ : Fin 32)) := by
  unfold V
  after_reads_at

theorem V_k (b : Fin 32) (q : Fin 2048) (f : Fin 512) : (V (F := Ideal) m c main_v9 : Vec Ideal S32x2048x512 .bf16) (ix3 b q f) =
    m (c, Proc.tc.devRef main_arg1) (ix4 b q (⟨f.val / 64, by omega⟩ : Fin 8) (⟨f.val % 64, by omega⟩ : Fin 64)) := by
  unfold V
  after_reads_at

theorem V_v (b : Fin 32) (f : Fin 512) (q : Fin 2048) : (V (F := Ideal) m c main_v14 : Vec Ideal S32x512x2048 .bf16) (ix3 b f q) =
    m (c, Proc.tc.devRef main_arg2) (ix4 b q (⟨f.val / 64, by omega⟩ : Fin 8) (⟨f.val % 64, by omega⟩ : Fin 64)) := by
  unfold V
  after_reads_at

theorem V_feat1 (b : Fin 32) (f : Fin 512) (q : Fin 2048) : (V (F := Ideal) m c main_v11 : Vec Ideal S32x512x2048 .f32) (ix3 b f q) =
    m (c, Proc.tc.devRef main_arg1) (ix4 b q (⟨f.val / 64, by omega⟩ : Fin 8) (⟨f.val % 64, by omega⟩ : Fin 64)) := by
  unfold V
  after_reads_at

theorem V_feat2 (b : Fin 32) (f : Fin 512) (q : Fin 2048) : (V (F := Ideal) m c main_v13 : Vec Ideal S32x512x2048 .f32) (ix3 b f q) =
    m (c, Proc.tc.devRef main_arg2) (ix4 b q (⟨f.val / 64, by omega⟩ : Fin 8) (⟨f.val % 64, by omega⟩ : Fin 64)) := by
  unfold V
  after_reads_at

theorem V_feat3 (b : Fin 32) (f : Fin 512) (q : Fin 2048) : (V (F := Ideal) m c main_v16 : Vec Ideal S32x512x2048 .f32) (ix3 b f q) =
    m (c, Proc.tc.devRef main_arg3) (ix4 b q (⟨f.val / 64, by omega⟩ : Fin 8) (⟨f.val % 64, by omega⟩ : Fin 64)) := by
  unfold V
  after_reads_at

theorem V_feat4 (b : Fin 32) (f : Fin 512) (q : Fin 2048) : (V (F := Ideal) m c main_v18 : Vec Ideal S32x512x2048 .f32) (ix3 b f q) =
    m (c, Proc.tc.devRef main_arg4) (ix4 b q (⟨f.val / 64, by omega⟩ : Fin 8) (⟨f.val % 64, by omega⟩ : Fin 64)) := by
  unfold V
  after_reads_at

set_option maxHeartbeats 4000000 in
theorem V_diag (h : Fin 8) (r j : Fin 256) :
    (V (F := Ideal) m c main_v151 : Vec Ideal S8x2x256x256 .f32) (ix4 h (0 : Fin 2) r j) =
      Scalar.select (IntOp.cmpi .sle (chunk (BitVec.ofNat 32 r.val)) (chunk (BitVec.ofNat 32 j.val)))
        (stripBias (m (c, Proc.tc.devRef main_arg7)) (stripRows 0#32) ⟨(j.val * 511 + r.val) % 512, Nat.mod_lt _ (by norm_num)⟩ h)
        (Ideal.ofBits .f32 4048155338#32) := by
  unfold V
  after_reads_at
  after_reads_at
  rfl

set_option maxHeartbeats 4000000 in
theorem V_near (h : Fin 8) (r j : Fin 256) :
    (V (F := Ideal) m c main_v151 : Vec Ideal S8x2x256x256 .f32) (ix4 h (1 : Fin 2) r j) =
        (stripBias (m (c, Proc.tc.devRef main_arg7)) (stripRows 4294967040#32) ⟨(j.val * 511 + r.val) % 512, Nat.mod_lt _ (by norm_num)⟩ h) := by
  unfold V
  after_reads_at
  after_reads_at
  rfl

end Cert.Attn
-- ==== Proof.Attn.Tile.lean ====
/- The vocabulary of one block of the differential attention: what the kernel computes for one tile of 256 queries,
   written once for every tile and for a span of any number of key rows. -/
module

public import proofs.«01_k».proof.Proof.Gen.KernelIdeal.Frame

@[expose] public section

noncomputable section

namespace Cert.Attn

open Cert.KernelIdeal Cert.KernelIdeal.Gen Idealize.ShloMosaic Idealize.SL.Sem

variable {F : FTy → Type} [FloatOps F] [Named F]

/-- The side conditions of the operations over a span of `K` key rows. -/
class Span (K : ℕ) : Prop where
  rows : (⟨3, ![1, K, 128]⟩ : Shape).ShapeCasts ⟨2, ![K, 128]⟩
  cols : (⟨3, ![1, 128, K]⟩ : Shape).ShapeCasts ⟨2, ![128, K]⟩
  qk : DotDims.WF ⟨2, ![K, 128]⟩ S256x128 ⟨2, ![K, 256]⟩ [1] [1] [0] [0] [] []
  pv : DotDims.WF S128x256 ⟨2, ![K, 256]⟩ S128x256 [1] [0] [0] [1] [] [] → True
  red : (⟨2, ![K, 256]⟩ : Shape).Reduces [0] S256
  down : S1x256.Broadcasts ⟨2, ![K, 256]⟩
  across : S128x1.Broadcasts ⟨2, ![128, K]⟩

instance : Span 256 := ⟨shapeCasts_S1x256x128_S256x128, shapeCasts_S1x128x256_S128x256,
  dot_S256x128_S256x128_S256x256_1_1_0_0_n_n_wf, fun _ => trivial, reduces_S256x256_S256, broadcasts_S1x256_S256x256,
  broadcasts_S128x1_S128x256⟩
instance : Span 512 := ⟨shapeCasts_S1x512x128_S512x128, shapeCasts_S1x128x512_S128x512,
  dot_S512x128_S256x128_S512x256_1_1_0_0_n_n_wf, fun _ => trivial, reduces_S512x256_S256, broadcasts_S1x256_S512x256,
  broadcasts_S128x1_S128x512⟩
instance : Span 768 := ⟨shapeCasts_S1x768x128_S768x128, shapeCasts_S1x128x768_S128x768,
  dot_S768x128_S256x128_S768x256_1_1_0_0_n_n_wf, fun _ => trivial, reduces_S768x256_S256, broadcasts_S1x256_S768x256,
  broadcasts_S128x1_S128x768⟩
instance : Span 1024 := ⟨shapeCasts_S1x1024x128_S1024x128, shapeCasts_S1x128x1024_S128x1024,
  dot_S1024x128_S256x128_S1024x256_1_1_0_0_n_n_wf, fun _ => trivial, reduces_S1024x256_S256,
  broadcasts_S1x256_S1024x256, broadcasts_S128x1_S128x1024⟩

/-- The product of `K` key rows with the 256 query rows, over the 128 lanes. -/
def dotQK (K : ℕ) [Span K] : DotDims ⟨2, ![K, 128]⟩ S256x128 ⟨2, ![K, 256]⟩ where
  lhsContracting := [1]
  rhsContracting := [1]
  lhsNonContracting := [0]
  rhsNonContracting := [0]
  lhsBatch := []
  rhsBatch := []
  wf := Span.qk

/-- Which of the 128 lanes lie in group `s` of 32: the kernel's floor division of the lane number, and a comparison. -/
def laneIn (s : BitVec 32) : IVec S1x128 1 :=
  let lane : IVec S1x128 32 := iota .tc S1x128 32 [1] iota_S1x128_d1_w32
  let quot : IVec S1x128 32 := divsi lane (broadcast S1x128 32#32)
  let sgn : IVec S1x128 32 := subi (extui 32 (cmpi .sgt lane (broadcast S1x128 0#32)) natLt_1_32)
    (extui 32 (cmpi .slt lane (broadcast S1x128 0#32)) natLt_1_32)
  let one : BitVec 32 := Scalar.subi (Scalar.extui (Scalar.cmpi .sgt 32#32 0#32)) (Scalar.extui (Scalar.cmpi .slt 32#32 0#32))
  let off : IVec S1x128 1 := andi (cmpi .ne sgn (broadcast S1x128 one))
    (cmpi .ne (remsi lane (broadcast S1x128 32#32)) (broadcast S1x128 0#32))
  cmpi .eq (select off (subi quot (broadcast S1x128 1#32)) quot) (broadcast S1x128 s)

/-- The queries of a tile, scaled. -/
def scaled (q : Vec F S1x256x128 .bf16) : FVec F S256x128 .bf16 :=
  truncf .bf16 (mulf (extf .f32 (shapeCast S256x128 q shapeCasts_S1x256x128_S256x128) bitsLt_bf16_f32)
    (broadcast S256x128 (Named.named κ "a_scale" 0x3E8293EE#32))) bitsLt_bf16_f32

/-- Stream `s` of a tile's queries: the scaled queries in lane group `s`, zero elsewhere. -/
def stream (s : BitVec 32) (q : Vec F S1x256x128 .bf16) : FVec F S256x128 .bf16 :=
  select (broadcastTo S256x128 (shapeCast S1x128 (laneIn s) shapeCasts_S1x128_S1x128) broadcasts_S1x128_S256x128)
    (scaled q) (broadcast S256x128 (Scalar.ofBits .bf16 0x0000#16))

/-- The scores of `K` key rows against a stream: a key a row, a query a column. -/
def scores {K : ℕ} [Span K] (k : Vec F ⟨3, ![1, K, 128]⟩ .bf16) (q : FVec F S256x128 .bf16) :
    FVec F ⟨2, ![K, 256]⟩ .f32 :=
  matmul (φ₁ := .bf16) (φ₂ := .bf16) (dotQK K) none (shapeCast ⟨2, ![K, 128]⟩ k Span.rows) q (constant ⟨2, ![K, 256]⟩ .f32 0x00000000#32)

/-- A bias tile, without its unit axes. -/
def bias (b : Vec F S1x1x256x256 .f32) : FVec F S256x256 .f32 := shapeCast S256x256 b shapeCasts_S1x1x256x256_S256x256

/-- Scores with a bias tile added, the tile taken to the base 2. -/
def biased (sc : FVec F S256x256 .f32) (b : Vec F S1x1x256x256 .f32) : FVec F S256x256 .f32 :=
  addf sc (mulf (bias b) (broadcast S256x256 (Named.named κ "log2e" 0x3FB8AA3B#32)))

/-- Scores with a bias tile added and the masked entries at the mask's value. -/
def masked (sc : FVec F S256x256 .f32) (b : Vec F S1x1x256x256 .f32) : FVec F S256x256 .f32 :=
  select (cmpf .ogt (bias b) (broadcast S256x256 (Scalar.ofBits .f32 0xF0C9F2CA#32))) (biased sc b)
    (broadcast S256x256 (Named.named κ "mask" 0xF149F2CA#32))

/-- The 128 rows below 64. -/
def upper : IVec S128x1 1 := cmpi .slt (iota .tc S128x1 32 [0] iota_S128x1_d0_w32) (broadcast S128x1 64#32)

/-- The values of a span beside 64 rows of ones: the values in the upper rows for the block's first head, in the
    lower ones for its second. -/
def values {K : ℕ} [Span K] (h : Bool) (v : Vec F ⟨3, ![1, 128, K]⟩ .bf16) : FVec F ⟨2, ![128, K]⟩ .bf16 :=
  let u := broadcastTo ⟨2, ![128, K]⟩ (shapeCast S128x1 upper shapeCasts_S128x1_S128x1) Span.across
  let w : FVec F ⟨2, ![128, K]⟩ .bf16 := shapeCast ⟨2, ![128, K]⟩ v Span.cols
  let one : FVec F ⟨2, ![128, K]⟩ .bf16 := broadcast ⟨2, ![128, K]⟩ (Scalar.ofBits .bf16 0x3F80#16)
  match h with
  | false => select u w one
  | true => select u one w

/-- The running maximum after a span. -/
def top {K : ℕ} [Span K] (m : FVec F S1x256 .f32) (sc : FVec F ⟨2, ![K, 256]⟩ .f32) : FVec F S1x256 .bf16 :=
  truncf .bf16 (maximumf m (shapeCast S1x256
    (multiReduction .maximumf [0] S256 sc 0xFF800000#32 Span.red (.inl rfl) rfl) shapeCasts_S256_S1x256)) bitsLt_bf16_f32

/-- One step of the online softmax: the maximum and the accumulator after a span of keys. -/
def step {K : ℕ} [Span K] (st : FVec F S1x256 .f32 × FVec F S128x256 .f32) (sc : FVec F ⟨2, ![K, 256]⟩ .f32)
    (v : FVec F ⟨2, ![128, K]⟩ .bf16) : FVec F S1x256 .f32 × FVec F S128x256 .f32 :=
  let t := top st.1 sc
  let m : FVec F S1x256 .f32 := extf .f32 t bitsLt_bf16_f32
  (m, addf (mulf (broadcastTo S128x256 (exp2 (subf st.1 m)) broadcasts_S1x256_S128x256) st.2)
    (matmul (φ₁ := .bf16) (φ₂ := .bf16) (DotDims.plain 128 K 256) none v
      (exp2 (subf (truncf .bf16 sc bitsLt_bf16_f32) (broadcastTo ⟨2, ![K, 256]⟩ t Span.down)))
      (constant S128x256 .f32 0x00000000#32)))

/-- Where a tile starts: the mask's value for the maximum, and zero. -/
def start : FVec F S1x256 .f32 × FVec F S128x256 .f32 :=
  (broadcast S1x256 (Named.named κ "mask" 0xF149F2CA#32), broadcast S128x256 (Scalar.ofBits .f32 0x00000000#32))

/-- A stream's weighted values over its denominators: rows 0 to 63 over rows 64 to 127 for the first head, the other
    way round for the second. -/
def quotient (h : Bool) (acc : FVec F S128x256 .f32) : FVec F S64x256 .f32 :=
  let a := extractStridedSlice S64x256 ![0, 0] acc slices_S128x256_o0_0_S64x256
  let b := extractStridedSlice S64x256 ![64, 0] acc slices_S128x256_o64_0_S64x256
  match h with
  | false => divf a b
  | true => divf b a

/-- The difference of two streams' results, the second times λ. -/
def difference (lam : FVec F S1x1 .f32) (n n' : FVec F S64x256 .f32) : FVec F S64x256 .f32 :=
  subf n (mulf (broadcastTo S64x256 lam broadcasts_S1x1_S64x256) n')

/-- The tile's attention output from its four accumulators, a query a row. -/
def attended (lam : FVec F S1x1 .f32) (a0 a1 a2 a3 : FVec F S128x256 .f32) : FVec F S256x128 .f32 :=
  transpose S256x128 [1, 0] (concatenate S128x256 0
    [⟨S64x256, difference lam (quotient false a0) (quotient false a1)⟩,
     ⟨S64x256, difference lam (quotient true a2) (quotient true a3)⟩] concatenates_S64x256_S64x256_S128x256_d0)
    transposes_S128x256_p1_0_S256x128

/-- The 128 lanes below 64. -/
def left : IVec S1x128 1 := cmpi .slt (iota .tc S1x128 32 [1] iota_S1x128_d1_w32) (broadcast S1x128 64#32)

/-- `left`, in every row. -/
def lefts : IVec S256x128 1 := broadcastTo S256x128 (shapeCast S1x128 left shapeCasts_S1x128_S1x128) broadcasts_S1x128_S256x128

/-- A row's sum, as a column. -/
def rowSum (x : FVec F S256x128 .f32) : FVec F S256x1 .f32 :=
  shapeCast S256x1 (multiReduction .add [1] S256 x 0x00000000#32 reduces_S256x128_S256 (.inl rfl) rfl) shapeCasts_S256_S256x1

/-- A column, in every lane. -/
def spread (x : FVec F S256x1 .f32) : FVec F S256x128 .f32 :=
  broadcastTo S256x128 (shapeCast S256x1 x shapeCasts_S256x1_S256x1) broadcasts_S256x1_S256x128

/-- The normalisation of each head's 64 lanes by their root mean square, the learned scale and `1 - λ₀`. -/
def finish (init : FVec F S1x1 .f32) (g : Vec F S1x128 .f32) (o : FVec F S256x128 .f32) : FVec F S1x256x128 .bf16 :=
  let zero : FVec F S256x128 .f32 := broadcast S256x128 (Scalar.ofBits .f32 0x00000000#32)
  let sq := mulf o o
  let ms := mulf (select lefts (spread (rowSum (select lefts sq zero))) (spread (rowSum (select lefts zero sq))))
    (broadcast S256x128 (Scalar.ofBits .f32 0x3C800000#32))
  let r := rsqrt (addf ms (broadcast S256x128 (Scalar.ofBits .f32 0x358637BD#32)))
  shapeCast S1x256x128 (truncf .bf16 (mulf (mulf (mulf o r)
      (broadcastTo S256x128 (shapeCast S1x128 g shapeCasts_S1x128_S1x128) broadcasts_S1x128_S256x128))
    (broadcastTo S256x128 (subf (broadcast S1x1 (Scalar.ofBits .f32 0x3F800000#32)) init) broadcasts_S1x1_S256x128))
    bitsLt_bf16_f32) shapeCasts_S256x128_S1x256x128

/-- λ₀, read from the last row of the table of λ vectors. -/
def lamInit (x : Vec F S5x32 .f32) : FVec F S1x1 .f32 :=
  extractStridedSlice S1x1 ![4, 0] (shapeCast S5x32 x shapeCasts_S5x32_S5x32) slices_S5x32_o4_0_S1x1

/-- The exponential of the dot product of two rows. -/
def expDot (a b : FVec F S1x32 .f32) : FVec F S1x1 .f32 :=
  exp (shapeCast S1x1 (multiReduction .add [1] S1 (mulf a b) 0x00000000#32 reduces_S1x32_S1 (.inl rfl) rfl) shapeCasts_S1_S1x1)

/-- λ, from the table's rows. -/
def lambda (x : Vec F S5x32 .f32) : FVec F S1x1 .f32 :=
  let y := shapeCast S5x32 x shapeCasts_S5x32_S5x32
  addf (subf (expDot (extractStridedSlice S1x32 ![0, 0] y slices_S5x32_o0_0_S1x32)
      (extractStridedSlice S1x32 ![1, 0] y slices_S5x32_o1_0_S1x32))
    (expDot (extractStridedSlice S1x32 ![2, 0] y slices_S5x32_o2_0_S1x32)
      (extractStridedSlice S1x32 ![3, 0] y slices_S5x32_o3_0_S1x32))) (lamInit x)

/-- The state of a stream after a span far below the diagonal: no bias. -/
def far {K : ℕ} [Span K] (h : Bool) (q : FVec F S256x128 .bf16) (k : Vec F ⟨3, ![1, K, 128]⟩ .bf16)
    (v : Vec F ⟨3, ![1, 128, K]⟩ .bf16) (st : FVec F S1x256 .f32 × FVec F S128x256 .f32) :
    FVec F S1x256 .f32 × FVec F S128x256 .f32 :=
  step st (scores k q) (values h v)

/-- … after the tile next to the diagonal: its bias added. -/
def near (h : Bool) (q : FVec F S256x128 .bf16) (k : Vec F S1x256x128 .bf16) (v : Vec F S1x128x256 .bf16)
    (b : Vec F S1x1x256x256 .f32) (st : FVec F S1x256 .f32 × FVec F S128x256 .f32) :
    FVec F S1x256 .f32 × FVec F S128x256 .f32 :=
  step (K := 256) st (biased (scores (K := 256) k q) b) (values (K := 256) h v)

/-- … after the tile on the diagonal: its bias added, and its mask. -/
def diag (h : Bool) (q : FVec F S256x128 .bf16) (k : Vec F S1x256x128 .bf16) (v : Vec F S1x128x256 .bf16)
    (b : Vec F S1x1x256x256 .f32) (st : FVec F S1x256 .f32 × FVec F S128x256 .f32) :
    FVec F S1x256 .f32 × FVec F S128x256 .f32 :=
  step (K := 256) st (masked (scores (K := 256) k q) b) (values (K := 256) h v)

/-- A tile's result from what one stream's accumulator is. -/
def tile (x0 : Vec F S5x32 .f32) (x1 : Vec F S1x128 .f32)
    (acc : Bool → BitVec 32 → FVec F S1x256 .f32 × FVec F S128x256 .f32) : FVec F S1x256x128 .bf16 :=
  finish (lamInit x0) x1 (attended (lambda x0) (acc false 0#32).2 (acc false 1#32).2 (acc true 2#32).2 (acc true 3#32).2)

end Cert.Attn
-- ==== Proof.Attn.Pieces.lean ====
/- The kernel's eight stores of the attention output, each one tile of 256 queries in the vocabulary of one tile. -/
module

public import proofs.«01_k».proof.Proof.Attn.Tile

@[expose] public section

noncomputable section

namespace Cert.Attn

open Cert.KernelIdeal Cert.KernelIdeal.Gen Idealize.ShloMosaic Idealize.SL.Sem

variable {F : FTy → Type} [FloatOps F] [Named F]

variable (x0 : Vec F S5x32 .f32) (x1 : Vec F S1x128 .f32) (x2 : Vec F S1x2048x128 .bf16) (x3 : Vec F S1x2048x128 .bf16)
  (x4 : Vec F S1x128x2048 .bf16) (x5 : Vec F S2x2x256x256 .f32) (x6 x7 x8 x9 : Vec F S1x128x2048 .f32)

/-- The tile next to the diagonal's bias, for a head. -/
def nearBias (h : Bool) : Vec F S1x1x256x256 .f32 := match h with | false => View.ld x5 r0_8 | true => View.ld x5 r0_9

/-- The diagonal tile's bias, for a head. -/
def diagBias (h : Bool) : Vec F S1x1x256x256 .f32 := match h with | false => View.ld x5 r0_5 | true => View.ld x5 r0_6

/-- Tile 0: the diagonal only. -/
def acc0 (h : Bool) (s : BitVec 32) : FVec F S1x256 .f32 × FVec F S128x256 .f32 :=
  let q := stream s (View.ld x2 r0_4)
  start |> diag h q (View.ld x3 r0_4) (View.ld x4 r0_10) (diagBias x5 h)

/-- Tile 1: the tile next to the diagonal, and the diagonal. -/
def acc1 (h : Bool) (s : BitVec 32) : FVec F S1x256 .f32 × FVec F S128x256 .f32 :=
  let q := stream s (View.ld x2 r0_7)
  start |> near h q (View.ld x3 r0_4) (View.ld x4 r0_10) (nearBias x5 h)
    |> diag h q (View.ld x3 r0_7) (View.ld x4 r0_13) (diagBias x5 h)

/-- Tile 2: 256 keys far below the diagonal, the tile next to it, and the diagonal. -/
def acc2 (h : Bool) (s : BitVec 32) : FVec F S1x256 .f32 × FVec F S128x256 .f32 :=
  let q := stream s (View.ld x2 r0_12)
  start |> far (K := 256) h q (View.ld x3 r0_4) (View.ld x4 r0_10)
    |> near h q (View.ld x3 r0_7) (View.ld x4 r0_13) (nearBias x5 h)
    |> diag h q (View.ld x3 r0_12) (View.ld x4 r0_16) (diagBias x5 h)

/-- Tile 3: 512 far keys. -/
def acc3 (h : Bool) (s : BitVec 32) : FVec F S1x256 .f32 × FVec F S128x256 .f32 :=
  let q := stream s (View.ld x2 r0_14)
  start |> far (K := 512) h q (View.ld x3 r0_15) (View.ld x4 r0_17)
    |> near h q (View.ld x3 r0_12) (View.ld x4 r0_16) (nearBias x5 h)
    |> diag h q (View.ld x3 r0_14) (View.ld x4 r0_20) (diagBias x5 h)

/-- Tile 4: 768 far keys. -/
def acc4 (h : Bool) (s : BitVec 32) : FVec F S1x256 .f32 × FVec F S128x256 .f32 :=
  let q := stream s (View.ld x2 r0_18)
  start |> far (K := 768) h q (View.ld x3 r0_19) (View.ld x4 r0_21)
    |> near h q (View.ld x3 r0_14) (View.ld x4 r0_20) (nearBias x5 h)
    |> diag h q (View.ld x3 r0_18) (View.ld x4 r0_24) (diagBias x5 h)

/-- Tile 5: 1024 far keys. -/
def acc5 (h : Bool) (s : BitVec 32) : FVec F S1x256 .f32 × FVec F S128x256 .f32 :=
  let q := stream s (View.ld x2 r0_22)
  start |> far (K := 1024) h q (View.ld x3 r0_23) (View.ld x4 r0_25)
    |> near h q (View.ld x3 r0_18) (View.ld x4 r0_24) (nearBias x5 h)
    |> diag h q (View.ld x3 r0_22) (View.ld x4 r0_27) (diagBias x5 h)

/-- Tile 6: 1024 far keys and 256 more. -/
def acc6 (h : Bool) (s : BitVec 32) : FVec F S1x256 .f32 × FVec F S128x256 .f32 :=
  let q := stream s (View.ld x2 r0_26)
  start |> far (K := 1024) h q (View.ld x3 r0_23) (View.ld x4 r0_25)
    |> far (K := 256) h q (View.ld x3 r0_18) (View.ld x4 r0_24)
    |> near h q (View.ld x3 r0_22) (View.ld x4 r0_27) (nearBias x5 h)
    |> diag h q (View.ld x3 r0_26) (View.ld x4 r0_29) (diagBias x5 h)

/-- Tile 7: 1024 far keys and 512 more. -/
def acc7 (h : Bool) (s : BitVec 32) : FVec F S1x256 .f32 × FVec F S128x256 .f32 :=
  let q := stream s (View.ld x2 r0_28)
  start |> far (K := 1024) h q (View.ld x3 r0_23) (View.ld x4 r0_25)
    |> far (K := 512) h q (View.ld x3 r0_30) (View.ld x4 r0_31)
    |> near h q (View.ld x3 r0_26) (View.ld x4 r0_29) (nearBias x5 h)
    |> diag h q (View.ld x3 r0_28) (View.ld x4 r0_32) (diagBias x5 h)

/-- The attention output's block is its eight tiles. -/
theorem out0_10_eq : out0_10 x0 x1 x2 x3 x4 x5 x6 x7 x8 x9 = View.canon
    [⟨r0_28, tile (View.ld x0 r0_3) (View.ld x1 r0_11) (acc7 x2 x3 x4 x5)⟩,
     ⟨r0_26, tile (View.ld x0 r0_3) (View.ld x1 r0_11) (acc6 x2 x3 x4 x5)⟩,
     ⟨r0_22, tile (View.ld x0 r0_3) (View.ld x1 r0_11) (acc5 x2 x3 x4 x5)⟩,
     ⟨r0_18, tile (View.ld x0 r0_3) (View.ld x1 r0_11) (acc4 x2 x3 x4 x5)⟩,
     ⟨r0_14, tile (View.ld x0 r0_3) (View.ld x1 r0_11) (acc3 x2 x3 x4 x5)⟩,
     ⟨r0_12, tile (View.ld x0 r0_3) (View.ld x1 r0_11) (acc2 x2 x3 x4 x5)⟩,
     ⟨r0_7, tile (View.ld x0 r0_3) (View.ld x1 r0_11) (acc1 x2 x3 x4 x5)⟩,
     ⟨r0_4, tile (View.ld x0 r0_3) (View.ld x1 r0_11) (acc0 x2 x3 x4 x5)⟩] := by
  rfl

end Cert.Attn
-- ==== Proof.Attn.Softmax.lean ====
/- The online softmax over the extended reals: weights, the state after a number of keys, and the last step's result
   against the plain softmax's, the cases where a denominator is zero included. -/
module

public import Idealize.ShloMosaic.PureOps.Ideal

@[expose] public section

noncomputable section

namespace Cert.Attn

open Idealize.ShloMosaic

/-! ## Weights -/

/-- Two to the power `x`, zero at both infinities. -/
def pow2 (x : EReal) : ℝ := if x = ⊤ then 0 else (Ideal.exp2 x).toReal

/-- The exponential of `x`, zero at both infinities. -/
def expo (x : EReal) : ℝ := if x = ⊤ then 0 else (Ideal.exp x).toReal

@[simp] theorem pow2_top : pow2 ⊤ = 0 := if_pos rfl
@[simp] theorem pow2_bot : pow2 ⊥ = 0 := by simp [pow2]
@[simp] theorem pow2_coe (r : ℝ) : pow2 (r : EReal) = (2 : ℝ) ^ r := by simp [pow2]
@[simp] theorem expo_top : expo ⊤ = 0 := if_pos rfl
@[simp] theorem expo_bot : expo ⊥ = 0 := by simp [expo]
@[simp] theorem expo_coe (r : ℝ) : expo (r : EReal) = Real.exp r := by simp [expo]

theorem expo_nonneg (x : EReal) : 0 ≤ expo x := by
  induction x using EReal.rec with
  | bot => simp
  | top => simp
  | coe r => rw [expo_coe]; positivity

/-- A difference `s - m` with `s ≤ m` is never the positive infinity. -/
theorem sub_ne_top {s m : EReal} (h : s ≤ m) : s - m ≠ ⊤ := by
  induction s using EReal.rec <;> induction m using EReal.rec <;> simp_all [← EReal.coe_sub]

theorem exp2_sub {s m : EReal} (h : s ≤ m) : Ideal.exp2 (s - m) = (pow2 (s - m) : EReal) := by
  have := sub_ne_top h
  revert this
  induction (s - m) using EReal.rec <;> simp

theorem exp_sub {s m : EReal} (h : s ≤ m) : Ideal.exp (s - m) = (expo (s - m) : EReal) := by
  have := sub_ne_top h
  revert this
  induction (s - m) using EReal.rec <;> simp

/-- Rescaling a weight from one maximum to a larger one. -/
theorem pow2_mul {s a m : EReal} (h : s ≤ a) (h' : a ≤ m) : pow2 (a - m) * pow2 (s - a) = pow2 (s - m) := by
  induction s using EReal.rec <;> induction a using EReal.rec <;> induction m using EReal.rec <;>
    simp_all [← EReal.coe_sub]
  rw [← Real.rpow_add two_pos]
  congr 1
  ring

/-- The scores in base 2, less the constant far bias. -/
def rebase (far : ℝ) (x : EReal) : EReal := (x - far) * ((Real.log 2)⁻¹ : ℝ)

theorem log2_inv_pos : 0 < (Real.log 2)⁻¹ := inv_pos.2 (Real.log_pos one_lt_two)

@[simp] theorem rebase_bot (far : ℝ) : rebase far ⊥ = ⊥ := by
  unfold rebase
  rw [EReal.bot_sub, EReal.bot_mul_coe_of_pos log2_inv_pos]

@[simp] theorem rebase_top (far : ℝ) : rebase far ⊤ = ⊤ := by
  unfold rebase
  rw [EReal.top_sub_coe, EReal.top_mul_coe_of_pos log2_inv_pos]

@[simp] theorem rebase_coe (far x : ℝ) : rebase far x = (((x - far) * (Real.log 2)⁻¹ : ℝ) : EReal) := by
  unfold rebase
  rw [← EReal.coe_sub, ← EReal.coe_mul]

theorem rebase_mono (far : ℝ) : Monotone (rebase far) := by
  intro x y h
  have hp := log2_inv_pos
  induction x using EReal.rec with
  | bot => simp
  | top => rw [top_le_iff.1 h]
  | coe a =>
    induction y using EReal.rec with
    | bot => simp at h
    | top => simp
    | coe b =>
      rw [rebase_coe, rebase_coe, EReal.coe_le_coe_iff]
      exact mul_le_mul_of_nonneg_right (sub_le_sub_right (EReal.coe_le_coe_iff.1 h) _) hp.le

/-- A base-2 weight of the rebased scores is the plain weight of the scores. -/
theorem pow2_rebase {s m : EReal} (far : ℝ) (h : s ≤ m) : pow2 (rebase far s - rebase far m) = expo (s - m) := by
  rcases eq_or_ne s ⊥ with rfl | hs
  · simp
  rcases eq_or_ne m ⊤ with rfl | hm
  · simp
  lift s to ℝ using ⟨fun e => hm (top_le_iff.1 (e ▸ h)), hs⟩
  lift m to ℝ using ⟨hm, fun e => EReal.coe_ne_bot s (le_bot_iff.1 (e ▸ h))⟩
  rw [rebase_coe, rebase_coe, ← EReal.coe_sub, ← EReal.coe_sub, pow2_coe, expo_coe, Real.rpow_def_of_pos two_pos]
  congr 1
  have : Real.log 2 ≠ 0 := (Real.log_pos one_lt_two).ne'
  field_simp
  ring

theorem rebase_sup (far : ℝ) (n : ℕ) (s : ℕ → EReal) :
    ((Finset.range n).sup fun k => rebase far (s k)) = rebase far ((Finset.range n).sup s) := by
  induction n with
  | zero => simp
  | succ n ih => rw [Finset.range_add_one, Finset.sup_insert, Finset.sup_insert, ih, (rebase_mono far).map_sup]

/-! ## The state -/

/-- After `n` keys with scores `sc`: the maximum, and the weighted sum of `v`. -/
structure State (sc : ℕ → EReal) (v : ℕ → ℝ) (n : ℕ) (m acc : EReal) : Prop where
  max : m = (Finset.range n).sup sc
  acc : acc = ((∑ k ∈ Finset.range n, pow2 (sc k - m) * v k : ℝ) : EReal)

theorem State.start (sc : ℕ → EReal) (v : ℕ → ℝ) : State sc v 0 ⊥ 0 := ⟨by simp, by simp⟩

/-- A finite sum of reals, in the extended reals. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- One step, over `K` more keys. -/
theorem State.step {sc : ℕ → EReal} {v : ℕ → ℝ} {n : ℕ} {m acc : EReal} (h : State sc v n m acc) (K : ℕ) {t : EReal}
    (ht : t = Max.max m (Finset.univ.fold Max.max ⊥ fun r : Fin K => sc (n + r))) :
    State sc v (n + K) t (Ideal.exp2 (m - t) * acc + ∑ r : Fin K, (v (n + r) : EReal) * Ideal.exp2 (sc (n + r) - t)) := by
  have ht' : t = (Finset.range (n + K)).sup sc := by
    rw [ht, h.max]
    change _ ⊔ (Finset.univ.sup fun r : Fin K => sc (n + r)) = _
    refine le_antisymm (sup_le (Finset.sup_mono (Finset.range_subset_range.2 (by omega))) (Finset.sup_le fun r _ => ?_))
      (Finset.sup_le fun k hk => ?_)
    · exact Finset.le_sup (f := sc) (Finset.mem_range.2 (by omega))
    · by_cases hkn : k < n
      · exact le_sup_of_le_left (Finset.le_sup (f := sc) (Finset.mem_range.2 hkn))
      · refine le_sup_of_le_right ?_
        have hk' := Finset.mem_range.1 hk
        have := Finset.le_sup (f := fun r : Fin K => sc (n + r)) (Finset.mem_univ ⟨k - n, by omega⟩)
        simpa [Nat.add_sub_cancel' (not_lt.1 hkn)] using this
  have hle : ∀ k < n + K, sc k ≤ t := fun k hk => ht' ▸ Finset.le_sup (f := sc) (Finset.mem_range.2 hk)
  have hmt : m ≤ t := ht ▸ le_max_left _ _
  have hlem : ∀ k < n, sc k ≤ m := fun k hk => h.max ▸ Finset.le_sup (f := sc) (Finset.mem_range.2 hk)
  refine ⟨ht', ?_⟩
  have h2 : ∀ r : Fin K, (v (n + r) : EReal) * Ideal.exp2 (sc (n + r) - t) = ((pow2 (sc (n + r) - t) * v (n + r) : ℝ) : EReal) :=
    fun r => by rw [exp2_sub (hle _ (by omega)), ← EReal.coe_mul, mul_comm]
  rw [exp2_sub hmt, h.acc, ← EReal.coe_mul, Finset.sum_congr rfl fun r _ => h2 r, ← coe_sum, ← EReal.coe_add,
    Finset.sum_range_add, Finset.mul_sum, Finset.sum_range (fun r => pow2 (sc (n + r) - t) * v (n + r))]
  congr 2
  refine Finset.sum_congr rfl fun k hk => ?_
  rw [← pow2_mul (hlem k (Finset.mem_range.1 hk)) hmt]
  ring

/-- The state in the plain weights: of the rebased scores, for the scores' own maximum. -/
theorem State.plain {s : ℕ → EReal} {far : ℝ} {v : ℕ → ℝ} {n : ℕ} {m acc : EReal}
    (h : State (fun k => rebase far (s k)) v n m acc) :
    acc = ((∑ k ∈ Finset.range n, expo (s k - (Finset.range n).sup s) * v k : ℝ) : EReal) := by
  rw [h.acc, h.max, rebase_sup]
  congr 1
  refine Finset.sum_congr rfl fun k hk => ?_
  rw [pow2_rebase far (Finset.le_sup (f := s) hk)]

/-! ## The last step -/

/-- The lanes of a row by their root mean square. -/
def normed {n : ℕ} (c ε : ℝ) (x : Fin n → EReal) (d : Fin n) : EReal :=
  x d * Ideal.rsqrt ((∑ e, x e * x e) * (c : EReal) + (ε : EReal))

/-- Either infinity, or zero. -/
def Polar (x : EReal) : Prop := x = ⊥ ∨ x = ⊤ ∨ x = 0

theorem Polar.add {x y : EReal} (hx : Polar x) (hy : Polar y) : Polar (x + y) := by
  rcases hx with rfl | rfl | rfl <;> rcases hy with rfl | rfl | rfl <;> simp [Polar]

theorem Polar.sum {ι : Type} (t : Finset ι) (f : ι → EReal) (h : ∀ i ∈ t, Polar (f i)) : Polar (∑ i ∈ t, f i) := by
  classical
  induction t using Finset.induction_on with
  | empty => simp [Polar]
  | insert a t ha ih =>
    rw [Finset.sum_insert ha]
    exact (h a (Finset.mem_insert_self a t)).add (ih fun i hi => h i (Finset.mem_insert_of_mem hi))

theorem Polar.coe_mul (r : ℝ) {x : EReal} (hx : x = ⊥ ∨ x = ⊤) : Polar ((r : EReal) * x) := by
  rcases lt_trichotomy r 0 with h | rfl | h <;> rcases hx with rfl | rfl
  · exact Or.inr (Or.inl (EReal.coe_mul_bot_of_neg h))
  · exact Or.inl (EReal.coe_mul_top_of_neg h)
  · simp [Polar]
  · simp [Polar]
  · exact Or.inl (EReal.coe_mul_bot_of_pos h)
  · exact Or.inr (Or.inl (EReal.coe_mul_top_of_pos h))

/-- A row whose lanes are all infinite or zero is all zeros after the normalisation. -/
theorem normed_polar {n : ℕ} {c ε : ℝ} (hc : 0 < c) {x : Fin n → EReal} (h : ∀ d, Polar (x d)) (d : Fin n) :
    normed c ε x d = 0 := by
  by_cases h0 : x d = 0
  · rw [normed, h0, zero_mul]
  have hdd : x d * x d = ⊤ := by
    rcases h d with e | e | e
    · rw [e, EReal.bot_mul_bot]
    · rw [e, EReal.top_mul_top]
    · exact absurd e h0
  have hnn : ∀ e, 0 ≤ x e * x e := fun e => by
    rcases h e with e | e | e <;> rw [e] <;> simp
  have hs : (∑ e, x e * x e) = ⊤ := top_le_iff.1 (hdd ▸ Finset.single_le_sum (fun e _ => hnn e) (Finset.mem_univ d))
  rw [normed, hs, EReal.top_mul_coe_of_pos hc, EReal.top_add_coe, Ideal.rsqrt_top, mul_zero]

section Last
variable {n D : ℕ} (w0 w1 : Fin n → ℝ) (v : Fin D → Fin n → ℝ) (lam : ℝ)

/-- The kernel's lane: the two streams' weighted sums over their denominators, the second times λ. -/
def fused (d : Fin D) : EReal :=
  Ideal.div ((∑ k, w0 k * v d k : ℝ) : EReal) ((∑ k, w0 k : ℝ) : EReal)
    - (lam : EReal) * Ideal.div ((∑ k, w1 k * v d k : ℝ) : EReal) ((∑ k, w1 k : ℝ) : EReal)

/-- The combined attention weight of a key. -/
def weight (k : Fin n) : EReal :=
  Ideal.div (w0 k : EReal) ((∑ k, w0 k : ℝ) : EReal) - (lam : EReal) * Ideal.div (w1 k : EReal) ((∑ k, w1 k : ℝ) : EReal)

/-- The reference's lane: the values by the combined weights. -/
def combined (d : Fin D) : EReal := ∑ k, (v d k : EReal) * weight w0 w1 lam k

theorem div_zero_zero : Ideal.div ((0 : ℝ) : EReal) ((0 : ℝ) : EReal) = ⊥ := by simp [Ideal.div]

theorem div_real (x : ℝ) {y : ℝ} (h : y ≠ 0) : Ideal.div (x : EReal) (y : EReal) = ((x / y : ℝ) : EReal) := by
  rw [Ideal.div_coe h, ← EReal.coe_mul]
  congr 1
  ring

variable {w0 w1}

theorem all_zero (h : ∀ k, 0 ≤ w0 k) (hs : ∑ k, w0 k = 0) : ∀ k, w0 k = 0 := fun k =>
  (Finset.sum_eq_zero_iff_of_nonneg (fun k _ => h k)).1 hs k (Finset.mem_univ k)

/-- One infinite weight for every key makes a lane infinite or zero. -/
theorem combined_polar {x : EReal} (hx : x = ⊥ ∨ x = ⊤) (h : ∀ k, weight w0 w1 lam k = x) (d : Fin D) :
    Polar (combined w0 w1 v lam d) :=
  Polar.sum _ _ fun k _ => by rw [h k]; exact Polar.coe_mul _ hx

/-- With a zero denominator that counts, every lane is infinite or zero on both sides. -/
theorem both_polar (h0 : ∀ k, 0 ≤ w0 k) (h1 : ∀ k, 0 ≤ w1 k)
    (h : ∑ k, w0 k = 0 ∨ (∑ k, w0 k ≠ 0 ∧ ∑ k, w1 k = 0 ∧ lam ≠ 0)) :
    (∀ d, Polar (fused w0 w1 v lam d)) ∧ ∀ d, Polar (combined w0 w1 v lam d) := by
  rcases h with h | ⟨hs, h, hl⟩
  · have hz := all_zero h0 h
    refine ⟨fun d => Or.inl ?_, combined_polar v lam (Or.inl rfl) fun k => ?_⟩
    · rw [fused, h]
      simp only [hz, zero_mul, Finset.sum_const_zero]
      rw [div_zero_zero, EReal.bot_sub]
    · rw [weight, h, hz k, div_zero_zero, EReal.bot_sub]
  · have hz := all_zero h1 h
    have key : ∀ r : ℝ, (r : EReal) - (lam : EReal) * ⊥ = if 0 < lam then ⊤ else ⊥ := fun r => by
      split_ifs with hp
      · rw [EReal.coe_mul_bot_of_pos hp, EReal.coe_sub_bot]
      · rw [EReal.coe_mul_bot_of_neg (lt_of_le_of_ne (not_lt.1 hp) hl), sub_eq_add_neg, EReal.neg_top, EReal.add_bot]
    have hpol : (if 0 < lam then (⊤ : EReal) else ⊥) = ⊥ ∨ (if 0 < lam then (⊤ : EReal) else ⊥) = ⊤ := by
      split_ifs <;> simp
    refine ⟨fun d => ?_, combined_polar v lam hpol fun k => ?_⟩
    · rw [fused, h, div_real _ hs]
      simp only [hz, zero_mul, Finset.sum_const_zero]
      rw [div_zero_zero, key]
      rcases hpol with e | e <;> rw [e] <;> simp [Polar]
    · rw [weight, h, hz k, div_real _ hs, div_zero_zero, key]

/-- Where the denominators that count are not zero, the two lanes are one real number. -/
theorem fused_eq_combined (hs : ∑ k, w0 k ≠ 0) (h : ∑ k, w1 k ≠ 0 ∨ lam = 0) (d : Fin D) :
    fused w0 w1 v lam d = combined w0 w1 v lam d := by
  have hsum : ∀ (w : Fin n → ℝ) (S : ℝ), (∑ k, v d k * (w k / S)) = (∑ k, w k * v d k) / S := fun w S => by
    rw [Finset.sum_div]
    exact Finset.sum_congr rfl fun k _ => by ring
  by_cases hl : lam = 0
  · subst hl
    simp only [fused, combined, weight, EReal.coe_zero, zero_mul, sub_zero, div_real _ hs, ← EReal.coe_mul]
    rw [← coe_sum, hsum]
  · have h1 := h.resolve_right hl
    simp only [fused, combined, weight, div_real _ hs, div_real _ h1, ← EReal.coe_mul, ← EReal.coe_sub]
    rw [← coe_sum]
    congr 1
    rw [← hsum, ← hsum, Finset.mul_sum, ← Finset.sum_sub_distrib]
    exact Finset.sum_congr rfl fun k _ => by ring

/-- The kernel's row and the reference's agree after the normalisation. -/
theorem normed_fused {c : ℝ} (hc : 0 < c) (ε : ℝ) (h0 : ∀ k, 0 ≤ w0 k) (h1 : ∀ k, 0 ≤ w1 k) (d : Fin D) :
    normed c ε (fused w0 w1 v lam) d = normed c ε (combined w0 w1 v lam) d := by
  by_cases h : ∑ k, w0 k = 0 ∨ (∑ k, w0 k ≠ 0 ∧ ∑ k, w1 k = 0 ∧ lam ≠ 0)
  · obtain ⟨ha, hb⟩ := both_polar v lam h0 h1 h
    rw [normed_polar hc ha, normed_polar hc hb]
  · push Not at h
    have : fused w0 w1 v lam = combined w0 w1 v lam := funext fun d =>
      fused_eq_combined v lam h.1 (or_iff_not_imp_left.2 fun hn => h.2 h.1 (not_not.1 hn)) d
    rw [this]

end Last

end Cert.Attn
-- ==== Proof.Attn.TileAt.lean ====
/- The vocabulary of one tile, read at an index over the extended reals. -/
module

public import proofs.«01_k».proof.Proof.Attn.Tile
public import proofs.«01_k».proof.Proof.Attn.Softmax
public import Idealize.ShloMosaic.Lib.Pointwise
public import Idealize.ShloMosaic.Lib.MatmulPlain
public import Idealize.ShloMosaic.PureOps.IdealRules

@[expose] public section

noncomputable section

namespace Cert.Attn

open Cert.KernelIdeal Cert.KernelIdeal.Gen Idealize.ShloMosaic

theorem named_scale : (Named.named κ "a_scale" 0x3E8293EE#32 : Ideal .f32) = (((Real.sqrt 32)⁻¹ * (Real.log 2)⁻¹ : ℝ) : EReal) :=
  IdealRules.named_const.ideal_named_scalar _ _ _ _ rfl

theorem named_log2e : (Named.named κ "log2e" 0x3FB8AA3B#32 : Ideal .f32) = (((Real.log 2)⁻¹ : ℝ) : EReal) :=
  IdealRules.named_const.ideal_named_scalar _ _ _ _ rfl

theorem named_mask : (Named.named κ "mask" 0xF149F2CA#32 : Ideal .f32) = ⊥ :=
  IdealRules.named_const.ideal_named_scalar _ _ _ _ rfl

/-- A lane lies in group `c` when its number over 32 is `c`. -/
theorem laneIn_apply (c : Fin 4) (l : Fin 128) :
    laneIn (BitVec.ofNat 32 c.val) (ix2 (0 : Fin 1) l) = BitVec.ofBool (decide (l.val / 32 = c.val)) := by
  revert c l
  decide +kernel

theorem upper_apply (d : Fin 128) : upper (ix2 d (0 : Fin 1)) = BitVec.ofBool (decide (d.val < 64)) := by
  revert d
  decide +kernel

theorem left_apply (l : Fin 128) : left (ix2 (0 : Fin 1) l) = BitVec.ofBool (decide (l.val < 64)) := by
  revert l
  decide +kernel

/-- The offset of an index into a block with a leading unit axis. -/
theorem flat_block {A B : ℕ} (i : Fin A) (j : Fin B) :
    (Shape.rowMajor (s := ⟨3, ![1, A, B]⟩) (ix3 (0 : Fin 1) i j)).val = (Shape.rowMajor (s := ⟨2, ![A, B]⟩) (ix2 i j)).val := by
  rw [Shape.rowMajor_val_three, Shape.rowMajor_val_two]
  change (0 * A + i.val) * B + j.val = i.val * B + j.val
  rw [zero_mul, zero_add]

theorem rows_apply {F : FTy → Type} {K : ℕ} [Span K] {η : EltTy} (k : Vec F ⟨3, ![1, K, 128]⟩ η) (r : Fin K) (l : Fin 128) :
    shapeCast ⟨2, ![K, 128]⟩ k Span.rows (ix2 r l) = k (ix3 (0 : Fin 1) r l) :=
  shapeCast_apply _ _ _ _ (flat_block r l)

theorem cols_apply {F : FTy → Type} {K : ℕ} [Span K] {η : EltTy} (v : Vec F ⟨3, ![1, 128, K]⟩ η) (d : Fin 128) (r : Fin K) :
    shapeCast ⟨2, ![128, K]⟩ v Span.cols (ix2 d r) = v (ix3 (0 : Fin 1) d r) :=
  shapeCast_apply _ _ _ _ (flat_block d r)

theorem stream_apply (c : Fin 4) (q : Vec Ideal S1x256x128 .bf16) (j : Fin 256) (l : Fin 128) :
    stream (F := Ideal) (BitVec.ofNat 32 c.val) q (ix2 j l)
      = if l.val / 32 = c.val then q (ix3 (0 : Fin 1) j l) * (((Real.sqrt 32)⁻¹ * (Real.log 2)⁻¹ : ℝ) : EReal) else 0 := by
  pointwise [stream, scaled]
  rw [laneIn_apply, named_scale]
  by_cases h : l.val / 32 = c.val <;> simp [h, Scalar.select]

theorem scores_apply {K : ℕ} [Span K] (k : Vec Ideal ⟨3, ![1, K, 128]⟩ .bf16) (q : FVec Ideal S256x128 .bf16) (r : Fin K) (j : Fin 256) :
    scores (F := Ideal) k q (ix2 r j) = ∑ l : Fin 128, k (ix3 (0 : Fin 1) r l) * q (ix2 j l) := by
  refine (Ideal.matmul_transposedRhs_apply (M := K) (K := 128) (N := 256) none _ _ _ r j).trans ?_
  refine (congrArg (· + _) ?_).trans ((zero_add _).trans ?_)
  · simp [constant]
  · exact Finset.sum_congr rfl fun l _ => congrArg (· * q (ix2 j l)) (rows_apply (F := Ideal) (η := .bf16) k r l)

theorem upper_wide {K : ℕ} [Span K] (d : Fin 128) (r : Fin K) :
    broadcastTo ⟨2, ![128, K]⟩ (shapeCast S128x1 upper shapeCasts_S128x1_S128x1) Span.across (ix2 d r) = BitVec.ofBool (decide (d.val < 64)) := by
  rw [← upper_apply]
  pointwise

theorem values_false {K : ℕ} [Span K] (v : Vec Ideal ⟨3, ![1, 128, K]⟩ .bf16) (d : Fin 128) (r : Fin K) :
    values (F := Ideal) false v (ix2 d r) = if d.val < 64 then v (ix3 (0 : Fin 1) d r) else 1 := by
  rw [← cols_apply (F := Ideal) (η := .bf16) v d r]
  simp only [values, select, upper_wide]
  by_cases h : d.val < 64 <;> simp [h, Scalar.select, broadcast]

theorem values_true {K : ℕ} [Span K] (v : Vec Ideal ⟨3, ![1, 128, K]⟩ .bf16) (d : Fin 128) (r : Fin K) :
    values (F := Ideal) true v (ix2 d r) = if d.val < 64 then 1 else v (ix3 (0 : Fin 1) d r) := by
  rw [← cols_apply (F := Ideal) (η := .bf16) v d r]
  simp only [values, select, upper_wide]
  by_cases h : d.val < 64 <;> simp [h, Scalar.select, broadcast]

theorem top_apply {K : ℕ} [Span K] (m : FVec Ideal S1x256 .f32) (sc : FVec Ideal ⟨2, ![K, 256]⟩ .f32) (j : Fin 256) :
    top (F := Ideal) m sc (ix2 (0 : Fin 1) j)
      = max (m (ix2 (0 : Fin 1) j)) (Finset.univ.fold max ⊥ fun r : Fin K => sc (ix2 r j)) := by
  pointwise [top]
  simp [Ideal.ofBits, Ideal.ieee]

theorem step_acc {K : ℕ} [Span K] (st : FVec Ideal S1x256 .f32 × FVec Ideal S128x256 .f32) (sc : FVec Ideal ⟨2, ![K, 256]⟩ .f32)
    (v : FVec Ideal ⟨2, ![128, K]⟩ .bf16) (d : Fin 128) (j : Fin 256) :
    (step (F := Ideal) st sc v).2 (ix2 d j)
      = Ideal.exp2 (st.1 (ix2 (0 : Fin 1) j) - top (F := Ideal) st.1 sc (ix2 (0 : Fin 1) j)) * st.2 (ix2 d j)
        + ∑ r : Fin K, v (ix2 d r) * Ideal.exp2 (sc (ix2 r j) - top (F := Ideal) st.1 sc (ix2 (0 : Fin 1) j)) := by
  simp only [step]
  generalize top (F := Ideal) st.1 sc = t
  refine (addf_apply _ _ _).trans ?_
  refine congr (congrArg _ ?_) ?_
  · pointwise
    rfl
  · refine (Ideal.matmul_plain_apply (M := 128) (K := K) (N := 256) none _ _ _ d j).trans ?_
    refine (congrArg (· + _) ?_).trans ((zero_add _).trans ?_)
    · simp [constant]
    · refine Finset.sum_congr rfl fun r _ => congrArg _ ?_
      pointwise
      rfl

/-- A head's accumulator over its denominators. -/
theorem quotient_false (acc : FVec Ideal S128x256 .f32) (d : Fin 64) (j : Fin 256) :
    quotient (F := Ideal) false acc (ix2 d j)
      = Ideal.div (acc (ix2 (⟨d.val, by omega⟩ : Fin 128) j)) (acc (ix2 (⟨64 + d.val, by omega⟩ : Fin 128) j)) := by
  pointwise [quotient]

theorem quotient_true (acc : FVec Ideal S128x256 .f32) (d : Fin 64) (j : Fin 256) :
    quotient (F := Ideal) true acc (ix2 d j)
      = Ideal.div (acc (ix2 (⟨64 + d.val, by omega⟩ : Fin 128) j)) (acc (ix2 (⟨d.val, by omega⟩ : Fin 128) j)) := by
  pointwise [quotient]

theorem biased_apply (sc : FVec Ideal S256x256 .f32) (b : Vec Ideal S1x1x256x256 .f32) (r j : Fin 256) :
    biased (F := Ideal) sc b (ix2 r j)
      = sc (ix2 r j) + b (ix4 (0 : Fin 1) (0 : Fin 1) r j) * (((Real.log 2)⁻¹ : ℝ) : EReal) := by
  rw [← named_log2e]
  pointwise [biased, bias]

theorem masked_apply (sc : FVec Ideal S256x256 .f32) (b : Vec Ideal S1x1x256x256 .f32) (r j : Fin 256) :
    masked (F := Ideal) sc b (ix2 r j)
      = if Ideal.ofBits .f32 0xF0C9F2CA#32 < b (ix4 (0 : Fin 1) (0 : Fin 1) r j) then biased (F := Ideal) sc b (ix2 r j) else ⊥ := by
  rw [← named_mask]
  generalize hB : biased (F := Ideal) sc b = B
  pointwise [masked, bias]
  rw [hB]

theorem attended_apply (lam : FVec Ideal S1x1 .f32) (a0 a1 a2 a3 : FVec Ideal S128x256 .f32) (j : Fin 256) (l : Fin 128) :
    attended (F := Ideal) lam a0 a1 a2 a3 (ix2 j l)
      = if h : l.val < 64 then
          quotient (F := Ideal) false a0 (ix2 ⟨l.val, h⟩ j) - lam (ix2 (0 : Fin 1) (0 : Fin 1)) * quotient (F := Ideal) false a1 (ix2 ⟨l.val, h⟩ j)
        else quotient (F := Ideal) true a2 (ix2 ⟨l.val - 64, by omega⟩ j)
          - lam (ix2 (0 : Fin 1) (0 : Fin 1)) * quotient (F := Ideal) true a3 (ix2 ⟨l.val - 64, by omega⟩ j) := by
  generalize hq0 : quotient (F := Ideal) false a0 = q0
  generalize hq1 : quotient (F := Ideal) false a1 = q1
  generalize hq2 : quotient (F := Ideal) true a2 = q2
  generalize hq3 : quotient (F := Ideal) true a3 = q3
  simp only [attended, hq0, hq1, hq2, hq3]
  pointwise [difference]
  rw [hq0, hq1, hq2, hq3]

theorem lefts_apply (j : Fin 256) (l : Fin 128) : lefts (ix2 j l) = BitVec.ofBool (decide (l.val < 64)) := by
  rw [← left_apply]
  pointwise [lefts]

theorem finish_apply (init : FVec Ideal S1x1 .f32) (g : Vec Ideal S1x128 .f32) (o : FVec Ideal S256x128 .f32) (j : Fin 256) (l : Fin 128) :
    finish (F := Ideal) init g o (ix3 (0 : Fin 1) j l)
      = o (ix2 j l) * Ideal.rsqrt ((if l.val < 64 then
            ∑ e : Fin 64, o (ix2 j (⟨e.val, by omega⟩ : Fin 128)) * o (ix2 j (⟨e.val, by omega⟩ : Fin 128))
            else ∑ e : Fin 64, o (ix2 j (⟨64 + e.val, by omega⟩ : Fin 128)) * o (ix2 j (⟨64 + e.val, by omega⟩ : Fin 128)))
            * Ideal.ofBits .f32 0x3C800000#32 + Ideal.ofBits .f32 0x358637BD#32) * g (ix2 (0 : Fin 1) l)
        * (1 - init (ix2 (0 : Fin 1) (0 : Fin 1))) := by
  pointwise [finish, rowSum, spread]
  simp only [lefts_apply, Scalar.select]
  rw [Fin.sum_univ_add (a := 64) (b := 64), Fin.sum_univ_add (a := 64) (b := 64)]
  by_cases h : l.val < 64 <;> simp [h] <;> rfl

theorem lambda_apply (x : Vec Ideal S5x32 .f32) :
    lambda (F := Ideal) x (ix2 (0 : Fin 1) (0 : Fin 1))
      = Ideal.exp (∑ l : Fin 32, x (ix2 (0 : Fin 5) l) * x (ix2 (1 : Fin 5) l))
        - Ideal.exp (∑ l : Fin 32, x (ix2 (2 : Fin 5) l) * x (ix2 (3 : Fin 5) l)) + x (ix2 (4 : Fin 5) (0 : Fin 32)) := by
  pointwise [lambda, expDot, lamInit]

theorem lamInit_apply (x : Vec Ideal S5x32 .f32) :
    lamInit (F := Ideal) x (ix2 (0 : Fin 1) (0 : Fin 1)) = x (ix2 (4 : Fin 5) (0 : Fin 32)) := by
  pointwise [lamInit]

end Cert.Attn
-- ==== Proof.Attn.TileState.lean ====
/- One tile's online softmax: the state of a stream after each span of keys, up to the diagonal. -/
module

public import proofs.«01_k».proof.Proof.Attn.Pieces
public import proofs.«01_k».proof.Proof.Attn.TileAt
public import Idealize.ShloMosaic.Lib.Pipeline.ValueKit

@[expose] public section

noncomputable section

namespace Cert.Attn

open Cert.KernelIdeal Cert.KernelIdeal.Gen Idealize.ShloMosaic Idealize.SL.Sem

/-- Position `k` of a row of 2048. -/
abbrev pos (k : ℕ) : Fin 2048 := Fin.ofNat 2048 k

/-- Position `k` within its tile of 256. -/
abbrev inTile (k : ℕ) : Fin 256 := Fin.ofNat 256 k

/-- The block's index of a head. -/
abbrev headIx (h : Bool) : Fin 2 := if h then 1 else 0

section
variable (x2 : Vec Ideal S1x2048x128 .bf16) (x3 : Vec Ideal S1x2048x128 .bf16) (x4 : Vec Ideal S1x128x2048 .bf16)
  (x5 : Vec Ideal S2x2x256x256 .f32)

/-- The product of key `k` with query `q` in stream `c`, as the kernel forms it. -/
def product (c : Fin 4) (q k : ℕ) : EReal :=
  ∑ l : Fin 128, x3 (ix3 (0 : Fin 1) (pos k) l)
    * (if l.val / 32 = c.val then x2 (ix3 (0 : Fin 1) (pos q) l) * (((Real.sqrt 32)⁻¹ * (Real.log 2)⁻¹ : ℝ) : EReal) else 0)

/-- The kernel's score of key `k` for query `j` of tile `i`. -/
def score (h : Bool) (c : Fin 4) (i : ℕ) (j : Fin 256) (k : ℕ) : EReal :=
  if k < 256 * (i - 1) then product x2 x3 c (256 * i + j.val) k
  else if k < 256 * i then
    product x2 x3 c (256 * i + j.val) k + x5 (ix4 (headIx h) (1 : Fin 2) (inTile k) j) * (((Real.log 2)⁻¹ : ℝ) : EReal)
  else if Ideal.ofBits .f32 0xF0C9F2CA#32 < x5 (ix4 (headIx h) (0 : Fin 2) (inTile k) j) then
    product x2 x3 c (256 * i + j.val) k + x5 (ix4 (headIx h) (0 : Fin 2) (inTile k) j) * (((Real.log 2)⁻¹ : ℝ) : EReal)
  else ⊥

/-- Row `d` of the values beside ones, at key `k`. -/
def value (h : Bool) (d : Fin 128) (k : ℕ) : ℝ :=
  if decide (d.val < 64) = !h then (x4 (ix3 (0 : Fin 1) d (pos k))).toReal else 1

/-- The rows loaded from position `n` on. -/
def RowsAt {K : ℕ} (k : Vec Ideal ⟨3, ![1, K, 128]⟩ .bf16) (x : Vec Ideal S1x2048x128 .bf16) (n : ℕ) : Prop :=
  ∀ (r : Fin K) (l : Fin 128), k (ix3 (0 : Fin 1) r l) = x (ix3 (0 : Fin 1) (pos (n + r.val)) l)

/-- The columns loaded from position `n` on. -/
def ColsAt {K : ℕ} (v : Vec Ideal ⟨3, ![1, 128, K]⟩ .bf16) (x : Vec Ideal S1x128x2048 .bf16) (n : ℕ) : Prop :=
  ∀ (d : Fin 128) (r : Fin K), v (ix3 (0 : Fin 1) d r) = x (ix3 (0 : Fin 1) d (pos (n + r.val)))

theorem rowsAt_ld (K n : ℕ) (x : Vec Ideal S1x2048x128 .bf16)
    (inb : ∀ a, (![0, n, 0] : Fin 3 → ℕ) a + (![1, K, 128] : Fin 3 → ℕ) a ≤ S1x2048x128.size a) :
    RowsAt (K := K) (View.ld x (Rect.unit (s := S1x2048x128) ![0, n, 0] ![1, K, 128] inb)) x n := by
  intro r l
  have h1 : n + K ≤ 2048 := inb 1
  refine View.ld_unit_apply_of (S := S1x2048x128) _ _ _ _ _ _ fun a => ?_
  fin_cases a
  · rfl
  · exact Nat.mod_eq_of_lt (by omega)
  · exact (Nat.zero_add _).symm

theorem colsAt_ld (K n : ℕ) (x : Vec Ideal S1x128x2048 .bf16)
    (inb : ∀ a, (![0, 0, n] : Fin 3 → ℕ) a + (![1, 128, K] : Fin 3 → ℕ) a ≤ S1x128x2048.size a) :
    ColsAt (K := K) (View.ld x (Rect.unit (s := S1x128x2048) ![0, 0, n] ![1, 128, K] inb)) x n := by
  intro d r
  have h1 : n + K ≤ 2048 := inb 2
  refine View.ld_unit_apply_of (S := S1x128x2048) _ _ _ _ _ _ fun a => ?_
  fin_cases a
  · rfl
  · exact (Nat.zero_add _).symm
  · exact Nat.mod_eq_of_lt (by omega)

theorem nearBias_apply (h : Bool) (r j : Fin 256) :
    nearBias x5 h (ix4 (0 : Fin 1) (0 : Fin 1) r j) = x5 (ix4 (headIx h) (1 : Fin 2) r j) := by
  cases h <;> exact View.ld_unit_apply_of (S := S2x2x256x256) _ _ _ _ _ _ fun a => by fin_cases a <;> simp [ix4] <;> rfl

theorem diagBias_apply (h : Bool) (r j : Fin 256) :
    diagBias x5 h (ix4 (0 : Fin 1) (0 : Fin 1) r j) = x5 (ix4 (headIx h) (0 : Fin 2) r j) := by
  cases h <;> exact View.ld_unit_apply_of (S := S2x2x256x256) _ _ _ _ _ _ fun a => by fin_cases a <;> simp [ix4] <;> rfl

/-- The stored state of a stream is its state after `n` keys, in every row. -/
def StateAt (h : Bool) (c : Fin 4) (i : ℕ) (j : Fin 256) (n : ℕ) (st : FVec Ideal S1x256 .f32 × FVec Ideal S128x256 .f32) : Prop :=
  ∀ d, State (score x2 x3 x5 h c i j) (value x4 h d) n (st.1 (ix2 (0 : Fin 1) j)) (st.2 (ix2 d j))

variable {x2 x3 x4 x5}

theorem start_state (h : Bool) (c : Fin 4) (i : ℕ) (j : Fin 256) : StateAt x2 x3 x4 x5 h c i j 0 (start (F := Ideal)) := by
  intro d
  have e1 : (start (F := Ideal)).1 (ix2 (0 : Fin 1) j) = ⊥ := named_mask
  have e2 : (start (F := Ideal)).2 (ix2 d j) = 0 := by
    pointwise [start]
  rw [e1, e2]
  exact State.start _ _

theorem scores_stream {K : ℕ} [Span K] {q : Vec Ideal S1x256x128 .bf16} {k : Vec Ideal ⟨3, ![1, K, 128]⟩ .bf16} {i n : ℕ}
    (hq : RowsAt q x2 (256 * i)) (hk : RowsAt k x3 n) (c : Fin 4) (r : Fin K) (j : Fin 256) :
    scores (F := Ideal) k (stream (F := Ideal) (BitVec.ofNat 32 c.val) q) (ix2 r j) = product x2 x3 c (256 * i + j.val) (n + r.val) := by
  rw [scores_apply]
  refine Finset.sum_congr rfl fun l _ => ?_
  rw [hk r l, stream_apply, hq j l]

theorem values_at {K : ℕ} [Span K] {v : Vec Ideal ⟨3, ![1, 128, K]⟩ .bf16} {n : ℕ} (hv : ColsAt v x4 n)
    (hx : ∀ d k, x4 (ix3 (0 : Fin 1) d k) = ((x4 (ix3 (0 : Fin 1) d k)).toReal : EReal)) (h : Bool) (d : Fin 128) (r : Fin K) :
    values (F := Ideal) h v (ix2 d r) = (value x4 h d (n + r.val) : EReal) := by
  cases h
  · rw [values_false, hv d r, value]
    by_cases hd : d.val < 64
    · simp only [hd, decide_true, Bool.not_false, if_true]; exact hx _ _
    · simp [hd]
  · rw [values_true, hv d r, value]
    by_cases hd : d.val < 64
    · simp [hd]
    · simp only [hd, decide_false, Bool.not_true, if_true, if_false]; exact hx _ _

/-- A step over `K` keys whose scores and values are those of the keys from `n` on. -/
theorem step_state {K : ℕ} [Span K] {h : Bool} {c : Fin 4} {i : ℕ} {j : Fin 256} {n : ℕ}
    {st : FVec Ideal S1x256 .f32 × FVec Ideal S128x256 .f32} (hst : StateAt x2 x3 x4 x5 h c i j n st)
    {sc : FVec Ideal ⟨2, ![K, 256]⟩ .f32} {v : FVec Ideal ⟨2, ![128, K]⟩ .bf16}
    (hsc : ∀ r : Fin K, sc (ix2 r j) = score x2 x3 x5 h c i j (n + r.val))
    (hv : ∀ d (r : Fin K), v (ix2 d r) = (value x4 h d (n + r.val) : EReal)) :
    StateAt x2 x3 x4 x5 h c i j (n + K) (step (F := Ideal) st sc v) := by
  intro d
  have ht : top (F := Ideal) st.1 sc (ix2 (0 : Fin 1) j)
      = max (st.1 (ix2 (0 : Fin 1) j)) (Finset.univ.fold max ⊥ fun r : Fin K => score x2 x3 x5 h c i j (n + r.val)) := by
    rw [top_apply]
    simp only [hsc]
  have := (hst d).step K ht
  rw [step_acc]
  simp only [hsc, hv]
  exact this

variable (hx : ∀ d k, x4 (ix3 (0 : Fin 1) d k) = ((x4 (ix3 (0 : Fin 1) d k)).toReal : EReal))
include hx

/-- Keys far below the diagonal. -/
theorem far_state {K : ℕ} [Span K] {h : Bool} {c : Fin 4} {i : ℕ} {j : Fin 256} (n : ℕ)
    {st : FVec Ideal S1x256 .f32 × FVec Ideal S128x256 .f32} (hst : StateAt x2 x3 x4 x5 h c i j n st)
    {q : Vec Ideal S1x256x128 .bf16} {k : Vec Ideal ⟨3, ![1, K, 128]⟩ .bf16} {v : Vec Ideal ⟨3, ![1, 128, K]⟩ .bf16}
    (hq : RowsAt q x2 (256 * i)) (hk : RowsAt k x3 n) (hv : ColsAt v x4 n) (hn : n + K ≤ 256 * (i - 1)) :
    StateAt x2 x3 x4 x5 h c i j (n + K) (far h (stream (F := Ideal) (BitVec.ofNat 32 c.val) q) k v st) :=
  step_state hst (fun r => by rw [scores_stream hq hk, score, if_pos (by omega)]) fun d r => values_at hv hx h d r

/-- The tile next to the diagonal. -/
theorem near_state {h : Bool} {c : Fin 4} {i : ℕ} {j : Fin 256} (n : ℕ)
    {st : FVec Ideal S1x256 .f32 × FVec Ideal S128x256 .f32} (hst : StateAt x2 x3 x4 x5 h c i j n st)
    {q k : Vec Ideal S1x256x128 .bf16} {v : Vec Ideal S1x128x256 .bf16}
    (hq : RowsAt q x2 (256 * i)) (hk : RowsAt k x3 n) (hv : ColsAt v x4 n) (hn : n + 256 = 256 * i) :
    StateAt x2 x3 x4 x5 h c i j (n + 256) (near h (stream (F := Ideal) (BitVec.ofNat 32 c.val) q) k v (nearBias x5 h) st) :=
  step_state (K := 256) hst (fun r => by
    have hr : inTile (n + r.val) = r := Fin.ext (show (n + r.val) % 256 = r.val by omega)
    rw [biased_apply, scores_stream (K := 256) hq hk, nearBias_apply, score, if_neg (show ¬n + r.val < 256 * (i - 1) by omega), if_pos (show n + r.val < 256 * i by omega), hr])
    fun d r => values_at (K := 256) hv hx h d r

/-- The tile on the diagonal. -/
theorem diag_state {h : Bool} {c : Fin 4} {i : ℕ} {j : Fin 256} (n : ℕ)
    {st : FVec Ideal S1x256 .f32 × FVec Ideal S128x256 .f32} (hst : StateAt x2 x3 x4 x5 h c i j n st)
    {q k : Vec Ideal S1x256x128 .bf16} {v : Vec Ideal S1x128x256 .bf16}
    (hq : RowsAt q x2 (256 * i)) (hk : RowsAt k x3 n) (hv : ColsAt v x4 n) (hn : n = 256 * i) :
    StateAt x2 x3 x4 x5 h c i j (n + 256) (diag h (stream (F := Ideal) (BitVec.ofNat 32 c.val) q) k v (diagBias x5 h) st) :=
  step_state (K := 256) hst (fun r => by
    have hr : inTile (n + r.val) = r := Fin.ext (show (n + r.val) % 256 = r.val by omega)
    rw [masked_apply, biased_apply, scores_stream (K := 256) hq hk, diagBias_apply, score, if_neg (show ¬n + r.val < 256 * (i - 1) by omega), if_neg (show ¬n + r.val < 256 * i by omega), hr])
    fun d r => values_at (K := 256) hv hx h d r

variable (h : Bool) (c : Fin 4) (j : Fin 256)

theorem acc0_state : StateAt x2 x3 x4 x5 h c 0 j 256 (acc0 x2 x3 x4 x5 h (BitVec.ofNat 32 c.val)) :=
  diag_state hx 0 (start_state h c 0 j) (rowsAt_ld 256 0 _ _) (rowsAt_ld 256 0 _ _) (colsAt_ld 256 0 _ _) rfl

theorem acc1_state : StateAt x2 x3 x4 x5 h c 1 j 512 (acc1 x2 x3 x4 x5 h (BitVec.ofNat 32 c.val)) :=
  have hq := rowsAt_ld 256 256 x2 inb_S1x2048x128_S1x256x128_0_256_0
  diag_state hx 256 (near_state hx 0 (start_state h c 1 j) hq (rowsAt_ld 256 0 _ _) (colsAt_ld 256 0 _ _) rfl) hq
    (rowsAt_ld 256 256 _ _) (colsAt_ld 256 256 _ _) rfl

theorem acc2_state : StateAt x2 x3 x4 x5 h c 2 j 768 (acc2 x2 x3 x4 x5 h (BitVec.ofNat 32 c.val)) :=
  have hq := rowsAt_ld 256 512 x2 inb_S1x2048x128_S1x256x128_0_512_0
  diag_state hx 512 (near_state hx 256 (far_state hx 0 (start_state h c 2 j) hq (rowsAt_ld 256 0 _ _) (colsAt_ld 256 0 _ _) (by decide))
    hq (rowsAt_ld 256 256 _ _) (colsAt_ld 256 256 _ _) rfl) hq (rowsAt_ld 256 512 _ _) (colsAt_ld 256 512 _ _) rfl

theorem acc3_state : StateAt x2 x3 x4 x5 h c 3 j 1024 (acc3 x2 x3 x4 x5 h (BitVec.ofNat 32 c.val)) :=
  have hq := rowsAt_ld 256 768 x2 inb_S1x2048x128_S1x256x128_0_768_0
  diag_state hx 768 (near_state hx 512 (far_state hx 0 (start_state h c 3 j) hq (rowsAt_ld 512 0 _ _) (colsAt_ld 512 0 _ _) (by decide))
    hq (rowsAt_ld 256 512 _ _) (colsAt_ld 256 512 _ _) rfl) hq (rowsAt_ld 256 768 _ _) (colsAt_ld 256 768 _ _) rfl

theorem acc4_state : StateAt x2 x3 x4 x5 h c 4 j 1280 (acc4 x2 x3 x4 x5 h (BitVec.ofNat 32 c.val)) :=
  have hq := rowsAt_ld 256 1024 x2 inb_S1x2048x128_S1x256x128_0_1024_0
  diag_state hx 1024 (near_state hx 768 (far_state hx 0 (start_state h c 4 j) hq (rowsAt_ld 768 0 _ _) (colsAt_ld 768 0 _ _) (by decide))
    hq (rowsAt_ld 256 768 _ _) (colsAt_ld 256 768 _ _) rfl) hq (rowsAt_ld 256 1024 _ _) (colsAt_ld 256 1024 _ _) rfl

theorem acc5_state : StateAt x2 x3 x4 x5 h c 5 j 1536 (acc5 x2 x3 x4 x5 h (BitVec.ofNat 32 c.val)) :=
  have hq := rowsAt_ld 256 1280 x2 inb_S1x2048x128_S1x256x128_0_1280_0
  diag_state hx 1280 (near_state hx 1024 (far_state hx 0 (start_state h c 5 j) hq (rowsAt_ld 1024 0 _ _) (colsAt_ld 1024 0 _ _) (by decide))
    hq (rowsAt_ld 256 1024 _ _) (colsAt_ld 256 1024 _ _) rfl) hq (rowsAt_ld 256 1280 _ _) (colsAt_ld 256 1280 _ _) rfl

theorem acc6_state : StateAt x2 x3 x4 x5 h c 6 j 1792 (acc6 x2 x3 x4 x5 h (BitVec.ofNat 32 c.val)) :=
  have hq := rowsAt_ld 256 1536 x2 inb_S1x2048x128_S1x256x128_0_1536_0
  diag_state hx 1536 (near_state hx 1280 (far_state hx 1024
    (far_state hx 0 (start_state h c 6 j) hq (rowsAt_ld 1024 0 _ _) (colsAt_ld 1024 0 _ _) (by decide))
    hq (rowsAt_ld 256 1024 _ _) (colsAt_ld 256 1024 _ _) (by decide))
    hq (rowsAt_ld 256 1280 _ _) (colsAt_ld 256 1280 _ _) rfl) hq (rowsAt_ld 256 1536 _ _) (colsAt_ld 256 1536 _ _) rfl

theorem acc7_state : StateAt x2 x3 x4 x5 h c 7 j 2048 (acc7 x2 x3 x4 x5 h (BitVec.ofNat 32 c.val)) :=
  have hq := rowsAt_ld 256 1792 x2 inb_S1x2048x128_S1x256x128_0_1792_0
  diag_state hx 1792 (near_state hx 1536 (far_state hx 1024
    (far_state hx 0 (start_state h c 7 j) hq (rowsAt_ld 1024 0 _ _) (colsAt_ld 1024 0 _ _) (by decide))
    hq (rowsAt_ld 512 1024 _ _) (colsAt_ld 512 1024 _ _) (by decide))
    hq (rowsAt_ld 256 1536 _ _) (colsAt_ld 256 1536 _ _) rfl) hq (rowsAt_ld 256 1792 _ _) (colsAt_ld 256 1792 _ _) rfl

end

end Cert.Attn
-- ==== Proof.Attn.TileResult.lean ====
/- One tile's result: the normalised rows of the combined weights, over every key. -/
module

public import proofs.«01_k».proof.Proof.Attn.TileState

@[expose] public section

noncomputable section

namespace Cert.Attn

open Cert.KernelIdeal Cert.KernelIdeal.Gen Idealize.ShloMosaic Idealize.SL.Sem

theorem State.congr {sc sc' : ℕ → EReal} {v : ℕ → ℝ} {n : ℕ} {m acc : EReal} (h : State sc v n m acc)
    (e : ∀ k < n, sc k = sc' k) : State sc' v n m acc := by
  have hm : (Finset.range n).sup sc = (Finset.range n).sup sc' := Finset.sup_congr rfl fun k hk => e k (Finset.mem_range.1 hk)
  refine ⟨h.max.trans hm, h.acc.trans ?_⟩
  congr 1
  exact Finset.sum_congr rfl fun k hk => by rw [e k (Finset.mem_range.1 hk)]

/-- The softmax weights of 2048 scores, before their division. -/
def weights (s : ℕ → EReal) (k : Fin 2048) : ℝ := expo (s k.val - Finset.univ.sup fun k : Fin 2048 => s k.val)

theorem weights_nonneg (s : ℕ → EReal) (k : Fin 2048) : 0 ≤ weights s k := expo_nonneg _

/-- The keys at the negative infinity count for nothing. -/
theorem sum_extend {s : ℕ → EReal} {v : ℕ → ℝ} {n : ℕ} (hn : n ≤ 2048) (hs : ∀ k, n ≤ k → s k = ⊥) :
    (∑ k ∈ Finset.range n, expo (s k - (Finset.range n).sup s) * v k) = ∑ k : Fin 2048, weights s k * v k.val := by
  have hsup : (Finset.range n).sup s = Finset.univ.sup fun k : Fin 2048 => s k.val := by
    refine le_antisymm (Finset.sup_le fun k hk => ?_) (Finset.sup_le fun k _ => ?_)
    · exact Finset.le_sup (f := fun k : Fin 2048 => s k.val) (Finset.mem_univ ⟨k, by have := Finset.mem_range.1 hk; omega⟩)
    · by_cases hk : k.val < n
      · exact Finset.le_sup (f := s) (Finset.mem_range.2 hk)
      · rw [hs _ (not_lt.1 hk)]; exact bot_le
  simp only [weights, ← hsup]
  rw [← Finset.sum_range (fun k => expo (s k - (Finset.range n).sup s) * v k)]
  refine Finset.sum_subset (Finset.range_subset_range.2 hn) fun k _ hk => ?_
  rw [hs k (not_lt.1 fun h => hk (Finset.mem_range.2 h)), EReal.bot_sub, expo_bot, zero_mul]

/-- Lane `d` of a head, among a block's 128. -/
def lane (h : Bool) (d : Fin 64) : Fin 128 := if h then ⟨64 + d.val, by omega⟩ else ⟨d.val, by omega⟩

/-- The number of a head's first or second stream. -/
def stm (h b : Bool) : Fin 4 := match h, b with
  | false, false => 0
  | false, true => 1
  | true, false => 2
  | true, true => 3

/-- The kernel's ε. -/
def eps : ℝ := (Ideal.ofBits .f32 0x358637BD#32).toReal

theorem ofBits_eps : Ideal.ofBits .f32 0x358637BD#32 = (eps : EReal) := by
  rw [eps]
  simp [Ideal.ofBits, Ideal.ieee, -EReal.coe_mul]

theorem ofBits_inv64 : Ideal.ofBits .f32 0x3C800000#32 = ((1 / 64 : ℝ) : EReal) := by
  simp [Ideal.ofBits, Ideal.ieee, -EReal.coe_mul]
  norm_num

variable {x2 : Vec Ideal S1x2048x128 .bf16} {x3 : Vec Ideal S1x2048x128 .bf16} {x4 : Vec Ideal S1x128x2048 .bf16}
  {x5 : Vec Ideal S2x2x256x256 .f32}

/-- A head's values, as reals. -/
def vals (x4 : Vec Ideal S1x128x2048 .bf16) (h : Bool) (d : Fin 64) (k : Fin 2048) : ℝ := (x4 (ix3 (0 : Fin 1) (lane h d) k)).toReal

section
variable {i : ℕ} (hi : i < 8) {j : Fin 256} {h : Bool} {b : Bool} {s : ℕ → EReal} {far : ℝ}
  {st : FVec Ideal S1x256 .f32 × FVec Ideal S128x256 .f32}
  (hst : StateAt x2 x3 x4 x5 h (stm h b) i j (256 * (i + 1)) st)
  (hs : ∀ k < 256 * (i + 1), score x2 x3 x5 h (stm h b) i j k = rebase far (s k)) (hb : ∀ k, 256 * (i + 1) ≤ k → s k = ⊥)
include hi hst hs hb

theorem acc_apply (e : Fin 128) : st.2 (ix2 e j) = ((∑ k : Fin 2048, weights s k * value x4 h e k.val : ℝ) : EReal) := by
  rw [((hst e).congr hs).plain, sum_extend (by omega) hb]

/-- A stream's weighted values over its denominators. -/
theorem quotient_apply (d : Fin 64) : quotient (F := Ideal) h st.2 (ix2 d j)
    = Ideal.div ((∑ k, weights s k * vals x4 h d k : ℝ) : EReal) ((∑ k, weights s k : ℝ) : EReal) := by
  have e := acc_apply hi hst hs hb
  have hp : ∀ k : Fin 2048, pos k.val = k := fun k => Fin.ext (Nat.mod_eq_of_lt k.isLt)
  cases h
  · rw [quotient_false, e, e]
    simp [value, vals, lane, hp]
  · rw [quotient_true, e, e]
    simp [value, vals, lane, hp]

end

/-- **A tile's result.** Row `j` of tile `i` is the normalised combination of the values by the difference of the two
    softmaxes' weights, whenever the kernel's scores are the scores `s` rebased and the later keys are masked. -/
theorem tile_apply {i : ℕ} (hi : i < 8) {j : Fin 256} {s : Bool → Bool → ℕ → EReal} {far : Bool → ℝ}
    {acc : Bool → BitVec 32 → FVec Ideal S1x256 .f32 × FVec Ideal S128x256 .f32}
    (hacc : ∀ h c, StateAt x2 x3 x4 x5 h c i j (256 * (i + 1)) (acc h (BitVec.ofNat 32 c.val)))
    (hs : ∀ h b, ∀ k < 256 * (i + 1), score x2 x3 x5 h (stm h b) i j k = rebase (far h) (s h b k))
    (hb : ∀ h b k, 256 * (i + 1) ≤ k → s h b k = ⊥)
    (y0 : Vec Ideal S5x32 .f32) (y1 : Vec Ideal S1x128 .f32) {lam : ℝ}
    (hl : lambda (F := Ideal) y0 (ix2 (0 : Fin 1) (0 : Fin 1)) = (lam : EReal)) (h : Bool) (d : Fin 64) :
    tile (F := Ideal) y0 y1 acc (ix3 (0 : Fin 1) j (lane h d))
      = normed (1 / 64) eps (combined (weights (s h false)) (weights (s h true)) (vals x4 h) lam) d
        * y1 (ix2 (0 : Fin 1) (lane h d)) * (1 - y0 (ix2 (4 : Fin 5) (0 : Fin 32))) := by
  have hq : ∀ h b d, quotient (F := Ideal) h (acc h (BitVec.ofNat 32 (stm h b).val)).2 (ix2 d j)
      = Ideal.div ((∑ k, weights (s h b) k * vals x4 h d k : ℝ) : EReal) ((∑ k, weights (s h b) k : ℝ) : EReal) :=
    fun h b d => quotient_apply hi (hacc h (stm h b)) (hs h b) (hb h b) d
  rw [← normed_fused (vals x4 h) lam (c := 1 / 64) (by norm_num) eps (weights_nonneg (s h false)) (weights_nonneg (s h true))]
  rw [tile, finish_apply, lamInit_apply, ofBits_eps, ofBits_inv64]
  have ha : ∀ d : Fin 64, attended (F := Ideal) (lambda y0) (acc false 0#32).2 (acc false 1#32).2 (acc true 2#32).2 (acc true 3#32).2
      (ix2 j (lane h d)) = fused (weights (s h false)) (weights (s h true)) (vals x4 h) lam d := fun d => by
    rw [attended_apply, hl, fused]
    cases h
    · have hd : (lane false d).val < 64 := d.isLt
      rw [dif_pos hd]
      exact congr (congrArg HSub.hSub (hq false false d)) (congrArg ((lam : EReal) * ·) (hq false true d))
    · have hd : ¬(lane true d).val < 64 := by simp [lane]
      rw [dif_neg hd]
      have hd' : (⟨(lane true d).val - 64, by omega⟩ : Fin 64) = d := Fin.ext (by simp [lane])
      rw [hd']
      exact congr (congrArg HSub.hSub (hq true false d)) (congrArg ((lam : EReal) * ·) (hq true true d))
  rw [normed, ha d]
  congr 6
  cases h
  · rw [if_pos (show (lane false d).val < 64 from d.isLt)]
    exact Finset.sum_congr rfl fun e _ => by rw [← ha e]; rfl
  · rw [if_neg (by simp [lane])]
    exact Finset.sum_congr rfl fun e _ => by rw [← ha e]; rfl

end Cert.Attn
-- ==== Proof.Attn.Score.lean ====
/- The kernel's scores of one block against the scores with their bias and mask. -/
module

public import proofs.«01_k».proof.Proof.Attn.TileResult
public import proofs.«01_k».proof.Proof.Attn.Bucket

@[expose] public section

noncomputable section

namespace Cert.Attn

open Cert.KernelIdeal Cert.KernelIdeal.Gen Idealize.ShloMosaic Idealize.SL.Sem

/-- Lane `l` of stream `c`, among a block's 128. -/
def lane4 (c : Fin 4) (l : Fin 32) : Fin 128 := ⟨32 * c.val + l.val, by omega⟩

/-- A nonnegative real factor of a finite sum. -/
theorem sum_mul_coe {ι : Type} (t : Finset ι) (f : ι → EReal) {a : ℝ} (ha : 0 ≤ a) :
    ∑ i ∈ t, f i * (a : EReal) = (∑ i ∈ t, f i) * (a : EReal) := by
  classical
  induction t using Finset.induction_on with
  | empty => simp
  | insert x t hx ih =>
    rw [Finset.sum_insert hx, Finset.sum_insert hx, ih,
      EReal.right_distrib_of_nonneg_of_ne_top (EReal.coe_nonneg.2 ha) (EReal.coe_ne_top _)]

/-- A sum over the lanes of a stream. -/
theorem sum_lanes (f : Fin 128 → EReal) (c : Fin 4) :
    (∑ l : Fin 128, if l.val / 32 = c.val then f l else 0) = ∑ l : Fin 32, f (lane4 c l) := by
  rw [← Finset.sum_filter]
  refine (Finset.sum_bij (fun (l : Fin 32) _ => lane4 c l) (fun l _ => ?_) (fun a _ b _ e => ?_) (fun b hb => ?_) fun _ _ => rfl).symm
  · simp [lane4]; omega
  · have := congrArg Fin.val e
    simp only [lane4] at this
    exact Fin.ext (by omega)
  · have hb' : b.val / 32 = c.val := by simpa using hb
    exact ⟨⟨b.val % 32, by omega⟩, Finset.mem_univ _, Fin.ext (by simp only [lane4]; omega)⟩

theorem sqrt32_pos : 0 < Real.sqrt 32 := Real.sqrt_pos.2 (by norm_num)

/-- The dot product of query `q` and key `k` in a stream. -/
def dot (x2 x3 : Vec Ideal S1x2048x128 .bf16) (c : Fin 4) (q k : ℕ) : EReal :=
  ∑ l : Fin 32, x2 (ix3 (0 : Fin 1) (pos q) (lane4 c l)) * x3 (ix3 (0 : Fin 1) (pos k) (lane4 c l))

theorem product_eq (x2 x3 : Vec Ideal S1x2048x128 .bf16) (c : Fin 4) (q k : ℕ) :
    product x2 x3 c q k = dot x2 x3 c q k * (((Real.sqrt 32)⁻¹ * (Real.log 2)⁻¹ : ℝ) : EReal) := by
  rw [dot, ← sum_mul_coe _ _ (mul_nonneg (inv_nonneg.2 (Real.sqrt_nonneg _)) log2_inv_pos.le),
    ← sum_lanes (fun l => x2 (ix3 (0 : Fin 1) (pos q) l) * x3 (ix3 (0 : Fin 1) (pos k) l) * (((Real.sqrt 32)⁻¹ * (Real.log 2)⁻¹ : ℝ) : EReal))]
  refine Finset.sum_congr rfl fun l _ => ?_
  split_ifs
  · rw [← mul_assoc, mul_comm (x3 _)]
  · rw [mul_zero]

/-- A score: the scaled dot product and the bias of its bucket where the key's chunk is not after the query's, the
    negative infinity elsewhere. -/
def sref (dot : ℕ → ℕ → EReal) (tb : ℕ → ℝ) (q k : ℕ) : EReal :=
  if k / 64 ≤ q / 64 then Ideal.div (dot q k) ((Real.sqrt 32 : ℝ) : EReal) + (tb (bucket ((k : ℤ) - (q : ℤ))) : EReal) else ⊥

/-- A scaled dot product with a bias, rebased. -/
theorem rebase_score (D : EReal) (b far : ℝ) :
    rebase far (Ideal.div D ((Real.sqrt 32 : ℝ) : EReal) + (b : EReal))
      = D * (((Real.sqrt 32)⁻¹ * (Real.log 2)⁻¹ : ℝ) : EReal) + ((b - far : ℝ) : EReal) * (((Real.log 2)⁻¹ : ℝ) : EReal) := by
  have hs := inv_pos.2 sqrt32_pos
  have hl := log2_inv_pos
  rw [Ideal.div_coe sqrt32_pos.ne', one_div]
  induction D using EReal.rec with
  | bot => rw [EReal.bot_mul_coe_of_pos hs, EReal.bot_mul_coe_of_pos (mul_pos hs hl), EReal.bot_add, EReal.bot_add, rebase_bot]
  | top =>
    rw [EReal.top_mul_coe_of_pos hs, EReal.top_mul_coe_of_pos (mul_pos hs hl), ← EReal.coe_mul, EReal.top_add_coe,
      EReal.top_add_coe, rebase_top]
  | coe D =>
    rw [← EReal.coe_mul, ← EReal.coe_add, rebase_coe, ← EReal.coe_mul, ← EReal.coe_mul, ← EReal.coe_add]
    congr 1
    ring

theorem ofBits_cut : Ideal.ofBits .f32 0xF0C9F2CA#32 = ((-(13234890 * 2 ^ 75) : ℝ) : EReal) := by
  simp [Ideal.ofBits, Ideal.ieee, -EReal.coe_mul]

theorem ofBits_neg : Ideal.ofBits .f32 0xF149F2CA#32 = ((-(13234890 * 2 ^ 76) : ℝ) : EReal) := by
  simp [Ideal.ofBits, Ideal.ieee, -EReal.coe_mul]

/-- The bias tiles a block holds, for a table of biases by bucket. -/
structure BiasTiles (x5 : Vec Ideal S2x2x256x256 .f32) (tb : Bool → ℕ → ℝ) : Prop where
  near : ∀ h (r j : Fin 256), x5 (ix4 (headIx h) (1 : Fin 2) r j)
    = ((tb h (bucket ((r.val : ℤ) - (j.val : ℤ) - 256)) - tb h 15 : ℝ) : EReal)
  diag : ∀ h (r j : Fin 256), x5 (ix4 (headIx h) (0 : Fin 2) r j)
    = if r.val / 64 ≤ j.val / 64 then ((tb h (bucket ((r.val : ℤ) - (j.val : ℤ))) - tb h 15 : ℝ) : EReal) else Ideal.ofBits .f32 0xF149F2CA#32
  small : ∀ h n, |tb h n| < 10 ^ 29 * 2

/-- **The kernel's scores.** Up to the diagonal they are the scores, less the far bias, in base 2. -/
theorem score_eq {x2 x3 : Vec Ideal S1x2048x128 .bf16} {x5 : Vec Ideal S2x2x256x256 .f32} {tb : Bool → ℕ → ℝ}
    (hB : BiasTiles x5 tb) (h : Bool) (c : Fin 4) (i : ℕ) (j : Fin 256) (k : ℕ) (hk : k < 256 * (i + 1)) :
    score x2 x3 x5 h c i j k = rebase (tb h 15) (sref (dot x2 x3 c) (tb h) (256 * i + j.val) k) := by
  rw [score, sref, product_eq]
  by_cases h1 : k < 256 * (i - 1)
  · rw [if_pos h1, if_pos (show k / 64 ≤ (256 * i + j.val) / 64 by omega), rebase_score, bucket_far (by push_cast; omega), sub_self,
      EReal.coe_zero, zero_mul, add_zero]
  rw [if_neg h1]
  by_cases h2 : k < 256 * i
  · have hi : ((inTile k).val : ℤ) - (j.val : ℤ) - 256 = (k : ℤ) - ((256 * i + j.val : ℕ) : ℤ) := by
      have : (inTile k).val = k - 256 * (i - 1) := show k % 256 = _ by omega
      rw [this]; push_cast; omega
    rw [if_pos h2, if_pos (show k / 64 ≤ (256 * i + j.val) / 64 by omega), rebase_score, hB.near, hi]
  rw [if_neg h2, hB.diag]
  have hv : (inTile k).val = k - 256 * i := show k % 256 = _ by omega
  have hi : ((inTile k).val : ℤ) - (j.val : ℤ) = (k : ℤ) - ((256 * i + j.val : ℕ) : ℤ) := by
    rw [hv]; push_cast; omega
  by_cases h3 : k / 64 ≤ (256 * i + j.val) / 64
  · have h3' : (inTile k).val / 64 ≤ j.val / 64 := by rw [hv]; omega
    have ha := abs_lt.1 (hB.small h (bucket ((k : ℤ) - ((256 * i + j.val : ℕ) : ℤ))))
    have hb := abs_lt.1 (hB.small h 15)
    rw [if_pos h3, if_pos h3', hi, rebase_score, if_pos]
    rw [ofBits_cut, EReal.coe_lt_coe_iff]
    norm_num at ha hb ⊢
    linarith [ha.1, hb.2]
  · have h3' : ¬(inTile k).val / 64 ≤ j.val / 64 := by rw [hv]; omega
    rw [if_neg h3, if_neg h3', rebase_bot, if_neg]
    rw [ofBits_cut, ofBits_neg, EReal.coe_lt_coe_iff]
    norm_num

end Cert.Attn
-- ==== Proof.Attn.Block.lean ====
/- One block of the attention output: every row of its two heads. -/
module

public import proofs.«01_k».proof.Proof.Attn.Score

@[expose] public section

noncomputable section

namespace Cert.Attn

open Cert.KernelIdeal Cert.KernelIdeal.Gen Idealize.ShloMosaic Idealize.SL.Sem

variable {x0 : Vec Ideal S5x32 .f32} {x1 : Vec Ideal S1x128 .f32} {x2 : Vec Ideal S1x2048x128 .bf16}
  {x3 : Vec Ideal S1x2048x128 .bf16} {x4 : Vec Ideal S1x128x2048 .bf16} {x5 : Vec Ideal S2x2x256x256 .f32}
  {x6 x7 x8 x9 : Vec Ideal S1x128x2048 .f32}

/-- A head's row, from a block's windows. -/
def row (x0 : Vec Ideal S5x32 .f32) (x1 : Vec Ideal S1x128 .f32) (x2 x3 : Vec Ideal S1x2048x128 .bf16) (x4 : Vec Ideal S1x128x2048 .bf16)
    (tb : Bool → ℕ → ℝ) (lam : ℝ) (q : ℕ) (h : Bool) (d : Fin 64) : EReal :=
  normed (1 / 64) eps (combined (weights (sref (dot x2 x3 (stm h false)) (tb h) q)) (weights (sref (dot x2 x3 (stm h true)) (tb h) q))
      (vals x4 h) lam) d * x1 (ix2 (0 : Fin 1) (lane h d)) * (1 - x0 (ix2 (4 : Fin 5) (0 : Fin 32)))

/-- The head of a lane. -/
def headOf (l : Fin 128) : Bool := decide (64 ≤ l.val)

/-- A lane within its head. -/
def inHead (l : Fin 128) : Fin 64 := ⟨l.val % 64, Nat.mod_lt _ (by norm_num)⟩

theorem lane_headOf (l : Fin 128) : lane (headOf l) (inHead l) = l := by
  by_cases h : 64 ≤ l.val
  · refine Fin.ext ?_
    simp only [headOf, h, decide_true, lane, if_true, inHead]
    omega
  · refine Fin.ext ?_
    simp only [headOf, h, decide_false, lane, inHead]
    simp only [Bool.false_eq_true, if_false]
    omega

/-- The whole block, a row of 128 lanes at each query. -/
def rows (x0 : Vec Ideal S5x32 .f32) (x1 : Vec Ideal S1x128 .f32) (x2 x3 : Vec Ideal S1x2048x128 .bf16) (x4 : Vec Ideal S1x128x2048 .bf16)
    (tb : Bool → ℕ → ℝ) (lam : ℝ) : Vec Ideal S1x2048x128 .bf16 :=
  fun y => (fun (q : Fin 2048) (l : Fin 128) => row x0 x1 x2 x3 x4 tb lam q.val (headOf l) (inHead l)) (y 1) (y 2)

theorem rows_apply' (tb : Bool → ℕ → ℝ) (lam : ℝ) (q : Fin 2048) (l : Fin 128) :
    rows x0 x1 x2 x3 x4 tb lam (ix3 (0 : Fin 1) q l) = row x0 x1 x2 x3 x4 tb lam q.val (headOf l) (inHead l) := rfl

section
variable (tb : Bool → ℕ → ℝ) (hB : BiasTiles x5 tb) {lam : ℝ}
  (hl : lambda (F := Ideal) x0 (ix2 (0 : Fin 1) (0 : Fin 1)) = (lam : EReal))
include hB hl

/-- A stored tile is its rows of the block. -/
theorem tile_rows {i : ℕ} (hi : i < 8) {acc : Bool → BitVec 32 → FVec Ideal S1x256 .f32 × FVec Ideal S128x256 .f32}
    (hacc : ∀ h c j, StateAt x2 x3 x4 x5 h c i j (256 * (i + 1)) (acc h (BitVec.ofNat 32 c.val)))
    (inb : ∀ a, (![0, 256 * i, 0] : Fin 3 → ℕ) a + (S1x256x128.size) a ≤ S1x2048x128.size a) (x : S1x256x128.Idx) :
    tile (F := Ideal) (View.ld x0 r0_3) (View.ld x1 r0_11) acc x
      = rows x0 x1 x2 x3 x4 tb lam ((Rect.unit (s := S1x2048x128) ![0, 256 * i, 0] S1x256x128.size inb).emb x) := by
  have e0 : View.ld x0 r0_3 = x0 := View.ld_unit_lit _ _ (by decide)
  have e1 : View.ld x1 r0_11 = x1 := View.ld_unit_lit _ _ (by decide)
  rw [e0, e1]
  obtain ⟨j, l, rfl⟩ : ∃ (j : Fin 256) (l : Fin 128), x = ix3 (0 : Fin 1) j l :=
    ⟨x 1, x 2, (eq_ix3 x).trans (congrArg (fun a : Fin 1 => ix3 a (x 1 : Fin 256) (x 2 : Fin 128)) (Subsingleton.elim _ _))⟩
  have hj : 256 * i + j.val < 2048 := by omega
  have he : (Rect.unit (s := S1x2048x128) ![0, 256 * i, 0] S1x256x128.size inb).emb (ix3 (0 : Fin 1) j l)
      = ix3 (0 : Fin 1) (⟨256 * i + j.val, hj⟩ : Fin 2048) l := by
    funext a
    refine Fin.ext ((Rect.idx_unit_val _ _ _ _ a).trans ?_)
    fin_cases a
    · rfl
    · rfl
    · exact Nat.zero_add _
  rw [he, rows_apply', ← lane_headOf l,
    tile_apply hi (fun h c => hacc h c j) (s := fun h b k => sref (dot x2 x3 (stm h b)) (tb h) (256 * i + j.val) k)
    (far := fun h => tb h 15) (fun h b k hk => score_eq hB h (stm h b) i j k hk)
    (fun h b k hk => if_neg (by omega)) x0 x1 hl, lane_headOf l, row, lane_headOf l]

variable (hx : ∀ d k, x4 (ix3 (0 : Fin 1) d k) = ((x4 (ix3 (0 : Fin 1) d k)).toReal : EReal))
include hx

/-- **The attention output's block**, row by row. -/
theorem out_rows : out0_10 (F := Ideal) x0 x1 x2 x3 x4 x5 x6 x7 x8 x9 = rows x0 x1 x2 x3 x4 tb lam := by
  funext y
  rw [out0_10_eq]
  refine View.canon_apply_of_pieces (rows x0 x1 x2 x3 x4 tb lam) _ ?_ y ?_
  · simp only [List.forall_mem_cons, List.not_mem_nil, false_imp_iff, implies_true, and_true]
    exact ⟨tile_rows tb hB hl (i := 7) (by decide) (fun h c j => acc7_state hx h c j) _,
      tile_rows tb hB hl (i := 6) (by decide) (fun h c j => acc6_state hx h c j) _,
      tile_rows tb hB hl (i := 5) (by decide) (fun h c j => acc5_state hx h c j) _,
      tile_rows tb hB hl (i := 4) (by decide) (fun h c j => acc4_state hx h c j) _,
      tile_rows tb hB hl (i := 3) (by decide) (fun h c j => acc3_state hx h c j) _,
      tile_rows tb hB hl (i := 2) (by decide) (fun h c j => acc2_state hx h c j) _,
      tile_rows tb hB hl (i := 1) (by decide) (fun h c j => acc1_state hx h c j) _,
      tile_rows tb hB hl (i := 0) (by decide) (fun h c j => acc0_state hx h c j) _⟩
  · exact cover0_10 (F := Ideal) _ _ _ _ _ _ _ _ y

end

end Cert.Attn
-- ==== Proof.Attn.Windows.lean ====
/- The call's input blocks at a grid point, as elements of the arguments. -/
module

public import proofs.«01_k».proof.Proof.Gen.KernelIdeal.Value
public import proofs.«01_k».proof.Proof.Attn.Host
public import proofs.«01_k».proof.Proof.Attn.Block
public import Idealize.ShloMosaic.Lib.Pipeline.ValueKit.Point

@[expose] public section

noncomputable section

namespace Cert.Attn

open Cert.KernelIdeal Cert.KernelIdeal.Gen Idealize.ShloMosaic Idealize.SL.Sem

variable (m : (x : Loc nD τ sig) → Buf (Elt Ideal) x) (c : Dev nD)

/-- The blocks' places at a grid point: a batch and a pair of heads. -/
theorem places : ∀ t : Fin cfg0.N, win0_0.index t = ![0, 0] ∧ win0_1.index t = ![0, 0] ∧ win0_2.index t = ![t.val / 4, 0, t.val % 4]
    ∧ win0_3.index t = ![t.val / 4, 0, t.val % 4] ∧ win0_4.index t = ![t.val / 4, t.val % 4, 0] ∧ win0_5.index t = ![t.val % 4, 0, 0, 0]
    ∧ win0_6.index t = ![t.val / 4, t.val % 4, 0] ∧ win0_7.index t = ![t.val / 4, t.val % 4, 0]
    ∧ win0_8.index t = ![t.val / 4, t.val % 4, 0] ∧ win0_9.index t = ![t.val / 4, t.val % 4, 0]
    ∧ win0_10.index t = ![t.val / 4, 0, t.val % 4] ∧ win0_11.index t = ![0, t.val / 4, t.val % 4, 0]
    ∧ win0_12.index t = ![0, t.val / 4, t.val % 4, 0] ∧ t.val < 128 :=
  (by decide +kernel : ∀ t : Fin grid0.N, _)

/-- A grid point's batch. -/
def batch (t : Fin cfg0.N) : Fin 32 := ⟨t.val / 4, by have : t.val < 128 := (places t).2.2.2.2.2.2.2.2.2.2.2.2.2; omega⟩

/-- A feature of a grid point's pair of heads. -/
def feat (t : Fin cfg0.N) (l : Fin 128) : Fin 512 := ⟨t.val % 4 * 128 + l.val, by omega⟩

variable (t : Fin cfg0.N)

theorem block0 (i : Fin 5) (l : Fin 32) : (iblk m c 0 t : Vec Ideal S5x32 .f32) (ix2 i l)
    = (V (F := Ideal) m c main_v1 : Vec Ideal S5x32 .f32) (ix2 i l) := by
  blk_ext [iblk, places t]

theorem block1 (l : Fin 128) : (iblk m c 1 t : Vec Ideal S1x128 .f32) (ix2 (0 : Fin 1) l)
    = (V (F := Ideal) m c main_v5 : Vec Ideal S1x128 .f32) (ix2 (0 : Fin 1) l) := by
  blk_ext [iblk, places t]

theorem block2 (q : Fin 2048) (l : Fin 128) : (iblk m c 2 t : Vec Ideal S1x2048x128 .bf16) (ix3 (0 : Fin 1) q l)
    = (V (F := Ideal) m c main_v7 : Vec Ideal S32x2048x512 .bf16) (ix3 (batch t) q (feat t l)) := by
  unfold batch feat
  blk_ext [iblk, places t]

theorem block3 (q : Fin 2048) (l : Fin 128) : (iblk m c 3 t : Vec Ideal S1x2048x128 .bf16) (ix3 (0 : Fin 1) q l)
    = (V (F := Ideal) m c main_v9 : Vec Ideal S32x2048x512 .bf16) (ix3 (batch t) q (feat t l)) := by
  unfold batch feat
  blk_ext [iblk, places t]

theorem block4 (l : Fin 128) (q : Fin 2048) : (iblk m c 4 t : Vec Ideal S1x128x2048 .bf16) (ix3 (0 : Fin 1) l q)
    = (V (F := Ideal) m c main_v14 : Vec Ideal S32x512x2048 .bf16) (ix3 (batch t) (feat t l) q) := by
  unfold batch feat
  blk_ext [iblk, places t]

theorem block5 (h z : Fin 2) (r j : Fin 256) : (iblk m c 5 t : Vec Ideal S2x2x256x256 .f32) (ix4 h z r j)
    = (V (F := Ideal) m c main_v151 : Vec Ideal S8x2x256x256 .f32) (ix4 (⟨t.val % 4 * 2 + h.val, by omega⟩ : Fin 8) z r j) := by
  blk_ext [iblk, places t]

theorem block6 (l : Fin 128) (q : Fin 2048) : (iblk m c 6 t : Vec Ideal S1x128x2048 .f32) (ix3 (0 : Fin 1) l q)
    = (V (F := Ideal) m c main_v16 : Vec Ideal S32x512x2048 .f32) (ix3 (batch t) (feat t l) q) := by
  unfold batch feat
  blk_ext [iblk, places t]

theorem block7 (l : Fin 128) (q : Fin 2048) : (iblk m c 7 t : Vec Ideal S1x128x2048 .f32) (ix3 (0 : Fin 1) l q)
    = (V (F := Ideal) m c main_v18 : Vec Ideal S32x512x2048 .f32) (ix3 (batch t) (feat t l) q) := by
  unfold batch feat
  blk_ext [iblk, places t]

theorem block8 (l : Fin 128) (q : Fin 2048) : (iblk m c 8 t : Vec Ideal S1x128x2048 .f32) (ix3 (0 : Fin 1) l q)
    = (V (F := Ideal) m c main_v11 : Vec Ideal S32x512x2048 .f32) (ix3 (batch t) (feat t l) q) := by
  unfold batch feat
  blk_ext [iblk, places t]

theorem block9 (l : Fin 128) (q : Fin 2048) : (iblk m c 9 t : Vec Ideal S1x128x2048 .f32) (ix3 (0 : Fin 1) l q)
    = (V (F := Ideal) m c main_v13 : Vec Ideal S32x512x2048 .f32) (ix3 (batch t) (feat t l) q) := by
  unfold batch feat
  blk_ext [iblk, places t]

end Cert.Attn
-- ==== Proof.Attn.Moderate.lean ====
/- What the precondition says of the arguments. -/
module

public import proofs.«01_k».proof.Pre_moderate
public import Idealize.ShloMosaic.Lib.ReduceAll
public import Idealize.ShloMosaic.Lib.Pointwise
public import Idealize.ShloMosaic.Lib.IdealHost

@[expose] public section

noncomputable section

namespace Cert.Attn

open Idealize.ShloMosaic Cert.Pre_moderate

instance moderateFacts : Cert.Pre_moderate.Facts where
  bcast_S_S32x2048x8x64 := by decide
  reducesTo_S32x2048x8x64_S_d0_1_2_3 := by decide
  h_S_ := by decide
  bcast_S_S4x32 := by decide
  reducesTo_S4x32_S_d0_1 := by decide
  bcast_S_S32x8 := by decide
  reducesTo_S32x8_S_d0_1 := by decide

/-- The values and the λ vectors are real numbers, and the biases are real numbers of moderate size. -/
structure Moderate (x2 : FVec Ideal S32x2048x8x64 .f32) (x5 : FVec Ideal S4x32 .f32) (x7 : FVec Ideal S32x8 .f32) : Prop where
  values : ∀ i, x2 i = ((x2 i).toReal : EReal)
  lambdas : ∀ i, x5 i = ((x5 i).toReal : EReal)
  biases : ∀ i, x7 i = ((x7 i).toReal : EReal)
  small : ∀ i, |(x7 i).toReal| < 10 ^ 29 * 2

theorem of_andi {a b : BitVec 1} (h : IntOp.andi a b = 1#1) : a = 1#1 ∧ b = 1#1 := by
  revert a b
  decide

/-- A magnitude below `+∞` is a real number's. -/
theorem real_of_abs {x B : EReal} (h : max x (-x) < B) : x = (x.toReal : EReal) := by
  induction x using EReal.rec with
  | bot => simp at h
  | top => simp at h
  | coe x => rfl

theorem ofBits_bound : Ideal.ofBits .f32 0x6FA18F08#32 = ((10587912 * 2 ^ 73 : ℝ) : EReal) := by
  simp [Ideal.ofBits, Ideal.ieee, -EReal.coe_mul]

theorem small_of_abs {x : EReal} (h : max x (-x) < Ideal.ofBits .f32 0x6FA18F08#32) : |x.toReal| < 10 ^ 29 * 2 := by
  rw [ofBits_bound] at h
  induction x using EReal.rec with
  | bot => simp at h
  | top => simp at h
  | coe x =>
    obtain ⟨h1, h2⟩ := max_lt_iff.1 h
    rw [← EReal.coe_neg] at h2
    have h1 := EReal.coe_lt_coe_iff.1 h1
    have h2 := EReal.coe_lt_coe_iff.1 h2
    rw [EReal.toReal_coe]
    refine (abs_lt.2 ⟨by linarith, h1⟩).trans ?_
    norm_num

instance : Subsingleton S_.Idx := ⟨fun a b => funext fun i => i.elim0⟩

theorem moderate_of (x0 : FVec Ideal S32x2048x8x2x32 .f32) (x1 x2 x3 x4 : FVec Ideal S32x2048x8x64 .f32) (x5 : FVec Ideal S4x32 .f32)
    (x6 : FVec Ideal S64 .f32) (x7 : FVec Ideal S32x8 .f32)
    (h : Cert.Pre_moderate.fn (F := Ideal) x0 x1 x2 x3 x4 x5 x6 x7 = fun _ => 1#1) : Moderate x2 x5 x7 := by
  have h0 := congrFun h fun a => a.elim0
  obtain ⟨h1, h7⟩ := of_andi h0
  obtain ⟨h2, h5⟩ := of_andi h1
  have e2 := fun i => Host.reduce_andi_all _ _ _ _ _ h2 i
  have e5 := fun i => Host.reduce_andi_all _ _ _ _ _ h5 i
  have e7 := fun i => Host.reduce_andi_all _ _ _ _ _ h7 i
  have r {a b : EReal} (e : BitVec.ofBool (decide (a < b)) = 1#1) : a < b := by
    by_contra hn
    simp [hn] at e
  exact ⟨fun i => real_of_abs (r (e2 i)), fun i => real_of_abs (r (e5 i)), fun i => real_of_abs (r (e7 i)), fun i => small_of_abs (r (e7 i))⟩

end Cert.Attn
-- ==== Proof.Attn.RefBucket.lean ====
/- The reference's bucket numbers: a logarithm, cut down to a whole number. -/
module

public import Idealize.ShloMosaic.PureOps.Ideal.Laws
public import proofs.«01_k».proof.Proof.Attn.Bucket
public import Mathlib.Analysis.SpecialFunctions.Log.Basic

@[expose] public section

noncomputable section

namespace Cert.Attn.Ref

open Idealize.ShloMosaic

/-- The whole number the reference cuts its logarithm down to, from the word of a distance. -/
def cut (n : BitVec 32) : BitVec 32 :=
  FloatOps.fptosi (F := Ideal) (φ := .f32) 32
    (Ideal.div (Ideal.log (Ideal.div (FloatOps.sitofp (F := Ideal) .f32 n) (Ideal.ofBits .f32 1090519040#32)))
        (Ideal.log (Ideal.ofBits .f32 1098907648#32)) * Ideal.ofBits .f32 1090519040#32)

theorem floor_log {n : ℕ} (h8 : 8 ≤ n) :
    ⌊Real.log ((n : ℝ) * (1 / 8)) * (1 / Real.log 16) * 8⌋ = (Nat.log2 (n * n) : ℤ) - 6 := by
  have hn : (0 : ℝ) < n := by positivity
  have h2 : 0 < Real.log 2 := Real.log_pos (by norm_num)
  have e16 : Real.log 16 = 4 * Real.log 2 := by
    rw [show (16 : ℝ) = 2 ^ 4 by norm_num, Real.log_pow]; norm_num
  have e8 : Real.log ((n : ℝ) * (1 / 8)) = Real.log n - 3 * Real.log 2 := by
    rw [Real.log_mul hn.ne' (by norm_num), show (1 / 8 : ℝ) = (2 ^ 3)⁻¹ by norm_num, Real.log_inv, Real.log_pow]
    norm_num
    ring
  have enn : Real.log ((n * n : ℕ) : ℝ) = 2 * Real.log n := by
    rw [Nat.cast_mul, Real.log_mul hn.ne' hn.ne']; ring
  have hlo : (Nat.log2 (n * n) : ℝ) * Real.log 2 ≤ 2 * Real.log n := by
    rw [← enn, ← Real.log_pow]
    refine Real.log_le_log (by positivity) ?_
    exact_mod_cast Nat.log2_self_le (by positivity)
  have hhi : 2 * Real.log n < ((Nat.log2 (n * n) : ℝ) + 1) * Real.log 2 := by
    rw [← enn, show ((Nat.log2 (n * n) : ℝ) + 1) = ((Nat.log2 (n * n) + 1 : ℕ) : ℝ) by push_cast; ring, ← Real.log_pow]
    refine Real.log_lt_log (by positivity) ?_
    exact_mod_cast Nat.lt_log2_self
  have er : Real.log ((n : ℝ) * (1 / 8)) * (1 / Real.log 16) * 8 = 2 * Real.log n / Real.log 2 - 6 := by
    rw [e8, e16]; field_simp; ring
  rw [er, Int.floor_eq_iff]
  push_cast
  constructor
  · have := (le_div_iff₀ h2).mpr hlo
    linarith
  · have := (div_lt_iff₀ h2).mpr hhi
    linarith

theorem cut_apply {n : ℕ} (h8 : 8 ≤ n) (hn : n < 2048) :
    cut (BitVec.ofNat 32 n) = BitVec.ofNat 32 (Nat.log2 (n * n) - 6) := by
  have hb8 : Ideal.ofBits .f32 1090519040#32 = ((8 : ℝ) : EReal) := by
    simp [Ideal.ofBits, Ideal.ieee, -EReal.coe_mul]; norm_num
  have hb16 : Ideal.ofBits .f32 1098907648#32 = ((16 : ℝ) : EReal) := by
    simp [Ideal.ofBits, Ideal.ieee, -EReal.coe_mul]; norm_num
  have hl : 6 ≤ Nat.log2 (n * n) := by
    rw [Nat.le_log2 (by positivity)]; nlinarith
  have hu : Nat.log2 (n * n) < 22 := by
    rw [Nat.log2_lt (by positivity)]; nlinarith
  have hf := floor_log h8
  have h16 : Real.log 16 ≠ 0 := (Real.log_pos (by norm_num)).ne'
  have hpos : (0 : ℝ) < (n : ℝ) * (1 / 8) := by positivity
  have hs : FloatOps.sitofp (F := Ideal) .f32 (BitVec.ofNat 32 n) = ((n : ℝ) : EReal) := by
    show (((BitVec.ofNat 32 n).toInt : ℝ) : EReal) = _
    rw [BitVec.toInt_eq_toNat_of_lt (by simp [BitVec.toNat_ofNat]; omega), BitVec.toNat_ofNat, Nat.mod_eq_of_lt (by omega)]
    simp
  have hlog : ∀ r : ℝ, 0 < r → Ideal.log ((r : ℝ) : EReal) = (Real.log r : EReal) := fun r hr => if_neg (not_le.mpr hr)
  unfold cut
  rw [hs, hb8, hb16, hlog 16 (by norm_num), Ideal.div_coe h16, Ideal.div_coe (by norm_num), ← EReal.coe_mul, hlog _ hpos,
    ← EReal.coe_mul, ← EReal.coe_mul]
  show BitVec.ofInt 32 (Ideal.toIntClamped _ _ _) = _
  rw [Ideal.toIntClamped_coe]
  have h0 : (0 : ℝ) ≤ Real.log ((n : ℝ) * (1 / 8)) * (1 / Real.log 16) * 8 := by
    have : (0 : ℤ) ≤ ⌊Real.log ((n : ℝ) * (1 / 8)) * (1 / Real.log 16) * 8⌋ := by rw [hf]; omega
    exact Int.floor_nonneg.mp this
  rw [if_pos h0, hf, min_eq_right (by norm_num; omega), max_eq_right (by norm_num; omega),
    show (Nat.log2 (n * n) : ℤ) - 6 = ((Nat.log2 (n * n) - 6 : ℕ) : ℤ) by omega, BitVec.ofInt_natCast]

/-- The reference's row number, from the word of a relative position and the whole number cut from its logarithm. -/
def row (w f : BitVec 32) : BitVec 32 :=
  let code := IntOp.addi (Scalar.select (IntOp.cmpi .sgt w 0#32) 16#32 0#32)
    (Scalar.select (IntOp.cmpi .slt (IntOp.absi w) 8#32) (IntOp.absi w) (IntOp.minsi (IntOp.addi 8#32 f) 15#32))
  Scalar.select (IntOp.cmpi .slt code 0#32) (IntOp.addi code 32#32) code

/-- The word of a relative position, counted from −2047. -/
def word (d : Fin 4095) : BitVec 32 := BitVec.ofInt 32 ((d.val : ℤ) - 2047)

theorem row_near (d : Fin 4095) (f : BitVec 32) (h : ((d.val : ℤ) - 2047).natAbs < 8) :
    row (word d) f = BitVec.ofNat 32 (bucket ((d.val : ℤ) - 2047)) := by
  have e : ∀ d : Fin 4095, ((d.val : ℤ) - 2047).natAbs < 8 →
      IntOp.cmpi .slt (IntOp.absi (word d)) 8#32 = 1#1 ∧ row (word d) 0#32 = BitVec.ofNat 32 (bucket ((d.val : ℤ) - 2047)) := by
    decide +kernel
  rw [← (e d h).2]
  unfold row
  simp only [(e d h).1, Scalar.select]
  rfl

theorem row_far (d : Fin 4095) (h : 8 ≤ ((d.val : ℤ) - 2047).natAbs) :
    row (word d) (BitVec.ofNat 32 (Nat.log2 (((d.val : ℤ) - 2047).natAbs * ((d.val : ℤ) - 2047).natAbs) - 6))
      = BitVec.ofNat 32 (bucket ((d.val : ℤ) - 2047)) := by
  revert d
  decide +kernel

theorem size_word (d : Fin 4095) : IntOp.maxsi (IntOp.absi (word d)) 1#32 = BitVec.ofNat 32 (max ((d.val : ℤ) - 2047).natAbs 1) := by
  revert d
  decide +kernel

theorem row_apply (d : Fin 4095) :
    row (word d) (cut (IntOp.maxsi (IntOp.absi (word d)) 1#32)) = BitVec.ofNat 32 (bucket ((d.val : ℤ) - 2047)) := by
  by_cases h : ((d.val : ℤ) - 2047).natAbs < 8
  · exact row_near d _ h
  · rw [size_word, max_eq_left (by omega), cut_apply (by omega) (by omega)]
    exact row_far d (by omega)

end Cert.Attn.Ref
-- ==== Proof.Attn.Ref.lean ====
/- The reference, read at an index. -/
module

public import proofs.«01_k».proof.Proof.Gen.ReferenceIdeal.Read
public import proofs.«01_k».proof.Proof.Attn.RefBucket
public import proofs.«01_k».proof.Proof.Attn.ChunkWord
public import Idealize.ShloMosaic.Lib.Pointwise
public import Idealize.ShloMosaic.Lib.StableHlo.Predicate

@[expose] public section

noncomputable section

namespace Cert.Attn.Ref

open Cert.ReferenceIdeal Cert.ReferenceIdeal.Gen Cert.ReferenceIdeal.Read Idealize.ShloMosaic

/-- The reference's table read: where the row number is in range, the table's entry of that row. -/
theorem table_read (x7 : FVec Ideal S32x8 .f32) (idx : IVec S2048x2048x1 32) (q k : Fin 2048) (h : Fin 8) (b : Fin 32)
    (hb : idx (ix3 q k (0 : Fin 1)) = BitVec.ofNat 32 b.val) :
    Host.gather gather_S32x8_S2048x2048x1_S2048x2048x8_2_0_n_n_0_2_18 x7 idx (ix3 q k h) = x7 (ix2 b h) := by
  unfold Host.gather
  refine congrArg x7 (funext fun a => Fin.ext ?_)
  set d := gather_S32x8_S2048x2048x1_S2048x2048x8_2_0_n_n_0_2_18
  match a with
  | ⟨0, _⟩ =>
    have hk : (0 : Fin 2) ∉ d.sKept := by decide
    have hm : (0 : Fin 2) ∈ d.startIndexMap := by decide
    show d.start (ix3 q k h) idx 0 + d.batchCoord (ix3 q k h) 0 + d.offCoord (ix3 q k h) 0 = b.val
    rw [d.batchCoord_eq_zero _ _ (by decide), d.offCoord_eq_zero _ _ hk]
    simp only [Nat.add_zero]
    unfold GatherDims.start
    rw [dif_pos hm]
    have hsi : d.siIdx (ix3 q k h) ⟨d.startIndexMap.idxOf 0, List.idxOf_lt_length_iff.2 hm⟩ = ix3 q k (0 : Fin 1) := by
      funext b'
      apply Fin.ext
      match b' with
      | ⟨0, _⟩ => rfl
      | ⟨1, _⟩ => rfl
      | ⟨2, _⟩ => rfl
    have hbl := b.isLt
    rw [hsi, hb, StableHlo.Predicate.toInt_ofNat_small _ (by omega)]
    show min ((b.val : Int)).toNat (32 - 1) = b.val
    omega
  | ⟨1, _⟩ =>
    have hk : (1 : Fin 2) ∈ d.sKept := by decide
    have hm : (1 : Fin 2) ∉ d.startIndexMap := by decide
    show d.start (ix3 q k h) idx 1 + d.batchCoord (ix3 q k h) 1 + d.offCoord (ix3 q k h) 1 = h.val
    rw [d.batchCoord_eq_zero _ _ (by decide), Nat.add_zero]
    unfold GatherDims.start GatherDims.offCoord
    rw [dif_neg hm, dif_pos hk, Nat.zero_add]
    rfl

/-- A signed difference of two positions, counted from −2047. -/
def gap (q k : Fin 2048) : Fin 4095 := ⟨k.val + 2047 - q.val, by omega⟩

theorem word_gap (q k : Fin 2048) : IntOp.subi (BitVec.ofNat 32 k.val) (BitVec.ofNat 32 q.val) = word (gap q k) := by
  unfold word gap IntOp.subi
  rw [show (((k.val + 2047 - q.val : ℕ) : ℤ) - 2047) = (k.val : ℤ) - (q.val : ℤ) by omega]
  apply BitVec.eq_of_toInt_eq
  rw [BitVec.toInt_sub, StableHlo.Predicate.toInt_ofNat_small _ (by omega), StableHlo.Predicate.toInt_ofNat_small _ (by omega), BitVec.toInt_ofInt]

theorem row_read (q k : Fin 2048) : val_main_v56 (F := Ideal) (ix2 q k) = BitVec.ofNat 32 (bucket ((k.val : ℤ) - (q.val : ℤ))) := by
  have e : val_main_v56 (F := Ideal) (ix2 q k)
      = row (word (gap q k)) (cut (IntOp.maxsi (IntOp.absi (word (gap q k))) 1#32)) := by
    rw [← word_gap]
    pointwise [val_main_v56, val_main_v55, val_main_v54, val_main_c_13, val_main_v53, val_main_v52, val_main_c_12, val_main_v51,
      val_main_v50, val_main_v49, val_main_v48, val_main_v47, val_main_c_11, val_main_v46, val_main_v45, val_main_c_10, val_main_v44,
      val_main_v43, val_main_c_9, val_main_v42, val_main_v41, val_main_v40, val_main_cst_8, val_main_v39, val_main_v38, val_main_v37,
      val_main_cst_7, val_main_v36, val_main_v35, val_main_v34, val_main_cst_6, val_main_v33, val_main_v32, val_main_v31, val_main_c_5,
      val_main_v30, val_main_v29, val_main_v28, val_main_v27, val_main_c, val_main_call0_v0, val_main_call0_v1, val_main_c_3,
      val_main_c_4, val_main_v26, val_main_v25, val_main_v24, val_main_v23, val_main_v22, val_main_v0]
    rfl
  rw [e, row_apply]
  congr 2
  show (((k.val + 2047 - q.val : ℕ) : ℤ) - 2047) = _
  omega

theorem bias_read (x7 : FVec Ideal S32x8 .f32) (q k : Fin 2048) (h : Fin 8) :
    val_main_v58 (F := Ideal) x7 (ix3 q k h) = x7 (ix2 ⟨bucket ((k.val : ℤ) - (q.val : ℤ)), bucket_lt _⟩ h) := by
  refine table_read x7 (val_main_v57 (F := Ideal)) q k h ⟨_, bucket_lt _⟩ (Eq.trans ?_ (row_read q k))
  rw [val_main_v57_apply]
  congr 1
  funext a
  match a with | ⟨0, _⟩ => rfl | ⟨1, _⟩ => rfl

theorem key_chunk (k : Fin 2048) : val_main_v61 (F := Ideal) (ix2 (0 : Fin 1) k) = BitVec.ofNat 32 (k.val / 64) := by
  rw [← chunk_apply]
  pointwise [val_main_v61, val_main_call2_v13, val_main_call2_v12, val_main_call2_c_0, val_main_call2_v11, val_main_call2_v10,
    val_main_call2_v9, val_main_call2_c, val_main_call2_v8, val_main_call2_v7, val_main_call2_v6, val_main_call2_v5, val_main_call2_v4,
    val_main_call2_v3, val_main_call2_v2, val_main_call2_v1, val_main_call2_v0, val_main_c_14, val_main_v60, val_main_v0]
  rfl

theorem query_chunk (q : Fin 2048) : val_main_v63 (F := Ideal) (ix2 q (0 : Fin 1)) = BitVec.ofNat 32 (q.val / 64) := by
  rw [← chunk_apply]
  pointwise [val_main_v63, val_main_call3_v13, val_main_call3_v12, val_main_call3_c_0, val_main_call3_v11, val_main_call3_v10,
    val_main_call3_v9, val_main_call3_c, val_main_call3_v8, val_main_call3_v7, val_main_call3_v6, val_main_call3_v5, val_main_call3_v4,
    val_main_call3_v3, val_main_call3_v2, val_main_call3_v1, val_main_call3_v0, val_main_c_15, val_main_v62, val_main_v0]
  rfl

variable (x0 : FVec Ideal S32x2048x8x2x32 .f32) (x1 x2 x3 x4 : FVec Ideal S32x2048x8x64 .f32) (x5 : FVec Ideal S4x32 .f32)
  (x6 : FVec Ideal S64 .f32) (x7 : FVec Ideal S32x8 .f32)

/-- A query and key product over one half of a head. -/
def prod (c : Fin 2) (b : Fin 32) (h : Fin 8) (q k : Fin 2048) : EReal :=
  ∑ l : Fin 32, x0 (ix5 b q h c l) * x1 (ix4 b k h (⟨c.val * 32 + l.val, by omega⟩ : Fin 64))

theorem score_read (c : Fin 2) (b : Fin 32) (h : Fin 8) (q k : Fin 2048) :
    val_main_v70 (F := Ideal) x0 x1 x7 (ix5 c b h q k)
      = if k.val / 64 ≤ q.val / 64 then Ideal.div (prod x0 x1 c b h q k) ((Real.sqrt 32 : ℝ) : EReal)
          + x7 (ix2 ⟨bucket ((k.val : ℤ) - (q.val : ℤ)), bucket_lt _⟩ h) else ⊥ := by
  have e : val_main_v70 (F := Ideal) x0 x1 x7 (ix5 c b h q k)
      = Scalar.select (IntOp.cmpi .sle (val_main_v61 (F := Ideal) (ix2 (0 : Fin 1) k)) (val_main_v63 (F := Ideal) (ix2 q (0 : Fin 1))))
          (Ideal.div (prod x0 x1 c b h q k) (Ideal.sqrt (Ideal.ofBits .f32 1107296256#32)) + val_main_v58 (F := Ideal) x7 (ix3 q k h) : EReal)
          (Ideal.ofBits .f32 4286578688#32) := by
    pointwise [val_main_v70, val_main_call4_v1, val_main_v66, val_main_v69, val_main_call4_v2, val_main_call4_v0, val_main_cst_16,
      val_main_v64, val_main_v65, val_main_v21, val_main_v68, val_main_v67, val_main_v59, val_main_v20, val_main_v19, val_main_cst_2,
      val_main_v17, val_main_v18]
    rfl
  have e32 : Ideal.ofBits .f32 1107296256#32 = ((32 : ℝ) : EReal) := by
    simp [Ideal.ofBits, Ideal.ieee, -EReal.coe_mul]; norm_num
  rw [e, key_chunk, query_chunk, bias_read, e32, cmpi_sle_ofNat (by omega) (by omega),
    show Ideal.sqrt ((32 : ℝ) : EReal) = ((Real.sqrt 32 : ℝ) : EReal) from if_neg (by norm_num),
    show Ideal.ofBits .f32 4286578688#32 = (⊥ : EReal) by simp [Ideal.ofBits, Ideal.ieee]]
  by_cases hk : k.val / 64 ≤ q.val / 64 <;> simp [hk, Scalar.select]

theorem peak (y : FVec Ideal S2x32x8x2048x2048 .f32) (c : Fin 2) (b : Fin 32) (h : Fin 8) (q : Fin 2048) :
    Host.reduce FloatOps.maximumf y (constant S_ .f32 0xFF800000#32) reducesTo_S2x32x8x2048x2048_S2x32x8x2048_d4 h_S_ (ix4 c b h q)
      = Finset.univ.sup fun k : Fin 2048 => y (ix5 c b h q k) := by
  rw [Finset.sup_def, show ((Finset.univ.val.map fun k : Fin 2048 => y (ix5 c b h q k)).sup)
      = Finset.univ.fold max ⊥ (fun k : Fin 2048 => y (ix5 c b h q k)) from rfl,
    show (⊥ : EReal) = Ideal.ofBits .f32 0xFF800000#32 by simp [Ideal.ofBits, Ideal.ieee]]
  pointwise

theorem peak_read (c : Fin 2) (b : Fin 32) (h : Fin 8) (q : Fin 2048) :
    val_main_v73 (F := Ideal) x0 x1 x7 (ix4 c b h q)
      = Finset.univ.sup fun k : Fin 2048 => val_main_v70 (F := Ideal) x0 x1 x7 (ix5 c b h q k) := by
  rw [val_main_v73_apply, val_main_v72_apply, val_main_cst_18_apply]
  have e : val_main_v71 (F := Ideal) x0 x1 x7 (ix4 c b h q)
      = Finset.univ.sup fun k : Fin 2048 => val_main_v70 (F := Ideal) x0 x1 x7 (ix5 c b h q k) :=
    peak (val_main_v70 (F := Ideal) x0 x1 x7) c b h q
  rw [e]
  generalize (Finset.univ.sup fun k : Fin 2048 => val_main_v70 (F := Ideal) x0 x1 x7 (ix5 c b h q k)) = s
  show max (Ideal.ofBits .f32 0xFF800000#32) s = s
  rw [show Ideal.ofBits .f32 0xFF800000#32 = (⊥ : EReal) by simp [Ideal.ofBits, Ideal.ieee]]
  exact bot_sup_eq s

theorem power_read (c : Fin 2) (b : Fin 32) (h : Fin 8) (q k : Fin 2048) :
    val_main_v77 (F := Ideal) x0 x1 x7 (ix5 c b h q k)
      = Ideal.exp (val_main_v70 (F := Ideal) x0 x1 x7 (ix5 c b h q k) - val_main_v73 (F := Ideal) x0 x1 x7 (ix4 c b h q)) := by
  pointwise [val_main_v77, val_main_v76, val_main_v75, val_main_v74]

theorem share_read (c : Fin 2) (b : Fin 32) (h : Fin 8) (q k : Fin 2048) :
    val_main_v81 (F := Ideal) x0 x1 x7 (ix5 c b h q k)
      = Ideal.div (val_main_v77 (F := Ideal) x0 x1 x7 (ix5 c b h q k)) (∑ k : Fin 2048, val_main_v77 (F := Ideal) x0 x1 x7 (ix5 c b h q k)) := by
  pointwise [val_main_v81, val_main_v80, val_main_v79, val_main_v78, val_main_cst_19]

theorem first_read (b : Fin 32) (h : Fin 8) (q k : Fin 2048) :
    val_main_v83 (F := Ideal) x0 x1 x7 (ix4 b h q k) = val_main_v81 (F := Ideal) x0 x1 x7 (ix5 0 b h q k) := by
  rw [val_main_v83_apply, val_main_v82_apply]
  congr 1
  funext a
  refine Fin.ext ?_
  match a with
  | ⟨0, _⟩ => simp [idx_main_v82, idx_main_v83]
  | ⟨1, _⟩ => simp [idx_main_v82, idx_main_v83]; omega
  | ⟨2, _⟩ => simp [idx_main_v82, idx_main_v83]; omega
  | ⟨3, _⟩ => simp [idx_main_v82, idx_main_v83]; omega
  | ⟨4, _⟩ => simp [idx_main_v82, idx_main_v83]

theorem second_read (b : Fin 32) (h : Fin 8) (q k : Fin 2048) :
    val_main_v85 (F := Ideal) x0 x1 x7 (ix4 b h q k) = val_main_v81 (F := Ideal) x0 x1 x7 (ix5 1 b h q k) := by
  rw [val_main_v85_apply, val_main_v84_apply]
  congr 1
  funext a
  refine Fin.ext ?_
  match a with
  | ⟨0, _⟩ => simp [idx_main_v84, idx_main_v85]
  | ⟨1, _⟩ => simp [idx_main_v84, idx_main_v85]; omega
  | ⟨2, _⟩ => simp [idx_main_v84, idx_main_v85]; omega
  | ⟨3, _⟩ => simp [idx_main_v84, idx_main_v85]; omega
  | ⟨4, _⟩ => simp [idx_main_v84, idx_main_v85]

theorem diff_read (b : Fin 32) (h : Fin 8) (q k : Fin 2048) :
    val_main_v88 (F := Ideal) x0 x1 x5 x7 (ix4 b h q k)
      = val_main_v81 (F := Ideal) x0 x1 x7 (ix5 0 b h q k)
        - val_main_v16 (F := Ideal) x5 ix0 * val_main_v81 (F := Ideal) x0 x1 x7 (ix5 1 b h q k) := by
  rw [val_main_v88_apply, val_main_v87_apply, val_main_v86_apply, show idx_main_v86 (ix4 b h q k) = ix0 from funext fun a => a.elim0,
    first_read, second_read]
  rfl

theorem lam_read : val_main_v16 (F := Ideal) x5 ix0
    = Ideal.exp (∑ l : Fin 32, x5 (ix2 (0 : Fin 4) l) * x5 (ix2 (1 : Fin 4) l))
      - Ideal.exp (∑ l : Fin 32, x5 (ix2 (2 : Fin 4) l) * x5 (ix2 (3 : Fin 4) l)) + Ideal.ofBits .f32 1052116297#32 := by
  pointwise [val_main_v16, val_main_cst_1, val_main_v15, val_main_v14, val_main_v13, val_main_cst_0, val_main_v12, val_main_v11,
    val_main_v10, val_main_v9, val_main_v8, val_main_v7, val_main_v6, val_main_cst, val_main_v5, val_main_v4, val_main_v3, val_main_v2,
    val_main_v1]

/-- The attended value of a head's coordinate. -/
def attended (b : Fin 32) (h : Fin 8) (q : Fin 2048) (d : Fin 64) : EReal :=
  ∑ k : Fin 2048, x2 (ix4 b k h d) * val_main_v88 (F := Ideal) x0 x1 x5 x7 (ix4 b h q k)

theorem out_read (b : Fin 32) (q : Fin 2048) (f : Fin 512) :
    val_main_v108 (F := Ideal) x0 x1 x2 x5 x6 x7 (ix3 b q f)
      = attended x0 x1 x2 x5 x7 b ⟨f.val / 64, by omega⟩ q ⟨f.val % 64, by omega⟩
        * Ideal.rsqrt (Ideal.div (∑ d : Fin 64, attended x0 x1 x2 x5 x7 b ⟨f.val / 64, by omega⟩ q d * attended x0 x1 x2 x5 x7 b ⟨f.val / 64, by omega⟩ q d)
            (Ideal.ofBits .f32 1115684864#32) + Ideal.ofBits .f32 897988541#32)
        * x6 (ix1 ⟨f.val % 64, by omega⟩) * (1 - Ideal.ofBits .f32 1052116297#32) := by
  pointwise [val_main_v108, val_main_v107, val_main_v106, val_main_v105, val_main_v104, val_main_cst_23, val_main_cst_24, val_main_v103,
    val_main_v102, val_main_v101, val_main_v100, val_main_v99, val_main_v98, val_main_v97, val_main_v96, val_main_cst_22, val_main_v95,
    val_main_v94, val_main_cst_21, val_main_v93, val_main_v92, val_main_cst_20, val_main_v91, val_main_v90, val_main_v89, attended]

theorem keys_read (z : Fin 2) (b : Fin 32) (f : Fin 512) (q : Fin 2048) :
    val_main_v113 (F := Ideal) x1 x3 (ix4 z b f q)
      = if z.val < 1 then x3 (ix4 b q (⟨f.val / 64, by omega⟩ : Fin 8) (⟨f.val % 64, by omega⟩ : Fin 64))
        else x1 (ix4 b q (⟨f.val / 64, by omega⟩ : Fin 8) (⟨f.val % 64, by omega⟩ : Fin 64)) := by
  have e : val_main_v113 (F := Ideal) x1 x3 (ix4 z b f q)
      = val_main_v111 (F := Ideal) x1 x3 (ix5 z b q (⟨f.val / 64, by omega⟩ : Fin 8) (⟨f.val % 64, by omega⟩ : Fin 64)) := by
    rw [val_main_v113_apply, val_main_v112_apply]
    congr 1
    funext a
    refine Fin.ext ?_
    match a with
    | ⟨0, _⟩ => simp [idx_main_v113, idx_main_v112]; omega
    | ⟨1, _⟩ => simp [idx_main_v113, idx_main_v112]; omega
    | ⟨2, _⟩ => simp [idx_main_v113, idx_main_v112]; omega
    | ⟨3, _⟩ => simp [idx_main_v113, idx_main_v112]; omega
    | ⟨4, _⟩ => simp [idx_main_v113, idx_main_v112]; omega
  rw [e]
  pointwise [val_main_v111, val_main_v110, val_main_v109]
  rfl

theorem values_read (z : Fin 2) (b : Fin 32) (f : Fin 512) (q : Fin 2048) :
    val_main_v118 (F := Ideal) x2 x4 (ix4 z b f q)
      = if z.val < 1 then x4 (ix4 b q (⟨f.val / 64, by omega⟩ : Fin 8) (⟨f.val % 64, by omega⟩ : Fin 64))
        else x2 (ix4 b q (⟨f.val / 64, by omega⟩ : Fin 8) (⟨f.val % 64, by omega⟩ : Fin 64)) :=
  keys_read x2 x4 z b f q

end Cert.Attn.Ref
-- ==== Proof.Attn.RefRow.lean ====
/- The reference's attention output, a row of a head at a time. -/
module

public import proofs.«01_k».proof.Proof.Attn.Ref
public import proofs.«01_k».proof.Proof.Attn.Score

@[expose] public section

noncomputable section

namespace Cert.Attn.Ref

open Cert.ReferenceIdeal Cert.ReferenceIdeal.Gen Cert.ReferenceIdeal.Read Idealize.ShloMosaic

variable (x0 : FVec Ideal S32x2048x8x2x32 .f32) (x1 x2 : FVec Ideal S32x2048x8x64 .f32) (x5 : FVec Ideal S4x32 .f32)
  (x6 : FVec Ideal S64 .f32) (x7 : FVec Ideal S32x8 .f32)

/-- A head's products, over the natural numbers. -/
def prods (c : Fin 2) (b : Fin 32) (h : Fin 8) (q k : ℕ) : EReal := prod x0 x1 c b h (pos q) (pos k)

/-- The bias table's column of a head, as real numbers. -/
def column (h : Fin 8) (n : ℕ) : ℝ := (x7 (ix2 (Fin.ofNat 32 n) h)).toReal

/-- A head's values, as real numbers. -/
def headVals (b : Fin 32) (h : Fin 8) (d : Fin 64) (k : Fin 2048) : ℝ := (x2 (ix4 b k h d)).toReal

/-- A head's scores. -/
def scores (c : Fin 2) (b : Fin 32) (h : Fin 8) (q : ℕ) : ℕ → EReal := sref (prods x0 x1 c b h) (column x7 h) q

theorem pos_val (k : Fin 2048) : pos k.val = k := Fin.ext (Nat.mod_eq_of_lt k.isLt)

section
variable {x7} (h7 : ∀ n h, x7 (ix2 n h) = ((x7 (ix2 n h)).toReal : EReal))
include h7

theorem scores_read (c : Fin 2) (b : Fin 32) (h : Fin 8) (q k : Fin 2048) :
    val_main_v70 (F := Ideal) x0 x1 x7 (ix5 c b h q k) = scores x0 x1 x7 c b h q.val k.val := by
  rw [score_read, scores, sref, prods, pos_val, pos_val, column, h7]
  congr 5
  refine congrArg (fun n => ix2 n h) (Fin.ext ?_)
  exact (Nat.mod_eq_of_lt (bucket_lt _)).symm

theorem powers_read (c : Fin 2) (b : Fin 32) (h : Fin 8) (q k : Fin 2048) :
    val_main_v77 (F := Ideal) x0 x1 x7 (ix5 c b h q k) = (weights (scores x0 x1 x7 c b h q.val) k : EReal) := by
  have e : (fun k : Fin 2048 => val_main_v70 (F := Ideal) x0 x1 x7 (ix5 c b h q k)) = fun k : Fin 2048 => scores x0 x1 x7 c b h q.val k.val :=
    funext fun k => scores_read x0 x1 h7 c b h q k
  rw [power_read, peak_read, e, scores_read x0 x1 h7, weights]
  exact exp_sub (Finset.le_sup (f := fun k : Fin 2048 => scores x0 x1 x7 c b h q.val k.val) (Finset.mem_univ k))

theorem shares_read (c : Fin 2) (b : Fin 32) (h : Fin 8) (q k : Fin 2048) :
    val_main_v81 (F := Ideal) x0 x1 x7 (ix5 c b h q k)
      = Ideal.div (weights (scores x0 x1 x7 c b h q.val) k : EReal) ((∑ k, weights (scores x0 x1 x7 c b h q.val) k : ℝ) : EReal) := by
  have e : (fun k : Fin 2048 => val_main_v77 (F := Ideal) x0 x1 x7 (ix5 c b h q k))
      = fun k : Fin 2048 => (weights (scores x0 x1 x7 c b h q.val) k : EReal) := funext fun k => powers_read x0 x1 h7 c b h q k
  rw [share_read, powers_read x0 x1 h7, e, ← coe_sum]

variable {x2 x5} {lam : ℝ} (hl : val_main_v16 (F := Ideal) x5 ix0 = (lam : EReal))
  (h2 : ∀ b k h d, x2 (ix4 b k h d) = ((x2 (ix4 b k h d)).toReal : EReal))
include hl

theorem weight_read (b : Fin 32) (h : Fin 8) (q k : Fin 2048) :
    val_main_v88 (F := Ideal) x0 x1 x5 x7 (ix4 b h q k)
      = weight (weights (scores x0 x1 x7 0 b h q.val)) (weights (scores x0 x1 x7 1 b h q.val)) lam k := by
  rw [diff_read, shares_read x0 x1 h7, shares_read x0 x1 h7, hl]
  rfl

include h2

theorem attended_read (b : Fin 32) (h : Fin 8) (q : Fin 2048) (d : Fin 64) :
    attended x0 x1 x2 x5 x7 b h q d
      = combined (weights (scores x0 x1 x7 0 b h q.val)) (weights (scores x0 x1 x7 1 b h q.val)) (headVals x2 b h) lam d := by
  unfold attended combined
  refine Finset.sum_congr rfl fun k _ => ?_
  rw [weight_read x0 x1 h7 hl, headVals, ← h2]

/-- **The reference's row of a head.** -/
theorem row_out (b : Fin 32) (q : Fin 2048) (f : Fin 512) :
    val_main_v108 (F := Ideal) x0 x1 x2 x5 x6 x7 (ix3 b q f)
      = normed (1 / 64) eps (combined (weights (scores x0 x1 x7 0 b ⟨f.val / 64, by omega⟩ q.val))
          (weights (scores x0 x1 x7 1 b ⟨f.val / 64, by omega⟩ q.val)) (headVals x2 b ⟨f.val / 64, by omega⟩) lam) ⟨f.val % 64, by omega⟩
        * x6 (ix1 ⟨f.val % 64, by omega⟩) * (1 - Ideal.ofBits .f32 1052116297#32) := by
  have e64 : Ideal.ofBits .f32 1115684864#32 = ((64 : ℝ) : EReal) := by
    simp [Ideal.ofBits, Ideal.ieee, -EReal.coe_mul]; norm_num
  rw [out_read, e64, Ideal.div_coe (by norm_num), show Ideal.ofBits .f32 897988541#32 = (eps : EReal) from ofBits_eps]
  simp only [attended_read x0 x1 h7 hl h2]
  rfl

end

end Cert.Attn.Ref
-- ==== Proof.Attn.Bias.lean ====
/- The bias tiles a grid point holds. -/
module

public import proofs.«01_k».proof.Proof.Attn.Windows
public import proofs.«01_k».proof.Proof.Attn.Moderate
public import proofs.«01_k».proof.Proof.Attn.RefRow

@[expose] public section

noncomputable section

namespace Cert.Attn

open Cert.KernelIdeal Cert.KernelIdeal.Gen Idealize.ShloMosaic Idealize.SL.Sem

variable (m : (x : Loc nD τ sig) → Buf (Elt Ideal) x) (c : Dev nD) (t : Fin cfg0.N)

/-- The first or the second head of a grid point. -/
def head (h : Bool) : Fin 8 := ⟨t.val % 4 * 2 + (headIx h).val, by omega⟩

/-- A difference of biases, as of real numbers. -/
theorem strip_real {x7 : Vec Ideal S32x8 .f32} (h7 : ∀ i, x7 i = ((x7 i).toReal : EReal)) (rows : IVec S512 32) (n : Fin 512) (h : Fin 8)
    (rel : ℤ) (hb : rows (ix1 n) = BitVec.ofNat 32 (bucket rel)) :
    stripBias x7 rows n h = ((Ref.column x7 h (bucket rel) - Ref.column x7 h 15 : ℝ) : EReal) := by
  rw [stripBias_apply x7 rows n h ⟨bucket rel, bucket_lt rel⟩ hb, EReal.coe_sub, Ref.column, Ref.column, ← h7, ← h7]
  refine congrArg₂ (fun a b : EReal => a - b) (congrArg x7 (congrArg (fun n => ix2 n h) (Fin.ext ?_))) rfl
  exact (Nat.mod_eq_of_lt (bucket_lt rel)).symm

/-- A tile's entry is its strip's at the distance of its row from its column. -/
theorem distance_tile (d : ℤ) (r j : Fin 256) : distance d ((j.val * 511 + r.val) % 512) = d + (r.val : ℤ) - (j.val : ℤ) := by
  unfold distance
  split_ifs <;> omega

/-- **A grid point's bias tiles.** -/
theorem biasTiles (h7 : ∀ i, (m (c, Proc.tc.devRef main_arg7) : Vec Ideal S32x8 .f32) i = (((m (c, Proc.tc.devRef main_arg7) : Vec Ideal S32x8 .f32) i).toReal : EReal))
    (hs : ∀ i, |((m (c, Proc.tc.devRef main_arg7) : Vec Ideal S32x8 .f32) i).toReal| < 10 ^ 29 * 2) :
    BiasTiles (iblk m c 5 t) (fun h n => Ref.column (m (c, Proc.tc.devRef main_arg7)) (head t h) n) where
  near h r j := by
    refine (block5 m c t (headIx h) 1 r j).trans ((V_near m c (head t h) r j).trans ?_)
    refine strip_real h7 _ _ _ _ ((stripRows_back _).trans (congrArg (fun d => BitVec.ofNat 32 (bucket d)) ?_))
    refine (distance_tile (-256) r j).trans ?_
    ring
  diag h r j := by
    refine (block5 m c t (headIx h) 0 r j).trans ((V_diag m c (head t h) r j).trans ?_)
    have hr : chunk (BitVec.ofNat 32 r.val) = BitVec.ofNat 32 (r.val / 64) := chunk_apply ⟨r.val, by omega⟩
    have hj : chunk (BitVec.ofNat 32 j.val) = BitVec.ofNat 32 (j.val / 64) := chunk_apply ⟨j.val, by omega⟩
    rw [hr, hj, cmpi_sle_ofNat (by omega) (by omega)]
    by_cases hc : r.val / 64 ≤ j.val / 64
    · rw [if_pos hc, decide_eq_true hc]
      refine strip_real h7 _ _ _ _ ((stripRows_zero _).trans (congrArg (fun d => BitVec.ofNat 32 (bucket d)) ?_))
      refine (distance_tile 0 r j).trans ?_
      ring
    · rw [if_neg hc, decide_eq_false hc]
      rfl
  small h n := hs _

end Cert.Attn
-- ==== Proof.Attn.Result.lean ====
/- The attention's output: the call's first result. -/
module

public import proofs.«01_k».proof.Proof.Attn.Bias

@[expose] public section

noncomputable section

namespace Cert.Attn

open Cert.KernelIdeal Cert.KernelIdeal.Gen Idealize.ShloMosaic Idealize.SL.Sem

variable (m : (x : Loc nD τ sig) → Buf (Elt Ideal) x) (c : Dev nD) (t : Fin cfg0.N)

theorem feat_stream (h b : Bool) (l : Fin 32) :
    (feat t (lane4 (stm h b) l)).val = t.val % 4 * 128 + 64 * (headIx h).val + 32 * (headIx b).val + l.val := by
  cases h <;> cases b <;> simp [feat, lane4, stm, headIx] <;> omega

theorem feat_lane (h : Bool) (d : Fin 64) : (feat t (lane h d)).val = t.val % 4 * 128 + 64 * (headIx h).val + d.val := by
  cases h <;> simp [feat, lane, headIx] <;> omega

/-- A stream's products at a grid point are the reference's. -/
theorem dot_prods (h b : Bool) : dot (iblk m c 2 t) (iblk m c 3 t) (stm h b)
    = Ref.prods (m (c, Proc.tc.devRef main_arg0)) (m (c, Proc.tc.devRef main_arg1)) (headIx b) (batch t) (head t h) := by
  funext q k
  unfold dot Ref.prods Ref.prod
  refine Finset.sum_congr rfl fun l _ => ?_
  have e := feat_stream t h b l
  rw [block2, block3, V_q, V_k]
  refine congrArg₂ (fun x y : EReal => x * y) (congrArg _ ?_) (congrArg _ ?_)
  · congr 1 <;> refine Fin.ext ?_ <;> simp only [head] <;> omega
  · congr 1 <;> refine Fin.ext ?_ <;> simp only [head] <;> omega

/-- The values of a grid point's head are the reference's. -/
theorem vals_head (h : Bool) : vals (iblk m c 4 t) h = Ref.headVals (m (c, Proc.tc.devRef main_arg2)) (batch t) (head t h) := by
  funext d k
  unfold vals Ref.headVals
  have e := feat_lane t h d
  rw [block4, V_v]
  refine congrArg EReal.toReal (congrArg _ ?_)
  congr 1 <;> refine Fin.ext ?_ <;> simp only [head] <;> omega

/-- A grid point's λ is the reference's. -/
theorem lam_block : lambda (F := Ideal) (iblk m c 0 t) (ix2 (0 : Fin 1) (0 : Fin 1))
    = Cert.ReferenceIdeal.Read.val_main_v16 (F := Ideal) (m (c, Proc.tc.devRef main_arg5)) ix0 := by
  rw [lambda_apply, Ref.lam_read]
  have e (i : Fin 4) (j : Fin 5) (hj : j.val = i.val) (l : Fin 32) :
      (iblk m c 0 t : Vec Ideal S5x32 .f32) (ix2 j l) = (m (c, Proc.tc.devRef main_arg5) : Vec Ideal S4x32 .f32) (ix2 i l) := by
    refine (block0 m c t j l).trans ((V_lam m c j l).trans ((dif_pos (show j.val < 4 by omega)).trans ?_))
    exact congrArg (fun i => (m (c, Proc.tc.devRef main_arg5) : Vec Ideal S4x32 .f32) (ix2 i l)) (Fin.ext hj)
  have e4 : (iblk m c 0 t : Vec Ideal S5x32 .f32) (ix2 (4 : Fin 5) (0 : Fin 32)) = Ideal.ofBits .f32 1052116297#32 :=
    (block0 m c t 4 0).trans ((V_lam m c 4 0).trans (dif_neg (by decide)))
  simp only [e 0 0 rfl, e 1 1 rfl, e 2 2 rfl, e 3 3 rfl]
  exact congrArg _ e4

/-- λ is a real number when the λ vectors are. -/
theorem lam_real (x5 : Vec Ideal S4x32 .f32) (h5 : ∀ i, x5 i = ((x5 i).toReal : EReal)) :
    ∃ lam : ℝ, Cert.ReferenceIdeal.Read.val_main_v16 (F := Ideal) x5 ix0 = (lam : EReal) := by
  have hs (a b : Fin 4) : Ideal.exp (∑ l : Fin 32, x5 (ix2 a l) * x5 (ix2 b l))
      = ((Real.exp (∑ l : Fin 32, (x5 (ix2 a l)).toReal * (x5 (ix2 b l)).toReal) : ℝ) : EReal) := by
    have e : (fun l : Fin 32 => x5 (ix2 a l) * x5 (ix2 b l)) = fun l : Fin 32 => (((x5 (ix2 a l)).toReal * (x5 (ix2 b l)).toReal : ℝ) : EReal) :=
      funext fun l => by rw [EReal.coe_mul, ← h5, ← h5]
    rw [e, ← coe_sum]
    rfl
  have hr : Ideal.ofBits .f32 1052116297#32 = ((11928905 * (2 ^ 25)⁻¹ : ℝ) : EReal) := by
    simp [Ideal.ofBits, Ideal.ieee, -EReal.coe_mul]
  rw [Ref.lam_read, hr, hs, hs, ← EReal.coe_sub, ← EReal.coe_add]
  exact ⟨_, rfl⟩

theorem out_place (G : Vec Ideal S32x2048x512 .bf16) (a : Fin 1) (q : Fin 2048) (l : Fin 128) :
    G ((win0_10.blk t).view.emb (ix3 a q l)) = G (ix3 (batch t) q (feat t l)) := by
  unfold batch feat
  blk_ext [places t]

/-- **The attention's output.** -/
theorem out_array (hm : Moderate (m (c, Proc.tc.devRef main_arg2)) (m (c, Proc.tc.devRef main_arg5)) (m (c, Proc.tc.devRef main_arg7))) :
    (dats m 0 c).arrAt 10 cfg0.N
    = Cert.ReferenceIdeal.Read.val_main_v108 (F := Ideal) (m (c, Proc.tc.devRef main_arg0)) (m (c, Proc.tc.devRef main_arg1))
        (m (c, Proc.tc.devRef main_arg2)) (m (c, Proc.tc.devRef main_arg5)) (m (c, Proc.tc.devRef main_arg6)) (m (c, Proc.tc.devRef main_arg7)) := by
  obtain ⟨lam, hl⟩ := lam_real _ hm.lambdas
  refine (dats m 0 c).arrAt_eq_of_covers 10 _ (by decide +kernel) fun t hf y => ?_
  obtain ⟨a, q, l, rfl⟩ : ∃ (a : Fin 1) (q : Fin 2048) (l : Fin 128), y = ix3 a q l := ⟨y 0, y 1, y 2, eq_ix3 y⟩
  obtain rfl : a = 0 := Subsingleton.elim _ _
  blk_simp [places t]
  have hx : ∀ d k, (iblk m c 4 t : Vec Ideal S1x128x2048 .bf16) (ix3 (0 : Fin 1) d k)
      = (((iblk m c 4 t : Vec Ideal S1x128x2048 .bf16) (ix3 (0 : Fin 1) d k)).toReal : EReal) := by
    intro d k
    rw [block4, V_v]
    exact hm.values _
  rw [after0_10, out_rows _ (biasTiles m c t hm.biases hm.small) ((lam_block m c t).trans hl) hx]
  refine Eq.trans ?_ (out_place t _ 0 q l).symm
  rw [rows_apply', Ref.row_out _ _ _ (fun n h => hm.biases _) hl (fun b k h d => hm.values _), row, dot_prods, dot_prods, vals_head]
  have e := feat_lane t (headOf l) (inHead l)
  rw [lane_headOf] at e ⊢
  have eh : (⟨(feat t l).val / 64, by omega⟩ : Fin 8) = head t (headOf l) := Fin.ext (by simp only [head]; omega)
  have ed : (⟨(feat t l).val % 64, by omega⟩ : Fin 64) = inHead l := Fin.ext (by simp only [inHead] at e ⊢; omega)
  rw [eh, ed, block1, V_subln, block0, V_lam]
  rfl

end Cert.Attn
-- ==== Proof.Attn.Stacked.lean ====
/- The keys and the values of the two layers, stacked: the call's second and third results. -/
module

public import proofs.«01_k».proof.Proof.Attn.Windows
public import proofs.«01_k».proof.Proof.Attn.Ref

@[expose] public section

noncomputable section

namespace Cert.Attn

open Cert.KernelIdeal Cert.KernelIdeal.Gen Idealize.ShloMosaic Idealize.SL.Sem

/-- Two layers' blocks, one after the other. -/
def stack (x y : Vec Ideal S1x128x2048 .f32) : Vec Ideal S2x1x128x2048 .f32 :=
  fun i => (fun (z : Fin 2) (l : Fin 128) (q : Fin 2048) => if z.val < 1 then x (ix3 (0 : Fin 1) l q) else y (ix3 (0 : Fin 1) l q)) (i 0) (i 2) (i 3)

theorem stack_apply (x y : Vec Ideal S1x128x2048 .f32) (z : Fin 2) (a : Fin 1) (l : Fin 128) (q : Fin 2048) :
    stack x y (ix4 z a l q) = if z.val < 1 then x (ix3 (0 : Fin 1) l q) else y (ix3 (0 : Fin 1) l q) := rfl

/-- A layer's block, as it is stored. -/
theorem stored (x : Vec Ideal S1x128x2048 .f32) (a b : Fin 1) (l : Fin 128) (q : Fin 2048) :
    k0_pay2 (F := Ideal) (View.ld x r0_0) (ix4 a b l q) = x (ix3 (0 : Fin 1) l q) := by
  have e : View.ld x r0_0 = x := View.ld_unit_lit _ _ (by decide)
  rw [e]
  pointwise [k0_pay2]

variable (x y : Vec Ideal S1x128x2048 .f32)

theorem first_place (a b : Fin 1) (l : Fin 128) (q : Fin 2048) : r0_1.emb (ix4 a b l q) = ix4 (0 : Fin 2) (0 : Fin 1) l q := by
  funext e
  refine Fin.ext ((Rect.idx_unit_val _ _ _ _ e).trans ?_)
  fin_cases e
  · exact (Nat.zero_add _).trans (Nat.lt_one_iff.1 a.isLt)
  · exact (Nat.zero_add _).trans (Nat.lt_one_iff.1 b.isLt)
  · exact Nat.zero_add _
  · exact Nat.zero_add _

theorem second_place (a b : Fin 1) (l : Fin 128) (q : Fin 2048) : r0_2.emb (ix4 a b l q) = ix4 (1 : Fin 2) (0 : Fin 1) l q := by
  funext e
  refine Fin.ext ((Rect.idx_unit_val _ _ _ _ e).trans ?_)
  fin_cases e
  · exact congrArg (1 + ·) (Nat.lt_one_iff.1 a.isLt)
  · exact (Nat.zero_add _).trans (Nat.lt_one_iff.1 b.isLt)
  · exact Nat.zero_add _
  · exact Nat.zero_add _

theorem first_piece (i : S1x1x128x2048.Idx) : k0_pay2 (F := Ideal) (View.ld x r0_0) i = stack x y (r0_1.emb i) := by
  obtain ⟨a, b, l, q, rfl⟩ : ∃ (a b : Fin 1) (l : Fin 128) (q : Fin 2048), i = ix4 a b l q := ⟨i 0, i 1, i 2, i 3, eq_ix4 i⟩
  rw [stored, first_place, stack_apply]
  exact (if_pos Nat.zero_lt_one).symm

theorem second_piece (i : S1x1x128x2048.Idx) : k0_pay2 (F := Ideal) (View.ld y r0_0) i = stack x y (r0_2.emb i) := by
  obtain ⟨a, b, l, q, rfl⟩ : ∃ (a b : Fin 1) (l : Fin 128) (q : Fin 2048), i = ix4 a b l q := ⟨i 0, i 1, i 2, i 3, eq_ix4 i⟩
  rw [stored, second_place, stack_apply]
  exact (if_neg (lt_irrefl 1)).symm

variable {x0 : Vec Ideal S5x32 .f32} {x1 : Vec Ideal S1x128 .f32} {x2 : Vec Ideal S1x2048x128 .bf16}
  {x3 : Vec Ideal S1x2048x128 .bf16} {x4 : Vec Ideal S1x128x2048 .bf16} {x5 : Vec Ideal S2x2x256x256 .f32}
  {x6 x7 x8 x9 : Vec Ideal S1x128x2048 .f32}

theorem keys_block : out0_11 (F := Ideal) x0 x1 x2 x3 x4 x5 x6 x7 x8 x9 = stack x6 x8 := by
  funext i
  refine View.canon_apply_of_pieces (stack x6 x8) _ ?_ i (cover0_11 (F := Ideal) _ _ i)
  simp only [List.forall_mem_cons, List.not_mem_nil, false_imp_iff, implies_true, and_true]
  exact ⟨second_piece x6 x8, first_piece x6 x8⟩

theorem values_block : out0_12 (F := Ideal) x0 x1 x2 x3 x4 x5 x6 x7 x8 x9 = stack x7 x9 := by
  funext i
  refine View.canon_apply_of_pieces (stack x7 x9) _ ?_ i (cover0_12 (F := Ideal) _ _ i)
  simp only [List.forall_mem_cons, List.not_mem_nil, false_imp_iff, implies_true, and_true]
  exact ⟨second_piece x7 x9, first_piece x7 x9⟩

variable (m : (x : Loc nD τ sig) → Buf (Elt Ideal) x) (c : Dev nD) (t : Fin cfg0.N)

theorem keys_place (G : Vec Ideal S2x32x512x2048 .f32) (z : Fin 2) (a : Fin 1) (l : Fin 128) (q : Fin 2048) :
    G ((win0_11.blk t).view.emb (ix4 z a l q)) = G (ix4 z (batch t) (feat t l) q) := by
  unfold batch feat
  blk_ext [places t]

theorem values_place (G : Vec Ideal S2x32x512x2048 .f32) (z : Fin 2) (a : Fin 1) (l : Fin 128) (q : Fin 2048) :
    G ((win0_12.blk t).view.emb (ix4 z a l q)) = G (ix4 z (batch t) (feat t l) q) := by
  unfold batch feat
  blk_ext [places t]

/-- **The stacked keys.** -/
theorem keys_array : (dats m 0 c).arrAt 11 cfg0.N
    = Cert.ReferenceIdeal.Read.val_main_v113 (F := Ideal) (m (c, Proc.tc.devRef main_arg1)) (m (c, Proc.tc.devRef main_arg3)) := by
  refine (dats m 0 c).arrAt_eq_of_covers 11 _ (by decide +kernel) fun t hf y => ?_
  obtain ⟨z, a, l, q, rfl⟩ : ∃ (z : Fin 2) (a : Fin 1) (l : Fin 128) (q : Fin 2048), y = ix4 z a l q := ⟨y 0, y 1, y 2, y 3, eq_ix4 y⟩
  blk_simp [places t]
  rw [after0_11, keys_block]
  refine Eq.trans ?_ (keys_place t _ z a l q).symm
  rw [Ref.keys_read, stack_apply, block6, block8, V_feat3, V_feat1]

/-- **The stacked values.** -/
theorem values_array : (dats m 0 c).arrAt 12 cfg0.N
    = Cert.ReferenceIdeal.Read.val_main_v118 (F := Ideal) (m (c, Proc.tc.devRef main_arg2)) (m (c, Proc.tc.devRef main_arg4)) := by
  refine (dats m 0 c).arrAt_eq_of_covers 12 _ (by decide +kernel) fun t hf y => ?_
  obtain ⟨z, a, l, q, rfl⟩ : ∃ (z : Fin 2) (a : Fin 1) (l : Fin 128) (q : Fin 2048), y = ix4 z a l q := ⟨y 0, y 1, y 2, y 3, eq_ix4 y⟩
  blk_simp [places t]
  rw [after0_12, values_block]
  refine Eq.trans ?_ (values_place t _ z a l q).symm
  rw [Ref.values_read, stack_apply, block7, block9, V_feat4, V_feat2]

end Cert.Attn
-- ==== Proof.Tail.Tile.lean ====
/- The vocabulary of one grid point of the tail: what the kernel computes for the 1040 rows that it holds, the 16 rows
   before its 1024 rows and those. The feed-forward part is written once for a chunk of any width. -/
module

public import proofs.«01_k».proof.Proof.Gen.Kernel2Ideal.Frame.Runs

@[expose] public section

noncomputable section

namespace Cert.Tail

open Cert.Kernel2Ideal Cert.Kernel2Ideal.Gen Idealize.ShloMosaic Idealize.SL.Sem

variable {F : FTy → Type} [FloatOps F] [Named F]

/-- The side conditions of laying 16 rows above 1024 rows of `K` columns. -/
class Stack (K : ℕ) : Prop where
  halo : (⟨3, ![1, 16, K]⟩ : Shape).ShapeCasts ⟨2, ![16, K]⟩
  rows : (⟨3, ![1, 1024, K]⟩ : Shape).ShapeCasts ⟨2, ![1024, K]⟩
  cat : Shape.Concatenates [⟨2, ![16, K]⟩, ⟨2, ![1024, K]⟩] ⟨2, ![1040, K]⟩ 0

instance : Stack 1024 := ⟨shapeCasts_S1x16x1024_S16x1024, shapeCasts_S1x1024x1024_S1024x1024,
  concatenates_S16x1024_S1024x1024_S1040x1024_d0⟩
instance : Stack 512 := ⟨shapeCasts_S1x16x512_S16x512, shapeCasts_S1x1024x512_S1024x512,
  concatenates_S16x512_S1024x512_S1040x512_d0⟩
instance : Stack 256 := ⟨shapeCasts_S1x16x256_S16x256, shapeCasts_S1x1024x256_S1024x256,
  concatenates_S16x256_S1024x256_S1040x256_d0⟩

/-- The 16 rows before a block's rows, and those. -/
def stack {K : ℕ} [Stack K] {η : EltTy} (h : Vec F ⟨3, ![1, 16, K]⟩ η) (x : Vec F ⟨3, ![1, 1024, K]⟩ η) : Vec F ⟨2, ![1040, K]⟩ η :=
  concatenate ⟨2, ![1040, K]⟩ 0 [⟨⟨2, ![16, K]⟩, shapeCast ⟨2, ![16, K]⟩ h Stack.halo⟩,
    ⟨⟨2, ![1024, K]⟩, shapeCast ⟨2, ![1024, K]⟩ x Stack.rows⟩] Stack.cat

/-- A product of the 1040 rows with a matrix. -/
def dot {K N : ℕ} (a : FVec F ⟨2, ![1040, K]⟩ .bf16) (w : FVec F ⟨2, ![K, N]⟩ .bf16) : FVec F ⟨2, ![1040, N]⟩ .f32 :=
  matmul (φ₁ := .bf16) (φ₂ := .bf16) (DotDims.plain 1040 K N) none a w (constant ⟨2, ![1040, N]⟩ .f32 0x00000000#32)

/-- The reciprocal root of each row's mean square, as a column. -/
def invRms (y : FVec F S1040x1024 .f32) : FVec F S1040x1 .f32 :=
  rsqrt (addf (divf (shapeCast S1040x1 (multiReduction .add [1] S1040 (mulf y y) 0x00000000#32 reduces_S1040x1024_S1040 (.inl rfl) rfl)
    shapeCasts_S1040_S1040x1) (broadcast S1040x1 (Scalar.ofBits .f32 0x44800000#32)))
    (broadcast S1040x1 (Scalar.ofBits .f32 0x358637BD#32)))

/-- The rows over the root of their mean square, times a gain. -/
def rms (y : FVec F S1040x1024 .f32) (g : Vec F S1x1024 .f32) : FVec F S1040x1024 .f32 :=
  mulf (mulf y (broadcastTo S1040x1024 (invRms y) broadcasts_S1040x1_S1040x1024))
    (broadcastTo S1040x1024 (shapeCast S1x1024 g shapeCasts_S1x1024_S1x1024) broadcasts_S1x1024_S1040x1024)

/-- Three mixers' rows through the output projection. -/
def projected (a : FVec F S1040x512 .bf16) (b c : FVec F S1040x256 .bf16) (w : Vec F S1024x1024 .bf16) : FVec F S1040x1024 .f32 :=
  addf (addf (dot a (shapeCast S512x1024 (View.ld w (Rect.unit (s := S1024x1024) ![0, 0] S512x1024.size inb_S1024x1024_S512x1024_0_0)) shapeCasts_S512x1024_S512x1024))
    (dot b (shapeCast S256x1024 (View.ld w (Rect.unit (s := S1024x1024) ![512, 0] S256x1024.size inb_S1024x1024_S256x1024_512_0)) shapeCasts_S256x1024_S256x1024)))
    (dot c (shapeCast S256x1024 (View.ld w (Rect.unit (s := S1024x1024) ![768, 0] S256x1024.size inb_S1024x1024_S256x1024_768_0)) shapeCasts_S256x1024_S256x1024))

/-- The queries of the cross-attention, scaled. -/
def query (x : FVec F S1040x1024 .f32) (g : Vec F S1x1024 .f32) (w : Vec F S1024x256 .bf16) : FVec F S1040x256 .bf16 :=
  truncf .bf16 (mulf (dot (truncf .bf16 (rms x g) bitsLt_bf16_f32) (shapeCast S1024x256 w shapeCasts_S1024x256_S1024x256))
    (broadcast S1040x256 (Named.named κ "m_scale" 0x3E38AA3B#32))) bitsLt_bf16_f32

/-- Which of the 128 lanes lie in group `s` of 64: the kernel's floor division of the lane number, and a comparison. -/
def laneIn (s : BitVec 32) : IVec S1x128 1 :=
  let lane : IVec S1x128 32 := iota .tc S1x128 32 [1] iota_S1x128_d1_w32
  let quot : IVec S1x128 32 := divsi lane (broadcast S1x128 64#32)
  let sgn : IVec S1x128 32 := subi (extui 32 (cmpi .sgt lane (broadcast S1x128 0#32)) natLt_1_32)
    (extui 32 (cmpi .slt lane (broadcast S1x128 0#32)) natLt_1_32)
  let one : BitVec 32 := Scalar.subi (Scalar.extui (Scalar.cmpi .sgt 64#32 0#32)) (Scalar.extui (Scalar.cmpi .slt 64#32 0#32))
  let off : IVec S1x128 1 := andi (cmpi .ne sgn (broadcast S1x128 one))
    (cmpi .ne (remsi lane (broadcast S1x128 64#32)) (broadcast S1x128 0#32))
  cmpi .eq (select off (subi quot (broadcast S1x128 1#32)) quot) (broadcast S1x128 s)

/-- The lanes below 64. -/
def left : IVec S1x128 1 := cmpi .slt (iota .tc S1x128 32 [1] iota_S1x128_d1_w32) (broadcast S1x128 64#32)

/-- One head's queries of a pair: the pair's queries in the head's lanes, zero elsewhere. -/
def stream (s : BitVec 32) (q : FVec F S1040x128 .bf16) : FVec F S1040x128 .bf16 :=
  select (broadcastTo S1040x128 (shapeCast S1x128 (laneIn s) shapeCasts_S1x128_S1x128) broadcasts_S1x128_S1040x128) q
    (broadcast S1040x128 (Scalar.ofBits .bf16 0x0000#16))

/-- A pair's keys, or its values. -/
def slab (k : Vec F S1x256x128 .bf16) : FVec F S256x128 .bf16 := shapeCast S256x128 k shapeCasts_S1x256x128_S256x128

/-- The scores of one head. -/
def scores (q : FVec F S1040x128 .bf16) (k : Vec F S1x256x128 .bf16) : FVec F S1040x256 .f32 :=
  matmul (φ₁ := .bf16) (φ₂ := .bf16) dot_S1040x128_S256x128_S1040x256_1_1_0_0_n_n none q (slab k) (constant S1040x256 .f32 0x00000000#32)

/-- The powers of two of the scores less their row's maximum. -/
def weights (s : FVec F S1040x256 .f32) : FVec F S1040x256 .bf16 :=
  truncf .bf16 (exp2 (subf s (broadcastTo S1040x256 (shapeCast S1040x1
    (multiReduction .maximumf [1] S1040 s 0xFF800000#32 reduces_S1040x256_S1040 (.inl rfl) rfl) shapeCasts_S1040_S1040x1)
    broadcasts_S1040x1_S1040x256))) bitsLt_bf16_f32

/-- A pair's values with ones in the other head's lanes. -/
def values (h : Bool) (v : Vec F S1x256x128 .bf16) : FVec F S256x128 .bf16 :=
  let l := broadcastTo S256x128 (shapeCast S1x128 left shapeCasts_S1x128_S1x128) broadcasts_S1x128_S256x128
  let one : FVec F S256x128 .bf16 := broadcast S256x128 (Scalar.ofBits .bf16 0x3F80#16)
  match h with
  | false => select l (slab v) one
  | true => select l one (slab v)

/-- The weighted values over the weights' sum, which lies 64 lanes away. -/
def over (e : FVec F S1040x256 .bf16) (v : FVec F S256x128 .bf16) : FVec F S1040x128 .f32 :=
  divf (dot e v) (dynamicRotate 1 64#32 none (dot e v) rotates_S1040x128_d1)

/-- A pair of heads' attention. -/
def pair (q : FVec F S1040x128 .bf16) (k v : Vec F S1x256x128 .bf16) : FVec F S1040x128 .bf16 :=
  truncf .bf16 (select (broadcastTo S1040x128 (shapeCast S1x128 left shapeCasts_S1x128_S1x128) broadcasts_S1x128_S1040x128)
    (over (weights (scores (stream 0#32 q) k)) (values false v))
    (over (weights (scores (stream 1#32 q) k)) (values true v))) bitsLt_bf16_f32

/-- The attention to the memory through its output projection. -/
def attended (q : FVec F S1040x256 .bf16) (mk mv : Vec F S1x256x256 .bf16) (wo : Vec F S256x1024 .bf16) : FVec F S1040x1024 .f32 :=
  dot (concatenate S1040x256 1
    [⟨S1040x128, pair (extractStridedSlice S1040x128 ![0, 0] q slices_S1040x256_o0_0_S1040x128)
      (View.ld mk (Rect.unit (s := S1x256x256) ![0, 0, 0] S1x256x128.size inb_S1x256x256_S1x256x128_0_0_0))
      (View.ld mv (Rect.unit (s := S1x256x256) ![0, 0, 0] S1x256x128.size inb_S1x256x256_S1x256x128_0_0_0))⟩,
     ⟨S1040x128, pair (extractStridedSlice S1040x128 ![0, 128] q slices_S1040x256_o0_128_S1040x128)
      (View.ld mk (Rect.unit (s := S1x256x256) ![0, 0, 128] S1x256x128.size inb_S1x256x256_S1x256x128_0_0_128))
      (View.ld mv (Rect.unit (s := S1x256x256) ![0, 0, 128] S1x256x128.size inb_S1x256x256_S1x256x128_0_0_128))⟩]
    concatenates_S1040x128_S1040x128_S1040x256_d1) (shapeCast S256x1024 wo shapeCasts_S256x1024_S256x1024)

/-- The feed-forward part's input. -/
def entered (x : FVec F S1040x1024 .f32) (g : Vec F S1x1024 .f32) : FVec F S1040x1024 .bf16 := truncf .bf16 (rms x g) bitsLt_bf16_f32

/-- Row `n` of the first grid point of a batch. -/
def pastRow (first : BitVec 1) (n : BitVec 32) : IVec S1040x1 1 :=
  andi (broadcast S1040x1 first) (cmpi .eq (iota .tc S1040x1 32 [0] iota_S1040x1_d0_w32) (broadcast S1040x1 n))

/-- The side conditions of a chunk of `K` columns of the feed-forward part. -/
class Part (K : ℕ) : Prop where
  past : (⟨3, ![1, 2, K]⟩ : Shape).ShapeCasts ⟨2, ![2, K]⟩
  past0 : (⟨2, ![2, K]⟩ : Shape).Slices ![0, 0] ⟨2, ![1, K]⟩
  past1 : (⟨2, ![2, K]⟩ : Shape).Slices ![1, 0] ⟨2, ![1, K]⟩
  one : (⟨2, ![1, K]⟩ : Shape).ShapeCasts ⟨2, ![1, K]⟩
  down : (⟨2, ![1, K]⟩ : Shape).Broadcasts ⟨2, ![1040, K]⟩
  across : S1040x1.Broadcasts ⟨2, ![1040, K]⟩
  turn : (⟨2, ![1040, K]⟩ : Shape).Rotates 0 none
  tap0 : (⟨2, ![3, K]⟩ : Shape).Slices ![0, 0] ⟨2, ![1, K]⟩
  tap1 : (⟨2, ![3, K]⟩ : Shape).Slices ![1, 0] ⟨2, ![1, K]⟩
  tap2 : (⟨2, ![3, K]⟩ : Shape).Slices ![2, 0] ⟨2, ![1, K]⟩
  into : (⟨2, ![1024, K]⟩ : Shape).ShapeCasts ⟨2, ![1024, K]⟩
  back : (⟨2, ![K, 1024]⟩ : Shape).ShapeCasts ⟨2, ![K, 1024]⟩
  last : (⟨2, ![1040, K]⟩ : Shape).Slices ![1038, 0] ⟨2, ![2, K]⟩
  kept : (⟨2, ![2, K]⟩ : Shape).ShapeCasts ⟨3, ![1, 2, K]⟩

instance : Part 512 := ⟨shapeCasts_S1x2x512_S2x512, slices_S2x512_o0_0_S1x512, slices_S2x512_o1_0_S1x512, shapeCasts_S1x512_S1x512,
  broadcasts_S1x512_S1040x512, broadcasts_S1040x1_S1040x512, rotates_S1040x512_d0, slices_S3x512_o0_0_S1x512,
  slices_S3x512_o1_0_S1x512, slices_S3x512_o2_0_S1x512, shapeCasts_S1024x512_S1024x512, shapeCasts_S512x1024_S512x1024,
  slices_S1040x512_o1038_0_S2x512, shapeCasts_S2x512_S1x2x512⟩
instance : Part 256 := ⟨shapeCasts_S1x2x256_S2x256, slices_S2x256_o0_0_S1x256, slices_S2x256_o1_0_S1x256, shapeCasts_S1x256_S1x256,
  broadcasts_S1x256_S1040x256, broadcasts_S1040x1_S1040x256, rotates_S1040x256_d0, slices_S3x256_o0_0_S1x256,
  slices_S3x256_o1_0_S1x256, slices_S3x256_o2_0_S1x256, shapeCasts_S1024x256_S1024x256, shapeCasts_S256x1024_S256x1024,
  slices_S1040x256_o1038_0_S2x256, shapeCasts_S2x256_S1x2x256⟩

/-- Columns `o` to `o + K` of a matrix of 2816 columns. -/
def cols {M : ℕ} {η : EltTy} (K o : ℕ) (h : o + K ≤ 2816) (x : Vec F ⟨2, ![M, 2816]⟩ η) : Vec F ⟨2, ![M, K]⟩ η :=
  View.ld x (Rect.unit (s := ⟨2, ![M, 2816]⟩) ![0, o] (⟨2, ![M, K]⟩ : Shape).size (by
    intro a; fin_cases a
    · exact (Nat.zero_add M).le
    · exact h))

/-- Columns `o` to `o + K` of the two rows before the sequence. -/
def pastCols {η : EltTy} (K o : ℕ) (h : o + K ≤ 2816) (x : Vec F S1x2x2816 η) : Vec F ⟨3, ![1, 2, K]⟩ η :=
  View.ld x (Rect.unit (s := S1x2x2816) ![0, 0, o] (⟨3, ![1, 2, K]⟩ : Shape).size (by
    intro a; fin_cases a
    · exact le_refl 1
    · exact le_refl 2
    · exact h))

/-- Rows `o` to `o + K` of the down projection. -/
def rowsFrom (K o : ℕ) (h : o + K ≤ 2816) (x : Vec F S2816x1024 .bf16) : Vec F ⟨2, ![K, 1024]⟩ .bf16 :=
  View.ld x (Rect.unit (s := S2816x1024) ![o, 0] (⟨2, ![K, 1024]⟩ : Shape).size (by
    intro a; fin_cases a
    · exact h
    · exact le_refl 1024))

/-- A row over the 1040 rows. -/
def wide {K : ℕ} [Part K] (r : FVec F ⟨2, ![1, K]⟩ .f32) : FVec F ⟨2, ![1040, K]⟩ .f32 :=
  broadcastTo ⟨2, ![1040, K]⟩ r Part.down

/-- A chunk of the gate, with the two rows before the sequence put in at the first grid point of a batch. -/
def gate {K : ℕ} [Part K] (first : BitVec 1) (h : FVec F S1040x1024 .bf16) (w : Vec F ⟨2, ![1024, K]⟩ .bf16)
    (past : Vec F ⟨3, ![1, 2, K]⟩ .f32) : FVec F ⟨2, ![1040, K]⟩ .f32 :=
  let p : FVec F ⟨2, ![2, K]⟩ .f32 := shapeCast ⟨2, ![2, K]⟩ past Part.past
  select (broadcastTo ⟨2, ![1040, K]⟩ (shapeCast S1040x1 (pastRow first 14#32) shapeCasts_S1040x1_S1040x1) Part.across)
    (wide (shapeCast ⟨2, ![1, K]⟩ (extractStridedSlice ⟨2, ![1, K]⟩ ![0, 0] p Part.past0) Part.one))
    (select (broadcastTo ⟨2, ![1040, K]⟩ (shapeCast S1040x1 (pastRow first 15#32) shapeCasts_S1040x1_S1040x1) Part.across)
      (wide (shapeCast ⟨2, ![1, K]⟩ (extractStridedSlice ⟨2, ![1, K]⟩ ![1, 0] p Part.past1) Part.one))
      (dot h (shapeCast ⟨2, ![1024, K]⟩ w Part.into)))

/-- The causal convolution of a chunk of the gate. -/
def conv {K : ℕ} [Part K] (g : FVec F ⟨2, ![1040, K]⟩ .f32) (cw : Vec F ⟨2, ![3, K]⟩ .f32) (cb : Vec F ⟨2, ![1, K]⟩ .f32) :
    FVec F ⟨2, ![1040, K]⟩ .f32 :=
  addf (addf (addf (wide (shapeCast ⟨2, ![1, K]⟩ cb Part.one))
    (mulf (dynamicRotate 0 2#32 none g Part.turn) (wide (extractStridedSlice ⟨2, ![1, K]⟩ ![0, 0] cw Part.tap0))))
    (mulf (dynamicRotate 0 1#32 none g Part.turn) (wide (extractStridedSlice ⟨2, ![1, K]⟩ ![1, 0] cw Part.tap1))))
    (mulf g (wide (extractStridedSlice ⟨2, ![1, K]⟩ ![2, 0] cw Part.tap2)))

/-- A chunk's product with its rows of the down projection. -/
def chunk {K : ℕ} [Part K] (g u : FVec F ⟨2, ![1040, K]⟩ .f32) (cw : Vec F ⟨2, ![3, K]⟩ .f32) (cb : Vec F ⟨2, ![1, K]⟩ .f32)
    (wd : Vec F ⟨2, ![K, 1024]⟩ .bf16) : FVec F S1040x1024 .f32 :=
  dot (truncf .bf16 (mulf (mulf (conv g cw cb) (logistic (conv g cw cb))) u) bitsLt_bf16_f32)
    (shapeCast ⟨2, ![K, 1024]⟩ wd Part.back)

/-- A chunk of the gate, cut from the whole blocks. -/
def gateAt (K o : ℕ) [Part K] (ho : o + K ≤ 2816) (first : BitVec 1) (h : FVec F S1040x1024 .bf16) (x10 : Vec F S1x2x2816 .f32)
    (x18 : Vec F S1024x2816 .bf16) : FVec F ⟨2, ![1040, K]⟩ .f32 :=
  gate first h (cols K o ho x18) (pastCols K o ho x10)

/-- A chunk's product, cut from the whole blocks. -/
def chunkAt (K o : ℕ) [Part K] (ho : o + K ≤ 2816) (first : BitVec 1) (h : FVec F S1040x1024 .bf16) (x10 : Vec F S1x2x2816 .f32)
    (x18 x19 : Vec F S1024x2816 .bf16) (x20 : Vec F S3x2816 .f32) (x21 : Vec F S1x2816 .f32) (x22 : Vec F S2816x1024 .bf16) :
    FVec F S1040x1024 .f32 :=
  chunk (gateAt K o ho first h x10 x18) (dot h (shapeCast ⟨2, ![1024, K]⟩ (cols K o ho x19) Part.into)) (cols K o ho x20)
    (cols K o ho x21) (rowsFrom K o ho x22)

/-- The feed-forward part: its six chunks, added in order. -/
def fed (first : BitVec 1) (h : FVec F S1040x1024 .bf16) (x10 : Vec F S1x2x2816 .f32)
    (x18 x19 : Vec F S1024x2816 .bf16) (x20 : Vec F S3x2816 .f32) (x21 : Vec F S1x2816 .f32) (x22 : Vec F S2816x1024 .bf16) :
    FVec F S1040x1024 .f32 :=
  addf (addf (addf (addf (addf (addf (broadcast S1040x1024 (Scalar.ofBits .f32 0x00000000#32))
    (chunkAt 512 0 (by decide) first h x10 x18 x19 x20 x21 x22))
    (chunkAt 512 512 (by decide) first h x10 x18 x19 x20 x21 x22))
    (chunkAt 512 1024 (by decide) first h x10 x18 x19 x20 x21 x22))
    (chunkAt 512 1536 (by decide) first h x10 x18 x19 x20 x21 x22))
    (chunkAt 512 2048 (by decide) first h x10 x18 x19 x20 x21 x22))
    (chunkAt 256 2560 (by decide) first h x10 x18 x19 x20 x21 x22)

/-- The last two rows of a chunk of the gate. -/
def state {K : ℕ} [Part K] (g : FVec F ⟨2, ![1040, K]⟩ .f32) : Vec F ⟨3, ![1, 2, K]⟩ .f32 :=
  shapeCast ⟨3, ![1, 2, K]⟩ (extractStridedSlice ⟨2, ![2, K]⟩ ![1038, 0] g Part.last) Part.kept

/-- A grid point's rows of the result. -/
def finished (x y : FVec F S1040x1024 .f32) (g : Vec F S1x1024 .f32) : Vec F S1x1024x1024 .f32 :=
  shapeCast S1x1024x1024 (extractStridedSlice S1024x1024 ![16, 0] (addf x (rms y g)) slices_S1040x1024_o16_0_S1024x1024)
    shapeCasts_S1024x1024_S1x1024x1024

/-- Whether a grid point is the first of its batch. -/
def isFirst (i : grid0.Coords) : BitVec 1 := Scalar.cmpi .eq (BitVec.ofNat 32 (i 1).val) 0#32

end Cert.Tail
-- ==== Proof.Tail.Whole.lean ====
/- The rows of one grid point after each part of the tail, in the vocabulary of one grid point. -/
module

public import proofs.«01_k».proof.Proof.Tail.Tile

@[expose] public section

noncomputable section

namespace Cert.Tail

open Cert.Kernel2Ideal Cert.Kernel2Ideal.Gen Idealize.ShloMosaic Idealize.SL.Sem

variable {F : FTy → Type} [FloatOps F] [Named F]

variable (x0 : Vec F S1x1024x1024 .f32) (x1 : Vec F S1x16x1024 .f32) (x2 : Vec F S1x1024x512 .bf16) (x3 : Vec F S1x16x512 .bf16)
  (x4 : Vec F S1x1024x256 .bf16) (x5 : Vec F S1x16x256 .bf16) (x6 : Vec F S1x1024x256 .bf16) (x7 : Vec F S1x16x256 .bf16)
  (x8 : Vec F S1x256x256 .bf16) (x9 : Vec F S1x256x256 .bf16) (x10 : Vec F S1x2x2816 .f32) (x11 : Vec F S1024x1024 .bf16)
  (x12 : Vec F S1x1024 .f32) (x13 : Vec F S1x1024 .f32) (x14 : Vec F S1024x256 .bf16) (x15 : Vec F S256x1024 .bf16)
  (x16 : Vec F S1x1024 .f32) (x17 : Vec F S1x1024 .f32) (x18 x19 : Vec F S1024x2816 .bf16) (x20 : Vec F S3x2816 .f32)
  (x21 : Vec F S1x2816 .f32) (x22 : Vec F S2816x1024 .bf16) (x23 : Vec F S1x1024 .f32)

/-- The rows with the mixers' output added. -/
def mixed : FVec F S1040x1024 .f32 :=
  addf (stack (K := 1024) x1 x0) (rms (projected (stack (K := 512) x3 x2) (stack (K := 256) x5 x4) (stack (K := 256) x7 x6) x11) x12)

/-- The rows with the attention to the memory added. -/
def crossed : FVec F S1040x1024 .f32 :=
  addf (mixed x0 x1 x2 x3 x4 x5 x6 x7 x11 x12)
    (rms (attended (query (mixed x0 x1 x2 x3 x4 x5 x6 x7 x11 x12) x13 x14) x8 x9 x15) x16)

/-- The feed-forward part's input. -/
def input : FVec F S1040x1024 .bf16 := entered (crossed x0 x1 x2 x3 x4 x5 x6 x7 x8 x9 x11 x12 x13 x14 x15 x16) x17

end Cert.Tail
-- ==== Proof.Tail.Pieces.lean ====
/- What the tail's body leaves in its two outputs' buffers at a grid point, in the vocabulary of one grid point. -/
module

public import proofs.«01_k».proof.Proof.Tail.Whole
public import proofs.«01_k».proof.Proof.Tail.Frame
public import Idealize.ShloMosaic.Lib.Pipeline.ValueKit

@[expose] public section

set_option maxRecDepth 16384
set_option maxHeartbeats 4000000

noncomputable section

namespace Cert.Tail

open Cert.Kernel2Ideal Cert.Kernel2Ideal.Gen Idealize.ShloMosaic Idealize.SL.Sem

variable {F : FTy → Type} [FloatOps F] [Named F] (m : (ℓ : Loc nD τ sig) → Buf (Elt F) ℓ)

/-- A grid point's rows after the attention to the memory. -/
def crossedAt (c : Dev nD) (t : Fin cfg0.N) : FVec F S1040x1024 .f32 :=
  crossed (iblk m c 0 t) (iblk m c 1 t) (iblk m c 2 t) (iblk m c 3 t) (iblk m c 4 t) (iblk m c 5 t) (iblk m c 6 t) (iblk m c 7 t)
    (iblk m c 8 t) (iblk m c 9 t) (iblk m c 11 t) (iblk m c 12 t) (iblk m c 13 t) (iblk m c 14 t) (iblk m c 15 t) (iblk m c 16 t)

/-- A chunk of a grid point's gate. -/
def gateOf (K o : ℕ) [Part K] (ho : o + K ≤ 2816) (c : Dev nD) (t : Fin cfg0.N) : FVec F ⟨2, ![1040, K]⟩ .f32 :=
  gateAt K o ho (isFirst (grid0.coords t)) (entered (crossedAt m c t) (iblk m c 17 t)) (iblk m c 10 t) (iblk m c 18 t)

theorem outs_rows (c : Dev nD) (t : Fin cfg0.N) : (outsAt0 m c t).1
    = finished (crossedAt m c t) (fed (isFirst (grid0.coords t)) (entered (crossedAt m c t) (iblk m c 17 t)) (iblk m c 10 t)
      (iblk m c 18 t) (iblk m c 19 t) (iblk m c 20 t) (iblk m c 21 t) (iblk m c 22 t)) (iblk m c 23 t) := by
  frame_out
  rfl

theorem outs_state (c : Dev nD) (t : Fin cfg0.N) : (outsAt0 m c t).2
    = View.canon [
      ⟨Rect.unit (s := S1x2x2816) ![0, 0, 2560] S1x2x256.size inb_S1x2x2816_S1x2x256_0_0_2560, state (gateOf m 256 2560 (by decide) c t)⟩,
      ⟨Rect.unit (s := S1x2x2816) ![0, 0, 2048] S1x2x512.size inb_S1x2x2816_S1x2x512_0_0_2048, state (gateOf m 512 2048 (by decide) c t)⟩,
      ⟨Rect.unit (s := S1x2x2816) ![0, 0, 1536] S1x2x512.size inb_S1x2x2816_S1x2x512_0_0_1536, state (gateOf m 512 1536 (by decide) c t)⟩,
      ⟨Rect.unit (s := S1x2x2816) ![0, 0, 1024] S1x2x512.size inb_S1x2x2816_S1x2x512_0_0_1024, state (gateOf m 512 1024 (by decide) c t)⟩,
      ⟨Rect.unit (s := S1x2x2816) ![0, 0, 512] S1x2x512.size inb_S1x2x2816_S1x2x512_0_0_512, state (gateOf m 512 512 (by decide) c t)⟩,
      ⟨Rect.unit (s := S1x2x2816) ![0, 0, 0] S1x2x512.size inb_S1x2x2816_S1x2x512_0_0_0, state (gateOf m 512 0 (by decide) c t)⟩] := by
  frame_out
  rfl

end Cert.Tail
-- ==== Proof.Tail.Host.lean ====
/- The arrays that the tail's call receives, as elements of the arguments. -/
module

public import proofs.«01_k».proof.Proof.Tail.Frame
public import Idealize.ShloMosaic.Lib.StableHlo.ReadAt
public import Idealize.ShloMosaic.Lib.Pointwise
public import Idealize.ShloMosaic.Lib.Claim

@[expose] public section

noncomputable section

namespace Cert.Tail

open Cert.Kernel2Ideal Cert.Kernel2Ideal.Gen Idealize.ShloMosaic Idealize.SL.Sem

variable (m : (x : Loc nD τ sig) → Buf (Elt Ideal) x) (c : Dev nD)

theorem V_a (b : Fin 32) (s : Fin 2048) (f : Fin 512) : (V (F := Ideal) m c main_v22 : Vec Ideal S32x2048x512 .bf16) (ix3 b s f)
    = m (c, Proc.tc.devRef main_arg1) (ix3 b s f) := by
  unfold V
  after_reads_at

theorem V_b (b : Fin 32) (s : Fin 2048) (f : Fin 256) : (V (F := Ideal) m c main_v23 : Vec Ideal S32x2048x256 .bf16) (ix3 b s f)
    = m (c, Proc.tc.devRef main_arg2) (ix3 b s f) := by
  unfold V
  after_reads_at

theorem V_c (b : Fin 32) (s : Fin 2048) (f : Fin 256) : (V (F := Ideal) m c main_v24 : Vec Ideal S32x2048x256 .bf16) (ix3 b s f)
    = m (c, Proc.tc.devRef main_arg3) (ix3 b s f) := by
  unfold V
  after_reads_at

theorem V_mk (b : Fin 32) (k f : Fin 256) : (V (F := Ideal) m c main_v26 : Vec Ideal S32x256x256 .bf16) (ix3 b k f)
    = m (c, Proc.tc.devRef main_arg4) (ix4 b k (⟨f.val / 64, by omega⟩ : Fin 4) (⟨f.val % 64, by omega⟩ : Fin 64)) := by
  unfold V
  after_reads_at

theorem V_mv (b : Fin 32) (k f : Fin 256) : (V (F := Ideal) m c main_v28 : Vec Ideal S32x256x256 .bf16) (ix3 b k f)
    = m (c, Proc.tc.devRef main_arg5) (ix4 b k (⟨f.val / 64, by omega⟩ : Fin 4) (⟨f.val % 64, by omega⟩ : Fin 64)) := by
  unfold V
  after_reads_at

theorem V_wout (k j : Fin 1024) : (V (F := Ideal) m c main_v15 : Vec Ideal S1024x1024 .bf16) (ix2 k j)
    = m (c, Proc.tc.devRef main_arg7) (ix2 k j) := by
  unfold V
  after_reads_at

theorem V_wxq (k : Fin 1024) (j : Fin 256) : (V (F := Ideal) m c main_v16 : Vec Ideal S1024x256 .bf16) (ix2 k j)
    = m (c, Proc.tc.devRef main_arg9) (ix2 k j) := by
  unfold V
  after_reads_at

theorem V_wxo (k : Fin 256) (j : Fin 1024) : (V (F := Ideal) m c main_v17 : Vec Ideal S256x1024 .bf16) (ix2 k j)
    = m (c, Proc.tc.devRef main_arg10) (ix2 k j) := by
  unfold V
  after_reads_at

theorem V_wgate (k : Fin 1024) (j : Fin 2816) : (V (F := Ideal) m c main_v18 : Vec Ideal S1024x2816 .bf16) (ix2 k j)
    = m (c, Proc.tc.devRef main_arg11) (ix2 k j) := by
  unfold V
  after_reads_at

theorem V_wup (k : Fin 1024) (j : Fin 2816) : (V (F := Ideal) m c main_v19 : Vec Ideal S1024x2816 .bf16) (ix2 k j)
    = m (c, Proc.tc.devRef main_arg12) (ix2 k j) := by
  unfold V
  after_reads_at

theorem V_wdown (k : Fin 2816) (j : Fin 1024) : (V (F := Ideal) m c main_v20 : Vec Ideal S2816x1024 .bf16) (ix2 k j)
    = m (c, Proc.tc.devRef main_arg15) (ix2 k j) := by
  unfold V
  after_reads_at

theorem V_cb (j : Fin 2816) : (V (F := Ideal) m c main_v21 : Vec Ideal S1x2816 .f32) (ix2 (0 : Fin 1) j)
    = m (c, Proc.tc.devRef main_arg14) (ix1 j) := by
  unfold V
  after_reads_at

theorem V_gain1 (j : Fin 1024) : (V (F := Ideal) m c main_v2 : Vec Ideal S1x1024 .f32) (ix2 (0 : Fin 1) j)
    = m (c, Proc.tc.devRef main_arg8) (ix2 (1 : Fin 7) j) := by
  unfold V
  after_reads_at

theorem V_gain2 (j : Fin 1024) : (V (F := Ideal) m c main_v5 : Vec Ideal S1x1024 .f32) (ix2 (0 : Fin 1) j)
    = m (c, Proc.tc.devRef main_arg8) (ix2 (2 : Fin 7) j) := by
  unfold V
  after_reads_at

theorem V_gain3 (j : Fin 1024) : (V (F := Ideal) m c main_v8 : Vec Ideal S1x1024 .f32) (ix2 (0 : Fin 1) j)
    = m (c, Proc.tc.devRef main_arg8) (ix2 (3 : Fin 7) j) := by
  unfold V
  after_reads_at

theorem V_gain4 (j : Fin 1024) : (V (F := Ideal) m c main_v11 : Vec Ideal S1x1024 .f32) (ix2 (0 : Fin 1) j)
    = m (c, Proc.tc.devRef main_arg8) (ix2 (4 : Fin 7) j) := by
  unfold V
  after_reads_at

theorem V_gain5 (j : Fin 1024) : (V (F := Ideal) m c main_v14 : Vec Ideal S1x1024 .f32) (ix2 (0 : Fin 1) j)
    = m (c, Proc.tc.devRef main_arg8) (ix2 (5 : Fin 7) j) := by
  unfold V
  after_reads_at

theorem V_x (b : Fin 32) (s : Fin 2048) (j : Fin 1024) : (V (F := Ideal) m c main_arg0 : Vec Ideal S32x2048x1024 .f32) (ix3 b s j)
    = m (c, Proc.tc.devRef main_arg0) (ix3 b s j) := by
  unfold V
  after_reads_at

theorem V_past (b : Fin 32) (s : Fin 2) (j : Fin 2816) : (V (F := Ideal) m c main_arg6 : Vec Ideal S32x2x2816 .f32) (ix3 b s j)
    = m (c, Proc.tc.devRef main_arg6) (ix3 b s j) := by
  unfold V
  after_reads_at

theorem V_cw (k : Fin 3) (j : Fin 2816) : (V (F := Ideal) m c main_arg13 : Vec Ideal S3x2816 .f32) (ix2 k j)
    = m (c, Proc.tc.devRef main_arg13) (ix2 k j) := by
  unfold V
  after_reads_at

end Cert.Tail
-- ==== Proof.Tail.Row.lean ====
/- One row of the layer's tail over the extended reals, on which the kernel's 1040 rows of a grid point and the reference's
   2048 rows of a sequence are both read: the mixers' output added, the attention to the memory added, the gate's and the
   up projection's rows, the convolution of three rows of the gate, and the feed-forward part's output added. -/
module

public import Idealize.ShloMosaic.PureOps.Ideal

@[expose] public section

noncomputable section

namespace Cert.Tail

open Idealize.ShloMosaic

/-- A row of `n` extended reals. -/
abbrev Line (n : ℕ) := Fin n → EReal

/-- A matrix of extended reals. -/
abbrev Grid (k n : ℕ) := Fin k → Fin n → EReal

/-- The reciprocal root of a row's mean square. -/
def invRow (y : Line 1024) : EReal :=
  Ideal.rsqrt (Ideal.div (∑ k, y k * y k) (Ideal.ofBits .f32 0x44800000#32) + Ideal.ofBits .f32 0x358637BD#32)

/-- A row over the root of its mean square, times a gain. -/
def normRow (y g : Line 1024) : Line 1024 := fun j => y j * invRow y * g j

/-- A row times a matrix. -/
def mulRow {K N : ℕ} (y : Line K) (w : Grid K N) : Line N := fun j => ∑ k, y k * w k j

/-- The three mixers' rows side by side. -/
def sideBySide (a : Line 512) (b c : Line 256) : Line 1024 := fun k =>
  if h : k.val < 512 then a ⟨k.val, h⟩
  else if h' : k.val < 768 then b ⟨k.val - 512, by omega⟩ else c ⟨k.val - 768, by omega⟩

/-- The row with the mixers' output added. -/
def mixRow (x : Line 1024) (a : Line 512) (b c : Line 256) (w : Grid 1024 1024) (g : Line 1024) : Line 1024 := fun j =>
  x j + normRow (mulRow (sideBySide a b c) w) g j

/-- The queries of a row. -/
def queryRow (x g : Line 1024) (w : Grid 1024 256) : Line 256 := mulRow (normRow x g) w

/-- Lane `d` of head `h`. -/
def feature (h : Fin 4) (d : Fin 64) : Fin 256 := ⟨h.val * 64 + d.val, by omega⟩

/-- The head of a feature. -/
def headOf (f : Fin 256) : Fin 4 := ⟨f.val / 64, by omega⟩

/-- The score of a head's query against a key, before scaling. -/
def dotRow (q : Line 256) (mk : Grid 256 256) (h : Fin 4) (k : Fin 256) : EReal := ∑ d, q (feature h d) * mk k (feature h d)

/-- The attention to the memory as the kernel computes it, from scaled queries: powers of two of the scores less their
    maximum, their weighted sum of the values over their own sum. -/
def attRow (q : Line 256) (mk mv : Grid 256 256) : Line 256 := fun f =>
  let e : Line 256 := fun k => Ideal.exp2 (dotRow q mk (headOf f) k - Finset.univ.fold max ⊥ (dotRow q mk (headOf f)))
  Ideal.div (∑ k, e k * mv k f) (∑ k, e k * 1)

/-- A scaled score, as the reference computes it. -/
def scoreRow (q : Line 256) (mk : Grid 256 256) (h : Fin 4) (k : Fin 256) : EReal :=
  dotRow q mk h k * Ideal.ofBits .f32 0x3E000000#32

/-- The attention to the memory as the reference computes it: the values by the exponentials of the scores less their maximum,
    each over their sum. -/
def attPlain (q : Line 256) (mk mv : Grid 256 256) : Line 256 := fun f =>
  let e : Line 256 := fun k => Ideal.exp (scoreRow q mk (headOf f) k - Finset.univ.fold max ⊥ (scoreRow q mk (headOf f)))
  ∑ k, mv k f * Ideal.div (e k) (∑ k, e k)

/-- The row with the attention's output `o` added. -/
def crossRow (x : Line 1024) (o : Line 256) (wo : Grid 256 1024) (g : Line 1024) : Line 1024 := fun j =>
  x j + normRow (mulRow o wo) g j

/-- A row after the attention to the memory, as the reference computes it. -/
def plainCross (x : Line 1024) (a : Line 512) (b c : Line 256) (mk mv : Grid 256 256) (w : Grid 1024 1024) (g1 g2 : Line 1024)
    (wq : Grid 1024 256) (wo : Grid 256 1024) (g3 : Line 1024) : Line 1024 :=
  crossRow (mixRow x a b c w g1) (attPlain (queryRow (mixRow x a b c w g1) g2 wq) mk mv) wo g3

/-- A column of the causal convolution, from the gate two rows before, one row before and at the row. -/
def convAt (w0 w1 w2 cb e0 e1 e2 : EReal) : EReal := cb + e0 * w0 + e1 * w1 + e2 * w2

/-- A column of the feed-forward part's inner row. -/
def actAt (v u : EReal) : EReal := v * Ideal.logistic v * u

/-- The feed-forward part's output. -/
def downRow (x : Line 1024) (act : Line 2816) (wd : Grid 2816 1024) (g : Line 1024) : Line 1024 := fun j =>
  x j + normRow (mulRow act wd) g j

end Cert.Tail
-- ==== Proof.Tail.TileAt.lean ====
/- The vocabulary of one grid point, read at a row over the extended reals. -/
module

public import proofs.«01_k».proof.Proof.Tail.Whole
public import proofs.«01_k».proof.Proof.Tail.Row
public import Idealize.ShloMosaic.Lib.Pointwise
public import Idealize.ShloMosaic.Lib.MatmulPlain
public import Idealize.ShloMosaic.Lib.KernelVsHost
public import Idealize.ShloMosaic.Lib.Pipeline.ValueKit
public import Idealize.ShloMosaic.PureOps.IdealRules

@[expose] public section

noncomputable section

namespace Cert.Tail

open Cert.Kernel2Ideal Cert.Kernel2Ideal.Gen Idealize.ShloMosaic

/-- A row of a matrix. -/
def line {M N : ℕ} (y : (⟨2, ![M, N]⟩ : Shape).Idx → EReal) (r : Fin M) : Line N := fun j => y (ix2 r j)

/-- A matrix, as a function of its two indices. -/
def grid {M N : ℕ} (y : (⟨2, ![M, N]⟩ : Shape).Idx → EReal) : Grid M N := fun k j => y (ix2 k j)

/-- A block of one matrix, as a function of the matrix's two indices. -/
def block {M N : ℕ} (y : (⟨3, ![1, M, N]⟩ : Shape).Idx → EReal) : Grid M N := fun k j => y (ix3 (0 : Fin 1) k j)

theorem flat_block {A B : ℕ} (i : Fin A) (j : Fin B) :
    (Shape.rowMajor (s := ⟨3, ![1, A, B]⟩) (ix3 (0 : Fin 1) i j)).val = (Shape.rowMajor (s := ⟨2, ![A, B]⟩) (ix2 i j)).val := by
  rw [Shape.rowMajor_val_three, Shape.rowMajor_val_two]
  change (0 * A + i.val) * B + j.val = i.val * B + j.val
  rw [zero_mul, zero_add]

theorem named_scale : (Named.named κ "m_scale" 0x3E38AA3B#32 : Ideal .f32) = ((8⁻¹ * (Real.log 2)⁻¹ : ℝ) : EReal) :=
  IdealRules.named_const.ideal_named_scalar _ _ _ _ rfl

/-- A row of the stack: one of the 16 rows before the block, or one of the block's. -/
theorem stack_apply {F : FTy → Type} {K : ℕ} [Stack K] {η : EltTy} (h : Vec F ⟨3, ![1, 16, K]⟩ η) (x : Vec F ⟨3, ![1, 1024, K]⟩ η)
    (r : Fin 1040) (j : Fin K) : stack h x (ix2 r j)
      = if hr : r.val < 16 then h (ix3 (0 : Fin 1) ⟨r.val, hr⟩ j) else x (ix3 (0 : Fin 1) ⟨r.val - 16, by omega⟩ j) := by
  unfold stack
  split_ifs with hr
  · refine (concatenate_pair_apply_left (t := ⟨2, ![1040, K]⟩) (s₁ := ⟨2, ![16, K]⟩) (s₂ := ⟨2, ![1024, K]⟩) 0 _ _ _ (ix2 r j) rfl
      (ix2 (⟨r.val, hr⟩ : Fin 16) j) fun b => ?_).trans
      (shapeCast_apply _ _ _ _ (flat_block _ _))
    fin_cases b <;> rfl
  · refine (concatenate_pair_apply_right (t := ⟨2, ![1040, K]⟩) (s₁ := ⟨2, ![16, K]⟩) (s₂ := ⟨2, ![1024, K]⟩) 0 _ _ _ (ix2 r j) rfl rfl
      (ix2 (⟨r.val - 16, by omega⟩ : Fin 1024) j) (fun b hb => ?_) ?_).trans
      (shapeCast_apply _ _ _ _ (flat_block _ _))
    · fin_cases b
      · exact absurd rfl hb
      · rfl
    · change r.val - 16 + 16 = r.val
      omega

theorem dot_line {K N : ℕ} (a : FVec Ideal ⟨2, ![1040, K]⟩ .bf16) (w : FVec Ideal ⟨2, ![K, N]⟩ .bf16) (r : Fin 1040) :
    line (dot (F := Ideal) a w) r = mulRow (line a r) (grid w) := by
  funext j
  refine (Ideal.matmul_plain_apply (M := 1040) (K := K) (N := N) none _ _ _ r j).trans ?_
  refine (congrArg (· + _) ?_).trans ((zero_add _).trans rfl)
  simp [constant]

theorem invRms_apply (y : FVec Ideal S1040x1024 .f32) (r : Fin 1040) : invRms (F := Ideal) y (ix2 r (0 : Fin 1)) = invRow (line y r) := by
  pointwise [invRms]
  rfl

theorem rms_line (y : FVec Ideal S1040x1024 .f32) (g : Vec Ideal S1x1024 .f32) (r : Fin 1040) :
    line (rms (F := Ideal) y g) r = normRow (line y r) (line g 0) := by
  funext j
  change _ = y (ix2 r j) * invRow (line y r) * g (ix2 (0 : Fin 1) j)
  rw [← invRms_apply]
  unfold line rms
  generalize invRms (F := Ideal) y = z
  pointwise

theorem line_addf {N : ℕ} (x y : FVec Ideal ⟨2, ![1040, N]⟩ .f32) (r : Fin 1040) (j : Fin N) :
    line (addf x y) r j = line x r j + line y r j := rfl

theorem grid_cast {α : Type} {M N : ℕ} (w : (⟨2, ![M, N]⟩ : Shape).Idx → α) (h : (⟨2, ![M, N]⟩ : Shape).ShapeCasts ⟨2, ![M, N]⟩) :
    shapeCast ⟨2, ![M, N]⟩ w h = w := by
  funext i
  exact shapeCast_apply _ _ _ _ rfl

theorem slice_apply {α : Type} {M N P Q o o' : ℕ} (x : (⟨2, ![M, N]⟩ : Shape).Idx → α)
    (h : (⟨2, ![M, N]⟩ : Shape).Slices ![o, o'] ⟨2, ![P, Q]⟩) (r : Fin P) (f : Fin Q) (r' : Fin M) (f' : Fin N) (hr : r'.val = o + r.val)
    (hf : f'.val = o' + f.val) : extractStridedSlice ⟨2, ![P, Q]⟩ ![o, o'] x h (ix2 r f) = x (ix2 r' f') := by
  refine congrArg x (funext fun a => Fin.ext ?_)
  fin_cases a
  · exact hr.symm
  · exact hf.symm

theorem ld_rows {F : FTy → Type} {M N K o : ℕ} {η : EltTy} (w : Vec F ⟨2, ![M, N]⟩ η) (h : o + K ≤ M)
    (inb : ∀ a, (![o, 0] : Fin 2 → ℕ) a + ((⟨2, ![K, N]⟩ : Shape).size) a ≤ (⟨2, ![M, N]⟩ : Shape).size a) (k : Fin K) (j : Fin N) :
    View.ld w (Rect.unit (s := ⟨2, ![M, N]⟩) ![o, 0] (⟨2, ![K, N]⟩ : Shape).size inb) (ix2 k j) = w (ix2 (⟨o + k.val, by omega⟩ : Fin M) j) := by
  rw [View.ld_apply]
  refine congrArg w (funext fun a => Fin.ext ?_)
  rw [Rect.idx_unit_val]
  fin_cases a
  · rfl
  · exact Nat.zero_add _

theorem ld_cols {F : FTy → Type} {M N K o : ℕ} {η : EltTy} (w : Vec F ⟨2, ![M, N]⟩ η) (h : o + K ≤ N)
    (inb : ∀ a, (![0, o] : Fin 2 → ℕ) a + ((⟨2, ![M, K]⟩ : Shape).size) a ≤ (⟨2, ![M, N]⟩ : Shape).size a) (k : Fin M) (j : Fin K) :
    View.ld w (Rect.unit (s := ⟨2, ![M, N]⟩) ![0, o] (⟨2, ![M, K]⟩ : Shape).size inb) (ix2 k j) = w (ix2 k (⟨o + j.val, by omega⟩ : Fin N)) := by
  rw [View.ld_apply]
  refine congrArg w (funext fun a => Fin.ext ?_)
  rw [Rect.idx_unit_val]
  fin_cases a
  · exact Nat.zero_add _
  · rfl

theorem ld_block {F : FTy → Type} {M N K o : ℕ} {η : EltTy} (w : Vec F ⟨3, ![1, M, N]⟩ η) (h : o + K ≤ N)
    (inb : ∀ a, (![0, 0, o] : Fin 3 → ℕ) a + ((⟨3, ![1, M, K]⟩ : Shape).size) a ≤ (⟨3, ![1, M, N]⟩ : Shape).size a) (k : Fin M) (j : Fin K) :
    View.ld w (Rect.unit (s := ⟨3, ![1, M, N]⟩) ![0, 0, o] (⟨3, ![1, M, K]⟩ : Shape).size inb) (ix3 (0 : Fin 1) k j)
      = w (ix3 (0 : Fin 1) k (⟨o + j.val, by omega⟩ : Fin N)) := by
  rw [View.ld_apply]
  refine congrArg w (funext fun a => Fin.ext ?_)
  rw [Rect.idx_unit_val]
  fin_cases a
  · rfl
  · exact Nat.zero_add _
  · rfl

theorem projected_line (a : FVec Ideal S1040x512 .bf16) (b c : FVec Ideal S1040x256 .bf16) (w : Vec Ideal S1024x1024 .bf16) (r : Fin 1040) :
    line (projected (F := Ideal) a b c w) r = mulRow (sideBySide (line a r) (line b r) (line c r)) (grid w) := by
  funext j
  unfold projected
  rw [line_addf, line_addf, dot_line, dot_line, dot_line]
  unfold mulRow
  refine Eq.trans ?_ (Fin.sum_univ_add (a := 768) (b := 256) fun k : Fin (768 + 256) =>
    sideBySide (line a r) (line b r) (line c r) k * grid w k j).symm
  refine congr (congrArg _ (Eq.trans ?_ (Fin.sum_univ_add (a := 512) (b := 256) fun k : Fin (512 + 256) =>
    sideBySide (line a r) (line b r) (line c r) (Fin.castAdd 256 k) * grid w (Fin.castAdd 256 k) j).symm)) ?_
  · refine congr (congrArg _ (Finset.sum_congr rfl fun k _ => ?_)) (Finset.sum_congr rfl fun k _ => ?_)
    · have hk : k.val < 512 := k.isLt
      refine congr (congrArg _ ?_) ?_
      · simp [sideBySide, hk]
      · unfold grid
        rw [grid_cast]
        refine (ld_rows (F := Ideal) (η := .bf16) (o := 0) w (by norm_num) _ k j).trans (congrArg (fun i => w (ix2 i j)) (Fin.ext ?_))
        exact Nat.zero_add _
    · refine congr (congrArg _ ?_) ?_
      · have : 512 + k.val < 768 := by omega
        simp [sideBySide, this]
      · unfold grid
        rw [grid_cast]
        exact ld_rows (F := Ideal) (η := .bf16) (o := 512) w (by norm_num) _ k j
  · refine Finset.sum_congr rfl fun k _ => congr (congrArg _ ?_) ?_
    · have : ¬ 768 + k.val < 512 := by omega
      simp [sideBySide, this]
    · unfold grid
      rw [grid_cast]
      exact ld_rows (F := Ideal) (η := .bf16) (o := 768) w (by norm_num) _ k j

theorem query_line (x : FVec Ideal S1040x1024 .f32) (g : Vec Ideal S1x1024 .f32) (w : Vec Ideal S1024x256 .bf16) (r : Fin 1040) (f : Fin 256) :
    line (query (F := Ideal) x g w) r f
      = queryRow (line x r) (line g 0) (grid w) f * ((8⁻¹ * (Real.log 2)⁻¹ : ℝ) : EReal) := by
  unfold queryRow
  rw [← rms_line, ← named_scale]
  have h := congrFun (dot_line (truncf .bf16 (rms (F := Ideal) x g) bitsLt_bf16_f32) w r) f
  unfold query
  rw [grid_cast]
  generalize dot (F := Ideal) (truncf .bf16 (rms (F := Ideal) x g) bitsLt_bf16_f32) w = z at h ⊢
  refine Eq.trans ?_ (congrArg (· * _) h)
  unfold line
  pointwise

end Cert.Tail
-- ==== Proof.Tail.Windows.lean ====
/- The tail's input blocks at a grid point, as elements of the arguments. -/
module

public import proofs.«01_k».proof.Proof.Tail.Host
public import proofs.«01_k».proof.Proof.Tail.TileAt
public import Idealize.ShloMosaic.Lib.Pipeline.ValueKit.Point

@[expose] public section

noncomputable section

namespace Cert.Tail

open Cert.Kernel2Ideal Cert.Kernel2Ideal.Gen Idealize.ShloMosaic Idealize.SL.Sem

/-- The sequence blocks' places at a grid point: a batch, and half of the rows, with the 16 rows before it. -/
theorem places : ∀ t : Fin cfg0.N, win0_0.index t = ![t.val / 2, t.val % 2, 0] ∧ win0_1.index t = ![t.val / 2, t.val % 2 * 64 - 1, 0]
    ∧ win0_2.index t = ![t.val / 2, t.val % 2, 0] ∧ win0_3.index t = ![t.val / 2, t.val % 2 * 64 - 1, 0]
    ∧ win0_4.index t = ![t.val / 2, t.val % 2, 0] ∧ win0_5.index t = ![t.val / 2, t.val % 2 * 64 - 1, 0]
    ∧ win0_6.index t = ![t.val / 2, t.val % 2, 0] ∧ win0_7.index t = ![t.val / 2, t.val % 2 * 64 - 1, 0]
    ∧ win0_8.index t = ![t.val / 2, 0, 0] ∧ win0_9.index t = ![t.val / 2, 0, 0] ∧ win0_10.index t = ![t.val / 2, 0, 0]
    ∧ win0_24.index t = ![t.val / 2, t.val % 2, 0] ∧ win0_25.index t = ![t.val / 2, 0, 0] ∧ t.val < 64 :=
  (by decide +kernel : ∀ t : Fin grid0.N, _)

/-- The weights' blocks are the whole arrays. -/
theorem wholes : ∀ t : Fin cfg0.N, win0_11.index t = ![0, 0] ∧ win0_12.index t = ![0, 0] ∧ win0_13.index t = ![0, 0]
    ∧ win0_14.index t = ![0, 0] ∧ win0_15.index t = ![0, 0] ∧ win0_16.index t = ![0, 0] ∧ win0_17.index t = ![0, 0]
    ∧ win0_18.index t = ![0, 0] ∧ win0_19.index t = ![0, 0] ∧ win0_20.index t = ![0, 0] ∧ win0_21.index t = ![0, 0]
    ∧ win0_22.index t = ![0, 0] ∧ win0_23.index t = ![0, 0] :=
  (by decide +kernel : ∀ t : Fin grid0.N, _)

theorem point_lt (t : Fin cfg0.N) : t.val < 64 := (places t).2.2.2.2.2.2.2.2.2.2.2.2.2

/-- A grid point's batch. -/
def batch (t : Fin cfg0.N) : Fin 32 := ⟨t.val / 2, by have := point_lt t; omega⟩

/-- A grid point is the first of its batch when its number is even. -/
theorem isFirst_eq : ∀ t : Fin cfg0.N, isFirst (grid0.coords t) = BitVec.ofBool (decide (t.val % 2 = 0)) :=
  (by decide +kernel : ∀ t : Fin grid0.N, isFirst (grid0.coords t) = BitVec.ofBool (decide (t.val % 2 = 0)))

/-- The stack's rows are those of the array that the two blocks are cut from, where there are such. -/
theorem stack_rows {K : ℕ} [Stack K] {η : EltTy} (t : Fin cfg0.N) (A : Vec Ideal ⟨3, ![32, 2048, K]⟩ η) (h : Vec Ideal ⟨3, ![1, 16, K]⟩ η)
    (x : Vec Ideal ⟨3, ![1, 1024, K]⟩ η)
    (hh : ∀ (i : Fin 16) (hi : (t.val % 2 * 64 - 1) * 16 + i.val < 2048) (j : Fin K), t.val % 2 = 1 →
      h (ix3 (0 : Fin 1) i j) = A (ix3 (batch t) ⟨(t.val % 2 * 64 - 1) * 16 + i.val, hi⟩ j))
    (hx : ∀ (i : Fin 1024) (hi : t.val % 2 * 1024 + i.val < 2048) (j : Fin K),
      x (ix3 (0 : Fin 1) i j) = A (ix3 (batch t) ⟨t.val % 2 * 1024 + i.val, hi⟩ j))
    (r : Fin 1040) (s : Fin 2048) (hs : s.val + 16 = t.val % 2 * 1024 + r.val) (j : Fin K) :
    stack h x (ix2 r j) = A (ix3 (batch t) s j) := by
  refine (stack_apply h x r j).trans ?_
  split_ifs with hr
  · refine (hh ⟨r.val, hr⟩ (by change (t.val % 2 * 64 - 1) * 16 + r.val < 2048; omega) j (by omega)).trans
      (congrArg (fun s => A (ix3 (batch t) s j)) (Fin.ext ?_))
    change (t.val % 2 * 64 - 1) * 16 + r.val = s.val
    omega
  · refine (hx ⟨r.val - 16, by omega⟩ (by change t.val % 2 * 1024 + (r.val - 16) < 2048; omega) j).trans
      (congrArg (fun s => A (ix3 (batch t) s j)) (Fin.ext ?_))
    change t.val % 2 * 1024 + (r.val - 16) = s.val
    omega

variable (m : (x : Loc nD τ sig) → Buf (Elt Ideal) x) (c : Dev nD) (t : Fin cfg0.N)

theorem rows_x (r : Fin 1040) (s : Fin 2048) (hs : s.val + 16 = t.val % 2 * 1024 + r.val) :
    line (stack (F := Ideal) (η := .f32) (K := 1024) (iblk m c 1 t) (iblk m c 0 t)) r
      = fun j => m (c, Proc.tc.devRef main_arg0) (ix3 (batch t) s j) :=
  funext fun j => (stack_rows (η := .f32) t (V (F := Ideal) m c main_arg0) _ _ (fun i hi j ht => by unfold batch; blk_ext [iblk, places t])
    (fun i hi j => by unfold batch; blk_ext [iblk, places t]) r s hs j).trans (V_x m c (batch t) s j)

theorem rows_a (r : Fin 1040) (s : Fin 2048) (hs : s.val + 16 = t.val % 2 * 1024 + r.val) :
    line (stack (F := Ideal) (η := .bf16) (K := 512) (iblk m c 3 t) (iblk m c 2 t)) r
      = fun j => m (c, Proc.tc.devRef main_arg1) (ix3 (batch t) s j) :=
  funext fun j => (stack_rows (η := .bf16) t (V (F := Ideal) m c main_v22) _ _ (fun i hi j ht => by unfold batch; blk_ext [iblk, places t])
    (fun i hi j => by unfold batch; blk_ext [iblk, places t]) r s hs j).trans (V_a m c (batch t) s j)

theorem rows_b (r : Fin 1040) (s : Fin 2048) (hs : s.val + 16 = t.val % 2 * 1024 + r.val) :
    line (stack (F := Ideal) (η := .bf16) (K := 256) (iblk m c 5 t) (iblk m c 4 t)) r
      = fun j => m (c, Proc.tc.devRef main_arg2) (ix3 (batch t) s j) :=
  funext fun j => (stack_rows (η := .bf16) t (V (F := Ideal) m c main_v23) _ _ (fun i hi j ht => by unfold batch; blk_ext [iblk, places t])
    (fun i hi j => by unfold batch; blk_ext [iblk, places t]) r s hs j).trans (V_b m c (batch t) s j)

theorem rows_c (r : Fin 1040) (s : Fin 2048) (hs : s.val + 16 = t.val % 2 * 1024 + r.val) :
    line (stack (F := Ideal) (η := .bf16) (K := 256) (iblk m c 7 t) (iblk m c 6 t)) r
      = fun j => m (c, Proc.tc.devRef main_arg3) (ix3 (batch t) s j) :=
  funext fun j => (stack_rows (η := .bf16) t (V (F := Ideal) m c main_v24) _ _ (fun i hi j ht => by unfold batch; blk_ext [iblk, places t])
    (fun i hi j => by unfold batch; blk_ext [iblk, places t]) r s hs j).trans (V_c m c (batch t) s j)

theorem block_mk : block (iblk m c 8 t : Vec Ideal S1x256x256 .bf16)
    = fun k f => m (c, Proc.tc.devRef main_arg4) (ix4 (batch t) k (⟨f.val / 64, by omega⟩ : Fin 4) (⟨f.val % 64, by omega⟩ : Fin 64)) := by
  funext k f
  refine Eq.trans ?_ (V_mk m c (batch t) k f)
  unfold batch block
  blk_ext [iblk, places t]

theorem block_mv : block (iblk m c 9 t : Vec Ideal S1x256x256 .bf16)
    = fun k f => m (c, Proc.tc.devRef main_arg5) (ix4 (batch t) k (⟨f.val / 64, by omega⟩ : Fin 4) (⟨f.val % 64, by omega⟩ : Fin 64)) := by
  funext k f
  refine Eq.trans ?_ (V_mv m c (batch t) k f)
  unfold batch block
  blk_ext [iblk, places t]

theorem block_past : block (iblk m c 10 t : Vec Ideal S1x2x2816 .f32) = fun s j => m (c, Proc.tc.devRef main_arg6) (ix3 (batch t) s j) := by
  funext s j
  refine Eq.trans ?_ (V_past m c (batch t) s j)
  unfold batch block
  blk_ext [iblk, places t]

theorem grid_wout : grid (iblk m c 11 t : Vec Ideal S1024x1024 .bf16) = fun k j => m (c, Proc.tc.devRef main_arg7) (ix2 k j) := by
  funext k j
  refine Eq.trans ?_ (V_wout m c k j)
  unfold grid
  blk_ext [iblk, wholes t]

theorem grid_wxq : grid (iblk m c 14 t : Vec Ideal S1024x256 .bf16) = fun k j => m (c, Proc.tc.devRef main_arg9) (ix2 k j) := by
  funext k j
  refine Eq.trans ?_ (V_wxq m c k j)
  unfold grid
  blk_ext [iblk, wholes t]

theorem grid_wxo : grid (iblk m c 15 t : Vec Ideal S256x1024 .bf16) = fun k j => m (c, Proc.tc.devRef main_arg10) (ix2 k j) := by
  funext k j
  refine Eq.trans ?_ (V_wxo m c k j)
  unfold grid
  blk_ext [iblk, wholes t]

theorem grid_wgate : grid (iblk m c 18 t : Vec Ideal S1024x2816 .bf16) = fun k j => m (c, Proc.tc.devRef main_arg11) (ix2 k j) := by
  funext k j
  refine Eq.trans ?_ (V_wgate m c k j)
  unfold grid
  blk_ext [iblk, wholes t]

theorem grid_wup : grid (iblk m c 19 t : Vec Ideal S1024x2816 .bf16) = fun k j => m (c, Proc.tc.devRef main_arg12) (ix2 k j) := by
  funext k j
  refine Eq.trans ?_ (V_wup m c k j)
  unfold grid
  blk_ext [iblk, wholes t]

theorem grid_cw : grid (iblk m c 20 t : Vec Ideal S3x2816 .f32) = fun k j => m (c, Proc.tc.devRef main_arg13) (ix2 k j) := by
  funext k j
  refine Eq.trans ?_ (V_cw m c k j)
  unfold grid
  blk_ext [iblk, wholes t]

theorem grid_wdown : grid (iblk m c 22 t : Vec Ideal S2816x1024 .bf16) = fun k j => m (c, Proc.tc.devRef main_arg15) (ix2 k j) := by
  funext k j
  refine Eq.trans ?_ (V_wdown m c k j)
  unfold grid
  blk_ext [iblk, wholes t]

theorem line_gain1 : line (iblk m c 12 t : Vec Ideal S1x1024 .f32) 0 = fun j => m (c, Proc.tc.devRef main_arg8) (ix2 (1 : Fin 7) j) := by
  funext j
  refine Eq.trans ?_ (V_gain1 m c j)
  unfold line
  blk_ext [iblk, wholes t]

theorem line_gain2 : line (iblk m c 13 t : Vec Ideal S1x1024 .f32) 0 = fun j => m (c, Proc.tc.devRef main_arg8) (ix2 (2 : Fin 7) j) := by
  funext j
  refine Eq.trans ?_ (V_gain2 m c j)
  unfold line
  blk_ext [iblk, wholes t]

theorem line_gain3 : line (iblk m c 16 t : Vec Ideal S1x1024 .f32) 0 = fun j => m (c, Proc.tc.devRef main_arg8) (ix2 (3 : Fin 7) j) := by
  funext j
  refine Eq.trans ?_ (V_gain3 m c j)
  unfold line
  blk_ext [iblk, wholes t]

theorem line_gain4 : line (iblk m c 17 t : Vec Ideal S1x1024 .f32) 0 = fun j => m (c, Proc.tc.devRef main_arg8) (ix2 (4 : Fin 7) j) := by
  funext j
  refine Eq.trans ?_ (V_gain4 m c j)
  unfold line
  blk_ext [iblk, wholes t]

theorem line_gain5 : line (iblk m c 23 t : Vec Ideal S1x1024 .f32) 0 = fun j => m (c, Proc.tc.devRef main_arg8) (ix2 (5 : Fin 7) j) := by
  funext j
  refine Eq.trans ?_ (V_gain5 m c j)
  unfold line
  blk_ext [iblk, wholes t]

theorem line_cb : line (iblk m c 21 t : Vec Ideal S1x2816 .f32) 0 = fun j => m (c, Proc.tc.devRef main_arg14) (ix1 j) := by
  funext j
  refine Eq.trans ?_ (V_cb m c j)
  unfold line
  blk_ext [iblk, wholes t]

theorem place_rows (G : Vec Ideal S32x2048x1024 .f32) (a : Fin 1) (q : Fin 1024) (j : Fin 1024) :
    G ((win0_24.blk t).view.emb (ix3 a q j)) = G (ix3 (batch t) (⟨t.val % 2 * 1024 + q.val, by omega⟩ : Fin 2048) j) := by
  unfold batch
  blk_ext [places t]

theorem place_state (G : Vec Ideal S32x2x2816 .f32) (a : Fin 1) (s : Fin 2) (j : Fin 2816) :
    G ((win0_25.blk t).view.emb (ix3 a s j)) = G (ix3 (batch t) s j) := by
  unfold batch
  blk_ext [places t]

end Cert.Tail
-- ==== Proof.Tail.FeedAt.lean ====
/- The feed-forward part of one grid point, read at a row over the extended reals. -/
module

public import proofs.«01_k».proof.Proof.Tail.TileAt

@[expose] public section

noncomputable section

namespace Cert.Tail

open Cert.Kernel2Ideal Cert.Kernel2Ideal.Gen Idealize.ShloMosaic

theorem row14_apply (r : Fin 1040) : cmpi .eq (iota .tc S1040x1 32 [0] iota_S1040x1_d0_w32) (broadcast S1040x1 14#32) (ix2 r (0 : Fin 1))
    = BitVec.ofBool (decide (r.val = 14)) := by
  revert r
  decide +kernel

theorem row15_apply (r : Fin 1040) : cmpi .eq (iota .tc S1040x1 32 [0] iota_S1040x1_d0_w32) (broadcast S1040x1 15#32) (ix2 r (0 : Fin 1))
    = BitVec.ofBool (decide (r.val = 15)) := by
  revert r
  decide +kernel

theorem first_row14 (b : Bool) (r : Fin 1040) : pastRow (BitVec.ofBool b) 14#32 (ix2 r (0 : Fin 1)) = BitVec.ofBool (b && decide (r.val = 14)) := by
  refine (congrArg (IntOp.andi (BitVec.ofBool b)) (row14_apply r)).trans ?_
  cases b <;> cases decide (r.val = 14) <;> rfl

theorem first_row15 (b : Bool) (r : Fin 1040) : pastRow (BitVec.ofBool b) 15#32 (ix2 r (0 : Fin 1)) = BitVec.ofBool (b && decide (r.val = 15)) := by
  refine (congrArg (IntOp.andi (BitVec.ofBool b)) (row15_apply r)).trans ?_
  cases b <;> cases decide (r.val = 15) <;> rfl

/-- A row of the gate, with the two rows before the sequence put in at the first grid point of a batch. -/
def gateRow {K : ℕ} (b : Bool) (r : Fin 1040) (p0 p1 g : Line K) : Line K :=
  if b && decide (r.val = 14) then p0 else if b && decide (r.val = 15) then p1 else g

section Chunk
variable {K : ℕ} [Part K]

theorem wide_apply (x : FVec Ideal ⟨2, ![1, K]⟩ .f32) (r : Fin 1040) (f : Fin K) : wide (F := Ideal) x (ix2 r f) = x (ix2 (0 : Fin 1) f) := by
  pointwise [wide]
  refine congrArg x (funext fun a => Fin.ext ?_)
  fin_cases a
  · rfl
  · change (if h : K = 1 then (⟨0, by omega⟩ : Fin K) else ⟨f.val, f.isLt⟩).val = f.val
    split_ifs with h
    · have := f.isLt
      change 0 = f.val
      omega
    · rfl

theorem across_apply (x : IVec S1040x1 1) (r : Fin 1040) (f : Fin K) :
    broadcastTo ⟨2, ![1040, K]⟩ x Part.across (ix2 r f) = x (ix2 r (0 : Fin 1)) := by
  pointwise

theorem past_apply (past : Vec Ideal ⟨3, ![1, 2, K]⟩ .f32) (s : Fin 2) (f : Fin K) :
    shapeCast ⟨2, ![2, K]⟩ past Part.past (ix2 s f) = past (ix3 (0 : Fin 1) s f) :=
  shapeCast_apply _ _ _ _ (flat_block s f)

theorem gate_line (b : Bool) (h : FVec Ideal S1040x1024 .bf16) (w : Vec Ideal ⟨2, ![1024, K]⟩ .bf16) (past : Vec Ideal ⟨3, ![1, 2, K]⟩ .f32)
    (r : Fin 1040) : line (gate (F := Ideal) (BitVec.ofBool b) h w past) r
      = gateRow b r (block past 0) (block past 1) (mulRow (line h r) (grid w)) := by
  funext f
  have e := congrFun (dot_line h w r) f
  have h0 : extractStridedSlice ⟨2, ![1, K]⟩ ![0, 0] (shapeCast ⟨2, ![2, K]⟩ past Part.past) Part.past0 (ix2 (0 : Fin 1) f)
      = past (ix3 (0 : Fin 1) 0 f) := by
    exact (slice_apply _ _ _ _ 0 f rfl (Nat.zero_add _).symm).trans (past_apply past 0 f)
  have h1 : extractStridedSlice ⟨2, ![1, K]⟩ ![1, 0] (shapeCast ⟨2, ![2, K]⟩ past Part.past) Part.past1 (ix2 (0 : Fin 1) f)
      = past (ix3 (0 : Fin 1) 1 f) := by
    exact (slice_apply _ _ _ _ 1 f rfl (Nat.zero_add _).symm).trans (past_apply past 1 f)
  simp only [line, gate, select, wide_apply, across_apply, first_row14, first_row15, grid_cast]
  rw [h0, h1]
  unfold gateRow
  by_cases h14 : (b && decide (r.val = 14)) = true
  · simp [h14, Scalar.select, block]
  by_cases h15 : (b && decide (r.val = 15)) = true
  · rw [Bool.eq_false_iff.2 h14, h15]
    simp [Scalar.select, block]
  · rw [Bool.eq_false_iff.2 h14, Bool.eq_false_iff.2 h15]
    refine Eq.trans ?_ e
    simp [Scalar.select, line]

theorem turn_apply (g : FVec Ideal ⟨2, ![1040, K]⟩ .f32) (n : ℕ) (hn : n < 1040) (r : Fin 1040) (hr : n ≤ r.val) (f : Fin K) :
    dynamicRotate 0 (BitVec.ofNat 32 n) none g Part.turn (ix2 r f) = g (ix2 (⟨r.val - n, by omega⟩ : Fin 1040) f) := by
  refine dynamicRotate_apply 0 _ g Part.turn (ix2 r f) _ fun a => ?_
  have e : (BitVec.ofNat 32 n).toNat = n := by
    rw [BitVec.toNat_ofNat]
    exact Nat.mod_eq_of_lt (by omega)
  rw [e]
  fin_cases a
  · change r.val - n = (r.val + 1040 - n % 1040) % 1040
    rw [Nat.mod_eq_of_lt hn]
    omega
  · rfl

theorem conv_apply (g : FVec Ideal ⟨2, ![1040, K]⟩ .f32) (cw : Vec Ideal ⟨2, ![3, K]⟩ .f32) (cb : Vec Ideal ⟨2, ![1, K]⟩ .f32)
    (r : Fin 1040) (hr : 2 ≤ r.val) (f : Fin K) : conv (F := Ideal) g cw cb (ix2 r f)
      = convAt (cw (ix2 (0 : Fin 3) f)) (cw (ix2 (1 : Fin 3) f)) (cw (ix2 (2 : Fin 3) f)) (cb (ix2 (0 : Fin 1) f))
        (g (ix2 (⟨r.val - 2, by omega⟩ : Fin 1040) f)) (g (ix2 (⟨r.val - 1, by omega⟩ : Fin 1040) f)) (g (ix2 r f)) := by
  have t2 := turn_apply g 2 (by norm_num) r hr f
  have t1 := turn_apply g 1 (by norm_num) r (by omega) f
  have w0 : extractStridedSlice ⟨2, ![1, K]⟩ ![0, 0] cw Part.tap0 (ix2 (0 : Fin 1) f) = cw (ix2 (0 : Fin 3) f) :=
    slice_apply _ _ _ _ _ f rfl (Nat.zero_add _).symm
  have w1 : extractStridedSlice ⟨2, ![1, K]⟩ ![1, 0] cw Part.tap1 (ix2 (0 : Fin 1) f) = cw (ix2 (1 : Fin 3) f) :=
    slice_apply _ _ _ _ _ f rfl (Nat.zero_add _).symm
  have w2 : extractStridedSlice ⟨2, ![1, K]⟩ ![2, 0] cw Part.tap2 (ix2 (0 : Fin 1) f) = cw (ix2 (2 : Fin 3) f) :=
    slice_apply _ _ _ _ _ f rfl (Nat.zero_add _).symm
  simp only [conv, addf_apply, mulf_apply, wide_apply, grid_cast]
  rw [t2, t1, w0, w1, w2]
  rfl

theorem chunk_line (g u : FVec Ideal ⟨2, ![1040, K]⟩ .f32) (cw : Vec Ideal ⟨2, ![3, K]⟩ .f32) (cb : Vec Ideal ⟨2, ![1, K]⟩ .f32)
    (wd : Vec Ideal ⟨2, ![K, 1024]⟩ .bf16) (r : Fin 1040) : line (chunk (F := Ideal) g u cw cb wd) r
      = mulRow (fun f => actAt (conv (F := Ideal) g cw cb (ix2 r f)) (u (ix2 r f))) (grid wd) := by
  unfold chunk
  rw [grid_cast]
  exact dot_line _ _ r

theorem state_apply (g : FVec Ideal ⟨2, ![1040, K]⟩ .f32) (s : Fin 2) (f : Fin K) :
    state (F := Ideal) g (ix3 (0 : Fin 1) s f) = g (ix2 (⟨1038 + s.val, by omega⟩ : Fin 1040) f) := by
  exact (shapeCast_apply _ _ _ _ (flat_block s f).symm).trans (slice_apply _ _ _ _ _ f rfl (Nat.zero_add _).symm)

end Chunk

section Feed
variable (b : Bool) (h : FVec Ideal S1040x1024 .bf16) (x10 : Vec Ideal S1x2x2816 .f32) (x18 x19 : Vec Ideal S1024x2816 .bf16)
  (x20 : Vec Ideal S3x2816 .f32) (x21 : Vec Ideal S1x2816 .f32) (x22 : Vec Ideal S2816x1024 .bf16)

/-- A row of the whole gate. -/
def gates (r : Fin 1040) : Line 2816 := gateRow b r (block x10 0) (block x10 1) (mulRow (line h r) (grid x18))

/-- A row of the feed-forward part's inner rows. -/
def acts (r : Fin 1040) (hr : 2 ≤ r.val) : Line 2816 := fun f =>
  actAt (convAt (grid x20 0 f) (grid x20 1 f) (grid x20 2 f) (line x21 0 f) (gates b h x10 x18 ⟨r.val - 2, by omega⟩ f)
    (gates b h x10 x18 ⟨r.val - 1, by omega⟩ f) (gates b h x10 x18 r f)) (mulRow (line h r) (grid x19) f)

theorem gateRow_sub {K o : ℕ} (ho : o + K ≤ 2816) (r : Fin 1040) (p0 p1 g : Line 2816) (f : Fin K) :
    gateRow b r (fun f : Fin K => p0 ⟨o + f.val, by omega⟩) (fun f => p1 ⟨o + f.val, by omega⟩) (fun f => g ⟨o + f.val, by omega⟩) f
      = gateRow b r p0 p1 g ⟨o + f.val, by omega⟩ := by
  unfold gateRow
  split_ifs <;> rfl

theorem gateAt_apply {K o : ℕ} [Part K] (ho : o + K ≤ 2816) (r : Fin 1040) (f : Fin K) :
    gateAt (F := Ideal) K o ho (BitVec.ofBool b) h x10 x18 (ix2 r f) = gates b h x10 x18 r ⟨o + f.val, by omega⟩ := by
  refine (congrFun (gate_line b h _ _ r) f).trans (Eq.trans ?_ (gateRow_sub b ho r _ _ _ f))
  refine congrFun (congr (congr (congrArg _ ?_) ?_) ?_) f
  · exact funext fun f => ld_block (F := Ideal) (η := .f32) x10 ho _ 0 f
  · exact funext fun f => ld_block (F := Ideal) (η := .f32) x10 ho _ 1 f
  · exact funext fun f => Finset.sum_congr rfl fun k _ => congrArg _ (ld_cols (F := Ideal) (η := .bf16) x18 ho _ k f)

theorem chunkAt_line {K o : ℕ} [Part K] (ho : o + K ≤ 2816) (r : Fin 1040) (hr : 2 ≤ r.val) (j : Fin 1024) :
    line (chunkAt (F := Ideal) K o ho (BitVec.ofBool b) h x10 x18 x19 x20 x21 x22) r j
      = ∑ f : Fin K, acts b h x10 x18 x19 x20 x21 r hr ⟨o + f.val, by omega⟩ * grid x22 ⟨o + f.val, by omega⟩ j := by
  unfold chunkAt
  rw [chunk_line]
  refine Finset.sum_congr rfl fun f _ => congr (congrArg _ ?_) (ld_rows (F := Ideal) (η := .bf16) x22 ho _ f j)
  change actAt (conv (F := Ideal) _ _ _ (ix2 r f)) (dot (F := Ideal) _ _ (ix2 r f)) = _
  rw [conv_apply _ _ _ r hr f, gateAt_apply, gateAt_apply, gateAt_apply]
  have hu : dot (F := Ideal) h (shapeCast ⟨2, ![1024, K]⟩ (cols (F := Ideal) K o ho x19) Part.into) (ix2 r f)
      = mulRow (line h r) (grid x19) ⟨o + f.val, by omega⟩ := by
    rw [grid_cast]
    exact (congrFun (dot_line h _ r) f).trans
      (Finset.sum_congr rfl fun k _ => congrArg _ (ld_cols (F := Ideal) (η := .bf16) x19 ho _ k f))
  rw [hu]
  have w : ∀ k : Fin 3, cols (F := Ideal) K o ho x20 (ix2 k f) = grid x20 k ⟨o + f.val, by omega⟩ := fun k =>
    ld_cols (F := Ideal) (η := .f32) x20 ho _ k f
  have w' : cols (F := Ideal) K o ho x21 (ix2 (0 : Fin 1) f) = line x21 0 ⟨o + f.val, by omega⟩ :=
    ld_cols (F := Ideal) (η := .f32) x21 ho _ 0 f
  rw [w, w, w, w']
  rfl

/-- A sum over 2816 columns, in the six chunks. -/
theorem sum_chunks (A : Line 2816) : ∑ f, A f = (((((∑ f : Fin 512, A ⟨0 + f.val, by omega⟩) + ∑ f : Fin 512, A ⟨512 + f.val, by omega⟩)
    + ∑ f : Fin 512, A ⟨1024 + f.val, by omega⟩) + ∑ f : Fin 512, A ⟨1536 + f.val, by omega⟩)
    + ∑ f : Fin 512, A ⟨2048 + f.val, by omega⟩) + ∑ f : Fin 256, A ⟨2560 + f.val, by omega⟩ := by
  have z : ∀ f : Fin 512, (⟨0 + f.val, by omega⟩ : Fin 2816) = ⟨f.val, by omega⟩ := fun f => Fin.ext (Nat.zero_add _)
  simp only [z]
  refine (Fin.sum_univ_add (a := 2560) (b := 256) A).trans (congrArg (· + _) ?_)
  refine (Fin.sum_univ_add (a := 2048) (b := 512) fun f => A (Fin.castAdd 256 f)).trans (congrArg (· + _) ?_)
  refine (Fin.sum_univ_add (a := 1536) (b := 512) fun f => A (Fin.castAdd 256 (Fin.castAdd 512 f))).trans (congrArg (· + _) ?_)
  refine (Fin.sum_univ_add (a := 1024) (b := 512) fun f => A (Fin.castAdd 256 (Fin.castAdd 512 (Fin.castAdd 512 f)))).trans
    (congrArg (· + _) ?_)
  exact Fin.sum_univ_add (a := 512) (b := 512) fun f => A (Fin.castAdd 256 (Fin.castAdd 512 (Fin.castAdd 512 (Fin.castAdd 512 f))))

theorem fed_line (r : Fin 1040) (hr : 2 ≤ r.val) :
    line (fed (F := Ideal) (BitVec.ofBool b) h x10 x18 x19 x20 x21 x22) r
      = mulRow (acts b h x10 x18 x19 x20 x21 r hr) (grid x22) := by
  funext j
  unfold fed
  rw [line_addf, line_addf, line_addf, line_addf, line_addf, line_addf]
  simp only [chunkAt_line b h x10 x18 x19 x20 x21 x22 _ r hr]
  refine Eq.trans ?_ (sum_chunks fun f => acts b h x10 x18 x19 x20 x21 r hr f * grid x22 f j).symm
  have z : line (broadcast S1040x1024 (Scalar.ofBits (F := Ideal) .f32 0x00000000#32)) r j = 0 := by
    simp [line, broadcast]
  rw [z, zero_add]

end Feed

theorem finished_apply (x y : FVec Ideal S1040x1024 .f32) (g : Vec Ideal S1x1024 .f32) (q : Fin 1024) (j : Fin 1024) :
    finished (F := Ideal) x y g (ix3 (0 : Fin 1) q j)
      = line x ⟨16 + q.val, by omega⟩ j + normRow (line y ⟨16 + q.val, by omega⟩) (line g 0) j := by
  rw [← rms_line]
  unfold finished
  refine (shapeCast_apply _ _ _ _ (flat_block q j).symm).trans ?_
  exact slice_apply _ _ _ _ _ j rfl (Nat.zero_add _).symm

end Cert.Tail
-- ==== Proof.Tail.CrossAt.lean ====
/- The attention to the memory of one grid point, read at a row over the extended reals. -/
module

public import proofs.«01_k».proof.Proof.Tail.TileAt

@[expose] public section

noncomputable section

namespace Cert.Tail

open Cert.Kernel2Ideal Cert.Kernel2Ideal.Gen Idealize.ShloMosaic

/-- A lane lies in group `c` when its number over 64 is `c`. -/
theorem laneIn_apply (c : Fin 2) (l : Fin 128) :
    laneIn (BitVec.ofNat 32 c.val) (ix2 (0 : Fin 1) l) = BitVec.ofBool (decide (l.val / 64 = c.val)) := by
  revert c l
  decide +kernel

theorem left_apply (l : Fin 128) : left (ix2 (0 : Fin 1) l) = BitVec.ofBool (decide (l.val < 64)) := by
  revert l
  decide +kernel

/-- Lane `d` of a pair's head `c`. -/
def lane (c : Fin 2) (d : Fin 64) : Fin 128 := ⟨c.val * 64 + d.val, by omega⟩

theorem stream_apply (c : Fin 2) (q : FVec Ideal S1040x128 .bf16) (r : Fin 1040) (l : Fin 128) :
    stream (F := Ideal) (BitVec.ofNat 32 c.val) q (ix2 r l) = if l.val / 64 = c.val then q (ix2 r l) else 0 := by
  pointwise [stream]
  rw [laneIn_apply]
  by_cases h : l.val / 64 = c.val <;> simp [h, Scalar.select]

theorem slab_apply (k : Vec Ideal S1x256x128 .bf16) (j : Fin 256) (l : Fin 128) : slab (F := Ideal) k (ix2 j l) = k (ix3 (0 : Fin 1) j l) :=
  shapeCast_apply _ _ _ _ (flat_block j l)

/-- A sum over 128 lanes of which only one head's count. -/
theorem sum_head (c : Fin 2) (f : Fin 128 → EReal) : (∑ l : Fin 128, if l.val / 64 = c.val then f l else 0) = ∑ d, f (lane c d) := by
  refine (Fin.sum_univ_add (a := 64) (b := 64) fun l : Fin (64 + 64) => if l.val / 64 = c.val then f l else 0).trans ?_
  have h0 : ∀ d : Fin 64, d.val / 64 = 0 := fun d => by omega
  have h1 : ∀ d : Fin 64, (64 + d.val) / 64 = 1 := fun d => by omega
  fin_cases c
  · refine (congr (congrArg _ (Finset.sum_congr rfl fun d _ => if_pos (h0 d)))
      (Finset.sum_eq_zero fun d _ => if_neg (by change ¬ (64 + d.val) / 64 = 0; omega))).trans ((add_zero _).trans ?_)
    exact Finset.sum_congr rfl fun d _ => congrArg f (Fin.ext (by change d.val = 0 * 64 + d.val; omega))
  · refine (congr (congrArg _ (Finset.sum_eq_zero fun d _ => if_neg (by change ¬ d.val / 64 = 1; omega)))
      (Finset.sum_congr rfl fun d _ => if_pos (h1 d))).trans ((zero_add _).trans ?_)
    exact Finset.sum_congr rfl fun d _ => congrArg f (Fin.ext (by change 64 + d.val = 1 * 64 + d.val; omega))

/-- A pair's head's scores. -/
def scoreOf (q : FVec Ideal S1040x128 .bf16) (k : Vec Ideal S1x256x128 .bf16) (r : Fin 1040) (c : Fin 2) : Line 256 := fun j =>
  ∑ d, q (ix2 r (lane c d)) * k (ix3 (0 : Fin 1) j (lane c d))

theorem scores_line (c : Fin 2) (q : FVec Ideal S1040x128 .bf16) (k : Vec Ideal S1x256x128 .bf16) (r : Fin 1040) :
    line (scores (F := Ideal) (stream (F := Ideal) (BitVec.ofNat 32 c.val) q) k) r = scoreOf q k r c := by
  funext j
  refine (Ideal.matmul_transposedRhs_apply (M := 1040) (K := 128) (N := 256) none _ _ _ r j).trans ?_
  refine (congrArg (· + _) ?_).trans ((zero_add _).trans ?_)
  · simp [constant]
  · refine (Finset.sum_congr rfl fun l _ => ?_).trans (sum_head c fun l => q (ix2 r l) * k (ix3 (0 : Fin 1) j l))
    refine (congr (congrArg _ (stream_apply c q r l)) (slab_apply k j l)).trans ?_
    split_ifs
    · rfl
    · exact zero_mul _

theorem weights_line (s : FVec Ideal S1040x256 .f32) (r : Fin 1040) (j : Fin 256) :
    weights (F := Ideal) s (ix2 r j) = Ideal.exp2 (line s r j - Finset.univ.fold max ⊥ (line s r)) := by
  pointwise [weights]
  simp [Ideal.ofBits, Ideal.ieee]
  rfl

theorem left_wide (d : Fin 256) (l : Fin 128) :
    broadcastTo S256x128 (shapeCast S1x128 left shapeCasts_S1x128_S1x128) broadcasts_S1x128_S256x128 (ix2 d l) = BitVec.ofBool (decide (l.val < 64)) := by
  rw [← left_apply]
  pointwise

theorem left_tall (r : Fin 1040) (l : Fin 128) :
    broadcastTo S1040x128 (shapeCast S1x128 left shapeCasts_S1x128_S1x128) broadcasts_S1x128_S1040x128 (ix2 r l) = BitVec.ofBool (decide (l.val < 64)) := by
  rw [← left_apply]
  pointwise

theorem values_false (v : Vec Ideal S1x256x128 .bf16) (j : Fin 256) (l : Fin 128) :
    values (F := Ideal) false v (ix2 j l) = if l.val < 64 then v (ix3 (0 : Fin 1) j l) else 1 := by
  rw [← slab_apply v j l]
  simp only [values, select, left_wide]
  by_cases h : l.val < 64 <;> simp [h, Scalar.select, broadcast]

theorem values_true (v : Vec Ideal S1x256x128 .bf16) (j : Fin 256) (l : Fin 128) :
    values (F := Ideal) true v (ix2 j l) = if l.val < 64 then 1 else v (ix3 (0 : Fin 1) j l) := by
  rw [← slab_apply v j l]
  simp only [values, select, left_wide]
  by_cases h : l.val < 64 <;> simp [h, Scalar.select, broadcast]

theorem over_apply (e : FVec Ideal S1040x256 .bf16) (v : FVec Ideal S256x128 .bf16) (r : Fin 1040) (l : Fin 128) :
    over (F := Ideal) e v (ix2 r l)
      = Ideal.div (mulRow (line e r) (grid v) l) (mulRow (line e r) (grid v) ⟨(l.val + 64) % 128, Nat.mod_lt _ (by norm_num)⟩) := by
  rw [← dot_line]
  unfold over line
  generalize dot (F := Ideal) e v = z
  refine (divf_apply _ _ _).trans (congrArg (Ideal.div (z (ix2 r l))) ?_)
  refine dynamicRotate_apply 1 _ z _ (ix2 r l) _ fun a => ?_
  fin_cases a
  · rfl
  · change (l.val + 64) % 128 = (l.val + 128 - 64 % 128) % 128
    omega

/-- A pair's lane. -/
def pairAt (s : Line 256) (v : Line 256) : EReal :=
  let e : Line 256 := fun k => Ideal.exp2 (s k - Finset.univ.fold max ⊥ s)
  Ideal.div (∑ k, e k * v k) (∑ k, e k * 1)

theorem pair_apply (q : FVec Ideal S1040x128 .bf16) (k v : Vec Ideal S1x256x128 .bf16) (r : Fin 1040) (c : Fin 2) (d : Fin 64) :
    pair (F := Ideal) q k v (ix2 r (lane c d)) = pairAt (scoreOf q k r c) fun j => v (ix3 (0 : Fin 1) j (lane c d)) := by
  have hw : ∀ c : Fin 2, line (weights (F := Ideal) (scores (F := Ideal) (stream (F := Ideal) (BitVec.ofNat 32 c.val) q) k)) r
      = fun j => Ideal.exp2 (scoreOf q k r c j - Finset.univ.fold max ⊥ (scoreOf q k r c)) := fun c => by
    funext j
    rw [← scores_line]
    exact weights_line _ r j
  have h0 := hw 0
  have h1 := hw 1
  unfold pair
  refine (truncf_apply _ _ _ _).trans ?_
  simp only [select, left_tall]
  fin_cases c
  · have hl : (lane 0 d).val < 64 := by change 0 * 64 + d.val < 64; omega
    have hm : ¬ ((lane 0 d).val + 64) % 128 < 64 := by change ¬ (0 * 64 + d.val + 64) % 128 < 64; omega
    change Scalar.select (BitVec.ofBool (decide ((lane 0 d).val < 64))) _ _ = pairAt (scoreOf q k r 0) fun j => v (ix3 (0 : Fin 1) j (lane 0 d))
    rw [decide_eq_true hl]
    refine (if_pos rfl).trans ((over_apply _ _ r _).trans ?_)
    refine congr (congrArg _ ?_) ?_
    · refine Finset.sum_congr rfl fun j _ => congr (congrArg _ (congrFun h0 j)) ((values_false v j _).trans (if_pos hl))
    · refine Finset.sum_congr rfl fun j _ => congr (congrArg _ (congrFun h0 j)) ((values_false v j _).trans (if_neg hm))
  · have hl : ¬ (lane 1 d).val < 64 := by change ¬ 1 * 64 + d.val < 64; omega
    have hm : ((lane 1 d).val + 64) % 128 < 64 := by change (1 * 64 + d.val + 64) % 128 < 64; omega
    change Scalar.select (BitVec.ofBool (decide ((lane 1 d).val < 64))) _ _ = pairAt (scoreOf q k r 1) fun j => v (ix3 (0 : Fin 1) j (lane 1 d))
    rw [decide_eq_false hl]
    refine (if_neg (by decide)).trans ((over_apply _ _ r _).trans ?_)
    refine congr (congrArg _ ?_) ?_
    · refine Finset.sum_congr rfl fun j _ => congr (congrArg _ (congrFun h1 j)) ((values_true v j _).trans (if_neg hl))
    · refine Finset.sum_congr rfl fun j _ => congr (congrArg _ (congrFun h1 j)) ((values_true v j _).trans (if_pos hm))

/-- One pair of heads of the whole attention, cut from the queries, the keys and the values. -/
theorem pair_cut (p c : Fin 2) (q : FVec Ideal S1040x256 .bf16) (mk mv : Vec Ideal S1x256x256 .bf16) (r : Fin 1040) (d : Fin 64)
    (hs : S1040x256.Slices ![0, p.val * 128] S1040x128)
    (inb : ∀ a, (![0, 0, p.val * 128] : Fin 3 → ℕ) a + S1x256x128.size a ≤ S1x256x256.size a) (f : Fin 256)
    (hf : f.val = p.val * 128 + (lane c d).val) :
    pair (F := Ideal) (extractStridedSlice S1040x128 ![0, p.val * 128] q hs)
      (View.ld mk (Rect.unit (s := S1x256x256) ![0, 0, p.val * 128] S1x256x128.size inb))
      (View.ld mv (Rect.unit (s := S1x256x256) ![0, 0, p.val * 128] S1x256x128.size inb)) (ix2 r (lane c d))
      = attRow (line q r) (block mk) (block mv) f := by
  have ho : p.val * 128 + 128 ≤ 256 := by omega
  have hlane : ∀ d : Fin 64, p.val * 128 + (lane c d).val = (feature (headOf f) d).val := fun d' => by
    have e : f.val = p.val * 128 + (c.val * 64 + d.val) := hf
    change p.val * 128 + (c.val * 64 + d'.val) = f.val / 64 * 64 + d'.val
    omega
  have hs' : scoreOf (extractStridedSlice S1040x128 ![0, p.val * 128] q hs)
      (View.ld mk (Rect.unit (s := S1x256x256) ![0, 0, p.val * 128] S1x256x128.size inb)) r c
      = dotRow (line q r) (block mk) (headOf f) := by
    funext j
    refine Finset.sum_congr rfl fun d' _ => congr (congrArg _ ?_) ?_
    · exact slice_apply q hs r (lane c d') r (feature (headOf f) d') (Nat.zero_add _).symm (hlane d').symm
    · exact (ld_block (F := Ideal) (η := .bf16) mk ho _ j (lane c d')).trans
        (congrArg (fun i => mk (ix3 (0 : Fin 1) j i)) (Fin.ext (hlane d')))
  have hv : (fun j => View.ld mv (Rect.unit (s := S1x256x256) ![0, 0, p.val * 128] S1x256x128.size inb) (ix3 (0 : Fin 1) j (lane c d)))
      = fun j => block mv j f := by
    funext j
    exact (ld_block (F := Ideal) (η := .bf16) mv ho _ j (lane c d)).trans
      (congrArg (fun i => mv (ix3 (0 : Fin 1) j i)) (Fin.ext hf.symm))
  rw [pair_apply, hs', hv]
  rfl

theorem attended_line (q : FVec Ideal S1040x256 .bf16) (mk mv : Vec Ideal S1x256x256 .bf16) (wo : Vec Ideal S256x1024 .bf16) (r : Fin 1040) :
    line (attended (F := Ideal) q mk mv wo) r = mulRow (attRow (line q r) (block mk) (block mv)) (grid wo) := by
  unfold attended
  rw [grid_cast]
  refine (dot_line _ _ r).trans (congrArg (fun y => mulRow y (grid wo)) (funext fun f => ?_))
  have hd : f.val % 64 < 64 := Nat.mod_lt _ (by norm_num)
  by_cases hf : f.val < 128
  · refine (concatenate_pair_apply_left (t := S1040x256) (s₁ := S1040x128) (s₂ := S1040x128) 1 _ _ _ (ix2 r f) rfl
      (ix2 r (lane ⟨f.val / 64, by omega⟩ ⟨f.val % 64, hd⟩)) fun b => ?_).trans ?_
    · fin_cases b
      · rfl
      · change f.val / 64 * 64 + f.val % 64 = f.val
        omega
    · exact pair_cut 0 ⟨f.val / 64, by omega⟩ q mk mv r ⟨f.val % 64, hd⟩ _ _ f
        (by change f.val = 0 * 128 + (f.val / 64 * 64 + f.val % 64); omega)
  · refine (concatenate_pair_apply_right (t := S1040x256) (s₁ := S1040x128) (s₂ := S1040x128) 1 _ _ _ (ix2 r f) rfl rfl
      (ix2 r (lane ⟨f.val / 64 - 2, by omega⟩ ⟨f.val % 64, hd⟩)) (fun b hb => ?_) ?_).trans ?_
    · fin_cases b
      · rfl
      · exact absurd rfl hb
    · change (f.val / 64 - 2) * 64 + f.val % 64 + 128 = f.val
      omega
    · exact pair_cut 1 ⟨f.val / 64 - 2, by omega⟩ q mk mv r ⟨f.val % 64, hd⟩ _ _ f
        (by change f.val = 1 * 128 + ((f.val / 64 - 2) * 64 + f.val % 64); omega)

end Cert.Tail
-- ==== Proof.Tail.Point.lean ====
/- A grid point's rows, each from its own rows of the inputs. -/
module

public import proofs.«01_k».proof.Proof.Tail.FeedAt
public import proofs.«01_k».proof.Proof.Tail.CrossAt

@[expose] public section

noncomputable section

namespace Cert.Tail

open Cert.Kernel2Ideal Cert.Kernel2Ideal.Gen Idealize.ShloMosaic

/-- A row after the attention to the memory, as the kernel computes it. -/
def kernelCross (x : Line 1024) (a : Line 512) (b c : Line 256) (mk mv : Grid 256 256) (w : Grid 1024 1024) (g1 g2 : Line 1024)
    (wq : Grid 1024 256) (wo : Grid 256 1024) (g3 : Line 1024) : Line 1024 :=
  crossRow (mixRow x a b c w g1)
    (attRow (fun f => queryRow (mixRow x a b c w g1) g2 wq f * ((8⁻¹ * (Real.log 2)⁻¹ : ℝ) : EReal)) mk mv) wo g3

variable (x0 : Vec Ideal S1x1024x1024 .f32) (x1 : Vec Ideal S1x16x1024 .f32) (x2 : Vec Ideal S1x1024x512 .bf16) (x3 : Vec Ideal S1x16x512 .bf16)
  (x4 : Vec Ideal S1x1024x256 .bf16) (x5 : Vec Ideal S1x16x256 .bf16) (x6 : Vec Ideal S1x1024x256 .bf16) (x7 : Vec Ideal S1x16x256 .bf16)
  (x8 : Vec Ideal S1x256x256 .bf16) (x9 : Vec Ideal S1x256x256 .bf16) (x11 : Vec Ideal S1024x1024 .bf16)
  (x12 : Vec Ideal S1x1024 .f32) (x13 : Vec Ideal S1x1024 .f32) (x14 : Vec Ideal S1024x256 .bf16) (x15 : Vec Ideal S256x1024 .bf16)
  (x16 : Vec Ideal S1x1024 .f32) (x17 : Vec Ideal S1x1024 .f32)

theorem mixed_line (r : Fin 1040) : line (mixed (F := Ideal) x0 x1 x2 x3 x4 x5 x6 x7 x11 x12) r
    = mixRow (line (stack (F := Ideal) (η := .f32) (K := 1024) x1 x0) r) (line (stack (F := Ideal) (η := .bf16) (K := 512) x3 x2) r)
      (line (stack (F := Ideal) (η := .bf16) (K := 256) x5 x4) r) (line (stack (F := Ideal) (η := .bf16) (K := 256) x7 x6) r) (grid x11) (line x12 0) := by
  funext j
  unfold mixed mixRow
  rw [line_addf, rms_line, projected_line]

theorem crossed_line (r : Fin 1040) : line (crossed (F := Ideal) x0 x1 x2 x3 x4 x5 x6 x7 x8 x9 x11 x12 x13 x14 x15 x16) r
    = kernelCross (line (stack (F := Ideal) (η := .f32) (K := 1024) x1 x0) r) (line (stack (F := Ideal) (η := .bf16) (K := 512) x3 x2) r)
      (line (stack (F := Ideal) (η := .bf16) (K := 256) x5 x4) r) (line (stack (F := Ideal) (η := .bf16) (K := 256) x7 x6) r)
      (block x8) (block x9) (grid x11) (line x12 0) (line x13 0) (grid x14) (grid x15) (line x16 0) := by
  funext j
  unfold crossed kernelCross crossRow
  rw [line_addf, rms_line, attended_line, mixed_line]
  refine congrArg (fun y => _ + normRow (mulRow (attRow y _ _) _) _ j) (funext fun f => ?_)
  rw [query_line, mixed_line]

theorem entered_line (x : FVec Ideal S1040x1024 .f32) (r : Fin 1040) :
    line (entered (F := Ideal) x x17) r = normRow (line x r) (line x17 0) := rms_line x x17 r

end Cert.Tail
-- ==== Proof.Tail.Soft.lean ====
/- The kernel's attention to the memory is the reference's where the scores are real; they are real where the keys, the query
   projection and its norm's gain are, whatever the row. -/
module

public import proofs.«01_k».proof.Proof.Tail.Row
public import proofs.«01_k».proof.Proof.Attn.Score

@[expose] public section

noncomputable section

namespace Cert.Tail

open Idealize.ShloMosaic Cert.Attn

/-- A real value, as an extended real. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {n : ℕ} {f : Fin n → EReal} (h : ∀ i, IsReal (f i)) : IsReal (∑ i, f i) := by
  choose g hg using h
  exact ⟨∑ i, g i, by rw [coe_sum]; exact Finset.sum_congr rfl fun i _ => hg i⟩

theorem ofBits_1024 : Ideal.ofBits .f32 0x44800000#32 = ((1024 : ℝ) : EReal) := by
  simp [Ideal.ofBits, Ideal.ieee]
  rw [← EReal.coe_mul]
  norm_num

theorem ofBits_eighth : Ideal.ofBits .f32 0x3E000000#32 = ((8⁻¹ : ℝ) : EReal) := by
  simp [Ideal.ofBits, Ideal.ieee]
  rw [← EReal.coe_mul]
  norm_num

theorem eps_pos : 0 < eps := by
  simp [eps, Ideal.ofBits, Ideal.ieee]
  rw [← EReal.coe_mul, EReal.toReal_coe]
  positivity

/-- A row over the root of its mean square is real, whatever the row: with an infinite entry the reciprocal root is zero. -/
theorem real_normed (y : Line 1024) (j : Fin 1024) : IsReal (y j * invRow y) := by
  by_cases h : ∀ k, IsReal (y k)
  · choose r hr using h
    refine IsReal.mul ⟨r j, hr j⟩ ?_
    have hs : ∑ k, y k * y k = ((∑ k, r k * r k : ℝ) : EReal) := by
      rw [coe_sum]
      exact Finset.sum_congr rfl fun k _ => by rw [hr, EReal.coe_mul]
    have hn : 0 ≤ ∑ k, r k * r k := Finset.sum_nonneg fun k _ => mul_self_nonneg _
    have hp : 0 < (∑ k, r k * r k) / 1024 + eps := add_pos_of_nonneg_of_pos (by positivity) eps_pos
    refine ⟨(Real.sqrt ((∑ k, r k * r k) / 1024 + eps))⁻¹, ?_⟩
    rw [invRow, hs, ofBits_1024, ofBits_eps, div_real _ (by norm_num), ← EReal.coe_add, Ideal.rsqrt_coe, if_neg hp.not_gt, if_neg hp.ne']
  · push Not at h
    obtain ⟨k, hk⟩ := h
    have hkk : y k * y k = ⊤ := by
      induction hy : y k using EReal.rec with
      | bot => exact EReal.bot_mul_bot
      | top => exact EReal.top_mul_top
      | coe r => exact absurd ⟨r, hy⟩ hk
    have hnn : ∀ k, 0 ≤ y k * y k := fun k => by
      induction y k using EReal.rec with
      | bot => rw [EReal.bot_mul_bot]; exact le_top
      | top => rw [EReal.top_mul_top]; exact le_top
      | coe r => rw [← EReal.coe_mul]; exact EReal.coe_nonneg.2 (mul_self_nonneg r)
    have hs : ∑ k, y k * y k = ⊤ := top_le_iff.1 (hkk ▸ Finset.single_le_sum (fun k _ => hnn k) (Finset.mem_univ k))
    refine ⟨0, ?_⟩
    rw [invRow, hs, ofBits_1024, ofBits_eps, Ideal.div_coe (by norm_num), EReal.top_mul_coe_of_pos (by norm_num), EReal.top_add_coe,
      Ideal.rsqrt_top, mul_zero, EReal.coe_zero]

/-- The queries of a row are real. -/
theorem real_query (x : Line 1024) {g : Line 1024} {w : Grid 1024 256} (hg : ∀ j, IsReal (g j)) (hw : ∀ k f, IsReal (w k f)) (f : Fin 256) :
    IsReal (queryRow x g w f) :=
  IsReal.sum fun k => ((real_normed x k).mul (hg k)).mul (hw k f)

/-- The attention to the memory: the kernel's is the reference's. -/
theorem att_eq {q : Line 256} {mk : Grid 256 256} (hq : ∀ f, IsReal (q f)) (hk : ∀ k f, IsReal (mk k f)) (mv : Grid 256 256) :
    attRow (fun f => q f * ((8⁻¹ * (Real.log 2)⁻¹ : ℝ) : EReal)) mk mv = attPlain q mk mv := by
  funext f
  have hd : ∀ k, IsReal (dotRow q mk (headOf f) k) := fun k => IsReal.sum fun d => (hq _).mul (hk _ _)
  choose s hs using hd
  have hplain : scoreRow q mk (headOf f) = fun k => ((s k * 8⁻¹ : ℝ) : EReal) := funext fun k => by
    rw [scoreRow, hs, ofBits_eighth, EReal.coe_mul]
  have hscaled : dotRow (fun f => q f * ((8⁻¹ * (Real.log 2)⁻¹ : ℝ) : EReal)) mk (headOf f)
      = fun k => rebase 0 ((s k * 8⁻¹ : ℝ) : EReal) := funext fun k => by
    have hc : 0 ≤ 8⁻¹ * (Real.log 2)⁻¹ := (mul_pos (by norm_num) log2_inv_pos).le
    have e : dotRow (fun f => q f * ((8⁻¹ * (Real.log 2)⁻¹ : ℝ) : EReal)) mk (headOf f) k
        = dotRow q mk (headOf f) k * ((8⁻¹ * (Real.log 2)⁻¹ : ℝ) : EReal) := by
      rw [dotRow, dotRow, ← sum_mul_coe _ _ hc]
      exact Finset.sum_congr rfl fun d _ => mul_right_comm _ _ _
    rw [e, hs, rebase_coe, ← EReal.coe_mul, sub_zero, mul_assoc]
  let u : Line 256 := fun k => ((s k * 8⁻¹ : ℝ) : EReal)
  let M : EReal := Finset.univ.sup u
  have hM : Finset.univ.fold max ⊥ (scoreRow q mk (headOf f)) = M := by rw [hplain]; rfl
  have hM' : Finset.univ.fold max ⊥ (dotRow (fun f => q f * ((8⁻¹ * (Real.log 2)⁻¹ : ℝ) : EReal)) mk (headOf f)) = rebase 0 M := by
    rw [hscaled]
    exact (Finset.comp_sup_eq_sup_comp (rebase 0) (fun x y => (rebase_mono 0).map_sup x y) (rebase_bot 0)).symm
  have hle : ∀ k, u k ≤ M := fun k => Finset.le_sup (f := u) (Finset.mem_univ k)
  have hMreal : IsReal M := by
    obtain ⟨k, _, hk⟩ := Finset.exists_mem_eq_sup Finset.univ ⟨(0 : Fin 256), Finset.mem_univ _⟩ u
    exact ⟨s k * 8⁻¹, hk⟩
  obtain ⟨M', hM''⟩ := hMreal
  have hw : ∀ k, Ideal.exp2 (dotRow (fun f => q f * ((8⁻¹ * (Real.log 2)⁻¹ : ℝ) : EReal)) mk (headOf f) k
      - Finset.univ.fold max ⊥ (dotRow (fun f => q f * ((8⁻¹ * (Real.log 2)⁻¹ : ℝ) : EReal)) mk (headOf f)))
      = (expo (u k - M) : EReal) := fun k => by
    rw [hM', hscaled, exp2_sub (rebase_mono 0 (hle k)), pow2_rebase 0 (hle k)]
  have hw' : ∀ k, Ideal.exp (scoreRow q mk (headOf f) k - Finset.univ.fold max ⊥ (scoreRow q mk (headOf f)))
      = (expo (u k - M) : EReal) := fun k => by
    rw [hM, hplain, exp_sub (hle k)]
  have hpos : 0 < ∑ k, expo (u k - M) := Finset.sum_pos (fun k _ => by
    rw [hM'', show u k = ((s k * 8⁻¹ : ℝ) : EReal) from rfl, ← EReal.coe_sub, expo_coe]
    exact Real.exp_pos _) ⟨(0 : Fin 256), Finset.mem_univ _⟩
  simp only [attRow, attPlain, hw, hw', mul_one]
  rw [← coe_sum, Ideal.div_coe hpos.ne', ← sum_mul_coe _ _ (by positivity)]
  refine Finset.sum_congr rfl fun k _ => ?_
  rw [Ideal.div_coe hpos.ne', mul_comm (expo (u k - M) : EReal) (mv k f), mul_assoc]

end Cert.Tail
-- ==== Proof.Tail.Ref.lean ====
/- The tail's reference, read a row at a time. -/
module

public import proofs.«01_k».proof.Proof.Gen.Reference2Ideal.Read
public import proofs.«01_k».proof.Proof.Tail.Row
public import Idealize.ShloMosaic.Lib.Pointwise
public import Idealize.ShloMosaic.Lib.Pipeline.ValueKit
public import Idealize.ShloMosaic.PureOps.IdealRules

@[expose] public section

noncomputable section

namespace Cert.Tail.Ref

open Cert.Reference2Ideal Cert.Reference2Ideal.Gen Cert.Reference2Ideal.Read Idealize.ShloMosaic

/-- A row of a batch of sequences. -/
def seqRow {S N : ℕ} (x : (⟨3, ![32, S, N]⟩ : Shape).Idx → EReal) (b : Fin 32) (s : Fin S) : Line N := fun j => x (ix3 b s j)

/-- A matrix, as a function of its two indices. -/
def mat {M N : ℕ} (y : (⟨2, ![M, N]⟩ : Shape).Idx → EReal) : Grid M N := fun k j => y (ix2 k j)

/-- A batch's keys, or its values, a row of features for each. -/
def memory (x : FVec Ideal S32x256x4x64 .f32) (b : Fin 32) : Grid 256 256 := fun k f =>
  x (ix4 b k (⟨f.val / 64, by omega⟩ : Fin 4) (⟨f.val % 64, by omega⟩ : Fin 64))

/-- The reference's normalisation by the root mean square, with a gain. -/
def norm (y : FVec Ideal S32x2048x1024 .f32) (g : FVec Ideal S1024 .f32) : FVec Ideal S32x2048x1024 .f32 :=
  mulf (mulf y (broadcastInDim S32x2048x1024 ![0, 1, 2] bcast_S32x2048x1_S32x2048x1024_0_1_2 (Host.rsqrt (addf (Host.divf
      (broadcastInDim S32x2048x1 ![0, 1] bcast_S32x2048_S32x2048x1_0_1
        (Host.reduceAdd (mulf y y) (constant S_ .f32 0x00000000#32) reducesTo_S32x2048x1024_S32x2048_d2 h_S_))
      (broadcastInDim S32x2048x1 ![] bcast_S_S32x2048x1 (constant S_ .f32 0x44800000#32)))
      (broadcastInDim S32x2048x1 ![] bcast_S_S32x2048x1 (constant S_ .f32 0x358637BD#32))))))
    (broadcastInDim S32x2048x1024 ![0, 1, 2] bcast_S1x1x1024_S32x2048x1024_0_1_2 (broadcastInDim S1x1x1024 ![2] bcast_S1024_S1x1x1024_2 g))

theorem norm_row (y : FVec Ideal S32x2048x1024 .f32) (g : FVec Ideal S1024 .f32) (b : Fin 32) (s : Fin 2048) :
    seqRow (norm y g) b s = normRow (seqRow y b s) fun j => g (ix1 j) := by
  funext j
  unfold seqRow
  pointwise [norm]
  rfl

theorem dot_mix (y : FVec Ideal S32x2048x1024 .f32) (w : FVec Ideal S1024x1024 .f32) (b : Fin 32) (s : Fin 2048) :
    seqRow (Host.dotGeneral dot_S32x2048x1024_S1024x1024_S32x2048x1024_2_0_01_1_n_n none y w) b s = mulRow (seqRow y b s) (mat w) := by
  funext j
  unfold seqRow
  pointwise
  rfl

theorem dot_query (y : FVec Ideal S32x2048x1024 .f32) (w : FVec Ideal S1024x256 .f32) (b : Fin 32) (s : Fin 2048) :
    seqRow (Host.dotGeneral dot_S32x2048x1024_S1024x256_S32x2048x256_2_0_01_1_n_n none y w) b s = mulRow (seqRow y b s) (mat w) := by
  funext j
  unfold seqRow
  pointwise
  rfl

theorem dot_out (y : FVec Ideal S32x2048x256 .f32) (w : FVec Ideal S256x1024 .f32) (b : Fin 32) (s : Fin 2048) :
    seqRow (Host.dotGeneral dot_S32x2048x256_S256x1024_S32x2048x1024_2_0_01_1_n_n none y w) b s = mulRow (seqRow y b s) (mat w) := by
  funext j
  unfold seqRow
  pointwise
  rfl

theorem dot_gate (y : FVec Ideal S32x2048x1024 .f32) (w : FVec Ideal S1024x2816 .f32) (b : Fin 32) (s : Fin 2048) :
    seqRow (Host.dotGeneral dot_S32x2048x1024_S1024x2816_S32x2048x2816_2_0_01_1_n_n none y w) b s = mulRow (seqRow y b s) (mat w) := by
  funext j
  unfold seqRow
  pointwise
  rfl

theorem dot_down (y : FVec Ideal S32x2048x2816 .f32) (w : FVec Ideal S2816x1024 .f32) (b : Fin 32) (s : Fin 2048) :
    seqRow (Host.dotGeneral dot_S32x2048x2816_S2816x1024_S32x2048x1024_2_0_01_1_n_n none y w) b s = mulRow (seqRow y b s) (mat w) := by
  funext j
  unfold seqRow
  pointwise
  rfl

variable (x0 : FVec Ideal S32x2048x1024 .f32) (x1 : FVec Ideal S32x2048x512 .f32) (x2 x3 : FVec Ideal S32x2048x256 .f32)
  (x4 x5 : FVec Ideal S32x256x4x64 .f32) (x6 : FVec Ideal S32x2x2816 .f32) (x7 : FVec Ideal S1024x1024 .f32) (x8 : FVec Ideal S7x1024 .f32)
  (x9 : FVec Ideal S1024x256 .f32) (x10 : FVec Ideal S256x1024 .f32) (x11 x12 : FVec Ideal S1024x2816 .f32) (x13 : FVec Ideal S3x2816 .f32)
  (x14 : FVec Ideal S2816 .f32) (x15 : FVec Ideal S2816x1024 .f32) (b : Fin 32) (s : Fin 2048)

theorem joined : seqRow (val_main_v0 (F := Ideal) x1 x2 x3) b s = sideBySide (seqRow x1 b s) (seqRow x2 b s) (seqRow x3 b s) := by
  funext j
  unfold seqRow sideBySide
  pointwise [val_main_v0]
  by_cases h : j.val < 512
  · rw [dif_pos h, dif_pos h]
  · by_cases h' : j.val < 768
    · rw [dif_neg h, dif_neg h, dif_pos (show j.val - 512 < 256 by omega), dif_pos h']
    · rw [dif_neg h, dif_neg h, dif_neg (show ¬j.val - 512 < 256 by omega), dif_neg h']
      exact congrArg x3 (congrArg (ix3 b s) (Fin.ext (Nat.sub_sub _ _ _)))

theorem gain1 (j : Fin 1024) : val_main_v3 (F := Ideal) x8 (ix1 j) = x8 (ix2 (1 : Fin 7) j) := by pointwise [val_main_v3, val_main_v2]
theorem gain2 (j : Fin 1024) : val_main_v19 (F := Ideal) x8 (ix1 j) = x8 (ix2 (2 : Fin 7) j) := by pointwise [val_main_v19, val_main_v18]
theorem gain3 (j : Fin 1024) : val_main_v54 (F := Ideal) x8 (ix1 j) = x8 (ix2 (3 : Fin 7) j) := by pointwise [val_main_v54, val_main_v53]
theorem gain4 (j : Fin 1024) : val_main_v70 (F := Ideal) x8 (ix1 j) = x8 (ix2 (4 : Fin 7) j) := by pointwise [val_main_v70, val_main_v69]
theorem gain5 (j : Fin 1024) : val_main_v115 (F := Ideal) x8 (ix1 j) = x8 (ix2 (5 : Fin 7) j) := by pointwise [val_main_v115, val_main_v114]

theorem mix_read : seqRow (val_main_v17 (F := Ideal) x0 x1 x2 x3 x7 x8) b s
    = mixRow (seqRow x0 b s) (seqRow x1 b s) (seqRow x2 b s) (seqRow x3 b s) (mat x7) (fun j => x8 (ix2 (1 : Fin 7) j)) := by
  have e : val_main_v16 (F := Ideal) x1 x2 x3 x7 x8 = norm (val_main_v1 (F := Ideal) x1 x2 x3 x7) (val_main_v3 (F := Ideal) x8) := rfl
  funext j
  change x0 (ix3 b s j) + seqRow (val_main_v16 (F := Ideal) x1 x2 x3 x7 x8) b s j = _
  rw [e, norm_row, val_main_v1, dot_mix, joined]
  simp only [gain1]
  rfl

theorem query_read : seqRow (val_main_v33 (F := Ideal) x0 x1 x2 x3 x7 x8 x9) b s
    = queryRow (seqRow (val_main_v17 (F := Ideal) x0 x1 x2 x3 x7 x8) b s) (fun j => x8 (ix2 (2 : Fin 7) j)) (mat x9) := by
  have e : val_main_v32 (F := Ideal) x0 x1 x2 x3 x7 x8 = norm (val_main_v17 (F := Ideal) x0 x1 x2 x3 x7 x8) (val_main_v19 (F := Ideal) x8) := rfl
  rw [val_main_v33, dot_query, e, norm_row]
  simp only [gain2]
  rfl

theorem memory_feature (x : FVec Ideal S32x256x4x64 .f32) (k : Fin 256) (h : Fin 4) (d : Fin 64) :
    memory x b k (feature h d) = x (ix4 b k h d) := by
  unfold memory
  congr 2
  · exact Fin.ext (by show (h.val * 64 + d.val) / 64 = h.val; omega)
  · exact Fin.ext (by show (h.val * 64 + d.val) % 64 = d.val; omega)

theorem score_read (h : Fin 4) (k : Fin 256) : val_main_v37 (F := Ideal) x0 x1 x2 x3 x4 x7 x8 x9 (ix4 b h s k)
    = scoreRow (seqRow (val_main_v33 (F := Ideal) x0 x1 x2 x3 x7 x8 x9) b s) (memory x4 b) h k := by
  unfold scoreRow dotRow seqRow
  simp only [memory_feature]
  pointwise [val_main_v37, val_main_v36, val_main_cst_5, val_main_v35, val_main_v34]
  rfl

theorem peak (y : FVec Ideal S32x4x2048x256 .f32) (h : Fin 4) :
    Host.reduce FloatOps.maximumf y (constant S_ .f32 0xFF800000#32) reducesTo_S32x4x2048x256_S32x4x2048_d3 h_S_ (ix3 b h s)
      = Finset.univ.fold max ⊥ fun k : Fin 256 => y (ix4 b h s k) := by
  rw [show (⊥ : EReal) = Ideal.ofBits .f32 0xFF800000#32 by simp [Ideal.ofBits, Ideal.ieee]]
  pointwise

theorem peak_read (h : Fin 4) : val_main_v40 (F := Ideal) x0 x1 x2 x3 x4 x7 x8 x9 (ix3 b h s)
    = Finset.univ.fold max ⊥ (scoreRow (seqRow (val_main_v33 (F := Ideal) x0 x1 x2 x3 x7 x8 x9) b s) (memory x4 b) h) := by
  have e : val_main_v38 (F := Ideal) x0 x1 x2 x3 x4 x7 x8 x9 (ix3 b h s)
      = Finset.univ.fold max ⊥ (scoreRow (seqRow (val_main_v33 (F := Ideal) x0 x1 x2 x3 x7 x8 x9) b s) (memory x4 b) h) := by
    refine (peak b s (val_main_v37 (F := Ideal) x0 x1 x2 x3 x4 x7 x8 x9) h).trans (congrArg (fun g => Finset.univ.fold max ⊥ g) (funext fun k => ?_))
    exact score_read x0 x1 x2 x3 x4 x7 x8 x9 b s h k
  rw [val_main_v40_apply, val_main_v39_apply, val_main_cst_7_apply, e]
  generalize (Finset.univ.fold max ⊥ (scoreRow (seqRow (val_main_v33 (F := Ideal) x0 x1 x2 x3 x7 x8 x9) b s) (memory x4 b) h)) = p
  show max (Ideal.ofBits .f32 0xFF800000#32) p = p
  rw [show Ideal.ofBits .f32 0xFF800000#32 = (⊥ : EReal) by simp [Ideal.ofBits, Ideal.ieee]]
  exact bot_sup_eq p

theorem exp_read (h : Fin 4) (k : Fin 256) : val_main_v44 (F := Ideal) x0 x1 x2 x3 x4 x7 x8 x9 (ix4 b h s k)
    = Ideal.exp (scoreRow (seqRow (val_main_v33 (F := Ideal) x0 x1 x2 x3 x7 x8 x9) b s) (memory x4 b) h k
      - Finset.univ.fold max ⊥ (scoreRow (seqRow (val_main_v33 (F := Ideal) x0 x1 x2 x3 x7 x8 x9) b s) (memory x4 b) h)) := by
  rw [← peak_read, ← score_read]
  pointwise [val_main_v44, val_main_v43, val_main_v42, val_main_v41]

theorem share_read (h : Fin 4) (k : Fin 256) : val_main_v48 (F := Ideal) x0 x1 x2 x3 x4 x7 x8 x9 (ix4 b h s k)
    = Ideal.div (val_main_v44 (F := Ideal) x0 x1 x2 x3 x4 x7 x8 x9 (ix4 b h s k))
        (∑ k : Fin 256, val_main_v44 (F := Ideal) x0 x1 x2 x3 x4 x7 x8 x9 (ix4 b h s k)) := by
  pointwise [val_main_v48, val_main_v47, val_main_v46, val_main_v45, val_main_cst_8]

theorem attended_read : seqRow (val_main_v51 (F := Ideal) x0 x1 x2 x3 x4 x5 x7 x8 x9) b s
    = attPlain (seqRow (val_main_v33 (F := Ideal) x0 x1 x2 x3 x7 x8 x9) b s) (memory x4 b) (memory x5 b) := by
  funext f
  have e : seqRow (val_main_v51 (F := Ideal) x0 x1 x2 x3 x4 x5 x7 x8 x9) b s f
      = ∑ k : Fin 256, memory x5 b k f * val_main_v48 (F := Ideal) x0 x1 x2 x3 x4 x7 x8 x9 (ix4 b (headOf f) s k) := by
    unfold seqRow memory headOf
    pointwise [val_main_v51, val_main_v50, val_main_v49]
  rw [e]
  simp only [share_read, exp_read]
  rfl

theorem cross_read : seqRow (val_main_v68 (F := Ideal) x0 x1 x2 x3 x4 x5 x7 x8 x9 x10) b s
    = plainCross (seqRow x0 b s) (seqRow x1 b s) (seqRow x2 b s) (seqRow x3 b s) (memory x4 b) (memory x5 b) (mat x7)
        (fun j => x8 (ix2 (1 : Fin 7) j)) (fun j => x8 (ix2 (2 : Fin 7) j)) (mat x9) (mat x10) (fun j => x8 (ix2 (3 : Fin 7) j)) := by
  have e : val_main_v67 (F := Ideal) x0 x1 x2 x3 x4 x5 x7 x8 x9 x10
      = norm (val_main_v52 (F := Ideal) x0 x1 x2 x3 x4 x5 x7 x8 x9 x10) (val_main_v54 (F := Ideal) x8) := rfl
  funext j
  change seqRow (val_main_v17 (F := Ideal) x0 x1 x2 x3 x7 x8) b s j
    + seqRow (val_main_v67 (F := Ideal) x0 x1 x2 x3 x4 x5 x7 x8 x9 x10) b s j = _
  rw [e, norm_row, val_main_v52, dot_out, attended_read, query_read, mix_read]
  simp only [gain3]
  rfl

/-- The row the feed-forward part is fed with. -/
abbrev fedRow : Line 1024 :=
  normRow (seqRow (val_main_v68 (F := Ideal) x0 x1 x2 x3 x4 x5 x7 x8 x9 x10) b s) (fun j => x8 (ix2 (4 : Fin 7) j))

theorem fed_read : seqRow (val_main_v83 (F := Ideal) x0 x1 x2 x3 x4 x5 x7 x8 x9 x10) b s = fedRow x0 x1 x2 x3 x4 x5 x7 x8 x9 x10 b s := by
  have e : val_main_v83 (F := Ideal) x0 x1 x2 x3 x4 x5 x7 x8 x9 x10
      = norm (val_main_v68 (F := Ideal) x0 x1 x2 x3 x4 x5 x7 x8 x9 x10) (val_main_v70 (F := Ideal) x8) := rfl
  rw [e, norm_row]
  simp only [gain4]

/-- The gate's rows with the two before them. -/
abbrev gateSeq (b : Fin 32) (e : Fin 2050) : Line 2816 :=
  seqRow (val_main_v85 (F := Ideal) x0 x1 x2 x3 x4 x5 x6 x7 x8 x9 x10 x11) b e

theorem gate_before (e : Fin 2050) (he : e.val < 2) :
    gateSeq x0 x1 x2 x3 x4 x5 x6 x7 x8 x9 x10 x11 b e = fun f => x6 (ix3 b (⟨e.val, he⟩ : Fin 2) f) := by
  funext f
  unfold gateSeq seqRow
  pointwise [val_main_v85]
  rw [dif_pos he]

theorem gate_after (e : Fin 2050) (he : e.val = s.val + 2) :
    gateSeq x0 x1 x2 x3 x4 x5 x6 x7 x8 x9 x10 x11 b e = mulRow (fedRow x0 x1 x2 x3 x4 x5 x7 x8 x9 x10 b s) (mat x11) := by
  rw [← fed_read, ← dot_gate]
  funext f
  have h2 : ¬ e.val < 2 := by omega
  have hs : (⟨e.val - 2, by omega⟩ : Fin 2048) = s := Fin.ext (by show e.val - 2 = s.val; omega)
  show _ = val_main_v84 (F := Ideal) x0 x1 x2 x3 x4 x5 x7 x8 x9 x10 x11 (ix3 b s f)
  rw [← hs]
  unfold gateSeq seqRow
  pointwise [val_main_v85]
  rw [dif_neg h2]

theorem conv_read (f : Fin 2816) : val_main_v108 (F := Ideal) x0 x1 x2 x3 x4 x5 x6 x7 x8 x9 x10 x11 x13 x14 (ix3 b s f)
    = convAt (mat x13 0 f) (mat x13 1 f) (mat x13 2 f) (x14 (ix1 f))
        (gateSeq x0 x1 x2 x3 x4 x5 x6 x7 x8 x9 x10 x11 b ⟨s.val, by omega⟩ f)
        (gateSeq x0 x1 x2 x3 x4 x5 x6 x7 x8 x9 x10 x11 b ⟨1 + s.val, by omega⟩ f)
        (gateSeq x0 x1 x2 x3 x4 x5 x6 x7 x8 x9 x10 x11 b ⟨2 + s.val, by omega⟩ f) := by
  unfold convAt mat gateSeq seqRow
  pointwise [val_main_v108, val_main_v107, val_main_v106, val_main_v105, val_main_v104, val_main_v103, val_main_v102, val_main_v101,
    val_main_v100, val_main_v99, val_main_v98, val_main_v97, val_main_v96, val_main_v95, val_main_v94, val_main_v93, val_main_v92,
    val_main_v91, val_main_v90, val_main_v89, val_main_v88, val_main_v87, val_main_v86]

theorem silu_read (f : Fin 2816) : val_main_v109 (F := Ideal) x0 x1 x2 x3 x4 x5 x6 x7 x8 x9 x10 x11 x13 x14 (ix3 b s f)
    = val_main_v108 (F := Ideal) x0 x1 x2 x3 x4 x5 x6 x7 x8 x9 x10 x11 x13 x14 (ix3 b s f)
      * Ideal.logistic (val_main_v108 (F := Ideal) x0 x1 x2 x3 x4 x5 x6 x7 x8 x9 x10 x11 x13 x14 (ix3 b s f)) := by
  show _ * Ideal.div (Ideal.ofBits .f32 0x3F800000#32) (Ideal.ofBits .f32 0x3F800000#32 + Ideal.exp (-_)) = _
  rw [show Ideal.ofBits .f32 0x3F800000#32 = (1 : EReal) by
    simp [Ideal.ofBits, Ideal.ieee]
    rw [← EReal.coe_mul]
    norm_num]
  rfl

/-- The feed-forward part's inner row. -/
abbrev innerRow : Line 2816 := fun f =>
  actAt (convAt (mat x13 0 f) (mat x13 1 f) (mat x13 2 f) (x14 (ix1 f))
      (gateSeq x0 x1 x2 x3 x4 x5 x6 x7 x8 x9 x10 x11 b ⟨s.val, by omega⟩ f)
      (gateSeq x0 x1 x2 x3 x4 x5 x6 x7 x8 x9 x10 x11 b ⟨1 + s.val, by omega⟩ f)
      (gateSeq x0 x1 x2 x3 x4 x5 x6 x7 x8 x9 x10 x11 b ⟨2 + s.val, by omega⟩ f))
    (mulRow (fedRow x0 x1 x2 x3 x4 x5 x7 x8 x9 x10 b s) (mat x12) f)

theorem inner_read : seqRow (val_main_v111 (F := Ideal) x0 x1 x2 x3 x4 x5 x6 x7 x8 x9 x10 x11 x12 x13 x14) b s
    = innerRow x0 x1 x2 x3 x4 x5 x6 x7 x8 x9 x10 x11 x12 x13 x14 b s := by
  funext f
  have e : val_main_v110 (F := Ideal) x0 x1 x2 x3 x4 x5 x7 x8 x9 x10 x12 (ix3 b s f)
      = mulRow (fedRow x0 x1 x2 x3 x4 x5 x7 x8 x9 x10 b s) (mat x12) f := by
    rw [← fed_read, ← dot_gate]
    rfl
  change val_main_v109 (F := Ideal) x0 x1 x2 x3 x4 x5 x6 x7 x8 x9 x10 x11 x13 x14 (ix3 b s f)
    * val_main_v110 (F := Ideal) x0 x1 x2 x3 x4 x5 x7 x8 x9 x10 x12 (ix3 b s f) = _
  rw [e, silu_read, conv_read]
  rfl

theorem out_read : seqRow (val_main_v129 (F := Ideal) x0 x1 x2 x3 x4 x5 x6 x7 x8 x9 x10 x11 x12 x13 x14 x15) b s
    = downRow (seqRow (val_main_v68 (F := Ideal) x0 x1 x2 x3 x4 x5 x7 x8 x9 x10) b s)
        (innerRow x0 x1 x2 x3 x4 x5 x6 x7 x8 x9 x10 x11 x12 x13 x14 b s) (mat x15) (fun j => x8 (ix2 (5 : Fin 7) j)) := by
  have e : val_main_v128 (F := Ideal) x0 x1 x2 x3 x4 x5 x6 x7 x8 x9 x10 x11 x12 x13 x14 x15
      = norm (val_main_v112 (F := Ideal) x0 x1 x2 x3 x4 x5 x6 x7 x8 x9 x10 x11 x12 x13 x14 x15) (val_main_v115 (F := Ideal) x8) := rfl
  funext j
  change seqRow (val_main_v68 (F := Ideal) x0 x1 x2 x3 x4 x5 x7 x8 x9 x10) b s j
    + seqRow (val_main_v128 (F := Ideal) x0 x1 x2 x3 x4 x5 x6 x7 x8 x9 x10 x11 x12 x13 x14 x15) b s j = _
  rw [e, norm_row, val_main_v112, dot_down, inner_read]
  simp only [gain5]
  rfl

theorem state_read (e : Fin 2) : seqRow (val_main_v113 (F := Ideal) x0 x1 x2 x3 x4 x5 x6 x7 x8 x9 x10 x11) b e
    = gateSeq x0 x1 x2 x3 x4 x5 x6 x7 x8 x9 x10 x11 b ⟨2048 + e.val, by omega⟩ := by
  funext f
  unfold gateSeq seqRow
  pointwise [val_main_v113]

end Cert.Tail.Ref
-- ==== Proof.Tail.Result.lean ====
/- The tail's two results are the reference's. -/
module

public import proofs.«01_k».proof.Proof.Tail.Pieces
public import proofs.«01_k».proof.Proof.Tail.Windows
public import proofs.«01_k».proof.Proof.Tail.FeedAt
public import proofs.«01_k».proof.Proof.Tail.Point
public import proofs.«01_k».proof.Proof.Tail.Soft
public import proofs.«01_k».proof.Proof.Tail.Ref

@[expose] public section

noncomputable section

namespace Cert.Tail

open Cert.Kernel2Ideal Cert.Kernel2Ideal.Gen Idealize.ShloMosaic Idealize.SL.Sem

/-- The memory's keys, the third row of gains and the projection of the queries are real numbers. -/
structure Finite (x4 : FVec Ideal S32x256x4x64 .f32) (x8 : FVec Ideal S7x1024 .f32) (x9 : FVec Ideal S1024x256 .f32) : Prop where
  keys : ∀ i, IsReal (x4 i)
  gains : ∀ j, IsReal (x8 (ix2 (2 : Fin 7) j))
  weights : ∀ i, IsReal (x9 i)

/-- The attention to the memory, with the keys and the projections real, is the reference's. -/
theorem kernel_plain (x : Line 1024) (a : Line 512) (b c : Line 256) {mk : Grid 256 256} (mv : Grid 256 256) (w : Grid 1024 1024) (g1 : Line 1024)
    {g2 : Line 1024} {wq : Grid 1024 256} (wo : Grid 256 1024) (g3 : Line 1024) (hk : ∀ k f, IsReal (mk k f)) (hg : ∀ j, IsReal (g2 j))
    (hw : ∀ k f, IsReal (wq k f)) : kernelCross x a b c mk mv w g1 g2 wq wo g3 = plainCross x a b c mk mv w g1 g2 wq wo g3 := by
  unfold kernelCross plainCross
  rw [att_eq (real_query _ hg hw) hk]

variable (m : (x : Loc nD τ sig) → Buf (Elt Ideal) x) (c : Dev nD) (t : Fin cfg0.N)

/-- The reference's rows after the attention to the memory. -/
abbrev refCross : Vec Ideal S32x2048x1024 .f32 := Cert.Reference2Ideal.Read.val_main_v68 (F := Ideal)
  (m (c, Proc.tc.devRef main_arg0)) (m (c, Proc.tc.devRef main_arg1)) (m (c, Proc.tc.devRef main_arg2)) (m (c, Proc.tc.devRef main_arg3))
  (m (c, Proc.tc.devRef main_arg4)) (m (c, Proc.tc.devRef main_arg5)) (m (c, Proc.tc.devRef main_arg7)) (m (c, Proc.tc.devRef main_arg8))
  (m (c, Proc.tc.devRef main_arg9)) (m (c, Proc.tc.devRef main_arg10))

/-- The reference's gate, with the two rows before it. -/
abbrev refGate (b : Fin 32) (e : Fin 2050) : Line 2816 := Ref.gateSeq
  (m (c, Proc.tc.devRef main_arg0)) (m (c, Proc.tc.devRef main_arg1)) (m (c, Proc.tc.devRef main_arg2)) (m (c, Proc.tc.devRef main_arg3))
  (m (c, Proc.tc.devRef main_arg4)) (m (c, Proc.tc.devRef main_arg5)) (m (c, Proc.tc.devRef main_arg6)) (m (c, Proc.tc.devRef main_arg7))
  (m (c, Proc.tc.devRef main_arg8)) (m (c, Proc.tc.devRef main_arg9)) (m (c, Proc.tc.devRef main_arg10)) (m (c, Proc.tc.devRef main_arg11)) b e

/-- What the precondition says of a device's arguments. -/
abbrev FiniteAt : Prop := Finite (m (c, Proc.tc.devRef main_arg4)) (m (c, Proc.tc.devRef main_arg8)) (m (c, Proc.tc.devRef main_arg9))

variable {m c}

theorem crossed_at (h : FiniteAt m c) (r : Fin 1040) (s : Fin 2048) (hs : s.val + 16 = t.val % 2 * 1024 + r.val) :
    line (crossedAt (F := Ideal) m c t) r = Ref.seqRow (refCross m c) (batch t) s := by
  unfold crossedAt refCross
  rw [crossed_line, rows_x m c t r s hs, rows_a m c t r s hs, rows_b m c t r s hs, rows_c m c t r s hs, block_mk, block_mv, grid_wout,
    line_gain1, line_gain2, grid_wxq, grid_wxo, line_gain3, Ref.cross_read]
  exact kernel_plain _ _ _ _ _ _ _ _ _ (fun k f => h.keys _) h.gains (fun k f => h.weights _)

/-- A grid point's rows that the feed-forward part is fed with. -/
abbrev enteredAt (m : (x : Loc nD τ sig) → Buf (Elt Ideal) x) (c : Dev nD) (t : Fin cfg0.N) : FVec Ideal S1040x1024 .bf16 :=
  entered (F := Ideal) (crossedAt m c t) (iblk m c 17 t)

theorem entered_at (h : FiniteAt m c) (r : Fin 1040) (s : Fin 2048) (hs : s.val + 16 = t.val % 2 * 1024 + r.val) :
    line (enteredAt m c t) r
      = normRow (Ref.seqRow (refCross m c) (batch t) s) fun j => m (c, Proc.tc.devRef main_arg8) (ix2 (4 : Fin 7) j) := by
  rw [entered_line, crossed_at t h r s hs, line_gain4]

/-- From its fifteenth row on, a grid point's gate is the reference's. -/
theorem gates_at (h : FiniteAt m c) (r : Fin 1040) (e : Fin 2050) (hr : 14 ≤ r.val) (he : e.val + 14 = t.val % 2 * 1024 + r.val) :
    gates (decide (t.val % 2 = 0)) (enteredAt m c t) (iblk m c 10 t) (iblk m c 18 t) r = refGate m c (batch t) e := by
  unfold gates gateRow
  rw [block_past, grid_wgate]
  by_cases h2 : e.val < 2
  · have ht : t.val % 2 = 0 := by omega
    rw [refGate, Ref.gate_before _ _ _ _ _ _ _ _ _ _ _ _ _ e h2]
    have hc : r.val = 14 ∧ e = ⟨0, by norm_num⟩ ∨ r.val = 15 ∧ e = ⟨1, by norm_num⟩ := by
      rcases Nat.lt_or_ge e.val 1 with h1 | h1
      · exact Or.inl ⟨by omega, Fin.ext (by show e.val = 0; omega)⟩
      · exact Or.inr ⟨by omega, Fin.ext (by show e.val = 1; omega)⟩
    rcases hc with ⟨hr, rfl⟩ | ⟨hr, rfl⟩
    · simp [ht, hr]
    · simp [ht, hr]
  · have hs : (⟨e.val - 2, by omega⟩ : Fin 2048).val + 16 = t.val % 2 * 1024 + r.val := by
      show e.val - 2 + 16 = _
      omega
    have n14 : ¬(t.val % 2 = 0 ∧ r.val = 14) := by omega
    have n15 : ¬(t.val % 2 = 0 ∧ r.val = 15) := by omega
    rw [if_neg (by simpa using n14), if_neg (by simpa using n15), entered_at t h r _ hs, refGate,
      Ref.gate_after _ _ _ _ _ _ _ _ _ _ _ _ _ ⟨e.val - 2, by omega⟩ e (by show e.val = e.val - 2 + 2; omega)]
    rfl

/-- **The layer's output.** -/
theorem out_array (h : FiniteAt m c) : (dats m 0 c).arrAt 24 cfg0.N = Cert.Reference2Ideal.Read.val_main_v129 (F := Ideal)
    (m (c, Proc.tc.devRef main_arg0)) (m (c, Proc.tc.devRef main_arg1)) (m (c, Proc.tc.devRef main_arg2)) (m (c, Proc.tc.devRef main_arg3))
    (m (c, Proc.tc.devRef main_arg4)) (m (c, Proc.tc.devRef main_arg5)) (m (c, Proc.tc.devRef main_arg6)) (m (c, Proc.tc.devRef main_arg7))
    (m (c, Proc.tc.devRef main_arg8)) (m (c, Proc.tc.devRef main_arg9)) (m (c, Proc.tc.devRef main_arg10)) (m (c, Proc.tc.devRef main_arg11))
    (m (c, Proc.tc.devRef main_arg12)) (m (c, Proc.tc.devRef main_arg13)) (m (c, Proc.tc.devRef main_arg14))
    (m (c, Proc.tc.devRef main_arg15)) := by
  refine (dats m 0 c).arrAt_eq_of_covers 24 _ (by decide +kernel) fun t hf y => ?_
  obtain ⟨a, q, j, rfl⟩ : ∃ (a : Fin 1) (q : Fin 1024) (j : Fin 1024), y = ix3 a q j := ⟨y 0, y 1, y 2, eq_ix3 y⟩
  obtain rfl : a = 0 := Subsingleton.elim _ _
  blk_simp [places t]
  rw [after0_24, outs_rows]
  refine Eq.trans ?_ (place_rows t _ 0 q j).symm
  have hs : (⟨t.val % 2 * 1024 + q.val, by omega⟩ : Fin 2048).val + 16 = t.val % 2 * 1024 + (⟨16 + q.val, by omega⟩ : Fin 1040).val := by
    show t.val % 2 * 1024 + q.val + 16 = t.val % 2 * 1024 + (16 + q.val)
    omega
  rw [finished_apply, isFirst_eq, fed_line _ _ _ _ _ _ _ _ _ (by show 2 ≤ 16 + q.val; omega), crossed_at t h _ _ hs, grid_wdown, line_gain5]
  refine Eq.trans ?_ (congrFun (Ref.out_read _ _ _ _ _ _ _ _ _ _ _ _ _ _ _ _ (batch t) _) j).symm
  refine congrArg (fun act => _ + normRow (mulRow act _) _ j) (funext fun f => ?_)
  unfold acts
  rw [gates_at t h _ ⟨t.val % 2 * 1024 + q.val, by omega⟩ (by show 14 ≤ 16 + q.val - 2; omega)
      (by show t.val % 2 * 1024 + q.val + 14 = t.val % 2 * 1024 + (16 + q.val - 2); omega),
    gates_at t h _ ⟨1 + (t.val % 2 * 1024 + q.val), by omega⟩ (by show 14 ≤ 16 + q.val - 1; omega)
      (by show 1 + (t.val % 2 * 1024 + q.val) + 14 = t.val % 2 * 1024 + (16 + q.val - 1); omega),
    gates_at t h _ ⟨2 + (t.val % 2 * 1024 + q.val), by omega⟩ (by show 14 ≤ 16 + q.val; omega)
      (by show 2 + (t.val % 2 * 1024 + q.val) + 14 = t.val % 2 * 1024 + (16 + q.val); omega),
    entered_at t h _ _ hs, grid_cw, line_cb, grid_wup]
  rfl

/-- The gate's last two rows at a grid point. -/
def lastGates (m : (x : Loc nD τ sig) → Buf (Elt Ideal) x) (c : Dev nD) (t : Fin cfg0.N) : Vec Ideal S1x2x2816 .f32 := fun i =>
  gates (decide (t.val % 2 = 0)) (enteredAt m c t) (iblk m c 10 t) (iblk m c 18 t)
    ⟨1038 + (i 1).val, by have : (i 1).val < 2 := (i 1).isLt; omega⟩ (i 2)

theorem state_piece {K o : ℕ} [Part K] (ho : o + K ≤ 2816) (inb : ∀ a, (![0, 0, o] : Fin 3 → ℕ) a + (![1, 2, K] : Fin 3 → ℕ) a ≤ S1x2x2816.size a)
    (x : (⟨3, ![1, 2, K]⟩ : Shape).Idx) :
    state (F := Ideal) (gateOf m K o ho c t) x = lastGates m c t ((Rect.unit (s := S1x2x2816) ![0, 0, o] ![1, 2, K] inb).emb x) := by
  obtain ⟨a, s, f, rfl⟩ : ∃ (a : Fin 1) (s : Fin 2) (f : Fin K), x = ix3 a s f := ⟨x 0, x 1, x 2, eq_ix3 x⟩
  obtain rfl : a = 0 := Subsingleton.elim _ _
  have e : (Rect.unit (s := S1x2x2816) ![0, 0, o] ![1, 2, K] inb).emb (ix3 (0 : Fin 1) s f)
      = ix3 (0 : Fin 1) s (⟨o + f.val, by omega⟩ : Fin 2816) := by
    funext e
    refine Fin.ext ((Rect.idx_unit_val _ _ _ _ e).trans ?_)
    fin_cases e
    · rfl
    · exact Nat.zero_add _
    · rfl
  rw [e, state_apply]
  unfold gateOf
  rw [isFirst_eq, gateAt_apply]
  rfl

theorem state_block : (outsAt0 (F := Ideal) m c t).2 = lastGates m c t := by
  rw [outs_state]
  funext i
  refine View.canon_apply_of_pieces (lastGates m c t) _ ?_ i (View.cover_of_tiledBy _ ![1, 2, 256] (by sl_kernel_rfl) i)
  simp only [List.forall_mem_cons, List.not_mem_nil, false_imp_iff, implies_true, and_true]
  exact ⟨state_piece t _ _, state_piece t _ _, state_piece t _ _, state_piece t _ _, state_piece t _ _, state_piece t _ _⟩

/-- **The convolution's state.** -/
theorem state_array (h : FiniteAt m c) : (dats m 0 c).arrAt 25 cfg0.N = Cert.Reference2Ideal.Read.val_main_v113 (F := Ideal)
    (m (c, Proc.tc.devRef main_arg0)) (m (c, Proc.tc.devRef main_arg1)) (m (c, Proc.tc.devRef main_arg2)) (m (c, Proc.tc.devRef main_arg3))
    (m (c, Proc.tc.devRef main_arg4)) (m (c, Proc.tc.devRef main_arg5)) (m (c, Proc.tc.devRef main_arg6)) (m (c, Proc.tc.devRef main_arg7))
    (m (c, Proc.tc.devRef main_arg8)) (m (c, Proc.tc.devRef main_arg9)) (m (c, Proc.tc.devRef main_arg10))
    (m (c, Proc.tc.devRef main_arg11)) := by
  refine (dats m 0 c).arrAt_eq_of_covers 25 _ (by decide +kernel) fun t hf y => ?_
  have ht := (flush0_25 t).1 hf
  obtain ⟨a, s, j, rfl⟩ : ∃ (a : Fin 1) (s : Fin 2) (j : Fin 2816), y = ix3 a s j := ⟨y 0, y 1, y 2, eq_ix3 y⟩
  obtain rfl : a = 0 := Subsingleton.elim _ _
  blk_simp [places t]
  rw [after0_25, state_block]
  refine Eq.trans ?_ (place_state t _ 0 s j).symm
  refine Eq.trans ?_ (congrFun (Ref.state_read _ _ _ _ _ _ _ _ _ _ _ _ (batch t) s) j).symm
  exact congrFun (gates_at t h ⟨1038 + s.val, by omega⟩ ⟨2048 + s.val, by omega⟩ (by show 14 ≤ 1038 + s.val; omega)
    (by show 2048 + s.val + 14 = t.val % 2 * 1024 + (1038 + s.val); omega)) j

end Cert.Tail
-- ==== Proof.Tail.Finite.lean ====
/- What the tail's precondition says of the arguments. -/
module

public import proofs.«01_k».proof.Pre_finite_keys
public import proofs.«01_k».proof.Proof.Attn.Moderate
public import proofs.«01_k».proof.Proof.Tail.Result

@[expose] public section

noncomputable section

namespace Cert.Tail

open Idealize.ShloMosaic Cert.Pre_finite_keys

instance finiteFacts : Cert.Pre_finite_keys.Facts where
  bcast_S_S32x256x4x64 := by decide
  reducesTo_S32x256x4x64_S_d0_1_2_3 := by decide
  h_S_ := by decide
  slices_S7x1024_S1x1024_2_0 := by decide
  shapeCasts_S1x1024_S1024 := by decide
  bcast_S_S1024 := by decide
  reducesTo_S1024_S_d0 := by decide
  bcast_S_S1024x256 := by decide
  reducesTo_S1024x256_S_d0_1 := by decide

instance : Subsingleton S_.Idx := ⟨fun a b => funext fun i => i.elim0⟩

theorem finite_of (x0 : FVec Ideal S32x2048x1024 .f32) (x1 : FVec Ideal S32x2048x512 .f32) (x2 x3 : FVec Ideal S32x2048x256 .f32)
    (x4 x5 : FVec Ideal S32x256x4x64 .f32) (x6 : FVec Ideal S32x2x2816 .f32) (x7 : FVec Ideal S1024x1024 .f32) (x8 : FVec Ideal S7x1024 .f32)
    (x9 : FVec Ideal S1024x256 .f32) (x10 : FVec Ideal S256x1024 .f32) (x11 x12 : FVec Ideal S1024x2816 .f32) (x13 : FVec Ideal S3x2816 .f32)
    (x14 : FVec Ideal S2816 .f32) (x15 : FVec Ideal S2816x1024 .f32)
    (h : Cert.Pre_finite_keys.fn (F := Ideal) x0 x1 x2 x3 x4 x5 x6 x7 x8 x9 x10 x11 x12 x13 x14 x15 = fun _ => 1#1) : Finite x4 x8 x9 := by
  have h0 := congrFun h fun a => a.elim0
  obtain ⟨h1, h9⟩ := Cert.Attn.of_andi h0
  obtain ⟨h4, h8⟩ := Cert.Attn.of_andi h1
  have e4 := fun i => Host.reduce_andi_all _ _ _ _ _ h4 i
  have e8 := fun i => Host.reduce_andi_all _ _ _ _ _ h8 i
  have e9 := fun i => Host.reduce_andi_all _ _ _ _ _ h9 i
  have r {a b : EReal} (e : BitVec.ofBool (decide (a < b)) = 1#1) : a < b := by
    by_contra hn
    simp [hn] at e
  have gain (j : Fin 1024) : shapeCast S1024 (extractStridedSlice S1x1024 ![2, 0] x8 Facts.slices_S7x1024_S1x1024_2_0)
      Facts.shapeCasts_S1x1024_S1024 (ix1 j) = x8 (ix2 (2 : Fin 7) j) := by pointwise
  refine ⟨fun i => ⟨_, Cert.Attn.real_of_abs (r (e4 i))⟩, fun j => ?_, fun i => ⟨_, Cert.Attn.real_of_abs (r (e9 i))⟩⟩
  rw [← gain j]
  exact ⟨_, Cert.Attn.real_of_abs (r (e8 (ix1 j)))⟩

end Cert.Tail
-- ==== Proof.Mem.Rms.lean ====
/- Rows over the root of their mean square, of any width, and the elements of the vector operations that compute them. -/
module

public import proofs.«01_k».proof.Proof.Tail.Soft

@[expose] public section

noncomputable section

namespace Cert.Mem

open Idealize.ShloMosaic Cert.Tail

/-- The reciprocal root of a row's mean square, the row's width being `d`. -/
def rootOf {n : ℕ} (d : EReal) (y : Line n) : EReal :=
  Ideal.rsqrt (Ideal.div (∑ k, y k * y k) d + Ideal.ofBits .f32 0x358637BD#32)

/-- A row over the root of its mean square, times a gain. -/
def rmsRow {n : ℕ} (d : EReal) (y g : Line n) : Line n := fun j => y j * rootOf d y * g j

/-- A product of two matrices over a zero accumulator, an element. -/
theorem dot_apply {M K N : ℕ} (a : FVec Ideal ⟨2, ![M, K]⟩ .bf16) (w : FVec Ideal ⟨2, ![K, N]⟩ .bf16) (r : Fin M) (j : Fin N) :
    matmul (φ₁ := .bf16) (φ₂ := .bf16) (DotDims.plain M K N) none a w (constant ⟨2, ![M, N]⟩ .f32 0x00000000#32) (ix2 r j)
      = mulRow (fun k => a (ix2 r k)) (fun k j => w (ix2 k j)) j := by
  refine (Ideal.matmul_plain_apply (M := M) (K := K) (N := N) none _ _ _ r j).trans ?_
  refine (congrArg (· + _) ?_).trans ((zero_add _).trans rfl)
  simp [constant]

end Cert.Mem
-- ==== Proof.Mem.Result.lean ====
/- The memory's keys and values are the reference's. -/
module

public import proofs.«01_k».proof.Proof.Gen.Kernel3Ideal.Value
public import proofs.«01_k».proof.Proof.Gen.Reference3Ideal.Read
public import proofs.«01_k».proof.Proof.Mem.Rms
public import Idealize.ShloMosaic.Lib.StableHlo.ReadAt
public import Idealize.ShloMosaic.Lib.Pointwise
public import Idealize.ShloMosaic.Lib.Claim
public import Idealize.ShloMosaic.Lib.Pipeline.ValueKit
public import Idealize.ShloMosaic.Lib.Pipeline.ValueKit.Point

@[expose] public section

noncomputable section

namespace Cert.Mem

open Cert.Kernel3Ideal Cert.Kernel3Ideal.Gen Idealize.ShloMosaic Idealize.SL.Sem Cert.Tail

theorem normed_apply (x : Vec Ideal S1x256x1024 .f32) (g : Vec Ideal S1x1024 .f32) (r : Fin 256) (j : Fin 1024) :
    k0_pay2 (F := Ideal) x g (ix2 r j)
      = rmsRow (Ideal.ofBits .f32 0x44800000#32) (fun k => x (ix3 (0 : Fin 1) r k)) (fun k => g (ix2 (0 : Fin 1) k)) j := by
  pointwise [k0_pay2]
  rfl

/-- A row of the keys, or of the values: the normalised row of the memory times the weights. -/
def memRow (x g : Line 1024) (w : Grid 1024 256) : Line 256 := mulRow (rmsRow (Ideal.ofBits .f32 0x44800000#32) x g) w

theorem key_apply (x : Vec Ideal S1x256x1024 .f32) (g : Vec Ideal S1x1024 .f32) (w : Vec Ideal S1024x256 .bf16) (r f : Fin 256) :
    k0_pay3 (F := Ideal) x g w (ix2 r f)
      = memRow (fun k => x (ix3 (0 : Fin 1) r k)) (fun k => g (ix2 (0 : Fin 1) k)) (fun k j => w (ix2 k j)) f := by
  have e : shapeCast S1024x256 w shapeCasts_S1024x256_S1024x256 = w := funext fun i => shapeCast_apply _ _ _ _ rfl
  unfold k0_pay3
  rw [e]
  refine (dot_apply (M := 256) (K := 1024) (N := 256) (k0_pay2 x g) w r f).trans ?_
  simp only [normed_apply]
  rfl

theorem value_apply (x : Vec Ideal S1x256x1024 .f32) (g : Vec Ideal S1x1024 .f32) (w : Vec Ideal S1024x256 .bf16) (r f : Fin 256) :
    k0_pay4 (F := Ideal) x g w (ix2 r f)
      = memRow (fun k => x (ix3 (0 : Fin 1) r k)) (fun k => g (ix2 (0 : Fin 1) k)) (fun k j => w (ix2 k j)) f := key_apply x g w r f

variable (m : (x : Loc nD τ sig) → Buf (Elt Ideal) x) (c : Dev nD) (t : Fin cfg0.N)

theorem V_gain (j : Fin 1024) : (V (F := Ideal) m c main_v2 : Vec Ideal S1x1024 .f32) (ix2 (0 : Fin 1) j)
    = m (c, Proc.tc.devRef main_arg1) (ix2 (6 : Fin 7) j) := by
  unfold V
  after_reads_at

theorem V_wk (k : Fin 1024) (j : Fin 256) : (V (F := Ideal) m c main_v3 : Vec Ideal S1024x256 .bf16) (ix2 k j)
    = m (c, Proc.tc.devRef main_arg2) (ix2 k j) := by
  unfold V
  after_reads_at

theorem V_wv (k : Fin 1024) (j : Fin 256) : (V (F := Ideal) m c main_v4 : Vec Ideal S1024x256 .bf16) (ix2 k j)
    = m (c, Proc.tc.devRef main_arg3) (ix2 k j) := by
  unfold V
  after_reads_at

/-- A grid point is a batch: its blocks are the batch's, and the weights are taken whole. -/
theorem places : ∀ t : Fin cfg0.N, win0_0.index t = ![t.val, 0, 0] ∧ win0_1.index t = ![0, 0] ∧ win0_2.index t = ![0, 0]
    ∧ win0_3.index t = ![0, 0] ∧ win0_4.index t = ![t.val, 0, 0] ∧ win0_5.index t = ![t.val, 0, 0] ∧ win0_6.index t = ![t.val, 0, 0]
    ∧ win0_7.index t = ![t.val, 0, 0] ∧ t.val < 32 :=
  (by decide +kernel : ∀ t : Fin grid0.N, _)

/-- A grid point's batch. -/
def batch (t : Fin cfg0.N) : Fin 32 := ⟨t.val, (places t).2.2.2.2.2.2.2.2⟩

theorem block_x (r : Fin 256) : (fun k => (iblk m c 0 t : Vec Ideal S1x256x1024 .f32) (ix3 (0 : Fin 1) r k))
    = fun k => m (c, Proc.tc.devRef main_arg0) (ix3 (batch t) r k) := by
  funext k
  refine Eq.trans ?_ (congrFun (V_main_arg0 m c) (ix3 (batch t) r k))
  unfold batch
  blk_ext [iblk, places t]

theorem block_gain : (fun k => (iblk m c 1 t : Vec Ideal S1x1024 .f32) (ix2 (0 : Fin 1) k))
    = fun k => m (c, Proc.tc.devRef main_arg1) (ix2 (6 : Fin 7) k) := by
  funext k
  refine Eq.trans ?_ (V_gain m c k)
  blk_ext [iblk, places t]

theorem block_wk : (fun k j => (iblk m c 2 t : Vec Ideal S1024x256 .bf16) (ix2 k j)) = fun k j => m (c, Proc.tc.devRef main_arg2) (ix2 k j) := by
  funext k j
  refine Eq.trans ?_ (V_wk m c k j)
  blk_ext [iblk, places t]

theorem block_wv : (fun k j => (iblk m c 3 t : Vec Ideal S1024x256 .bf16) (ix2 k j)) = fun k j => m (c, Proc.tc.devRef main_arg3) (ix2 k j) := by
  funext k j
  refine Eq.trans ?_ (V_wv m c k j)
  blk_ext [iblk, places t]

/-- The keys and the values of a batch's memory, as the arguments give them. -/
def keyAt (b : Fin 32) (r : Fin 256) : Line 256 := memRow (fun k => m (c, Proc.tc.devRef main_arg0) (ix3 b r k))
  (fun k => m (c, Proc.tc.devRef main_arg1) (ix2 (6 : Fin 7) k)) (fun k j => m (c, Proc.tc.devRef main_arg2) (ix2 k j))

@[inherit_doc keyAt]
def valueAt (b : Fin 32) (r : Fin 256) : Line 256 := memRow (fun k => m (c, Proc.tc.devRef main_arg0) (ix3 b r k))
  (fun k => m (c, Proc.tc.devRef main_arg1) (ix2 (6 : Fin 7) k)) (fun k j => m (c, Proc.tc.devRef main_arg3) (ix2 k j))

theorem keys_block (r f : Fin 256) : k0_pay3 (F := Ideal) (iblk m c 0 t) (iblk m c 1 t) (iblk m c 2 t) (ix2 r f) = keyAt m c (batch t) r f := by
  rw [key_apply, block_x, block_gain, block_wk]
  rfl

theorem values_block (r f : Fin 256) : k0_pay4 (F := Ideal) (iblk m c 0 t) (iblk m c 1 t) (iblk m c 3 t) (ix2 r f) = valueAt m c (batch t) r f := by
  rw [value_apply, block_x, block_gain, block_wv]
  rfl

section Loads

variable (x : Vec Ideal S1x256x1024 .f32) (g : Vec Ideal S1x1024 .f32) (w v : Vec Ideal S1024x256 .bf16) (r f : Fin 256)

theorem ld_x : View.ld x r0_0 = x := View.ld_unit_lit _ _ (by decide)
theorem ld_g : View.ld g r0_1 = g := View.ld_unit_lit _ _ (by decide)
theorem ld_w : View.ld w r0_2 = w := View.ld_unit_lit _ _ (by decide)

theorem out4 : out0_4 (F := Ideal) x g w v (ix3 (0 : Fin 1) r f) = k0_pay3 (F := Ideal) x g w (ix2 r f) := by
  unfold out0_4
  rw [ld_x, ld_g, ld_w, Cert.Kernel3Ideal.Value.canon4_eq]
  unfold Cert.Kernel3Ideal.Value.E4
  generalize k0_pay3 (F := Ideal) x g w = z
  exact congrArg z (by funext a; fin_cases a <;> rfl)

theorem out5 : out0_5 (F := Ideal) x g w v (ix3 (0 : Fin 1) r f) = k0_pay3 (F := Ideal) x g w (ix2 r f) := by
  unfold out0_5
  rw [ld_x, ld_g, ld_w, Cert.Kernel3Ideal.Value.canon5_eq]
  unfold Cert.Kernel3Ideal.Value.E5
  generalize k0_pay3 (F := Ideal) x g w = z
  exact congrArg z (by funext a; fin_cases a <;> rfl)

theorem out6 : out0_6 (F := Ideal) x g w v (ix3 (0 : Fin 1) r f) = k0_pay4 (F := Ideal) x g v (ix2 r f) := by
  unfold out0_6
  rw [ld_x, ld_g, ld_w, Cert.Kernel3Ideal.Value.canon6_eq]
  unfold Cert.Kernel3Ideal.Value.E6
  generalize k0_pay4 (F := Ideal) x g v = z
  exact congrArg z (by funext a; fin_cases a <;> rfl)

theorem out7 : out0_7 (F := Ideal) x g w v (ix3 (0 : Fin 1) r f) = k0_pay4 (F := Ideal) x g v (ix2 r f) := by
  unfold out0_7
  rw [ld_x, ld_g, ld_w, Cert.Kernel3Ideal.Value.canon7_eq]
  unfold Cert.Kernel3Ideal.Value.E7
  generalize k0_pay4 (F := Ideal) x g v = z
  exact congrArg z (by funext a; fin_cases a <;> rfl)

end Loads

theorem ref_keys (b : Fin 32) (r f : Fin 256) : Cert.Reference3Ideal.Read.val_main_v15 (F := Ideal) (m (c, Proc.tc.devRef main_arg0))
    (m (c, Proc.tc.devRef main_arg1)) (m (c, Proc.tc.devRef main_arg2)) (ix3 b r f) = keyAt m c b r f := by
  pointwise [Cert.Reference3Ideal.Read.val_main_v15, Cert.Reference3Ideal.Read.val_main_v14, Cert.Reference3Ideal.Read.val_main_v13,
    Cert.Reference3Ideal.Read.val_main_v12, Cert.Reference3Ideal.Read.val_main_v11, Cert.Reference3Ideal.Read.val_main_v10,
    Cert.Reference3Ideal.Read.val_main_v9, Cert.Reference3Ideal.Read.val_main_v8, Cert.Reference3Ideal.Read.val_main_v7,
    Cert.Reference3Ideal.Read.val_main_v6, Cert.Reference3Ideal.Read.val_main_v5, Cert.Reference3Ideal.Read.val_main_v4,
    Cert.Reference3Ideal.Read.val_main_v3, Cert.Reference3Ideal.Read.val_main_v2, Cert.Reference3Ideal.Read.val_main_v1,
    Cert.Reference3Ideal.Read.val_main_v0, Cert.Reference3Ideal.Read.val_main_cst, Cert.Reference3Ideal.Read.val_main_cst_0,
    Cert.Reference3Ideal.Read.val_main_cst_1]
  rfl

theorem ref_values (b : Fin 32) (r f : Fin 256) : Cert.Reference3Ideal.Read.val_main_v16 (F := Ideal) (m (c, Proc.tc.devRef main_arg0))
    (m (c, Proc.tc.devRef main_arg1)) (m (c, Proc.tc.devRef main_arg3)) (ix3 b r f) = valueAt m c b r f := by
  pointwise [Cert.Reference3Ideal.Read.val_main_v16, Cert.Reference3Ideal.Read.val_main_v14, Cert.Reference3Ideal.Read.val_main_v13,
    Cert.Reference3Ideal.Read.val_main_v12, Cert.Reference3Ideal.Read.val_main_v11, Cert.Reference3Ideal.Read.val_main_v10,
    Cert.Reference3Ideal.Read.val_main_v9, Cert.Reference3Ideal.Read.val_main_v8, Cert.Reference3Ideal.Read.val_main_v7,
    Cert.Reference3Ideal.Read.val_main_v6, Cert.Reference3Ideal.Read.val_main_v5, Cert.Reference3Ideal.Read.val_main_v4,
    Cert.Reference3Ideal.Read.val_main_v3, Cert.Reference3Ideal.Read.val_main_v2, Cert.Reference3Ideal.Read.val_main_v1,
    Cert.Reference3Ideal.Read.val_main_v0, Cert.Reference3Ideal.Read.val_main_cst, Cert.Reference3Ideal.Read.val_main_cst_0,
    Cert.Reference3Ideal.Read.val_main_cst_1]
  rfl

/-- **The memory's keys.** -/
theorem keys_array : (dats m 0 c).arrAt 4 cfg0.N = Cert.Reference3Ideal.Read.val_main_v15 (F := Ideal) (m (c, Proc.tc.devRef main_arg0))
    (m (c, Proc.tc.devRef main_arg1)) (m (c, Proc.tc.devRef main_arg2)) := by
  refine (dats m 0 c).arrAt_eq_of_covers 4 _ (by decide +kernel) fun t hf y => ?_
  obtain ⟨a, r, f, rfl⟩ : ∃ (a : Fin 1) (r f : Fin 256), y = ix3 a r f := ⟨y 0, y 1, y 2, eq_ix3 y⟩
  obtain rfl : a = 0 := Subsingleton.elim _ _
  blk_simp [places t]
  rw [after0_4, out4, keys_block, ← ref_keys]
  refine congrArg (Cert.Reference3Ideal.Read.val_main_v15 (F := Ideal) _ _ _) ?_
  unfold batch
  blk_ext [places t]

/-- **The memory's keys as the attention takes them.** -/
theorem keys16_array : (dats m 0 c).arrAt 5 cfg0.N = Cert.Reference3Ideal.Read.val_main_v17 (F := Ideal) (m (c, Proc.tc.devRef main_arg0))
    (m (c, Proc.tc.devRef main_arg1)) (m (c, Proc.tc.devRef main_arg2)) := by
  refine (dats m 0 c).arrAt_eq_of_covers 5 _ (by decide +kernel) fun t hf y => ?_
  obtain ⟨a, r, f, rfl⟩ : ∃ (a : Fin 1) (r f : Fin 256), y = ix3 a r f := ⟨y 0, y 1, y 2, eq_ix3 y⟩
  obtain rfl : a = 0 := Subsingleton.elim _ _
  blk_simp [places t]
  rw [after0_5, out5, keys_block, ← ref_keys]
  refine congrArg (Cert.Reference3Ideal.Read.val_main_v15 (F := Ideal) _ _ _) ?_
  unfold batch
  blk_ext [places t]

/-- **The memory's values.** -/
theorem values_array : (dats m 0 c).arrAt 6 cfg0.N = Cert.Reference3Ideal.Read.val_main_v16 (F := Ideal) (m (c, Proc.tc.devRef main_arg0))
    (m (c, Proc.tc.devRef main_arg1)) (m (c, Proc.tc.devRef main_arg3)) := by
  refine (dats m 0 c).arrAt_eq_of_covers 6 _ (by decide +kernel) fun t hf y => ?_
  obtain ⟨a, r, f, rfl⟩ : ∃ (a : Fin 1) (r f : Fin 256), y = ix3 a r f := ⟨y 0, y 1, y 2, eq_ix3 y⟩
  obtain rfl : a = 0 := Subsingleton.elim _ _
  blk_simp [places t]
  rw [after0_6, out6, values_block, ← ref_values]
  refine congrArg (Cert.Reference3Ideal.Read.val_main_v16 (F := Ideal) _ _ _) ?_
  unfold batch
  blk_ext [places t]

/-- **The memory's values as the attention takes them.** -/
theorem values16_array : (dats m 0 c).arrAt 7 cfg0.N = Cert.Reference3Ideal.Read.val_main_v18 (F := Ideal) (m (c, Proc.tc.devRef main_arg0))
    (m (c, Proc.tc.devRef main_arg1)) (m (c, Proc.tc.devRef main_arg3)) := by
  refine (dats m 0 c).arrAt_eq_of_covers 7 _ (by decide +kernel) fun t hf y => ?_
  obtain ⟨a, r, f, rfl⟩ : ∃ (a : Fin 1) (r f : Fin 256), y = ix3 a r f := ⟨y 0, y 1, y 2, eq_ix3 y⟩
  obtain rfl : a = 0 := Subsingleton.elim _ _
  blk_simp [places t]
  rw [after0_7, out7, values_block, ← ref_values]
  refine congrArg (Cert.Reference3Ideal.Read.val_main_v16 (F := Ideal) _ _ _) ?_
  unfold batch
  blk_ext [places t]

end Cert.Mem
-- ==== Proof.Proj.Ref.lean ====
/- The reference's projections, element by element. -/
module

public import proofs.«01_k».proof.Proof.Gen.Reference4Ideal.Read
public import proofs.«01_k».proof.Proof.Mem.Rms
public import Idealize.ShloMosaic.Lib.Pointwise

@[expose] public section

noncomputable section

namespace Cert.Proj

open Idealize.ShloMosaic Cert.Tail Cert.Mem Cert.Reference4Ideal Cert.Reference4Ideal.Read

/-- A row of a projection: the normalised row of the input times the weights. -/
def projRow {n : ℕ} (x g : Line 1024) (w : Grid 1024 n) : Line n := mulRow (rmsRow (Ideal.ofBits .f32 0x44800000#32) x g) w

variable (x0 : Vec Ideal S32x2048x1024 .f32) (x1 : Vec Ideal S1024x2720 .f32) (x2 : Vec Ideal S7x1024 .f32) (x5 : Vec Ideal S128 .f32)
  (b : Fin 32) (s : Fin 2048)

/-- The projections of a position, all of them or `n` columns of them from the column `o` on. -/
def partAt (n o : ℕ) (h : o + n ≤ 2720) : Line n := projRow (fun k => x0 (ix3 b s k)) (fun k => x2 (ix2 (0 : Fin 7) k))
  fun k j => x1 (ix2 k (⟨o + j.val, by omega⟩ : Fin 2720))

theorem z_read (j : Fin 2720) : val_main_v15 (F := Ideal) x0 x1 x2 (ix3 b s j)
    = projRow (fun k => x0 (ix3 b s k)) (fun k => x2 (ix2 (0 : Fin 7) k)) (fun k j => x1 (ix2 k j)) j := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem two_read : Ideal.ofBits .f32 0x40000000#32 = ((2 : ℝ) : EReal) := by
  simp [Ideal.ofBits, Ideal.ieee, -EReal.coe_mul]; norm_num

/-- The reference's scale of the queries: the reciprocal of the root of the width times the logarithm of two. -/
theorem scale_value (d : ℝ) (hd : 0 < d) : Ideal.div ((1 : ℝ) : EReal) (Ideal.sqrt ((d : ℝ) : EReal) * Ideal.log ((2 : ℝ) : EReal))
    = (((Real.sqrt d)⁻¹ * (Real.log 2)⁻¹ : ℝ) : EReal) := by
  have hs : 0 < Real.sqrt d := Real.sqrt_pos.2 hd
  have hl : 0 < Real.log 2 := Real.log_pos (by norm_num)
  have e1 : Ideal.sqrt ((d : ℝ) : EReal) = ((Real.sqrt d : ℝ) : EReal) := if_neg (not_lt.2 hd.le)
  have e2 : Ideal.log ((2 : ℝ) : EReal) = ((Real.log 2 : ℝ) : EReal) := by
    show (if (2 : ℝ) ≤ 0 then (⊥ : EReal) else ((Real.log 2 : ℝ) : EReal)) = _
    exact if_neg (by norm_num)
  rw [e1, e2, ← EReal.coe_mul, Ideal.div_coe (mul_pos hs hl).ne', ← EReal.coe_mul, one_mul, one_div, mul_inv]

theorem scale_a_read : val_main_v130 (F := Ideal) ix0 = (((Real.sqrt 32)⁻¹ * (Real.log 2)⁻¹ : ℝ) : EReal) := by
  have e : val_main_v130 (F := Ideal) ix0 = Ideal.div (Ideal.ofBits .f32 0x3F800000#32)
      (Ideal.sqrt (Ideal.ofBits .f32 0x42000000#32) * Ideal.log (Ideal.ofBits .f32 0x40000000#32)) := by
    pointwise [val_main_v130, val_main_v129, val_main_v128, val_main_v25, val_main_cst_15, val_main_cst_14, val_main_cst_2]
  rw [e, two_read, show Ideal.ofBits .f32 0x42000000#32 = ((32 : ℝ) : EReal) by simp [Ideal.ofBits, Ideal.ieee, -EReal.coe_mul]; norm_num,
    show Ideal.ofBits .f32 0x3F800000#32 = ((1 : ℝ) : EReal) by simp [Ideal.ofBits, Ideal.ieee, -EReal.coe_mul]; norm_num]
  exact scale_value 32 (by norm_num)

theorem scale_b_read : val_main_v141 (F := Ideal) ix0 = (((8 : ℝ)⁻¹ * (Real.log 2)⁻¹ : ℝ) : EReal) := by
  have e : val_main_v141 (F := Ideal) ix0 = Ideal.div (Ideal.ofBits .f32 0x3F800000#32)
      (Ideal.sqrt (Ideal.ofBits .f32 0x42800000#32) * Ideal.log (Ideal.ofBits .f32 0x40000000#32)) := by
    pointwise [val_main_v141, val_main_v140, val_main_v139, val_main_v25, val_main_cst_17, val_main_cst_16, val_main_cst_2]
  rw [e, two_read, show Ideal.ofBits .f32 0x42800000#32 = ((64 : ℝ) : EReal) by simp [Ideal.ofBits, Ideal.ieee, -EReal.coe_mul]; norm_num,
    show Ideal.ofBits .f32 0x3F800000#32 = ((1 : ℝ) : EReal) by simp [Ideal.ofBits, Ideal.ieee, -EReal.coe_mul]; norm_num]
  refine (scale_value 64 (by norm_num)).trans ?_
  rw [show Real.sqrt 64 = 8 by rw [show (64 : ℝ) = 8 ^ 2 by norm_num]; exact Real.sqrt_sq (by norm_num)]

theorem ref_aq (f : Fin 512) : val_main_v133 (F := Ideal) x0 x1 x2 (ix3 b s f)
    = partAt x0 x1 x2 b s 512 0 (by norm_num) f * (((Real.sqrt 32)⁻¹ * (Real.log 2)⁻¹ : ℝ) : EReal) := by
  rw [← scale_a_read]
  pointwise [val_main_v133, val_main_v132, val_main_v131, val_main_v16]
  rw [z_read]
  unfold partAt
  simp only [Nat.zero_add]
  rfl

theorem ref_ak (f : Fin 512) : val_main_v134 (F := Ideal) x0 x1 x2 (ix3 b f s) = partAt x0 x1 x2 b s 512 512 (by norm_num) f := by
  pointwise [val_main_v134, val_main_v17]
  rw [z_read]
  rfl

theorem ref_ak16 (f : Fin 512) : val_main_v135 (F := Ideal) x0 x1 x2 (ix3 b s f) = partAt x0 x1 x2 b s 512 512 (by norm_num) f := by
  pointwise [val_main_v135, val_main_v17]
  rw [z_read]
  rfl

theorem ref_av (f : Fin 512) : val_main_v136 (F := Ideal) x0 x1 x2 (ix3 b f s) = partAt x0 x1 x2 b s 512 1024 (by norm_num) f := by
  pointwise [val_main_v136, val_main_v18]
  rw [z_read]
  rfl

theorem ref_av16 (f : Fin 512) : val_main_v138 (F := Ideal) x0 x1 x2 (ix3 b f s) = partAt x0 x1 x2 b s 512 1024 (by norm_num) f := by
  pointwise [val_main_v138, val_main_v137, val_main_v18]
  rw [z_read]
  rfl

theorem ref_bq (f : Fin 256) : val_main_v144 (F := Ideal) x0 x1 x2 (ix3 b s f)
    = partAt x0 x1 x2 b s 256 1536 (by norm_num) f * (((8 : ℝ)⁻¹ * (Real.log 2)⁻¹ : ℝ) : EReal) := by
  rw [← scale_b_read]
  pointwise [val_main_v144, val_main_v143, val_main_v142, val_main_v19]
  rw [z_read]
  rfl

theorem ref_bk (f : Fin 256) : val_main_v145 (F := Ideal) x0 x1 x2 (ix3 b f s) = partAt x0 x1 x2 b s 256 1792 (by norm_num) f := by
  pointwise [val_main_v145, val_main_v20]
  rw [z_read]
  rfl

theorem ref_bk16 (f : Fin 256) : val_main_v146 (F := Ideal) x0 x1 x2 (ix3 b s f) = partAt x0 x1 x2 b s 256 1792 (by norm_num) f := by
  pointwise [val_main_v146, val_main_v20]
  rw [z_read]
  rfl

theorem ref_bv (f : Fin 256) : val_main_v147 (F := Ideal) x0 x1 x2 (ix3 b f s) = partAt x0 x1 x2 b s 256 2048 (by norm_num) f := by
  pointwise [val_main_v147, val_main_v21]
  rw [z_read]
  rfl

theorem ref_bv16 (f : Fin 256) : val_main_v149 (F := Ideal) x0 x1 x2 (ix3 b f s) = partAt x0 x1 x2 b s 256 2048 (by norm_num) f := by
  pointwise [val_main_v149, val_main_v148, val_main_v21]
  rw [z_read]
  rfl

theorem ref_latent (j : Fin 128) : val_main_v23 (F := Ideal) x0 x1 x2 (ix3 b s j) = partAt x0 x1 x2 b s 128 2560 (by norm_num) j := by
  pointwise [val_main_v23]
  rw [z_read]
  rfl

theorem ref_lat (j : Fin 128) : val_main_v88 (F := Ideal) x0 x1 x2 x5 (ix3 b s j)
    = rmsRow (Ideal.ofBits .f32 0x43000000#32) (partAt x0 x1 x2 b s 128 2560 (by norm_num)) (fun j => x5 (ix1 j)) j := by
  pointwise [val_main_v88, val_main_v87, val_main_v86, val_main_v85, val_main_v84, val_main_v83, val_main_v82, val_main_v81, val_main_v80, val_main_v79, val_main_v78, val_main_v77, val_main_v76, val_main_cst_9, val_main_cst_10, val_main_cst_11]
  simp only [ref_latent]
  rfl

end Cert.Proj
-- ==== Proof.Proj.Rotary.lean ====
/- The rotary turn: how the call computes it, with a second product of weights whose columns are turned. -/
module

public import proofs.«01_k».proof.Proof.Proj.Ref
public import proofs.«01_k».proof.Proof.Tail.Soft

@[expose] public section

noncomputable section

namespace Cert.Proj

open Idealize.ShloMosaic Cert.Tail Cert.Mem Cert.Attn Cert.Reference4Ideal Cert.Reference4Ideal.Read

/-- The rotary table's cosine at a position and frequency, and its sine. -/
def cosAt (s : Fin 2048) (i : Fin 16) : EReal := val_main_v57 (F := Ideal) (ix2 s i)

@[inherit_doc cosAt]
def sinAt (s : Fin 2048) (i : Fin 16) : EReal := val_main_v59 (F := Ideal) (ix2 s i)

/-- A line of 32 turned by a quarter: its second half with the sign changed, then its first half. -/
def turned (w : Line 32) : Line 32 := fun j => if h : j.val < 16 then -w ⟨16 + j.val, by omega⟩ else w ⟨j.val - 16, by omega⟩

/-- A line of 32 turned by the angles of a position. -/
def rope (s : Fin 2048) (y : Line 32) : Line 32 := fun j =>
  y j * cosAt s ⟨j.val % 16, Nat.mod_lt _ (by norm_num)⟩ + turned y j * sinAt s ⟨j.val % 16, Nat.mod_lt _ (by norm_num)⟩

/-- The lanes of a head that hold its rotary part. -/
abbrev Turns (l : ℕ) : Prop := 64 ≤ l ∧ l - 64 < 32

/-- Turning the columns of real weights turns the product with a real row. -/
theorem mul_turned {K : ℕ} (h : Line K) (w : Fin K → Line 32) (hh : ∀ k, IsReal (h k)) (hw : ∀ k i, IsReal (w k i)) (j : Fin 32) :
    ∑ k, h k * turned (w k) j = turned (fun i => ∑ k, h k * w k i) j := by
  unfold turned
  by_cases hj : j.val < 16
  · simp only [dif_pos hj]
    choose a ha using hh
    choose b hb using fun k => hw k ⟨16 + j.val, by omega⟩
    simp only [ha, hb, ← EReal.coe_neg, ← EReal.coe_mul, ← coe_sum, mul_neg, Finset.sum_neg_distrib]
  · simp only [dif_neg hj]

/-- A product with one column of a selection is the selected entry. -/
theorem pick {K : ℕ} (y : Line K) (P : Prop) [Decidable P] (n : ℕ) (hn : P → n < K) :
    (∑ k : Fin K, y k * (if P then if k.val = n then (1 : EReal) else 0 else 0)) = if h : P then y ⟨n, hn h⟩ else 0 := by
  by_cases h : P
  · simp only [if_pos h, dif_pos h]
    rw [Finset.sum_eq_single (⟨n, hn h⟩ : Fin K)]
    · rw [if_pos rfl, mul_one]
    · intro k _ hk
      rw [if_neg fun e => hk (Fin.ext e), mul_zero]
    · exact fun hk => absurd (Finset.mem_univ _) hk
  · simp only [if_neg h, dif_neg h, mul_zero, Finset.sum_const_zero]

/-- A row over the root of its mean square plus the small constant is real, for a positive width. -/
theorem real_root {n : ℕ} (d : EReal) (D : ℝ) (hd : d = (D : EReal)) (hD : 0 < D) (y : Line n) (j : Fin n) :
    IsReal (y j * Ideal.rsqrt (Ideal.div (∑ k, y k * y k) d + Ideal.ofBits .f32 0x358637BD#32)) := by
  by_cases h : ∀ k, IsReal (y k)
  · choose r hr using h
    refine IsReal.mul ⟨r j, hr j⟩ ?_
    have hs : ∑ k, y k * y k = ((∑ k, r k * r k : ℝ) : EReal) := by
      rw [coe_sum]
      exact Finset.sum_congr rfl fun k _ => by rw [hr, EReal.coe_mul]
    have hn : 0 ≤ ∑ k, r k * r k := Finset.sum_nonneg fun k _ => mul_self_nonneg _
    have hp : 0 < (∑ k, r k * r k) / D + eps := add_pos_of_nonneg_of_pos (div_nonneg hn hD.le) eps_pos
    refine ⟨(Real.sqrt ((∑ k, r k * r k) / D + eps))⁻¹, ?_⟩
    rw [hs, hd, ofBits_eps, div_real _ hD.ne', ← EReal.coe_add, Ideal.rsqrt_coe, if_neg hp.not_gt, if_neg hp.ne']
  · push Not at h
    obtain ⟨k, hk⟩ := h
    have hkk : y k * y k = ⊤ := by
      induction hy : y k using EReal.rec with
      | bot => exact EReal.bot_mul_bot
      | top => exact EReal.top_mul_top
      | coe r => exact absurd ⟨r, hy⟩ hk
    have hnn : ∀ k, 0 ≤ y k * y k := fun k => by
      induction y k using EReal.rec with
      | bot => rw [EReal.bot_mul_bot]; exact le_top
      | top => rw [EReal.top_mul_top]; exact le_top
      | coe r => rw [← EReal.coe_mul]; exact EReal.coe_nonneg.2 (mul_self_nonneg r)
    have hs : ∑ k, y k * y k = ⊤ := top_le_iff.1 (hkk ▸ Finset.single_le_sum (fun k _ => hnn k) (Finset.mem_univ k))
    refine ⟨0, ?_⟩
    rw [hs, hd, ofBits_eps, Ideal.div_coe hD.ne', EReal.top_mul_coe_of_pos (by positivity), EReal.top_add_coe,
      Ideal.rsqrt_top, mul_zero, EReal.coe_zero]

theorem real_rms {n : ℕ} (d : EReal) (D : ℝ) (hd : d = (D : EReal)) (hD : 0 < D) (y g : Line n) (hg : ∀ j, IsReal (g j)) (j : Fin n) :
    IsReal (rmsRow d y g j) := IsReal.mul (real_root d D hd hD y j) (hg j)

/-- What the precondition says: the gains before the rotary weights, and those weights, are real. -/
structure Real (x1 : Vec Ideal S1024x2720 .f32) (x2 : Vec Ideal S7x1024 .f32) (x3 : Vec Ideal S256 .f32) (x4 : Vec Ideal S256x384 .f32) : Prop where
  gain : ∀ k, IsReal (x2 (ix2 (0 : Fin 7) k))
  key : ∀ k (j : Fin 32), IsReal (x1 (ix2 k (⟨2688 + j.val, by omega⟩ : Fin 2720)))
  query_gain : ∀ k, IsReal (x3 (ix1 k))
  query : ∀ k (h : Fin 4) (i : Fin 32), IsReal (x4 (ix2 k (⟨h.val * 96 + (64 + i.val), by omega⟩ : Fin 384)))

variable (x0 : Vec Ideal S32x2048x1024 .f32) (x1 : Vec Ideal S1024x2720 .f32) (x2 : Vec Ideal S7x1024 .f32) (x3 : Vec Ideal S256 .f32)
  (x4 : Vec Ideal S256x384 .f32) (x5 : Vec Ideal S128 .f32) (x6 : Vec Ideal S128x512 .f32) (b : Fin 32) (s : Fin 2048)

/-- The rotary key of a position, its normalised latent, and its queries before the turn. -/
def keyAt : Line 32 := rope s (partAt x0 x1 x2 b s 32 2688 (by norm_num))

@[inherit_doc keyAt]
def latAt : Line 128 := rmsRow (Ideal.ofBits .f32 0x43000000#32) (partAt x0 x1 x2 b s 128 2560 (by norm_num)) fun j => x5 (ix1 j)

@[inherit_doc keyAt]
def queryRow : Line 256 := rmsRow (Ideal.ofBits .f32 0x43800000#32) (partAt x0 x1 x2 b s 256 2304 (by norm_num)) fun j => x3 (ix1 j)

@[inherit_doc keyAt]
def queryAt : Line 384 := mulRow (queryRow x0 x1 x2 x3 b s) fun k j => x4 (ix2 k j)

theorem rope_low (y : Line 32) (j : Fin 16) : rope s y (⟨j.val, by omega⟩ : Fin 32)
    = y ⟨j.val, by omega⟩ * cosAt s j - y ⟨16 + j.val, by omega⟩ * sinAt s j := by
  have e : (⟨j.val % 16, Nat.mod_lt _ (by norm_num)⟩ : Fin 16) = j := Fin.ext (Nat.mod_eq_of_lt j.isLt)
  unfold rope turned
  dsimp only
  rw [e, dif_pos j.isLt, EReal.neg_mul, sub_eq_add_neg]

theorem rope_high (y : Line 32) (j : Fin 16) : rope s y (⟨16 + j.val, by omega⟩ : Fin 32)
    = y ⟨16 + j.val, by omega⟩ * cosAt s j + y ⟨j.val, by omega⟩ * sinAt s j := by
  have e : (⟨(16 + j.val) % 16, Nat.mod_lt _ (by norm_num)⟩ : Fin 16) = j := Fin.ext (by dsimp only; omega)
  have e' : (⟨16 + j.val - 16, by omega⟩ : Fin 32) = ⟨j.val, by omega⟩ := Fin.ext (by dsimp only; omega)
  unfold rope turned
  dsimp only
  rw [e, dif_neg (by omega), e']

end Cert.Proj
-- ==== Proof.Proj.Host.lean ====
/- The arrays the projection's call receives, as elements of the arguments. -/
module

public import proofs.«01_k».proof.Proof.Proj.Frame
public import proofs.«01_k».proof.Proof.Proj.Rotary
public import Idealize.ShloMosaic.Lib.StableHlo.ReadAt
public import Idealize.ShloMosaic.Lib.Pointwise
public import Idealize.ShloMosaic.Lib.Claim

@[expose] public section

noncomputable section

namespace Cert.Proj

open Cert.Kernel4Ideal Cert.Kernel4Ideal.Gen Idealize.ShloMosaic Idealize.SL.Sem Cert.Tail

/-- An entry of the identity, as the call's host code makes it: whether two numbers are equal, converted. -/
theorem eye_apply (a b : ℕ) (ha : a < 4294967296) (hb : b < 4294967296) :
    (FloatOps.uitofp FTy.f32 (IntOp.cmpi CmpIPredicate.eq (IntOp.addi (BitVec.ofNat 32 a) 0#32) (BitVec.ofNat 32 b)) : Ideal .f32)
      = if a = b then (1 : EReal) else 0 := by
  have e : IntOp.addi (BitVec.ofNat 32 a) 0#32 = BitVec.ofNat 32 a := BitVec.add_zero _
  rw [e]
  by_cases h : a = b
  · subst h
    rw [if_pos rfl]
    simp [IntOp.cmpi, FloatOps.uitofp]
  · have hn : BitVec.ofNat 32 a ≠ BitVec.ofNat 32 b := fun q => h (by
      have := congrArg BitVec.toNat q
      rwa [BitVec.toNat_ofNat, BitVec.toNat_ofNat, Nat.mod_eq_of_lt ha, Nat.mod_eq_of_lt hb] at this)
    rw [if_neg h]
    simp [IntOp.cmpi, FloatOps.uitofp, hn]

theorem zero_int : (FloatOps.sitofp FTy.f32 0#32 : Ideal .f32) = (0 : EReal) := by
  simp [FloatOps.sitofp]

variable (m : (x : Loc nD τ sig) → Buf (Elt Ideal) x) (c : Dev nD)

/-- An entry of the input projection's weights, of the queries' expansion and of the keys' and values' expansion. -/
def inAt (k : Fin 1024) (j : Fin 2720) : EReal := m (c, Proc.tc.devRef main_arg1) (ix2 k j)

@[inherit_doc inAt]
def uqAt (k : Fin 256) (j : Fin 384) : EReal := m (c, Proc.tc.devRef main_arg4) (ix2 k j)

@[inherit_doc inAt]
def ukvAt (k : Fin 128) (j : Fin 512) : EReal := m (c, Proc.tc.devRef main_arg6) (ix2 k j)

theorem inAt_congr {k : Fin 1024} {i j : ℕ} {hi : i < 2720} {hj : j < 2720} (e : i = j) : inAt m c k ⟨i, hi⟩ = inAt m c k ⟨j, hj⟩ := by
  subst e; rfl

theorem uqAt_congr {k : Fin 256} {i j : ℕ} {hi : i < 384} {hj : j < 384} (e : i = j) : uqAt m c k ⟨i, hi⟩ = uqAt m c k ⟨j, hj⟩ := by
  subst e; rfl

theorem ukvAt_congr {k : Fin 128} {i j : ℕ} {hi : i < 512} {hj : j < 512} (e : i = j) : ukvAt m c k ⟨i, hi⟩ = ukvAt m c k ⟨j, hj⟩ := by
  subst e; rfl

theorem V_gain (j : Fin 1024) : (V (F := Ideal) m c main_v58 : Vec Ideal S1x1024 .f32) (ix2 (0 : Fin 1) j)
    = m (c, Proc.tc.devRef main_arg2) (ix2 (0 : Fin 7) j) := by
  unfold V
  after_reads_at

theorem V_gkv (j : Fin 128) : (V (F := Ideal) m c main_v55 : Vec Ideal S1x128 .f32) (ix2 (0 : Fin 1) j)
    = m (c, Proc.tc.devRef main_arg5) (ix1 j) := by
  unfold V
  after_reads_at

theorem V_wa (k : Fin 1024) (j : Fin 1536) : (V (F := Ideal) m c main_v45 : Vec Ideal S1024x1536 .bf16) (ix2 k j)
    = m (c, Proc.tc.devRef main_arg1) (ix2 k (⟨j.val, by omega⟩ : Fin 2720)) := by
  unfold V
  after_reads_at

theorem V_wb (k : Fin 1024) (j : Fin 768) : (V (F := Ideal) m c main_v47 : Vec Ideal S1024x768 .bf16) (ix2 k j)
    = m (c, Proc.tc.devRef main_arg1) (ix2 k (⟨1536 + j.val, by omega⟩ : Fin 2720)) := by
  unfold V
  after_reads_at

/-- The call's down projection holds the reference's columns for the keys' latent from its column 256 on. -/
theorem V_wc (k : Fin 1024) (j : Fin 128) : (V (F := Ideal) m c main_v48 : Vec Ideal S1024x512 .bf16)
    (ix2 k (⟨256 + j.val, by omega⟩ : Fin 512)) = m (c, Proc.tc.devRef main_arg1) (ix2 k (⟨2560 + j.val, by omega⟩ : Fin 2720)) := by
  unfold V
  after_reads_at
  after_reads_at

theorem V_gq (j : Fin 256) : (V (F := Ideal) m c main_v54 : Vec Ideal S1x256 .f32) (ix2 (0 : Fin 1) j)
    = m (c, Proc.tc.devRef main_arg3) (ix1 j) := by
  unfold V
  after_reads_at

theorem V_cos (s : Fin 2048) (l : Fin 128) : (V (F := Ideal) m c main_v75 : Vec Ideal S2048x128 .f32) (ix2 s l)
    = cosAt s ⟨l.val % 16, Nat.mod_lt _ (by norm_num)⟩ := by
  unfold V
  after_reads_at
  unfold cosAt
  pointwise [Cert.Reference4Ideal.Read.val_main_v57]
  rfl

theorem V_sin (s : Fin 2048) (l : Fin 128) : (V (F := Ideal) m c main_v79 : Vec Ideal S2048x128 .f32) (ix2 s l)
    = sinAt s ⟨l.val % 16, Nat.mod_lt _ (by norm_num)⟩ := by
  unfold V
  after_reads_at
  unfold sinAt
  pointwise [Cert.Reference4Ideal.Read.val_main_v59]
  rfl

theorem V_wkn (k : Fin 128) (f : Fin 512) : (V (F := Ideal) m c main_v52 : Vec Ideal S128x512 .bf16) (ix2 k f)
    = if f.val % 128 < 64 then ukvAt m c k ⟨f.val, f.isLt⟩ else 0 := by
  unfold V
  after_reads_at
  by_cases h : f.val % 128 < 64
  · have h' : f.val / 128 < 4 ∧ f.val % 128 < 64 := ⟨by omega, h⟩
    exact (dif_pos h').trans ((ukvAt_congr m c (by omega)).trans (if_pos h).symm)
  · have h' : ¬(f.val / 128 < 4 ∧ f.val % 128 < 64) := fun q => h q.2
    exact (dif_neg h').trans (zero_int.trans (if_neg h).symm)

theorem V_wcv (k : Fin 128) (j : Fin 256) : (V (F := Ideal) m c main_v53 : Vec Ideal S128x256 .bf16) (ix2 k j)
    = ukvAt m c k ⟨j.val / 64 * 128 + (64 + j.val % 64), by omega⟩ := by
  unfold V ukvAt
  after_reads_at

theorem V_ek (k : Fin 32) (f : Fin 512) : (V (F := Ideal) m c main_v51 : Vec Ideal S32x512 .bf16) (ix2 k f)
    = if Turns (f.val % 128) then if k.val = f.val % 128 - 64 then (1 : EReal) else 0 else 0 := by
  unfold V
  after_reads_at
  rw [zero_int]
  by_cases h : Turns (f.val % 128)
  · rw [if_pos h, dif_pos h, eye_apply _ _ (by omega) (by omega)]
  · rw [if_neg h, dif_neg h]

theorem V_eq (k : Fin 128) (f : Fin 512) : (V (F := Ideal) m c main_v50 : Vec Ideal S128x512 .bf16) (ix2 k f)
    = if Turns (f.val % 128) then if k.val = f.val / 128 * 32 + (f.val % 128 - 64) then (1 : EReal) else 0 else 0 := by
  unfold V
  after_reads_at
  rw [zero_int, eye_apply _ _ (by omega) (by omega)]
  by_cases h : Turns (f.val % 128)
  · rw [if_pos h, dif_pos ⟨by omega, h⟩, eye_apply _ _ (by omega) (by omega)]
    by_cases hk : k.val = f.val / 128 * 32 + (f.val % 128 - 64)
    · rw [if_pos hk, if_pos (by omega), if_pos (by omega)]
      exact one_mul _
    · rw [if_neg hk]
      by_cases hd : k.val / 32 = f.val / 128
      · rw [if_pos hd, if_neg (by omega)]
        exact mul_zero _
      · rw [if_neg hd]
        exact zero_mul _
  · rw [if_neg h, dif_neg fun q => h q.2]
    exact mul_zero _

/-- The call's down projection holds the reference's columns from its column 2304 on, then those of the rotary key turned. -/
theorem V_wc_same (k : Fin 1024) (j : Fin 416) : (V (F := Ideal) m c main_v48 : Vec Ideal S1024x512 .bf16)
    (ix2 k (⟨j.val, by omega⟩ : Fin 512)) = m (c, Proc.tc.devRef main_arg1) (ix2 k (⟨2304 + j.val, by omega⟩ : Fin 2720)) := by
  unfold V
  after_reads_at
  by_cases h1 : j.val < 256
  · rw [dif_pos h1]
    after_reads_at
  · rw [dif_neg h1]
    by_cases h2 : j.val - 256 < 128
    · rw [dif_pos h2]
      after_reads_at
      exact congrArg (fun f => m (c, Proc.tc.devRef main_arg1) (ix2 k f)) (Fin.ext (by dsimp only; omega))
    · rw [dif_neg h2, dif_pos (show j.val - 256 - 128 < 32 by omega)]
      after_reads_at
      exact congrArg (fun f => m (c, Proc.tc.devRef main_arg1) (ix2 k f)) (Fin.ext (by dsimp only; omega))

set_option maxHeartbeats 1000000 in
theorem V_wc_turned (k : Fin 1024) (j : Fin 32) : (V (F := Ideal) m c main_v48 : Vec Ideal S1024x512 .bf16)
    (ix2 k (⟨416 + j.val, by omega⟩ : Fin 512)) = turned (fun i => inAt m c k ⟨2688 + i.val, by omega⟩) j := by
  unfold V
  after_reads_at
  rw [dif_neg (show ¬416 + j.val < 256 by omega), dif_neg (show ¬416 + j.val - 256 < 128 by omega),
    dif_neg (show ¬416 + j.val - 256 - 128 < 32 by omega), dif_pos (show 416 + j.val - 256 - 128 - 32 < 32 by omega)]
  after_reads_at
  unfold turned
  by_cases h : j.val < 16
  · rw [dif_pos h, dif_pos (show 416 + j.val - 256 - 128 - 32 < 16 by omega)]
    show @Neg.neg EReal _ (inAt m c k ⟨2688 + (16 + (416 + j.val - 256 - 128 - 32)), by omega⟩)
      = @Neg.neg EReal _ (inAt m c k ⟨2688 + (16 + j.val), by omega⟩)
    exact congrArg (@Neg.neg EReal _) (inAt_congr m c (by omega))
  · rw [dif_neg h, dif_neg (show ¬416 + j.val - 256 - 128 - 32 < 16 by omega)]
    show inAt m c k ⟨2688 + (416 + j.val - 256 - 128 - 32 - 16), by omega⟩ = inAt m c k ⟨2688 + (j.val - 16), by omega⟩
    exact inAt_congr m c (by omega)

theorem V_wuq_plain (k : Fin 256) (f : Fin 512) : (V (F := Ideal) m c main_v49 : Vec Ideal S256x768 .bf16)
    (ix2 k (⟨f.val, by omega⟩ : Fin 768))
      = if f.val % 128 < 64 then uqAt m c k ⟨f.val / 128 * 96 + f.val % 128 % 96, by omega⟩ else 0 := by
  unfold V
  after_reads_at
  after_reads_at
  by_cases h : f.val % 128 < 64
  · have h' : f.val / 128 < 4 ∧ f.val % 128 < 64 := ⟨by omega, h⟩
    exact (dif_pos h').trans ((uqAt_congr m c (by omega)).trans (if_pos h).symm)
  · have h' : ¬(f.val / 128 < 4 ∧ f.val % 128 < 64) := fun q => h q.2
    exact (dif_neg h').trans (zero_int.trans (if_neg h).symm)

theorem V_wuq_same (k : Fin 256) (l : Fin 128) : (V (F := Ideal) m c main_v49 : Vec Ideal S256x768 .bf16)
    (ix2 k (⟨512 + l.val, by omega⟩ : Fin 768)) = uqAt m c k ⟨l.val / 32 * 96 + (64 + l.val % 32), by omega⟩ := by
  unfold V uqAt
  after_reads_at
  after_reads_at

set_option maxHeartbeats 1000000 in
theorem V_wuq_turned (k : Fin 256) (l : Fin 128) : (V (F := Ideal) m c main_v49 : Vec Ideal S256x768 .bf16)
    (ix2 k (⟨640 + l.val, by omega⟩ : Fin 768))
      = turned (fun i => uqAt m c k ⟨l.val / 32 * 96 + (64 + i.val), by omega⟩) ⟨l.val % 32, Nat.mod_lt _ (by norm_num)⟩ := by
  unfold V
  after_reads_at
  rw [dif_neg (show ¬640 + l.val < 512 by omega), dif_neg (show ¬640 + l.val - 512 < 128 by omega)]
  after_reads_at
  unfold turned
  by_cases h : l.val % 32 < 16
  · rw [dif_pos h, dif_pos (show (640 + l.val - 512 - 128) % 32 < 16 by omega)]
    after_reads_at
    exact congrArg (@Neg.neg EReal _) (uqAt_congr m c (by omega))
  · rw [dif_neg h, dif_neg (show ¬(640 + l.val - 512 - 128) % 32 < 16 by omega)]
    after_reads_at
    exact uqAt_congr m c (by omega)

end Cert.Proj
-- ==== Proof.Proj.Row.lean ====
/- The elements of what the projection's body computes of a block of rows. -/
module

public import proofs.«01_k».proof.Proof.Proj.Frame
public import proofs.«01_k».proof.Proof.Proj.Ref
public import proofs.«01_k».proof.Proof.Tail.TileAt
public import Idealize.ShloMosaic.Lib.Pointwise
public import Idealize.ShloMosaic.Lib.Pipeline.ValueKit
public import Idealize.ShloMosaic.Lib.Pipeline.ValueKit.Point

@[expose] public section

noncomputable section

namespace Cert.Proj

open Cert.Kernel4Ideal Cert.Kernel4Ideal.Gen Idealize.ShloMosaic Cert.Tail Cert.Mem

theorem named_a : (Named.named κ "a_scale" 0x3E8293EE#32 : Ideal .f32) = (((Real.sqrt 32)⁻¹ * (Real.log 2)⁻¹ : ℝ) : EReal) :=
  IdealRules.named_const.ideal_named_scalar _ _ _ _ rfl

theorem named_b : (Named.named κ "b_scale" 0x3E38AA3B#32 : Ideal .f32) = (((8 : ℝ)⁻¹ * (Real.log 2)⁻¹ : ℝ) : EReal) :=
  IdealRules.named_const.ideal_named_scalar _ _ _ _ rfl

section Rows

variable (x : Vec Ideal S1x512x1024 .f32) (g : Vec Ideal S1x1024 .f32)

/-- A block's row of the input, and the gain. -/
def rowOf (r : Fin 512) : Line 1024 := fun k => x (ix3 (0 : Fin 1) r k)

@[inherit_doc rowOf]
def gainOf : Line 1024 := fun k => g (ix2 (0 : Fin 1) k)

theorem normed_apply (r : Fin 512) (j : Fin 1024) :
    k0_pay1 (F := Ideal) x g (ix2 r j) = rmsRow (Ideal.ofBits .f32 0x44800000#32) (rowOf x r) (gainOf g) j := by
  pointwise [k0_pay1]
  rfl

/-- The product of the normalised rows and a matrix of weights, an element. -/
theorem prod_apply {N : ℕ} (w : FVec Ideal ⟨2, ![1024, N]⟩ .bf16) (r : Fin 512) (f : Fin N) :
    matmul (φ₁ := .bf16) (φ₂ := .bf16) (DotDims.plain 512 1024 N) none (k0_pay1 (F := Ideal) x g) w
        (constant ⟨2, ![512, N]⟩ .f32 0x00000000#32) (ix2 r f)
      = projRow (rowOf x r) (gainOf g) (fun k j => w (ix2 k j)) f := by
  refine (dot_apply (M := 512) (K := 1024) (N := N) (k0_pay1 x g) w r f).trans ?_
  simp only [normed_apply]
  rfl

theorem cast_wide (w : Vec Ideal S1024x512 .bf16) : shapeCast S1024x512 w shapeCasts_S1024x512_S1024x512 = w :=
  funext fun i => shapeCast_apply _ _ _ _ rfl

theorem cast_narrow (w : Vec Ideal S1024x256 .bf16) : shapeCast S1024x256 w shapeCasts_S1024x256_S1024x256 = w :=
  funext fun i => shapeCast_apply _ _ _ _ rfl

theorem wide_apply (w : Vec Ideal S1024x512 .bf16) (r f : Fin 512) :
    k0_pay3 (F := Ideal) x g w (ix2 r f) = projRow (rowOf x r) (gainOf g) (fun k j => w (ix2 k j)) f := by
  unfold k0_pay3
  rw [cast_wide]
  exact prod_apply x g w r f

theorem narrow_apply (w : Vec Ideal S1024x256 .bf16) (r : Fin 512) (f : Fin 256) :
    k0_pay11 (F := Ideal) (k0_pay1 x g) w (ix2 r f) = projRow (rowOf x r) (gainOf g) (fun k j => w (ix2 k j)) f := by
  unfold k0_pay11
  rw [cast_narrow]
  exact prod_apply x g w r f

/-! The payloads are these products, scaled, turned, or with a leading axis of one. -/

theorem pay2_apply (w : Vec Ideal S1024x512 .bf16) (r f : Fin 512) : k0_pay2 (F := Ideal) x g w (ix3 (0 : Fin 1) r f)
    = projRow (rowOf x r) (gainOf g) (fun k j => w (ix2 k j)) f * (((Real.sqrt 32)⁻¹ * (Real.log 2)⁻¹ : ℝ) : EReal) := by
  rw [← wide_apply, ← named_a]
  pointwise [k0_pay2, k0_pay3]

theorem pay4_apply (w : Vec Ideal S1024x512 .bf16) (r f : Fin 512) : k0_pay4 (F := Ideal) x g w (ix3 (0 : Fin 1) f r)
    = projRow (rowOf x r) (gainOf g) (fun k j => w (ix2 k j)) f := by
  rw [← wide_apply]
  pointwise [k0_pay4]

theorem pay6_apply (w : Vec Ideal S1024x512 .bf16) (r f : Fin 512) : k0_pay6 (F := Ideal) (k0_pay5 x g w) (ix3 (0 : Fin 1) r f)
    = projRow (rowOf x r) (gainOf g) (fun k j => w (ix2 k j)) f := by
  rw [← wide_apply]
  pointwise [k0_pay6, k0_pay5]

theorem pay7_apply (w : Vec Ideal S1024x512 .bf16) (r f : Fin 512) : k0_pay7 (F := Ideal) (k0_pay1 x g) w (ix2 f r)
    = projRow (rowOf x r) (gainOf g) (fun k j => w (ix2 k j)) f := by
  rw [← wide_apply]
  pointwise [k0_pay7, k0_pay3]

theorem pay8_apply (w : Vec Ideal S1024x512 .bf16) (r f : Fin 512) : k0_pay8 (F := Ideal) (k0_pay1 x g) w (ix3 (0 : Fin 1) f r)
    = projRow (rowOf x r) (gainOf g) (fun k j => w (ix2 k j)) f := by
  rw [← pay7_apply]
  pointwise [k0_pay8]

theorem pay9_apply (w : Vec Ideal S1024x512 .bf16) (r f : Fin 512) : k0_pay9 (F := Ideal) (k0_pay1 x g) w (ix3 (0 : Fin 1) f r)
    = projRow (rowOf x r) (gainOf g) (fun k j => w (ix2 k j)) f := by
  rw [← pay7_apply]
  pointwise [k0_pay9]

theorem pay10_apply (w : Vec Ideal S1024x256 .bf16) (r : Fin 512) (f : Fin 256) :
    k0_pay10 (F := Ideal) (k0_pay1 x g) w (ix3 (0 : Fin 1) r f)
      = projRow (rowOf x r) (gainOf g) (fun k j => w (ix2 k j)) f * (((8 : ℝ)⁻¹ * (Real.log 2)⁻¹ : ℝ) : EReal) := by
  rw [← narrow_apply, ← named_b]
  pointwise [k0_pay10, k0_pay11]

theorem pay12_apply (w : Vec Ideal S1024x256 .bf16) (r : Fin 512) (f : Fin 256) :
    k0_pay12 (F := Ideal) (k0_pay1 x g) w (ix3 (0 : Fin 1) f r) = projRow (rowOf x r) (gainOf g) (fun k j => w (ix2 k j)) f := by
  rw [← narrow_apply]
  pointwise [k0_pay12]

theorem pay14_apply (w : Vec Ideal S1024x256 .bf16) (r : Fin 512) (f : Fin 256) :
    k0_pay14 (F := Ideal) (k0_pay13 (k0_pay1 x g) w) (ix3 (0 : Fin 1) r f)
      = projRow (rowOf x r) (gainOf g) (fun k j => w (ix2 k j)) f := by
  rw [← narrow_apply]
  pointwise [k0_pay14, k0_pay13]

theorem pay15_apply (w : Vec Ideal S1024x256 .bf16) (r : Fin 512) (f : Fin 256) :
    k0_pay15 (F := Ideal) (k0_pay1 x g) w (ix2 f r) = projRow (rowOf x r) (gainOf g) (fun k j => w (ix2 k j)) f := by
  rw [← narrow_apply]
  pointwise [k0_pay15, k0_pay11]

theorem pay16_apply (w : Vec Ideal S1024x256 .bf16) (r : Fin 512) (f : Fin 256) :
    k0_pay16 (F := Ideal) (k0_pay1 x g) w (ix3 (0 : Fin 1) f r) = projRow (rowOf x r) (gainOf g) (fun k j => w (ix2 k j)) f := by
  rw [← pay15_apply]
  pointwise [k0_pay16]

theorem pay17_apply (w : Vec Ideal S1024x256 .bf16) (r : Fin 512) (f : Fin 256) :
    k0_pay17 (F := Ideal) (k0_pay1 x g) w (ix3 (0 : Fin 1) f r) = projRow (rowOf x r) (gainOf g) (fun k j => w (ix2 k j)) f := by
  rw [← pay15_apply]
  pointwise [k0_pay17]

/-- The keys' latent: 128 of the projected columns over the root of their mean square, times a gain. -/
theorem lat_apply (w : Vec Ideal S1024x512 .bf16) (e : Vec Ideal S1x128 .f32) (r : Fin 512) (j : Fin 128) :
    k0_pay26 (F := Ideal) (k0_pay25 (k0_pay18 (k0_pay1 x g) w) e) (ix3 (0 : Fin 1) r j)
      = rmsRow (Ideal.ofBits .f32 0x43000000#32)
          (fun j => projRow (rowOf x r) (gainOf g) (fun k (j : Fin 128) => w (ix2 k (⟨256 + j.val, by omega⟩ : Fin 512))) j)
          (fun j => e (ix2 (0 : Fin 1) j)) j := by
  have h : ∀ f : Fin 512, k0_pay18 (F := Ideal) (k0_pay1 x g) w (ix2 r f)
      = projRow (rowOf x r) (gainOf g) (fun k j => w (ix2 k j)) f := fun f => by
    rw [← wide_apply]
    rfl
  generalize k0_pay18 (F := Ideal) (k0_pay1 x g) w = z at h ⊢
  have e : k0_pay26 (F := Ideal) (k0_pay25 z e) (ix3 (0 : Fin 1) r j)
      = rmsRow (Ideal.ofBits .f32 0x43000000#32) (fun j : Fin 128 => z (ix2 r (⟨256 + j.val, by omega⟩ : Fin 512)))
          (fun j => e (ix2 (0 : Fin 1) j)) j := by
    pointwise [k0_pay26, k0_pay25]
    rfl
  rw [e]
  simp only [h]
  rfl

end Rows

end Cert.Proj
-- ==== Proof.Proj.Result.lean ====
/- The projections that the call returns are the reference's. -/
module

public import proofs.«01_k».proof.Proof.Proj.Host
public import proofs.«01_k».proof.Proof.Proj.Row
public import proofs.«01_k».proof.Proof.Proj.Value

@[expose] public section

noncomputable section

namespace Cert.Proj

open Cert.Kernel4Ideal Cert.Kernel4Ideal.Gen Idealize.ShloMosaic Idealize.SL.Sem Cert.Tail Cert.Mem

/-- Where a grid point's blocks lie: a batch's run of 512 positions, as rows or as columns, and the weights whole. -/
theorem places : ∀ t : Fin cfg0.N, (win0_0.index t = ![t.val / 4, t.val % 4, 0] ∧ win0_1.index t = ![0, 0] ∧ win0_4.index t = ![0, 0]
    ∧ win0_5.index t = ![0, 0] ∧ win0_6.index t = ![0, 0] ∧ win0_10.index t = ![0, 0])
    ∧ (win0_14.index t = ![t.val / 4, t.val % 4, 0] ∧ win0_15.index t = ![t.val / 4, 0, t.val % 4]
    ∧ win0_16.index t = ![t.val / 4, t.val % 4, 0] ∧ win0_17.index t = ![t.val / 4, 0, t.val % 4]
    ∧ win0_18.index t = ![t.val / 4, 0, t.val % 4] ∧ win0_19.index t = ![t.val / 4, t.val % 4, 0]
    ∧ win0_20.index t = ![t.val / 4, 0, t.val % 4] ∧ win0_21.index t = ![t.val / 4, t.val % 4, 0]
    ∧ win0_22.index t = ![t.val / 4, 0, t.val % 4] ∧ win0_23.index t = ![t.val / 4, 0, t.val % 4]
    ∧ win0_25.index t = ![t.val / 4, t.val % 4, 0]) ∧ t.val < 128 :=
  (by decide +kernel : ∀ t : Fin grid0.N, _)

theorem lt_points (t : Fin cfg0.N) : t.val < 128 := (places t).2.2

/-- A grid point's batch, and the position of one of its rows. -/
def batch (t : Fin cfg0.N) : Fin 32 := ⟨t.val / 4, by have := lt_points t; omega⟩

@[inherit_doc batch]
def pos (t : Fin cfg0.N) (r : Fin 512) : Fin 2048 := ⟨t.val % 4 * 512 + r.val, by omega⟩

section Loads

variable (x : Vec Ideal S1x512x1024 .f32) (g : Vec Ideal S1x1024 .f32) (wa : Vec Ideal S1024x1536 .bf16) (wb : Vec Ideal S1024x768 .bf16)
  (wc : Vec Ideal S1024x512 .bf16) (e : Vec Ideal S1x128 .f32)

theorem ld_x : View.ld x r0_0 = x := View.ld_unit_lit _ _ (by decide)
theorem ld_g : View.ld g r0_1 = g := View.ld_unit_lit _ _ (by decide)
theorem ld_wc : View.ld wc r0_11 = wc := View.ld_unit_lit _ _ (by decide)
theorem ld_e : View.ld e r0_16 = e := View.ld_unit_lit _ _ (by decide)

theorem ld_a (k : Fin 1024) (j : Fin 512) : View.ld wa r0_2 (ix2 k j) = wa (ix2 k (⟨0 + j.val, by omega⟩ : Fin 1536)) :=
  ld_cols (F := Ideal) (η := .bf16) wa (by norm_num) _ k j

theorem ld_a1 (k : Fin 1024) (j : Fin 512) : View.ld wa r0_4 (ix2 k j) = wa (ix2 k (⟨512 + j.val, by omega⟩ : Fin 1536)) :=
  ld_cols (F := Ideal) (η := .bf16) wa (by norm_num) _ k j

theorem ld_a2 (k : Fin 1024) (j : Fin 512) : View.ld wa r0_5 (ix2 k j) = wa (ix2 k (⟨1024 + j.val, by omega⟩ : Fin 1536)) :=
  ld_cols (F := Ideal) (η := .bf16) wa (by norm_num) _ k j

theorem ld_b (k : Fin 1024) (j : Fin 256) : View.ld wb r0_6 (ix2 k j) = wb (ix2 k (⟨0 + j.val, by omega⟩ : Fin 768)) :=
  ld_cols (F := Ideal) (η := .bf16) wb (by norm_num) _ k j

theorem ld_b1 (k : Fin 1024) (j : Fin 256) : View.ld wb r0_8 (ix2 k j) = wb (ix2 k (⟨256 + j.val, by omega⟩ : Fin 768)) :=
  ld_cols (F := Ideal) (η := .bf16) wb (by norm_num) _ k j

theorem ld_b2 (k : Fin 1024) (j : Fin 256) : View.ld wb r0_10 (ix2 k j) = wb (ix2 k (⟨512 + j.val, by omega⟩ : Fin 768)) :=
  ld_cols (F := Ideal) (η := .bf16) wb (by norm_num) _ k j

end Loads

variable (m : (x : Loc nD τ sig) → Buf (Elt Ideal) x) (c : Dev nD) (t : Fin cfg0.N)

theorem block_x (r : Fin 512) : rowOf (iblk m c 0 t : Vec Ideal S1x512x1024 .f32) r
    = fun k => m (c, Proc.tc.devRef main_arg0) (ix3 (batch t) (pos t r) k) := by
  funext k
  refine Eq.trans ?_ (congrFun (V_main_arg0 m c) (ix3 (batch t) (pos t r) k))
  unfold batch pos rowOf
  blk_ext [iblk, places t]

theorem block_gain : gainOf (iblk m c 1 t : Vec Ideal S1x1024 .f32) = fun k => m (c, Proc.tc.devRef main_arg2) (ix2 (0 : Fin 7) k) := by
  funext k
  refine Eq.trans ?_ (V_gain m c k)
  unfold gainOf
  blk_ext [iblk, places t]

theorem block_wa (k : Fin 1024) (j : Fin 1536) : (iblk m c 4 t : Vec Ideal S1024x1536 .bf16) (ix2 k j)
    = m (c, Proc.tc.devRef main_arg1) (ix2 k (⟨j.val, by omega⟩ : Fin 2720)) := by
  refine Eq.trans ?_ (V_wa m c k j)
  blk_ext [iblk, places t]

theorem block_wb (k : Fin 1024) (j : Fin 768) : (iblk m c 5 t : Vec Ideal S1024x768 .bf16) (ix2 k j)
    = m (c, Proc.tc.devRef main_arg1) (ix2 k (⟨1536 + j.val, by omega⟩ : Fin 2720)) := by
  refine Eq.trans ?_ (V_wb m c k j)
  blk_ext [iblk, places t]

theorem block_wc (k : Fin 1024) (j : Fin 128) : (iblk m c 6 t : Vec Ideal S1024x512 .bf16) (ix2 k (⟨256 + j.val, by omega⟩ : Fin 512))
    = m (c, Proc.tc.devRef main_arg1) (ix2 k (⟨2560 + j.val, by omega⟩ : Fin 2720)) := by
  refine Eq.trans ?_ (V_wc m c k j)
  blk_ext [iblk, places t]

theorem block_gkv (j : Fin 128) : (iblk m c 10 t : Vec Ideal S1x128 .f32) (ix2 (0 : Fin 1) j) = m (c, Proc.tc.devRef main_arg5) (ix1 j) := by
  refine Eq.trans ?_ (V_gkv m c j)
  blk_ext [iblk, places t]

/-- A row of a block times weights that are columns of the reference's is that part of the reference's projections. -/
theorem part_of {n o : ℕ} (h : o + n ≤ 2720) (r : Fin 512) (w : Grid 1024 n)
    (hw : ∀ k j, w k j = m (c, Proc.tc.devRef main_arg1) (ix2 k (⟨o + j.val, by omega⟩ : Fin 2720))) (f : Fin n) :
    projRow (rowOf (iblk m c 0 t : Vec Ideal S1x512x1024 .f32) r) (gainOf (iblk m c 1 t : Vec Ideal S1x1024 .f32)) w f
      = partAt (m (c, Proc.tc.devRef main_arg0)) (m (c, Proc.tc.devRef main_arg1)) (m (c, Proc.tc.devRef main_arg2)) (batch t) (pos t r) n o h f := by
  obtain rfl : w = fun k j => m (c, Proc.tc.devRef main_arg1) (ix2 k (⟨o + j.val, by omega⟩ : Fin 2720)) :=
    funext fun k => funext fun j => hw k j
  rw [block_x, block_gain]
  rfl

/-- A column of the query, key and value weights of either mixer is the reference's. -/
theorem col_a (o : ℕ) (ho : o + 512 ≤ 1536) (k : Fin 1024) (j : Fin 512) :
    (iblk m c 4 t : Vec Ideal S1024x1536 .bf16) (ix2 k (⟨o + j.val, by omega⟩ : Fin 1536))
      = m (c, Proc.tc.devRef main_arg1) (ix2 k (⟨o + j.val, by omega⟩ : Fin 2720)) := block_wa m c t k _

@[inherit_doc col_a]
theorem col_b (o : ℕ) (ho : o + 256 ≤ 768) (k : Fin 1024) (j : Fin 256) :
    (iblk m c 5 t : Vec Ideal S1024x768 .bf16) (ix2 k (⟨o + j.val, by omega⟩ : Fin 768))
      = m (c, Proc.tc.devRef main_arg1) (ix2 k (⟨1536 + o + j.val, by omega⟩ : Fin 2720)) :=
  (block_wb m c t k _).trans (congrArg (fun f => m (c, Proc.tc.devRef main_arg1) (ix2 k f)) (Fin.ext (Nat.add_assoc 1536 o j.val).symm))

/-- **The differential attention's queries.** -/
theorem aq_array : (dats m 0 c).arrAt 14 cfg0.N = Cert.Reference4Ideal.Read.val_main_v133 (F := Ideal) (m (c, Proc.tc.devRef main_arg0))
    (m (c, Proc.tc.devRef main_arg1)) (m (c, Proc.tc.devRef main_arg2)) := by
  refine (dats m 0 c).arrAt_eq_of_covers 14 _ (by decide +kernel) fun t hf y => ?_
  obtain ⟨a, r, f, rfl⟩ : ∃ (a : Fin 1) (r : Fin 512) (f : Fin 512), y = ix3 a r f := ⟨y 0, y 1, y 2, eq_ix3 y⟩
  obtain rfl : a = 0 := Subsingleton.elim _ _
  blk_simp [places t]
  rw [after0_14]
  unfold out0_14
  rw [View.canon_cons_unit_lit _ _ _ (by decide), ld_x, ld_g, pay2_apply,
    part_of m c t (o := 0) (by norm_num) r _ (fun k j => (ld_a _ k j).trans (col_a m c t 0 (by norm_num) k j)), ← ref_aq]
  refine congrArg (Cert.Reference4Ideal.Read.val_main_v133 (F := Ideal) _ _ _) ?_
  unfold batch pos
  blk_ext [places t]

/-- **The differential attention's keys, feature by feature.** -/
theorem ak_array : (dats m 0 c).arrAt 15 cfg0.N = Cert.Reference4Ideal.Read.val_main_v134 (F := Ideal) (m (c, Proc.tc.devRef main_arg0))
    (m (c, Proc.tc.devRef main_arg1)) (m (c, Proc.tc.devRef main_arg2)) := by
  refine (dats m 0 c).arrAt_eq_of_covers 15 _ (by decide +kernel) fun t hf y => ?_
  obtain ⟨a, f, r, rfl⟩ : ∃ (a : Fin 1) (f : Fin 512) (r : Fin 512), y = ix3 a f r := ⟨y 0, y 1, y 2, eq_ix3 y⟩
  obtain rfl : a = 0 := Subsingleton.elim _ _
  blk_simp [places t]
  rw [after0_15]
  unfold out0_15
  rw [View.canon_cons_unit_lit _ _ _ (by decide), ld_x, ld_g, pay4_apply,
    part_of m c t (o := 512) (by norm_num) r _ (fun k j => (ld_a1 _ k j).trans (col_a m c t 512 (by norm_num) k j)), ← ref_ak]
  refine congrArg (Cert.Reference4Ideal.Read.val_main_v134 (F := Ideal) _ _ _) ?_
  unfold batch pos
  blk_ext [places t]

/-- **Its keys as the attention takes them.** -/
theorem ak16_array : (dats m 0 c).arrAt 16 cfg0.N = Cert.Reference4Ideal.Read.val_main_v135 (F := Ideal) (m (c, Proc.tc.devRef main_arg0))
    (m (c, Proc.tc.devRef main_arg1)) (m (c, Proc.tc.devRef main_arg2)) := by
  refine (dats m 0 c).arrAt_eq_of_covers 16 _ (by decide +kernel) fun t hf y => ?_
  obtain ⟨a, r, f, rfl⟩ : ∃ (a : Fin 1) (r : Fin 512) (f : Fin 512), y = ix3 a r f := ⟨y 0, y 1, y 2, eq_ix3 y⟩
  obtain rfl : a = 0 := Subsingleton.elim _ _
  blk_simp [places t]
  rw [after0_16]
  unfold out0_16
  rw [View.canon_cons_unit_lit _ _ _ (by decide), ld_x, ld_g, pay6_apply,
    part_of m c t (o := 512) (by norm_num) r _ (fun k j => (ld_a1 _ k j).trans (col_a m c t 512 (by norm_num) k j)), ← ref_ak16]
  refine congrArg (Cert.Reference4Ideal.Read.val_main_v135 (F := Ideal) _ _ _) ?_
  unfold batch pos
  blk_ext [places t]

/-- **Its values, feature by feature.** -/
theorem av_array : (dats m 0 c).arrAt 17 cfg0.N = Cert.Reference4Ideal.Read.val_main_v136 (F := Ideal) (m (c, Proc.tc.devRef main_arg0))
    (m (c, Proc.tc.devRef main_arg1)) (m (c, Proc.tc.devRef main_arg2)) := by
  refine (dats m 0 c).arrAt_eq_of_covers 17 _ (by decide +kernel) fun t hf y => ?_
  obtain ⟨a, f, r, rfl⟩ : ∃ (a : Fin 1) (f : Fin 512) (r : Fin 512), y = ix3 a f r := ⟨y 0, y 1, y 2, eq_ix3 y⟩
  obtain rfl : a = 0 := Subsingleton.elim _ _
  blk_simp [places t]
  rw [after0_17]
  unfold out0_17 k0_pay32
  rw [View.canon_cons_unit_lit _ _ _ (by decide), ld_x, ld_g, pay8_apply,
    part_of m c t (o := 1024) (by norm_num) r _ (fun k j => (ld_a2 _ k j).trans (col_a m c t 1024 (by norm_num) k j)), ← ref_av]
  refine congrArg (Cert.Reference4Ideal.Read.val_main_v136 (F := Ideal) _ _ _) ?_
  unfold batch pos
  blk_ext [places t]

/-- **Its values as the attention takes them.** -/
theorem av16_array : (dats m 0 c).arrAt 18 cfg0.N = Cert.Reference4Ideal.Read.val_main_v138 (F := Ideal) (m (c, Proc.tc.devRef main_arg0))
    (m (c, Proc.tc.devRef main_arg1)) (m (c, Proc.tc.devRef main_arg2)) := by
  refine (dats m 0 c).arrAt_eq_of_covers 18 _ (by decide +kernel) fun t hf y => ?_
  obtain ⟨a, f, r, rfl⟩ : ∃ (a : Fin 1) (f : Fin 512) (r : Fin 512), y = ix3 a f r := ⟨y 0, y 1, y 2, eq_ix3 y⟩
  obtain rfl : a = 0 := Subsingleton.elim _ _
  blk_simp [places t]
  rw [after0_18]
  unfold out0_18 k0_pay32
  rw [View.canon_cons_unit_lit _ _ _ (by decide), ld_x, ld_g, pay9_apply,
    part_of m c t (o := 1024) (by norm_num) r _ (fun k j => (ld_a2 _ k j).trans (col_a m c t 1024 (by norm_num) k j)), ← ref_av16]
  refine congrArg (Cert.Reference4Ideal.Read.val_main_v138 (F := Ideal) _ _ _) ?_
  unfold batch pos
  blk_ext [places t]

/-- **The windowed attention's queries.** -/
theorem bq_array : (dats m 0 c).arrAt 19 cfg0.N = Cert.Reference4Ideal.Read.val_main_v144 (F := Ideal) (m (c, Proc.tc.devRef main_arg0))
    (m (c, Proc.tc.devRef main_arg1)) (m (c, Proc.tc.devRef main_arg2)) := by
  refine (dats m 0 c).arrAt_eq_of_covers 19 _ (by decide +kernel) fun t hf y => ?_
  obtain ⟨a, r, f, rfl⟩ : ∃ (a : Fin 1) (r : Fin 512) (f : Fin 256), y = ix3 a r f := ⟨y 0, y 1, y 2, eq_ix3 y⟩
  obtain rfl : a = 0 := Subsingleton.elim _ _
  blk_simp [places t]
  rw [after0_19]
  unfold out0_19 k0_pay32
  rw [View.canon_cons_unit_lit _ _ _ (by decide), ld_x, ld_g, pay10_apply,
    part_of m c t (o := 1536) (by norm_num) r _ (fun k j => (ld_b _ k j).trans (col_b m c t 0 (by norm_num) k j)), ← ref_bq]
  refine congrArg (Cert.Reference4Ideal.Read.val_main_v144 (F := Ideal) _ _ _) ?_
  unfold batch pos
  blk_ext [places t]

/-- **Its keys, feature by feature.** -/
theorem bk_array : (dats m 0 c).arrAt 20 cfg0.N = Cert.Reference4Ideal.Read.val_main_v145 (F := Ideal) (m (c, Proc.tc.devRef main_arg0))
    (m (c, Proc.tc.devRef main_arg1)) (m (c, Proc.tc.devRef main_arg2)) := by
  refine (dats m 0 c).arrAt_eq_of_covers 20 _ (by decide +kernel) fun t hf y => ?_
  obtain ⟨a, f, r, rfl⟩ : ∃ (a : Fin 1) (f : Fin 256) (r : Fin 512), y = ix3 a f r := ⟨y 0, y 1, y 2, eq_ix3 y⟩
  obtain rfl : a = 0 := Subsingleton.elim _ _
  blk_simp [places t]
  rw [after0_20]
  unfold out0_20 k0_pay32
  rw [View.canon_cons_unit_lit _ _ _ (by decide), ld_x, ld_g, pay12_apply,
    part_of m c t (o := 1792) (by norm_num) r _ (fun k j => (ld_b1 _ k j).trans (col_b m c t 256 (by norm_num) k j)), ← ref_bk]
  refine congrArg (Cert.Reference4Ideal.Read.val_main_v145 (F := Ideal) _ _ _) ?_
  unfold batch pos
  blk_ext [places t]

/-- **Its keys as the attention takes them.** -/
theorem bk16_array : (dats m 0 c).arrAt 21 cfg0.N = Cert.Reference4Ideal.Read.val_main_v146 (F := Ideal) (m (c, Proc.tc.devRef main_arg0))
    (m (c, Proc.tc.devRef main_arg1)) (m (c, Proc.tc.devRef main_arg2)) := by
  refine (dats m 0 c).arrAt_eq_of_covers 21 _ (by decide +kernel) fun t hf y => ?_
  obtain ⟨a, r, f, rfl⟩ : ∃ (a : Fin 1) (r : Fin 512) (f : Fin 256), y = ix3 a r f := ⟨y 0, y 1, y 2, eq_ix3 y⟩
  obtain rfl : a = 0 := Subsingleton.elim _ _
  blk_simp [places t]
  rw [after0_21]
  unfold out0_21 k0_pay32
  rw [View.canon_cons_unit_lit _ _ _ (by decide), ld_x, ld_g, pay14_apply,
    part_of m c t (o := 1792) (by norm_num) r _ (fun k j => (ld_b1 _ k j).trans (col_b m c t 256 (by norm_num) k j)), ← ref_bk16]
  refine congrArg (Cert.Reference4Ideal.Read.val_main_v146 (F := Ideal) _ _ _) ?_
  unfold batch pos
  blk_ext [places t]

/-- **Its values, feature by feature.** -/
theorem bv_array : (dats m 0 c).arrAt 22 cfg0.N = Cert.Reference4Ideal.Read.val_main_v147 (F := Ideal) (m (c, Proc.tc.devRef main_arg0))
    (m (c, Proc.tc.devRef main_arg1)) (m (c, Proc.tc.devRef main_arg2)) := by
  refine (dats m 0 c).arrAt_eq_of_covers 22 _ (by decide +kernel) fun t hf y => ?_
  obtain ⟨a, f, r, rfl⟩ : ∃ (a : Fin 1) (f : Fin 256) (r : Fin 512), y = ix3 a f r := ⟨y 0, y 1, y 2, eq_ix3 y⟩
  obtain rfl : a = 0 := Subsingleton.elim _ _
  blk_simp [places t]
  rw [after0_22]
  unfold out0_22 k0_pay32
  rw [View.canon_cons_unit_lit _ _ _ (by decide), ld_x, ld_g, pay16_apply,
    part_of m c t (o := 2048) (by norm_num) r _ (fun k j => (ld_b2 _ k j).trans (col_b m c t 512 (by norm_num) k j)), ← ref_bv]
  refine congrArg (Cert.Reference4Ideal.Read.val_main_v147 (F := Ideal) _ _ _) ?_
  unfold batch pos
  blk_ext [places t]

/-- **Its values as the attention takes them.** -/
theorem bv16_array : (dats m 0 c).arrAt 23 cfg0.N = Cert.Reference4Ideal.Read.val_main_v149 (F := Ideal) (m (c, Proc.tc.devRef main_arg0))
    (m (c, Proc.tc.devRef main_arg1)) (m (c, Proc.tc.devRef main_arg2)) := by
  refine (dats m 0 c).arrAt_eq_of_covers 23 _ (by decide +kernel) fun t hf y => ?_
  obtain ⟨a, f, r, rfl⟩ : ∃ (a : Fin 1) (f : Fin 256) (r : Fin 512), y = ix3 a f r := ⟨y 0, y 1, y 2, eq_ix3 y⟩
  obtain rfl : a = 0 := Subsingleton.elim _ _
  blk_simp [places t]
  rw [after0_23]
  unfold out0_23 k0_pay32
  rw [View.canon_cons_unit_lit _ _ _ (by decide), ld_x, ld_g, pay17_apply,
    part_of m c t (o := 2048) (by norm_num) r _ (fun k j => (ld_b2 _ k j).trans (col_b m c t 512 (by norm_num) k j)), ← ref_bv16]
  refine congrArg (Cert.Reference4Ideal.Read.val_main_v149 (F := Ideal) _ _ _) ?_
  unfold batch pos
  blk_ext [places t]

/-- **The keys' latent.** -/
theorem lat_array : (dats m 0 c).arrAt 25 cfg0.N = Cert.Reference4Ideal.Read.val_main_v88 (F := Ideal) (m (c, Proc.tc.devRef main_arg0))
    (m (c, Proc.tc.devRef main_arg1)) (m (c, Proc.tc.devRef main_arg2)) (m (c, Proc.tc.devRef main_arg5)) := by
  refine (dats m 0 c).arrAt_eq_of_covers 25 _ (by decide +kernel) fun t hf y => ?_
  obtain ⟨a, r, f, rfl⟩ : ∃ (a : Fin 1) (r : Fin 512) (f : Fin 128), y = ix3 a r f := ⟨y 0, y 1, y 2, eq_ix3 y⟩
  obtain rfl : a = 0 := Subsingleton.elim _ _
  blk_simp [places t]
  rw [after0_25]
  unfold out0_25 k0_pay36 k0_pay33 k0_pay32
  rw [View.canon_cons_unit_lit _ _ _ (by decide), ld_x, ld_g, ld_wc, ld_e, lat_apply,
    show (fun j => (iblk m c 10 t : Vec Ideal S1x128 .f32) (ix2 (0 : Fin 1) j)) = fun j => m (c, Proc.tc.devRef main_arg5) (ix1 j) from
      funext fun j => block_gkv m c t j,
    show (fun j => projRow _ _ (fun k (j : Fin 128) => (iblk m c 6 t : Vec Ideal S1024x512 .bf16) (ix2 k (⟨256 + j.val, by omega⟩ : Fin 512))) j)
        = partAt (m (c, Proc.tc.devRef main_arg0)) (m (c, Proc.tc.devRef main_arg1)) (m (c, Proc.tc.devRef main_arg2)) (batch t) (pos t r) 128 2560 (by norm_num) from
      funext fun j => part_of m c t (o := 2560) (by norm_num) r _ (fun k j => block_wc m c t k j) j, ← ref_lat]
  refine congrArg (Cert.Reference4Ideal.Read.val_main_v88 (F := Ideal) _ _ _ _) ?_
  unfold batch pos
  blk_ext [places t]

end Cert.Proj
-- ==== Proof.Proj.RowTurn.lean ====
/- The elements of the body's rotary keys and queries. -/
module

public import proofs.«01_k».proof.Proof.Proj.Row
public import proofs.«01_k».proof.Proof.Proj.Rotary
public import proofs.«01_k».proof.Proof.Tail.TileAt
public import Idealize.ShloMosaic.Lib.Pointwise
public import Idealize.ShloMosaic.Lib.Pipeline.ValueKit
public import Idealize.ShloMosaic.Lib.Pipeline.ValueKit.Point

@[expose] public section

noncomputable section

namespace Cert.Proj

open Cert.Kernel4Ideal Cert.Kernel4Ideal.Gen Idealize.ShloMosaic Cert.Tail Cert.Mem

theorem named_c : (Named.named κ "c_scale" 0x3E16C740#32 : Ideal .f32) = (((Real.sqrt 96)⁻¹ * (Real.log 2)⁻¹ : ℝ) : EReal) :=
  IdealRules.named_const.ideal_named_scalar _ _ _ _ rfl

variable (z : FVec Ideal S512x512 .f32) (co si : FVec Ideal S512x128 .f32) (y : FVec Ideal S512x128 .f32)

theorem down_apply (x : Vec Ideal S1x512x1024 .f32) (g : Vec Ideal S1x1024 .f32) (w : Vec Ideal S1024x512 .bf16) (r f : Fin 512) :
    k0_pay18 (F := Ideal) (k0_pay1 x g) w (ix2 r f) = projRow (rowOf x r) (gainOf g) (fun k j => w (ix2 k j)) f := by
  rw [← wide_apply]
  rfl

theorem pay19_apply (r : Fin 512) (l : Fin 128) : k0_pay19 (F := Ideal) co (ix2 r l) = co (ix2 r l) := by
  pointwise [k0_pay19]

theorem pay20_apply (r : Fin 512) (l : Fin 128) : k0_pay20 (F := Ideal) co (ix2 r l) = co (ix2 r l) := by
  pointwise [k0_pay20]

/-- The rotary key: the columns of it times the cosines, plus the turned columns times the sines. -/
def keyRow (r : Fin 512) : Line 32 := fun j => z (ix2 r (⟨384 + j.val, by omega⟩ : Fin 512)) * co (ix2 r (⟨j.val, by omega⟩ : Fin 128))
  + z (ix2 r (⟨416 + j.val, by omega⟩ : Fin 512)) * si (ix2 r (⟨j.val, by omega⟩ : Fin 128))

theorem pay27_apply (r : Fin 512) (j : Fin 32) : k0_pay27 (F := Ideal) z co si (ix2 r j) = keyRow z co si r j := by
  pointwise [k0_pay27]
  rfl

theorem pay28_apply (r : Fin 512) (j : Fin 32) : k0_pay28 (F := Ideal) z co si (ix3 (0 : Fin 1) r j) = keyRow z co si r j := by
  rw [← pay27_apply]
  pointwise [k0_pay28]

theorem pay31_apply (w : Vec Ideal S128x256 .bf16) (r : Fin 512) (f : Fin 256) : k0_pay31 (F := Ideal) y w (ix3 (0 : Fin 1) f r)
    = mulRow (fun k => y (ix2 r k)) (fun k j => w (ix2 k j)) f := by
  pointwise [k0_pay31, k0_pay29]
  rfl

theorem pay30_apply (wk : Vec Ideal S128x512 .bf16) (e : Vec Ideal S32x512 .bf16) (r f : Fin 512) :
    k0_pay30 (F := Ideal) z co si y wk e (ix3 (0 : Fin 1) r f)
      = mulRow (fun k => y (ix2 r k)) (fun k j => wk (ix2 k j)) f + mulRow (keyRow z co si r) (fun k j => e (ix2 k j)) f := by
  pointwise [k0_pay30, k0_pay29]
  simp only [pay27_apply]
  rfl

theorem pay24_apply (zq : FVec Ideal S512x256 .f32) (g : FVec Ideal S1x256 .f32) (ro : FVec Ideal S512x256 .f32) (wq : Vec Ideal S256x768 .bf16)
    (e : Vec Ideal S128x512 .bf16) (r f : Fin 512) (q : Line 768)
    (hq : q = mulRow (fun k => zq (ix2 r k) * ro (ix2 r k) * g (ix2 (0 : Fin 1) k)) (fun k j => wq (ix2 k j))) :
    k0_pay24 (F := Ideal) co si zq g ro wq e (ix3 (0 : Fin 1) r f)
      = q ⟨f.val, by omega⟩ * (((Real.sqrt 96)⁻¹ * (Real.log 2)⁻¹ : ℝ) : EReal)
        + mulRow (fun l : Fin 128 => (q ⟨512 + l.val, by omega⟩ * co (ix2 r l) + q ⟨640 + l.val, by omega⟩ * si (ix2 r l))
            * (((Real.sqrt 96)⁻¹ * (Real.log 2)⁻¹ : ℝ) : EReal)) (fun k j => e (ix2 k j)) f := by
  subst hq
  rw [← named_c]
  pointwise [k0_pay24]
  rfl

theorem pay26_apply (r : Fin 512) (j : Fin 128) : k0_pay26 (F := Ideal) y (ix3 (0 : Fin 1) r j) = y (ix2 r j) := by
  pointwise [k0_pay26]

theorem pay22_apply (g : Vec Ideal S1x256 .f32) (j : Fin 256) : k0_pay22 (F := Ideal) g (ix2 (0 : Fin 1) j) = g (ix2 (0 : Fin 1) j) := by
  pointwise [k0_pay22]

theorem pay21_apply (v : FVec Ideal S512x1024 .bf16) (w : Vec Ideal S1024x512 .bf16) (r : Fin 512) (j : Fin 256) :
    k0_pay21 (F := Ideal) v w (ix2 r j) = k0_pay18 v w (ix2 r (⟨j.val, by omega⟩ : Fin 512)) := by
  pointwise [k0_pay21]

/-- The queries' latent over the root of its mean square, times its gain. -/
theorem latent_apply (v : FVec Ideal S512x1024 .bf16) (w : Vec Ideal S1024x512 .bf16) (g : Vec Ideal S1x256 .f32) (r : Fin 512) (j : Fin 256) :
    k0_pay21 (F := Ideal) v w (ix2 r j) * k0_pay23 v w (ix2 r j) * k0_pay22 g (ix2 (0 : Fin 1) j)
      = rmsRow (Ideal.ofBits .f32 0x43800000#32) (fun j : Fin 256 => k0_pay18 v w (ix2 r (⟨j.val, by omega⟩ : Fin 512)))
          (fun j => g (ix2 (0 : Fin 1) j)) j := by
  have e : k0_pay23 (F := Ideal) v w (ix2 r j) = Ideal.rsqrt (Ideal.div (∑ k, k0_pay21 (F := Ideal) v w (ix2 r k) * k0_pay21 v w (ix2 r k))
      (Ideal.ofBits .f32 0x43800000#32) + Ideal.ofBits .f32 0x358637BD#32) := by
    pointwise [k0_pay23]
  rw [e, pay22_apply]
  simp only [pay21_apply]
  rfl

end Cert.Proj
-- ==== Proof.Proj.Turn.lean ====
/- The reference's rotary keys and queries, element by element. -/
module

public import proofs.«01_k».proof.Proof.Proj.Rotary

@[expose] public section

noncomputable section

namespace Cert.Proj

open Idealize.ShloMosaic Cert.Tail Cert.Mem Cert.Reference4Ideal Cert.Reference4Ideal.Read

variable (x0 : Vec Ideal S32x2048x1024 .f32) (x1 : Vec Ideal S1024x2720 .f32) (x2 : Vec Ideal S7x1024 .f32) (x3 : Vec Ideal S256 .f32)
  (x4 : Vec Ideal S256x384 .f32) (x5 : Vec Ideal S128 .f32) (x6 : Vec Ideal S128x512 .f32) (b : Fin 32) (s : Fin 2048)

theorem key_part (j : Fin 32) : val_main_v24 (F := Ideal) x0 x1 x2 (ix3 b s j) = partAt x0 x1 x2 b s 32 2688 (by norm_num) j := by
  pointwise [val_main_v24]
  rw [z_read]
  rfl

theorem cos_again (i : Fin 16) : val_main_v102 (F := Ideal) (ix2 s i) = cosAt s i := rfl

theorem sin_again (i : Fin 16) : val_main_v104 (F := Ideal) (ix2 s i) = sinAt s i := rfl

theorem key_low (j : Fin 16) : val_main_v112 (F := Ideal) x0 x1 x2 (ix3 b s j)
    = keyAt x0 x1 x2 b s ⟨j.val, by omega⟩ := by
  pointwise [val_main_v112, val_main_v111, val_main_v110, val_main_v109, val_main_v108, val_main_v107, val_main_v106, val_main_v105, val_main_v103]
  rw [key_part, key_part, cos_again, sin_again, keyAt, rope_low]

theorem key_high (j : Fin 16) : val_main_v117 (F := Ideal) x0 x1 x2 (ix3 b s j)
    = keyAt x0 x1 x2 b s ⟨16 + j.val, by omega⟩ := by
  pointwise [val_main_v117, val_main_v116, val_main_v115, val_main_v114, val_main_v113, val_main_v107, val_main_v106, val_main_v105, val_main_v103]
  rw [key_part, key_part, cos_again, sin_again, keyAt, rope_high]

theorem ref_kpe (j : Fin 32) : val_main_v118 (F := Ideal) x0 x1 x2 (ix3 b s j) = keyAt x0 x1 x2 b s j := by
  pointwise [val_main_v118]
  by_cases h : j.val < 16
  · rw [dif_pos h, key_low]
  · rw [dif_neg h, key_high]
    exact congrArg (keyAt x0 x1 x2 b s) (Fin.ext (by dsimp only; omega))

end Cert.Proj
-- ==== Proof.Proj.TurnKeys.lean ====
/- The reference's keys and values from the latent, element by element. -/
module

public import proofs.«01_k».proof.Proof.Proj.Turn

@[expose] public section

noncomputable section

namespace Cert.Proj

open Idealize.ShloMosaic Cert.Tail Cert.Mem Cert.Reference4Ideal Cert.Reference4Ideal.Read

variable (x0 : Vec Ideal S32x2048x1024 .f32) (x1 : Vec Ideal S1024x2720 .f32) (x2 : Vec Ideal S7x1024 .f32) (x3 : Vec Ideal S256 .f32)
  (x4 : Vec Ideal S256x384 .f32) (x5 : Vec Ideal S128 .f32) (x6 : Vec Ideal S128x512 .f32) (b : Fin 32) (s : Fin 2048)

theorem ref_kv (f : Fin 512) : val_main_v119 (F := Ideal) x0 x1 x2 x5 x6 (ix3 b s f)
    = mulRow (latAt x0 x1 x2 x5 b s) (fun k j => x6 (ix2 k j)) f := by
  pointwise [val_main_v119]
  simp only [ref_lat]
  rfl

theorem ref_cv (f : Fin 256) : val_main_v158 (F := Ideal) x0 x1 x2 x5 x6 (ix3 b f s)
    = mulRow (latAt x0 x1 x2 x5 b s) (fun k j => x6 (ix2 k j)) ⟨f.val / 64 * 128 + (64 + f.val % 64), by omega⟩ := by
  rw [← ref_kv]
  pointwise [val_main_v158, val_main_v157, val_main_v127, val_main_v126, val_main_v120]

theorem ref_kcat (f : Fin 512) : val_main_v156 (F := Ideal) x0 x1 x2 x5 x6 (ix3 b s f)
    = if f.val % 128 < 64 then mulRow (latAt x0 x1 x2 x5 b s) (fun k j => x6 (ix2 k j)) f
      else if h : Turns (f.val % 128) then keyAt x0 x1 x2 b s ⟨f.val % 128 - 64, h.2⟩ else 0 := by
  pointwise [val_main_v156, val_main_v125, val_main_v124]
  by_cases h1 : f.val % 128 < 64
  · rw [dif_pos h1, if_pos h1, ← ref_kv]
    pointwise [val_main_v123, val_main_v120]
  · rw [dif_neg h1, if_neg h1]
    by_cases h2 : f.val % 128 - 64 < 32
    · rw [dif_pos h2, dif_pos ⟨Nat.le_of_not_lt h1, h2⟩]
      pointwise [val_main_v122, val_main_v121]
      exact ref_kpe x0 x1 x2 b s _
    · rw [dif_neg h2, dif_neg fun q => h2 q.2]
      pointwise [val_main_v41, val_main_cst_6]

end Cert.Proj
-- ==== Proof.Proj.TurnQueries.lean ====
/- The reference's queries with a rotary part, element by element. -/
module

public import proofs.«01_k».proof.Proof.Proj.Rotary

@[expose] public section

noncomputable section

namespace Cert.Proj

open Idealize.ShloMosaic Cert.Tail Cert.Mem Cert.Reference4Ideal Cert.Reference4Ideal.Read

variable (x0 : Vec Ideal S32x2048x1024 .f32) (x1 : Vec Ideal S1024x2720 .f32) (x2 : Vec Ideal S7x1024 .f32) (x3 : Vec Ideal S256 .f32)
  (x4 : Vec Ideal S256x384 .f32) (x5 : Vec Ideal S128 .f32) (x6 : Vec Ideal S128x512 .f32) (b : Fin 32) (s : Fin 2048)

theorem query_latent (j : Fin 256) : val_main_v22 (F := Ideal) x0 x1 x2 (ix3 b s j) = partAt x0 x1 x2 b s 256 2304 (by norm_num) j := by
  pointwise [val_main_v22]
  rw [z_read]
  rfl

theorem query_row (j : Fin 256) : val_main_v38 (F := Ideal) x0 x1 x2 x3 (ix3 b s j) = queryRow x0 x1 x2 x3 b s j := by
  pointwise [val_main_v38, val_main_v37, val_main_v36, val_main_v35, val_main_v34, val_main_v33, val_main_v32, val_main_v31, val_main_v30, val_main_v29, val_main_v28, val_main_v27, val_main_v26, val_main_cst_3, val_main_cst_4, val_main_cst_5]
  simp only [query_latent]
  rfl

theorem query_part (j : Fin 384) : val_main_v39 (F := Ideal) x0 x1 x2 x3 x4 (ix3 b s j) = queryAt x0 x1 x2 x3 x4 b s j := by
  pointwise [val_main_v39]
  simp only [query_row]
  rfl

/-- The part of a head's queries that is turned. -/
def queryTurn (h : Fin 4) : Line 32 := fun i => queryAt x0 x1 x2 x3 x4 b s ⟨h.val * 96 + (64 + i.val), by omega⟩

theorem query_low (h : Fin 4) (j : Fin 16) : val_main_v67 (F := Ideal) x0 x1 x2 x3 x4 (ix4 b s h j)
    = rope s (queryTurn x0 x1 x2 x3 x4 b s h) ⟨j.val, by omega⟩ := by
  pointwise [val_main_v67, val_main_v66, val_main_v65, val_main_v64, val_main_v63, val_main_v62, val_main_v61, val_main_v60, val_main_v58, val_main_v43, val_main_v40]
  rw [query_part, query_part, rope_low]
  rfl

theorem query_high (h : Fin 4) (j : Fin 16) : val_main_v72 (F := Ideal) x0 x1 x2 x3 x4 (ix4 b s h j)
    = rope s (queryTurn x0 x1 x2 x3 x4 b s h) ⟨16 + j.val, by omega⟩ := by
  pointwise [val_main_v72, val_main_v71, val_main_v70, val_main_v69, val_main_v68, val_main_v62, val_main_v61, val_main_v60, val_main_v58, val_main_v43, val_main_v40]
  rw [query_part, query_part, rope_high]
  rfl

theorem scale_c_read : val_main_v152 (F := Ideal) ix0 = (((Real.sqrt 96)⁻¹ * (Real.log 2)⁻¹ : ℝ) : EReal) := by
  have e : val_main_v152 (F := Ideal) ix0 = Ideal.div (Ideal.ofBits .f32 0x3F800000#32)
      (Ideal.sqrt (Ideal.ofBits .f32 0x42C00000#32) * Ideal.log (Ideal.ofBits .f32 0x40000000#32)) := by
    pointwise [val_main_v152, val_main_v151, val_main_v150, val_main_v25, val_main_cst_19, val_main_cst_18, val_main_cst_2]
  rw [e, two_read, show Ideal.ofBits .f32 0x42C00000#32 = ((96 : ℝ) : EReal) by simp [Ideal.ofBits, Ideal.ieee, -EReal.coe_mul]; norm_num,
    show Ideal.ofBits .f32 0x3F800000#32 = ((1 : ℝ) : EReal) by simp [Ideal.ofBits, Ideal.ieee, -EReal.coe_mul]; norm_num]
  exact scale_value 96 (by norm_num)

/-- The latent attention's queries: each head's own lanes, its turned lanes, then zeros, all scaled. -/
theorem ref_cq (f : Fin 512) : val_main_v155 (F := Ideal) x0 x1 x2 x3 x4 (ix3 b s f)
    = (if f.val % 128 < 64 then queryAt x0 x1 x2 x3 x4 b s ⟨f.val / 128 * 96 + f.val % 128 % 96, by omega⟩
        else if h : Turns (f.val % 128) then rope s (queryTurn x0 x1 x2 x3 x4 b s ⟨f.val / 128, by omega⟩) ⟨f.val % 128 - 64, h.2⟩ else 0)
      * (((Real.sqrt 96)⁻¹ * (Real.log 2)⁻¹ : ℝ) : EReal) := by
  rw [← scale_c_read]
  pointwise [val_main_v155, val_main_v154, val_main_v153, val_main_v75, val_main_v74]
  congr 1
  by_cases h1 : f.val % 128 < 64
  · rw [dif_pos h1, if_pos h1]
    pointwise [val_main_v42, val_main_v40]
    rw [query_part]
    exact congrArg (queryAt x0 x1 x2 x3 x4 b s) (Fin.ext (by dsimp only; omega))
  · rw [dif_neg h1, if_neg h1]
    by_cases h2 : f.val % 128 - 64 < 32
    · rw [dif_pos h2, dif_pos ⟨Nat.le_of_not_lt h1, h2⟩]
      pointwise [val_main_v73]
      by_cases h : f.val % 128 - 64 < 16
      · rw [dif_pos h, query_low]
      · rw [dif_neg h, query_high]
        exact congrArg (rope s _) (Fin.ext (by dsimp only; omega))
    · rw [dif_neg h2, dif_neg fun q => h2 q.2]
      pointwise [val_main_v41, val_main_cst_6]

end Cert.Proj
-- ==== Proof.Proj.ResultTurn.lean ====
/- The call's rotary keys and queries, and its keys and values from the latent, are the reference's. -/
module

public import proofs.«01_k».proof.Proof.Proj.Result
public import proofs.«01_k».proof.Proof.Proj.RowTurn
public import proofs.«01_k».proof.Proof.Proj.TurnKeys
public import proofs.«01_k».proof.Proof.Proj.TurnQueries

@[expose] public section

noncomputable section

namespace Cert.Proj

open Cert.Kernel4Ideal Cert.Kernel4Ideal.Gen Idealize.ShloMosaic Idealize.SL.Sem Cert.Tail Cert.Mem

/-- Where a grid point's other blocks lie. -/
theorem places_turn : ∀ t : Fin cfg0.N, (win0_2.index t = ![t.val % 4, 0] ∧ win0_3.index t = ![t.val % 4, 0] ∧ win0_6.index t = ![0, 0]
    ∧ win0_7.index t = ![0, 0] ∧ win0_8.index t = ![0, 0] ∧ win0_9.index t = ![0, 0] ∧ win0_11.index t = ![0, 0]
    ∧ win0_12.index t = ![0, 0] ∧ win0_13.index t = ![0, 0])
    ∧ win0_24.index t = ![t.val / 4, t.val % 4, 0] ∧ win0_26.index t = ![t.val / 4, t.val % 4, 0]
    ∧ win0_27.index t = ![t.val / 4, t.val % 4, 0] ∧ win0_28.index t = ![t.val / 4, 0, t.val % 4] ∧ t.val < 128 :=
  (by decide +kernel : ∀ t : Fin grid0.N, _)

section Whole

variable (a : Vec Ideal S512x128 .f32) (g : Vec Ideal S1x256 .f32) (q : Vec Ideal S256x768 .bf16) (e : Vec Ideal S128x512 .bf16)
  (k : Vec Ideal S32x512 .bf16) (v : Vec Ideal S128x256 .bf16)

theorem ld_table : View.ld a r0_12 = a := View.ld_unit_lit _ _ (by decide)
theorem ld_gq : View.ld g r0_13 = g := View.ld_unit_lit _ _ (by decide)
theorem ld_wuq : View.ld q r0_14 = q := View.ld_unit_lit _ _ (by decide)
theorem ld_heads : View.ld e r0_15 = e := View.ld_unit_lit _ _ (by decide)
theorem ld_ek : View.ld k r0_19 = k := View.ld_unit_lit _ _ (by decide)
theorem ld_wcv : View.ld v r0_20 = v := View.ld_unit_lit _ _ (by decide)

end Whole

variable (m : (x : Loc nD τ sig) → Buf (Elt Ideal) x) (c : Dev nD) (t : Fin cfg0.N)

theorem block_cos (r : Fin 512) (l : Fin 128) : (iblk m c 2 t : Vec Ideal S512x128 .f32) (ix2 r l)
    = cosAt (pos t r) ⟨l.val % 16, Nat.mod_lt _ (by norm_num)⟩ := by
  refine Eq.trans ?_ (V_cos m c (pos t r) l)
  unfold pos
  blk_ext [iblk, places_turn t]

theorem block_sin (r : Fin 512) (l : Fin 128) : (iblk m c 3 t : Vec Ideal S512x128 .f32) (ix2 r l)
    = sinAt (pos t r) ⟨l.val % 16, Nat.mod_lt _ (by norm_num)⟩ := by
  refine Eq.trans ?_ (V_sin m c (pos t r) l)
  unfold pos
  blk_ext [iblk, places_turn t]

theorem block_same (k : Fin 1024) (j : Fin 416) : (iblk m c 6 t : Vec Ideal S1024x512 .bf16) (ix2 k (⟨j.val, by omega⟩ : Fin 512))
    = m (c, Proc.tc.devRef main_arg1) (ix2 k (⟨2304 + j.val, by omega⟩ : Fin 2720)) := by
  refine Eq.trans ?_ (V_wc_same m c k j)
  blk_ext [iblk, places_turn t]

theorem block_turned (k : Fin 1024) (j : Fin 32) : (iblk m c 6 t : Vec Ideal S1024x512 .bf16) (ix2 k (⟨416 + j.val, by omega⟩ : Fin 512))
    = turned (fun i => inAt m c k ⟨2688 + i.val, by omega⟩) j := by
  refine Eq.trans ?_ (V_wc_turned m c k j)
  blk_ext [iblk, places_turn t]

theorem block_gq (j : Fin 256) : (iblk m c 7 t : Vec Ideal S1x256 .f32) (ix2 (0 : Fin 1) j) = m (c, Proc.tc.devRef main_arg3) (ix1 j) := by
  refine Eq.trans ?_ (V_gq m c j)
  blk_ext [iblk, places_turn t]

theorem block_wuq (k : Fin 256) (j : Fin 768) : (iblk m c 8 t : Vec Ideal S256x768 .bf16) (ix2 k j)
    = (V (F := Ideal) m c main_v49 : Vec Ideal S256x768 .bf16) (ix2 k j) := by
  blk_ext [iblk, places_turn t]

theorem block_eq (k : Fin 128) (f : Fin 512) : (iblk m c 9 t : Vec Ideal S128x512 .bf16) (ix2 k f)
    = if Turns (f.val % 128) then if k.val = f.val / 128 * 32 + (f.val % 128 - 64) then (1 : EReal) else 0 else 0 := by
  refine Eq.trans ?_ (V_eq m c k f)
  blk_ext [iblk, places_turn t]

theorem block_wkn (k : Fin 128) (f : Fin 512) : (iblk m c 11 t : Vec Ideal S128x512 .bf16) (ix2 k f)
    = if f.val % 128 < 64 then ukvAt m c k f else 0 := by
  refine Eq.trans ?_ (V_wkn m c k f)
  blk_ext [iblk, places_turn t]

theorem block_ek (k : Fin 32) (f : Fin 512) : (iblk m c 12 t : Vec Ideal S32x512 .bf16) (ix2 k f)
    = if Turns (f.val % 128) then if k.val = f.val % 128 - 64 then (1 : EReal) else 0 else 0 := by
  refine Eq.trans ?_ (V_ek m c k f)
  blk_ext [iblk, places_turn t]

theorem block_wcv (k : Fin 128) (j : Fin 256) : (iblk m c 13 t : Vec Ideal S128x256 .bf16) (ix2 k j)
    = ukvAt m c k ⟨j.val / 64 * 128 + (64 + j.val % 64), by omega⟩ := by
  refine Eq.trans ?_ (V_wcv m c k j)
  blk_ext [iblk, places_turn t]

/-- A column of the block's down projection at a row. -/
abbrev down : FVec Ideal S512x512 .f32 := k0_pay18 (F := Ideal)
  (k0_pay1 (iblk m c 0 t : Vec Ideal S1x512x1024 .f32) (iblk m c 1 t : Vec Ideal S1x1024 .f32)) (iblk m c 6 t : Vec Ideal S1024x512 .bf16)

/-- Columns of it that are the reference's. -/
theorem down_same {n : ℕ} (o : ℕ) (h : o + n ≤ 416) (r : Fin 512) (j : Fin n) : down m c t (ix2 r (⟨o + j.val, by omega⟩ : Fin 512))
    = partAt (m (c, Proc.tc.devRef main_arg0)) (m (c, Proc.tc.devRef main_arg1)) (m (c, Proc.tc.devRef main_arg2)) (batch t) (pos t r) n (2304 + o) (by omega) j := by
  refine (down_apply _ _ _ r _).trans ?_
  refine part_of m c t (n := n) (o := 2304 + o) (by omega) r (fun k j => (iblk m c 6 t : Vec Ideal S1024x512 .bf16) (ix2 k (⟨o + j.val, by omega⟩ : Fin 512))) (fun k j => ?_) j
  refine (block_same m c t k ⟨o + j.val, by omega⟩).trans ?_
  exact inAt_congr m c (Nat.add_assoc 2304 o j.val).symm

theorem lat_block (r : Fin 512) (j : Fin 128) : k0_pay25 (F := Ideal) (down m c t) (iblk m c 10 t : Vec Ideal S1x128 .f32) (ix2 r j)
    = latAt (m (c, Proc.tc.devRef main_arg0)) (m (c, Proc.tc.devRef main_arg1)) (m (c, Proc.tc.devRef main_arg2)) (m (c, Proc.tc.devRef main_arg5)) (batch t) (pos t r) j := by
  refine (pay26_apply _ r j).symm.trans ?_
  rw [lat_apply,
    show (fun j => (iblk m c 10 t : Vec Ideal S1x128 .f32) (ix2 (0 : Fin 1) j)) = fun j => m (c, Proc.tc.devRef main_arg5) (ix1 j) from
      funext fun j => block_gkv m c t j,
    show (fun j => projRow _ _ (fun k (j : Fin 128) => (iblk m c 6 t : Vec Ideal S1024x512 .bf16) (ix2 k (⟨256 + j.val, by omega⟩ : Fin 512))) j)
        = partAt (m (c, Proc.tc.devRef main_arg0)) (m (c, Proc.tc.devRef main_arg1)) (m (c, Proc.tc.devRef main_arg2)) (batch t) (pos t r) 128 2560 (by norm_num) from
      funext fun j => part_of m c t (o := 2560) (by norm_num) r _ (fun k j => block_wc m c t k j) j]
  rfl

variable {m c} (hm : Real (m (c, Proc.tc.devRef main_arg1)) (m (c, Proc.tc.devRef main_arg2)) (m (c, Proc.tc.devRef main_arg3)) (m (c, Proc.tc.devRef main_arg4)))

include hm

theorem down_turned (r : Fin 512) (j : Fin 32) : down m c t (ix2 r (⟨416 + j.val, by omega⟩ : Fin 512))
    = turned (partAt (m (c, Proc.tc.devRef main_arg0)) (m (c, Proc.tc.devRef main_arg1)) (m (c, Proc.tc.devRef main_arg2)) (batch t) (pos t r) 32 2688 (by norm_num)) j := by
  refine (down_apply _ _ _ r _).trans ?_
  rw [block_x, block_gain]
  unfold projRow mulRow
  simp only [block_turned]
  exact mul_turned _ (fun k i => inAt m c k ⟨2688 + i.val, by omega⟩) (real_rms _ 1024 ofBits_1024 (by norm_num) _ _ hm.gain) hm.key j

theorem key_block (r : Fin 512) : keyRow (down m c t) (k0_pay19 (iblk m c 2 t : Vec Ideal S512x128 .f32))
    (k0_pay20 (iblk m c 3 t : Vec Ideal S512x128 .f32)) r = keyAt (m (c, Proc.tc.devRef main_arg0)) (m (c, Proc.tc.devRef main_arg1)) (m (c, Proc.tc.devRef main_arg2)) (batch t) (pos t r) := by
  funext j
  unfold keyRow
  rw [pay19_apply, pay20_apply, block_cos, block_sin, down_turned t hm, down_same m c t 384 (by norm_num)]
  rfl

/-- **The rotary keys.** -/
theorem kpe_array : (dats m 0 c).arrAt 26 cfg0.N = Cert.Reference4Ideal.Read.val_main_v118 (F := Ideal) (m (c, Proc.tc.devRef main_arg0)) (m (c, Proc.tc.devRef main_arg1)) (m (c, Proc.tc.devRef main_arg2)) := by
  refine (dats m 0 c).arrAt_eq_of_covers 26 _ (by decide +kernel) fun t hf y => ?_
  obtain ⟨a, r, f, rfl⟩ : ∃ (a : Fin 1) (r : Fin 512) (f : Fin 32), y = ix3 a r f := ⟨y 0, y 1, y 2, eq_ix3 y⟩
  obtain rfl : a = 0 := Subsingleton.elim _ _
  blk_simp [places_turn t]
  rw [after0_26]
  unfold out0_26 k0_pay35 k0_pay34 k0_pay33 k0_pay32
  rw [View.canon_cons_unit_lit _ _ _ (by decide), ld_x, ld_g, ld_wc, ld_table, ld_table, pay28_apply, key_block t hm, ← ref_kpe]
  refine congrArg (Cert.Reference4Ideal.Read.val_main_v118 (F := Ideal) _ _ _) ?_
  unfold batch pos
  blk_ext [places_turn t]

/-- **The latent attention's keys.** -/
theorem kcat_array : (dats m 0 c).arrAt 27 cfg0.N = Cert.Reference4Ideal.Read.val_main_v156 (F := Ideal) (m (c, Proc.tc.devRef main_arg0)) (m (c, Proc.tc.devRef main_arg1)) (m (c, Proc.tc.devRef main_arg2))
    (m (c, Proc.tc.devRef main_arg5)) (m (c, Proc.tc.devRef main_arg6)) := by
  refine (dats m 0 c).arrAt_eq_of_covers 27 _ (by decide +kernel) fun t hf y => ?_
  obtain ⟨a, r, f, rfl⟩ : ∃ (a : Fin 1) (r : Fin 512) (f : Fin 512), y = ix3 a r f := ⟨y 0, y 1, y 2, eq_ix3 y⟩
  obtain rfl : a = 0 := Subsingleton.elim _ _
  blk_simp [places_turn t]
  rw [after0_27]
  unfold out0_27 k0_pay36 k0_pay35 k0_pay34 k0_pay33 k0_pay32
  rw [View.canon_cons_unit_lit _ _ _ (by decide), ld_x, ld_g, ld_wc, ld_e, ld_table, ld_table, ld_heads, ld_ek, pay30_apply, key_block t hm]
  have e1 : mulRow (fun k => k0_pay25 (F := Ideal) (down m c t) (iblk m c 10 t : Vec Ideal S1x128 .f32) (ix2 r k))
      (fun k j => (iblk m c 11 t : Vec Ideal S128x512 .bf16) (ix2 k j)) f
        = if f.val % 128 < 64 then mulRow (latAt (m (c, Proc.tc.devRef main_arg0)) (m (c, Proc.tc.devRef main_arg1)) (m (c, Proc.tc.devRef main_arg2)) (m (c, Proc.tc.devRef main_arg5)) (batch t) (pos t r)) (ukvAt m c) f else 0 := by
    unfold mulRow
    simp only [lat_block, block_wkn]
    by_cases h : f.val % 128 < 64
    · simp only [if_pos h]
    · simp only [if_neg h, mul_zero, Finset.sum_const_zero]
  have e2 : mulRow (keyAt (m (c, Proc.tc.devRef main_arg0)) (m (c, Proc.tc.devRef main_arg1)) (m (c, Proc.tc.devRef main_arg2)) (batch t) (pos t r)) (fun k j => (iblk m c 12 t : Vec Ideal S32x512 .bf16) (ix2 k j)) f
      = if h : Turns (f.val % 128) then keyAt (m (c, Proc.tc.devRef main_arg0)) (m (c, Proc.tc.devRef main_arg1)) (m (c, Proc.tc.devRef main_arg2)) (batch t) (pos t r) ⟨f.val % 128 - 64, h.2⟩ else 0 := by
    unfold mulRow
    simp only [block_ek]
    exact pick _ _ _ fun h => h.2
  refine (congrArg₂ (· + ·) e1 e2).trans ?_
  refine Eq.trans ?_ ((ref_kcat (m (c, Proc.tc.devRef main_arg0)) (m (c, Proc.tc.devRef main_arg1)) (m (c, Proc.tc.devRef main_arg2)) (m (c, Proc.tc.devRef main_arg5)) (m (c, Proc.tc.devRef main_arg6)) (batch t) (pos t r) f).symm.trans ?_)
  · by_cases h : f.val % 128 < 64
    · rw [if_pos h, if_pos h, dif_neg fun q => absurd q.1 (Nat.not_le.2 h), add_zero]
      rfl
    · rw [if_neg h, if_neg h, zero_add]
  refine congrArg (Cert.Reference4Ideal.Read.val_main_v156 (F := Ideal) _ _ _ _ _) ?_
  unfold batch pos
  blk_ext [places_turn t]

omit hm in
/-- **The latent attention's values, feature by feature.** -/
theorem cv_array : (dats m 0 c).arrAt 28 cfg0.N = Cert.Reference4Ideal.Read.val_main_v158 (F := Ideal) (m (c, Proc.tc.devRef main_arg0)) (m (c, Proc.tc.devRef main_arg1)) (m (c, Proc.tc.devRef main_arg2))
    (m (c, Proc.tc.devRef main_arg5)) (m (c, Proc.tc.devRef main_arg6)) := by
  refine (dats m 0 c).arrAt_eq_of_covers 28 _ (by decide +kernel) fun t hf y => ?_
  obtain ⟨a, f, r, rfl⟩ : ∃ (a : Fin 1) (f : Fin 256) (r : Fin 512), y = ix3 a f r := ⟨y 0, y 1, y 2, eq_ix3 y⟩
  obtain rfl : a = 0 := Subsingleton.elim _ _
  blk_simp [places_turn t]
  rw [after0_28]
  unfold out0_28 k0_pay36 k0_pay33 k0_pay32
  rw [View.canon_cons_unit_lit _ _ _ (by decide), ld_x, ld_g, ld_wc, ld_e, ld_wcv, pay31_apply]
  have e1 : mulRow (fun k => k0_pay25 (F := Ideal) (down m c t) (iblk m c 10 t : Vec Ideal S1x128 .f32) (ix2 r k))
      (fun k j => (iblk m c 13 t : Vec Ideal S128x256 .bf16) (ix2 k j)) f
        = mulRow (latAt (m (c, Proc.tc.devRef main_arg0)) (m (c, Proc.tc.devRef main_arg1)) (m (c, Proc.tc.devRef main_arg2)) (m (c, Proc.tc.devRef main_arg5)) (batch t) (pos t r)) (ukvAt m c) ⟨f.val / 64 * 128 + (64 + f.val % 64), by omega⟩ := by
    unfold mulRow
    simp only [lat_block, block_wcv]
  refine e1.trans ((ref_cv (m (c, Proc.tc.devRef main_arg0)) (m (c, Proc.tc.devRef main_arg1)) (m (c, Proc.tc.devRef main_arg2)) (m (c, Proc.tc.devRef main_arg5)) (m (c, Proc.tc.devRef main_arg6)) (batch t) (pos t r) f).symm.trans ?_)
  refine congrArg (Cert.Reference4Ideal.Read.val_main_v158 (F := Ideal) _ _ _ _ _) ?_
  unfold batch pos
  blk_ext [places_turn t]

end Cert.Proj
-- ==== Proof.Proj.ResultQueries.lean ====
/- The call's queries of the latent attention are the reference's. -/
module

public import proofs.«01_k».proof.Proof.Proj.ResultTurn

@[expose] public section

noncomputable section

namespace Cert.Proj

open Cert.Kernel4Ideal Cert.Kernel4Ideal.Gen Idealize.ShloMosaic Idealize.SL.Sem Cert.Tail Cert.Mem

theorem ofBits_256 : Ideal.ofBits .f32 0x43800000#32 = ((256 : ℝ) : EReal) := by
  simp [Ideal.ofBits, Ideal.ieee]
  rw [← EReal.coe_mul]
  norm_num

variable (m : (x : Loc nD τ sig) → Buf (Elt Ideal) x) (c : Dev nD) (t : Fin cfg0.N)

theorem queries_block (r : Fin 512) (j : Fin 256) :
    k0_pay21 (F := Ideal) (k0_pay1 (iblk m c 0 t : Vec Ideal S1x512x1024 .f32) (iblk m c 1 t : Vec Ideal S1x1024 .f32)) (iblk m c 6 t : Vec Ideal S1024x512 .bf16) (ix2 r j)
      * k0_pay23 (k0_pay1 (iblk m c 0 t : Vec Ideal S1x512x1024 .f32) (iblk m c 1 t : Vec Ideal S1x1024 .f32)) (iblk m c 6 t : Vec Ideal S1024x512 .bf16) (ix2 r j)
      * k0_pay22 (iblk m c 7 t : Vec Ideal S1x256 .f32) (ix2 (0 : Fin 1) j)
      = queryRow (m (c, Proc.tc.devRef main_arg0)) (m (c, Proc.tc.devRef main_arg1)) (m (c, Proc.tc.devRef main_arg2)) (m (c, Proc.tc.devRef main_arg3)) (batch t) (pos t r) j := by
  rw [latent_apply]
  have e1 : (fun j : Fin 256 => down m c t (ix2 r (⟨j.val, by omega⟩ : Fin 512))) = partAt (m (c, Proc.tc.devRef main_arg0)) (m (c, Proc.tc.devRef main_arg1)) (m (c, Proc.tc.devRef main_arg2)) (batch t) (pos t r) 256 2304 (by norm_num) := funext fun j => by
    refine Eq.trans (congrArg (fun f => down m c t (ix2 r f)) (Fin.ext (Nat.zero_add j.val).symm : (⟨j.val, by omega⟩ : Fin 512) = ⟨0 + j.val, by omega⟩)) ?_
    exact down_same m c t 0 (by norm_num) r j
  have e2 : (fun j => (iblk m c 7 t : Vec Ideal S1x256 .f32) (ix2 (0 : Fin 1) j)) = fun j => m (c, Proc.tc.devRef main_arg3) (ix1 j) :=
    funext fun j => block_gq m c t j
  exact congrArg₂ (fun y g => rmsRow (Ideal.ofBits .f32 0x43800000#32) y g j) e1 e2

/-- An entry of the call's expansion of the queries. -/
def wuq (k : Fin 256) (j : Fin 768) : EReal := (V (F := Ideal) m c main_v49 : Vec Ideal S256x768 .bf16) (ix2 k j)

theorem wuq_plain (k : Fin 256) (f : Fin 512) : wuq m c k ⟨f.val, by omega⟩
    = if f.val % 128 < 64 then uqAt m c k ⟨f.val / 128 * 96 + f.val % 128 % 96, by omega⟩ else 0 := V_wuq_plain m c k f

theorem wuq_same (k : Fin 256) (l : Fin 128) : wuq m c k ⟨512 + l.val, by omega⟩
    = uqAt m c k ⟨l.val / 32 * 96 + (64 + l.val % 32), by omega⟩ := V_wuq_same m c k l

theorem wuq_turned (k : Fin 256) (l : Fin 128) : wuq m c k ⟨640 + l.val, by omega⟩
    = turned (fun i => uqAt m c k ⟨l.val / 32 * 96 + (64 + i.val), by omega⟩) ⟨l.val % 32, Nat.mod_lt _ (by norm_num)⟩ := V_wuq_turned m c k l

theorem wuq_block (k : Fin 256) (j : Fin 768) : (iblk m c 8 t : Vec Ideal S256x768 .bf16) (ix2 k j) = wuq m c k j := block_wuq m c t k j

/-- The block's expanded queries: every head's own lanes, its lanes to turn, and those turned. -/
def wide (r : Fin 512) : Line 768 := mulRow (queryRow (m (c, Proc.tc.devRef main_arg0)) (m (c, Proc.tc.devRef main_arg1)) (m (c, Proc.tc.devRef main_arg2)) (m (c, Proc.tc.devRef main_arg3)) (batch t) (pos t r)) (wuq m c)

theorem wide_plain (r f : Fin 512) : wide m c t r ⟨f.val, by omega⟩
    = if f.val % 128 < 64 then queryAt (m (c, Proc.tc.devRef main_arg0)) (m (c, Proc.tc.devRef main_arg1)) (m (c, Proc.tc.devRef main_arg2)) (m (c, Proc.tc.devRef main_arg3)) (m (c, Proc.tc.devRef main_arg4)) (batch t) (pos t r) ⟨f.val / 128 * 96 + f.val % 128 % 96, by omega⟩ else 0 := by
  unfold wide mulRow
  simp only [wuq_plain]
  by_cases h : f.val % 128 < 64
  · simp only [if_pos h]
    rfl
  · simp only [if_neg h, mul_zero, Finset.sum_const_zero]

theorem wide_same (r : Fin 512) (l : Fin 128) : wide m c t r ⟨512 + l.val, by omega⟩
    = queryTurn (m (c, Proc.tc.devRef main_arg0)) (m (c, Proc.tc.devRef main_arg1)) (m (c, Proc.tc.devRef main_arg2)) (m (c, Proc.tc.devRef main_arg3)) (m (c, Proc.tc.devRef main_arg4)) (batch t) (pos t r) ⟨l.val / 32, by omega⟩ ⟨l.val % 32, Nat.mod_lt _ (by norm_num)⟩ := by
  unfold wide mulRow
  simp only [wuq_same]
  rfl

variable {m c} (hm : Real (m (c, Proc.tc.devRef main_arg1)) (m (c, Proc.tc.devRef main_arg2)) (m (c, Proc.tc.devRef main_arg3)) (m (c, Proc.tc.devRef main_arg4)))

include hm

theorem wide_turned (r : Fin 512) (l : Fin 128) : wide m c t r ⟨640 + l.val, by omega⟩
    = turned (queryTurn (m (c, Proc.tc.devRef main_arg0)) (m (c, Proc.tc.devRef main_arg1)) (m (c, Proc.tc.devRef main_arg2)) (m (c, Proc.tc.devRef main_arg3)) (m (c, Proc.tc.devRef main_arg4)) (batch t) (pos t r) ⟨l.val / 32, by omega⟩) ⟨l.val % 32, Nat.mod_lt _ (by norm_num)⟩ := by
  unfold wide mulRow
  simp only [wuq_turned]
  exact mul_turned _ (fun k i => uqAt m c k ⟨l.val / 32 * 96 + (64 + i.val), by omega⟩)
    (real_rms _ 256 ofBits_256 (by norm_num) _ _ hm.query_gain) (fun k i => hm.query k ⟨l.val / 32, by omega⟩ i) _

set_option maxHeartbeats 1000000 in
/-- **The latent attention's queries.** -/
theorem cq_array : (dats m 0 c).arrAt 24 cfg0.N = Cert.Reference4Ideal.Read.val_main_v155 (F := Ideal) (m (c, Proc.tc.devRef main_arg0)) (m (c, Proc.tc.devRef main_arg1)) (m (c, Proc.tc.devRef main_arg2)) (m (c, Proc.tc.devRef main_arg3)) (m (c, Proc.tc.devRef main_arg4)) := by
  refine (dats m 0 c).arrAt_eq_of_covers 24 _ (by decide +kernel) fun t hf y => ?_
  obtain ⟨a, r, f, rfl⟩ : ∃ (a : Fin 1) (r : Fin 512) (f : Fin 512), y = ix3 a r f := ⟨y 0, y 1, y 2, eq_ix3 y⟩
  obtain rfl : a = 0 := Subsingleton.elim _ _
  blk_simp [places_turn t]
  rw [after0_24]
  unfold out0_24 k0_pay35 k0_pay34 k0_pay32
  rw [View.canon_cons_unit_lit _ _ _ (by decide), ld_x, ld_g, ld_wc, ld_table, ld_table, ld_gq, ld_wuq, ld_heads,
    pay24_apply _ _ _ _ _ _ _ r f (wide m c t r) (by
      unfold wide
      simp only [queries_block, wuq_block]), wide_plain]
  have e (l : Fin 128) : wide m c t r ⟨512 + l.val, by omega⟩ * k0_pay19 (iblk m c 2 t : Vec Ideal S512x128 .f32) (ix2 r l)
      + wide m c t r ⟨640 + l.val, by omega⟩ * k0_pay20 (iblk m c 3 t : Vec Ideal S512x128 .f32) (ix2 r l)
      = rope (pos t r) (queryTurn (m (c, Proc.tc.devRef main_arg0)) (m (c, Proc.tc.devRef main_arg1)) (m (c, Proc.tc.devRef main_arg2)) (m (c, Proc.tc.devRef main_arg3)) (m (c, Proc.tc.devRef main_arg4)) (batch t) (pos t r) ⟨l.val / 32, by omega⟩) ⟨l.val % 32, Nat.mod_lt _ (by norm_num)⟩ := by
    have e16 : (⟨l.val % 16, Nat.mod_lt _ (by norm_num)⟩ : Fin 16) = ⟨l.val % 32 % 16, Nat.mod_lt _ (by norm_num)⟩ :=
      Fin.ext (by dsimp only; omega)
    rw [wide_same, wide_turned t hm, pay19_apply, pay20_apply, block_cos, block_sin, e16]
    rfl
  have e1 : mulRow (fun l : Fin 128 => (wide m c t r ⟨512 + l.val, by omega⟩ * k0_pay19 (iblk m c 2 t : Vec Ideal S512x128 .f32) (ix2 r l)
      + wide m c t r ⟨640 + l.val, by omega⟩ * k0_pay20 (iblk m c 3 t : Vec Ideal S512x128 .f32) (ix2 r l))
        * (((Real.sqrt 96)⁻¹ * (Real.log 2)⁻¹ : ℝ) : EReal)) (fun k j => (iblk m c 9 t : Vec Ideal S128x512 .bf16) (ix2 k j)) f
      = (if h : Turns (f.val % 128) then rope (pos t r) (queryTurn (m (c, Proc.tc.devRef main_arg0)) (m (c, Proc.tc.devRef main_arg1)) (m (c, Proc.tc.devRef main_arg2)) (m (c, Proc.tc.devRef main_arg3)) (m (c, Proc.tc.devRef main_arg4)) (batch t) (pos t r) ⟨f.val / 128, by omega⟩) ⟨f.val % 128 - 64, h.2⟩ else 0)
        * (((Real.sqrt 96)⁻¹ * (Real.log 2)⁻¹ : ℝ) : EReal) := by
    unfold mulRow
    simp only [e, block_eq]
    refine (pick _ _ _ fun h => by have := h.2; omega).trans ?_
    by_cases h : Turns (f.val % 128)
    · rw [dif_pos h, dif_pos h]
      have i1 : (⟨(f.val / 128 * 32 + (f.val % 128 - 64)) / 32, by have := h.2; omega⟩ : Fin 4) = ⟨f.val / 128, by omega⟩ :=
        Fin.ext (by have := h.2; dsimp only; omega)
      have i2 : (⟨(f.val / 128 * 32 + (f.val % 128 - 64)) % 32, Nat.mod_lt _ (by norm_num)⟩ : Fin 32) = ⟨f.val % 128 - 64, h.2⟩ :=
        Fin.ext (by have := h.2; dsimp only; omega)
      dsimp only
      rw [i1, i2]
    · rw [dif_neg h, dif_neg h, zero_mul]
  refine (congrArg (HAdd.hAdd _) e1).trans ?_
  refine Eq.trans ?_ ((ref_cq (m (c, Proc.tc.devRef main_arg0)) (m (c, Proc.tc.devRef main_arg1)) (m (c, Proc.tc.devRef main_arg2)) (m (c, Proc.tc.devRef main_arg3)) (m (c, Proc.tc.devRef main_arg4)) (batch t) (pos t r) f).symm.trans ?_)
  · by_cases h : f.val % 128 < 64
    · rw [if_pos h, if_pos h, dif_neg fun q => absurd q.1 (Nat.not_le.2 h), zero_mul, add_zero]
    · rw [if_neg h, if_neg h, zero_mul, zero_add]
  refine congrArg (Cert.Reference4Ideal.Read.val_main_v155 (F := Ideal) _ _ _ _ _) ?_
  unfold batch pos
  blk_ext [places_turn t]

end Cert.Proj
-- ==== Proof.Proj.Finite.lean ====
/- What the projection's precondition says of the arguments. -/
module

public import proofs.«01_k».proof.Pre_finite_rotary
public import proofs.«01_k».proof.Proof.Attn.Moderate
public import proofs.«01_k».proof.Proof.Proj.Rotary

@[expose] public section

noncomputable section

namespace Cert.Proj

open Idealize.ShloMosaic Cert.Pre_finite_rotary

instance rotaryFacts : Cert.Pre_finite_rotary.Facts where
  slices_S1024x2720_S1024x32_0_2688 := by decide
  shapeCasts_S256x384_S256x4x96 := by decide
  slices_S256x4x96_S256x4x32_0_0_64 := by decide
  bcast_S_S1024x32 := by decide
  reducesTo_S1024x32_S_d0_1 := by decide
  h_S_ := by decide
  slices_S7x1024_S1x1024_0_0 := by decide
  shapeCasts_S1x1024_S1024 := by decide
  bcast_S_S1024 := by decide
  reducesTo_S1024_S_d0 := by decide
  bcast_S_S256 := by decide
  reducesTo_S256_S_d0 := by decide
  bcast_S_S256x4x32 := by decide
  reducesTo_S256x4x32_S_d0_1_2 := by decide

instance : Subsingleton S_.Idx := ⟨fun a b => funext fun i => i.elim0⟩

theorem real_of (x0 : FVec Ideal S32x2048x1024 .f32) (x1 : FVec Ideal S1024x2720 .f32) (x2 : FVec Ideal S7x1024 .f32) (x3 : FVec Ideal S256 .f32)
    (x4 : FVec Ideal S256x384 .f32) (x5 : FVec Ideal S128 .f32) (x6 : FVec Ideal S128x512 .f32)
    (h : Cert.Pre_finite_rotary.fn (F := Ideal) x0 x1 x2 x3 x4 x5 x6 = fun _ => 1#1) : Real x1 x2 x3 x4 := by
  have h0 := congrFun h fun a => a.elim0
  obtain ⟨h1, h4⟩ := Cert.Attn.of_andi h0
  obtain ⟨h2, h3⟩ := Cert.Attn.of_andi h1
  obtain ⟨hk, hg⟩ := Cert.Attn.of_andi h2
  have ek := fun i => Host.reduce_andi_all _ _ _ _ _ hk i
  have eg := fun i => Host.reduce_andi_all _ _ _ _ _ hg i
  have e3 := fun i => Host.reduce_andi_all _ _ _ _ _ h3 i
  have e4 := fun i => Host.reduce_andi_all _ _ _ _ _ h4 i
  have r {a b : EReal} (e : BitVec.ofBool (decide (a < b)) = 1#1) : a < b := by
    by_contra hn
    simp [hn] at e
  have key (k : Fin 1024) (j : Fin 32) : extractStridedSlice S1024x32 ![0, 2688] x1 Facts.slices_S1024x2720_S1024x32_0_2688 (ix2 k j)
      = x1 (ix2 k (⟨2688 + j.val, by omega⟩ : Fin 2720)) := by pointwise
  have gain (j : Fin 1024) : shapeCast S1024 (extractStridedSlice S1x1024 ![0, 0] x2 Facts.slices_S7x1024_S1x1024_0_0)
      Facts.shapeCasts_S1x1024_S1024 (ix1 j) = x2 (ix2 (0 : Fin 7) j) := by pointwise
  have query (k : Fin 256) (h : Fin 4) (i : Fin 32) : extractStridedSlice S256x4x32 ![0, 0, 64]
      (shapeCast S256x4x96 x4 Facts.shapeCasts_S256x384_S256x4x96) Facts.slices_S256x4x96_S256x4x32_0_0_64 (ix3 k h i)
      = x4 (ix2 k (⟨h.val * 96 + (64 + i.val), by omega⟩ : Fin 384)) := by pointwise
  refine ⟨fun j => ?_, fun k j => ?_, fun k => ⟨_, Cert.Attn.real_of_abs (r (e3 (ix1 k)))⟩, fun k h i => ?_⟩
  · rw [← gain j]
    exact ⟨_, Cert.Attn.real_of_abs (r (eg (ix1 j)))⟩
  · rw [← key k j]
    exact ⟨_, Cert.Attn.real_of_abs (r (ek (ix2 k j)))⟩
  · rw [← query k h i]
    exact ⟨_, Cert.Attn.real_of_abs (r (e4 (ix3 k h i)))⟩

end Cert.Proj
-- ==== Proof.lean ====
/- The proof of the claims: the programs run and leave their arguments alone, the exact program is the
   kernel with its constants read as what they stand for, and its results are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Tail.BitsFrame
public import proofs.«01_k».proof.Proof.Tail.Frame
public import proofs.«01_k».proof.Proof.Tail.Value
public import proofs.«01_k».proof.Proof.Gen.Reference2Ideal.Run
public import proofs.«01_k».proof.Proof.Gen.Reference2Ideal.Read
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Kernel3.Frame
public import proofs.«01_k».proof.Proof.Gen.Kernel3Ideal.Frame
public import proofs.«01_k».proof.Proof.Proj.BitsFrame
public import proofs.«01_k».proof.Proof.Proj.Frame
public import proofs.«01_k».proof.Proof.Gen.Kernel3Ideal.Value
public import proofs.«01_k».proof.Proof.Proj.Value
public import proofs.«01_k».proof.Proof.Gen.Reference3Ideal.Run
public import proofs.«01_k».proof.Proof.Gen.Reference3Ideal.Read
public import proofs.«01_k».proof.Proof.Gen.Reference4Ideal.Run
public import proofs.«01_k».proof.Proof.Gen.Reference4Ideal.Read
public import proofs.«01_k».proof.Proof.Attn.Result
public import proofs.«01_k».proof.Proof.Attn.Stacked
public import proofs.«01_k».proof.Proof.Tail.Result
public import proofs.«01_k».proof.Proof.Tail.Finite
public import proofs.«01_k».proof.Proof.Mem.Result
public import proofs.«01_k».proof.Proof.Proj.Result
public import proofs.«01_k».proof.Proof.Proj.ResultTurn
public import proofs.«01_k».proof.Proof.Proj.ResultQueries
public import proofs.«01_k».proof.Proof.Proj.Finite
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem kernel_runs : Cert.quiescent_Kernel := fun m g _ => Cert.Kernel.Gen.frame m g

theorem ideal_runs : Cert.quiescent_KernelIdeal := fun m g _ => Cert.KernelIdeal.Gen.frame m g

theorem ideal_runs_moderate : Cert.quiescent_KernelIdeal_pre_moderate := fun m g _ => Cert.KernelIdeal.Gen.frame m g

theorem reference_runs : Cert.quiescent_ReferenceIdeal := fun m g _ =>
  θ_run_mono (Cert.ReferenceIdeal.Value.run m g) fun r h => ⟨fun c => (h c).2.2.2, sem_eq_zero_of_no_sems (by decide) r.2⟩

theorem reference_runs_moderate : Cert.quiescent_ReferenceIdeal_pre_moderate := fun m g _ => reference_runs m g trivial

theorem preserves : Cert.preserves_Kernel_KernelIdeal :=
  ⟨IdealRules.named_const.statement _ _ _ _ _ rfl, IdealRules.named_const.statement _ _ _ _ _ rfl, IdealRules.named_const.statement _ _ _ _ _ rfl⟩

theorem algebraic : Cert.algebraic_KernelIdeal_ReferenceIdeal_pre_moderate := by
  pair_intro
  · run_from Cert.KernelIdeal.Value.run_blocks m g
  · refine θ_run_mono (Cert.ReferenceIdeal.Value.run m' g') fun r h c => ?_
    obtain ⟨a0, a1, a2, a3, a4, a5, a6, a7⟩ := hagree c
    have hm := Cert.Attn.moderate_of _ _ _ _ _ _ _ _ (hpre c)
    refine ⟨(h c).1.trans ((Cert.ReferenceIdeal.Read.val_main_v108_eq _).trans ?_), (h c).2.1.trans ((Cert.ReferenceIdeal.Read.val_main_v113_eq _).trans ?_),
      (h c).2.2.1.trans ((Cert.ReferenceIdeal.Read.val_main_v118_eq _).trans ?_), (h c).2.2.2⟩
    · rw [StableHlo.launchContents_devRef, StableHlo.launchContents_devRef, StableHlo.launchContents_devRef, StableHlo.launchContents_devRef,
        StableHlo.launchContents_devRef, StableHlo.launchContents_devRef, a0, a1, a2, a5, a6, a7]
      exact (Cert.Attn.out_array m c hm).symm
    · rw [StableHlo.launchContents_devRef, StableHlo.launchContents_devRef, a1, a3]
      exact (Cert.Attn.keys_array m c).symm
    · rw [StableHlo.launchContents_devRef, StableHlo.launchContents_devRef, a2, a4]
      exact (Cert.Attn.values_array m c).symm

theorem kernel2_runs : Cert.quiescent_Kernel2 := fun m g _ => Cert.Kernel2.Gen.frame m g

theorem ideal2_runs : Cert.quiescent_Kernel2Ideal := fun m g _ => Cert.Kernel2Ideal.Gen.frame m g

theorem ideal2_runs_finite : Cert.quiescent_Kernel2Ideal_pre_finite_keys := fun m g _ => Cert.Kernel2Ideal.Gen.frame m g

theorem reference2_runs : Cert.quiescent_Reference2Ideal := fun m g _ =>
  θ_run_mono (Cert.Reference2Ideal.Value.run m g) fun r h => ⟨fun c => (h c).2.2, sem_eq_zero_of_no_sems (by decide) r.2⟩

theorem reference2_runs_finite : Cert.quiescent_Reference2Ideal_pre_finite_keys := fun m g _ => reference2_runs m g trivial

theorem preserves2 : Cert.preserves_Kernel2_Kernel2Ideal := IdealRules.named_const.statement _ _ _ _ _ rfl

set_option maxHeartbeats 2000000 in
theorem algebraic2 : Cert.algebraic_Kernel2Ideal_Reference2Ideal_pre_finite_keys := by
  pair_intro
  · run_from Cert.Kernel2Ideal.Value.run_blocks m g
  · refine θ_run_mono (Cert.Reference2Ideal.Value.run m' g') fun r h c => ?_
    obtain ⟨a0, a1, a2, a3, a4, a5, a6, a7, a8, a9, a10, a11, a12, a13, a14, a15⟩ := hagree c
    have hf := Cert.Tail.finite_of _ _ _ _ _ _ _ _ _ _ _ _ _ _ _ _ (hpre c)
    refine ⟨(h c).1.trans ((Cert.Reference2Ideal.Read.val_main_v129_eq _).trans ?_),
      (h c).2.1.trans ((Cert.Reference2Ideal.Read.val_main_v113_eq _).trans ?_), (h c).2.2⟩
    · iterate 16 rw [StableHlo.launchContents_devRef]
      rw [a0, a1, a2, a3, a4, a5, a6, a7, a8, a9, a10, a11, a12, a13, a14, a15]
      exact (Cert.Tail.out_array hf).symm
    · iterate 12 rw [StableHlo.launchContents_devRef]
      rw [a0, a1, a2, a3, a4, a5, a6, a7, a8, a9, a10, a11]
      exact (Cert.Tail.state_array hf).symm

theorem kernel3_runs : Cert.quiescent_Kernel3 := fun m g _ => Cert.Kernel3.Gen.frame m g

theorem ideal3_runs : Cert.quiescent_Kernel3Ideal := fun m g _ => Cert.Kernel3Ideal.Gen.frame m g

theorem reference3_runs : Cert.quiescent_Reference3Ideal := fun m g _ =>
  θ_run_mono (Cert.Reference3Ideal.Value.run m g) fun r h => ⟨fun c => (h c).2.2.2.2, sem_eq_zero_of_no_sems (by decide) r.2⟩

theorem preserves3 : Cert.preserves_Kernel3_Kernel3Ideal := trivial

theorem algebraic3 : Cert.algebraic_Kernel3Ideal_Reference3Ideal := by
  pair_intro
  · run_from Cert.Kernel3Ideal.Value.run_blocks m g
  · refine θ_run_mono (Cert.Reference3Ideal.Value.run m' g') fun r h c => ?_
    obtain ⟨a0, a1, a2, a3⟩ := hagree c
    refine ⟨(h c).1.trans ((Cert.Reference3Ideal.Read.val_main_v15_eq _ _ _).trans ?_),
      (h c).2.1.trans ((Cert.Reference3Ideal.Read.val_main_v17_eq _ _ _).trans ?_),
      (h c).2.2.1.trans ((Cert.Reference3Ideal.Read.val_main_v16_eq _ _ _).trans ?_),
      (h c).2.2.2.1.trans ((Cert.Reference3Ideal.Read.val_main_v18_eq _ _ _).trans ?_), (h c).2.2.2.2⟩
    · rw [a0, a1, a2]
      exact (Cert.Mem.keys_array m c).symm
    · rw [a0, a1, a2]
      exact (Cert.Mem.keys16_array m c).symm
    · rw [a0, a1, a3]
      exact (Cert.Mem.values_array m c).symm
    · rw [a0, a1, a3]
      exact (Cert.Mem.values16_array m c).symm

theorem kernel4_runs : Cert.quiescent_Kernel4 := fun m g _ => Cert.Kernel4.Gen.frame m g

theorem ideal4_runs : Cert.quiescent_Kernel4Ideal := fun m g _ => Cert.Kernel4Ideal.Gen.frame m g

theorem ideal4_runs_finite : Cert.quiescent_Kernel4Ideal_pre_finite_rotary := fun m g _ => Cert.Kernel4Ideal.Gen.frame m g

theorem reference4_runs : Cert.quiescent_Reference4Ideal := fun m g _ =>
  θ_run_mono (Cert.Reference4Ideal.Value.run m g) fun r h => ⟨fun c => (h c).2.2.2.2.2.2.2.2.2.2.2.2.2.2.2, sem_eq_zero_of_no_sems (by decide) r.2⟩

theorem reference4_runs_finite : Cert.quiescent_Reference4Ideal_pre_finite_rotary := fun m g _ => reference4_runs m g trivial

theorem preserves4 : Cert.preserves_Kernel4_Kernel4Ideal :=
  ⟨IdealRules.named_const.statement _ _ _ _ _ rfl, IdealRules.named_const.statement _ _ _ _ _ rfl,
    IdealRules.named_const.statement _ _ _ _ _ rfl⟩

set_option maxHeartbeats 8000000 in
theorem algebraic4 : Cert.algebraic_Kernel4Ideal_Reference4Ideal_pre_finite_rotary := by
  pair_intro
  · run_from Cert.Kernel4Ideal.Value.run_blocks m g
  · refine θ_run_mono (Cert.Reference4Ideal.Value.run m' g') fun r h c => ?_
    obtain ⟨a0, a1, a2, a3, a4, a5, a6⟩ := hagree c
    have hm := Cert.Proj.real_of _ _ _ _ _ _ _ (hpre c)
    obtain ⟨h0, h1, h2, h3, h4, h5, h6, h7, h8, h9, h10, h11, h12, h13, h14, kept⟩ := h c
    refine ⟨h0.trans ((Cert.Reference4Ideal.Read.val_main_v133_eq _ _ _).trans ?_),
      h1.trans ((Cert.Reference4Ideal.Read.val_main_v134_eq _ _ _).trans ?_),
      h2.trans ((Cert.Reference4Ideal.Read.val_main_v135_eq _ _ _).trans ?_),
      h3.trans ((Cert.Reference4Ideal.Read.val_main_v136_eq _ _ _).trans ?_),
      h4.trans ((Cert.Reference4Ideal.Read.val_main_v138_eq _ _ _).trans ?_),
      h5.trans ((Cert.Reference4Ideal.Read.val_main_v144_eq _ _ _).trans ?_),
      h6.trans ((Cert.Reference4Ideal.Read.val_main_v145_eq _ _ _).trans ?_),
      h7.trans ((Cert.Reference4Ideal.Read.val_main_v146_eq _ _ _).trans ?_),
      h8.trans ((Cert.Reference4Ideal.Read.val_main_v147_eq _ _ _).trans ?_),
      h9.trans ((Cert.Reference4Ideal.Read.val_main_v149_eq _ _ _).trans ?_),
      h10.trans ((Cert.Reference4Ideal.Read.val_main_v155_eq _ _).trans ?_),
      h11.trans ((Cert.Reference4Ideal.Read.val_main_v88_eq _ _ _ _).trans ?_),
      h12.trans ((Cert.Reference4Ideal.Read.val_main_v118_eq _ _).trans ?_),
      h13.trans ((Cert.Reference4Ideal.Read.val_main_v156_eq _ _).trans ?_),
      h14.trans ((Cert.Reference4Ideal.Read.val_main_v158_eq _ _).trans ?_), kept⟩
    all_goals rw [a0, a1, a2]
    · exact (Cert.Proj.aq_array m c).symm
    · exact (Cert.Proj.ak_array m c).symm
    · exact (Cert.Proj.ak16_array m c).symm
    · exact (Cert.Proj.av_array m c).symm
    · exact (Cert.Proj.av16_array m c).symm
    · exact (Cert.Proj.bq_array m c).symm
    · exact (Cert.Proj.bk_array m c).symm
    · exact (Cert.Proj.bk16_array m c).symm
    · exact (Cert.Proj.bv_array m c).symm
    · exact (Cert.Proj.bv16_array m c).symm
    · rw [a3, a4]
      exact (Cert.Proj.cq_array hm).symm
    · rw [a5]
      exact (Cert.Proj.lat_array m c).symm
    · exact (Cert.Proj.kpe_array hm).symm
    · rw [a5, a6]
      exact (Cert.Proj.kcat_array hm).symm
    · rw [a5, a6]
      exact (Cert.Proj.cv_array).symm

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Attn.moderateFacts, Cert.Tail.finiteFacts, Cert.Proj.rotaryFacts,
    kernel_runs, ideal_runs, ideal_runs_moderate, reference_runs, reference_runs_moderate,
    kernel2_runs, ideal2_runs, ideal2_runs_finite, reference2_runs, reference2_runs_finite, kernel3_runs, ideal3_runs, reference3_runs,
    kernel4_runs, ideal4_runs, ideal4_runs_finite, reference4_runs, reference4_runs_finite,
    preserves, algebraic, preserves2, algebraic2, preserves3, algebraic3, preserves4, algebraic4⟩

end Cert.Proof

end
